-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_mla [hPre_finite_mla : Cert.Pre_finite_mla.Facts] (m : (ℓ : Loc Cert.MlaIdeal.nD Cert.MlaIdeal.τ Cert.MlaIdeal.sig) → Buf (Elt Ideal) ℓ) : Prop :=
  ∀ c : Dev Cert.MlaIdeal.nD,
    (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_mla [hPre_finite_mla : Cert.Pre_finite_mla.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_diff [hPre_finite_diff : Cert.Pre_finite_diff.Facts] (m : (ℓ : Loc Cert.DiffIdeal.nD Cert.DiffIdeal.τ Cert.DiffIdeal.sig) → Buf (Elt Ideal) ℓ) : Prop :=
  ∀ c : Dev Cert.DiffIdeal.nD,
    (Cert.Pre_finite_diff.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite_diff [hPre_finite_diff : Cert.Pre_finite_diff.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite_diff.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenRefIdeal (m : (ℓ : Loc Cert.EvenRefIdeal.nD Cert.EvenRefIdeal.τ Cert.EvenRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaIdeal_pre_finite_mla [hMlaIdeal : Cert.MlaIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_mla m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_MlaRefIdeal_pre_finite_mla [hMlaRefIdeal : Cert.MlaRefIdeal.Facts] [hPre_finite_mla : Cert.Pre_finite_mla.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_mla m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffIdeal_pre_finite_diff [hDiffIdeal : Cert.DiffIdeal.Facts] [hPre_finite_diff : Cert.Pre_finite_diff.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_diff m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_DiffRefIdeal_pre_finite_diff [hDiffRefIdeal : Cert.DiffRefIdeal.Facts] [hPre_finite_diff : Cert.Pre_finite_diff.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite_diff m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2)
      ∧ r.2.mem ((c.tc : Thread Cert.Even.nD Cert.Even.τ).loc Cert.Even.main_arg3) = m ((c.tc : Thread Cert.Even.nD Cert.Even.τ).loc Cert.Even.main_arg3)
      ∧ r.2.mem ((c.tc : Thread Cert.Even.nD Cert.Even.τ).loc Cert.Even.main_arg4) = m ((c.tc : Thread Cert.Even.nD Cert.Even.τ).loc Cert.Even.main_arg4)
      ∧ r.2.mem ((c.tc : Thread Cert.Even.nD Cert.Even.τ).loc Cert.Even.main_arg5) = m ((c.tc : Thread Cert.Even.nD Cert.Even.τ).loc Cert.Even.main_arg5)
      ∧ r.2.mem ((c.tc : Thread Cert.Even.nD Cert.Even.τ).loc Cert.Even.main_arg6) = m ((c.tc : Thread Cert.Even.nD Cert.Even.τ).loc Cert.Even.main_arg6)
      ∧ r.2.mem ((c.tc : Thread Cert.Even.nD Cert.Even.τ).loc Cert.Even.main_arg7) = m ((c.tc : Thread Cert.Even.nD Cert.Even.τ).loc Cert.Even.main_arg7)
      ∧ r.2.mem ((c.tc : Thread Cert.Even.nD Cert.Even.τ).loc Cert.Even.main_arg8) = m ((c.tc : Thread Cert.Even.nD Cert.Even.τ).loc Cert.Even.main_arg8))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
      ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
      ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6)
      ∧ r.2.mem ((c.tc : Thread Cert.EvenIdeal.nD Cert.EvenIdeal.τ).loc Cert.EvenIdeal.main_arg7) = m ((c.tc : Thread Cert.EvenIdeal.nD Cert.EvenIdeal.τ).loc Cert.EvenIdeal.main_arg7)
      ∧ r.2.mem ((c.tc : Thread Cert.EvenIdeal.nD Cert.EvenIdeal.τ).loc Cert.EvenIdeal.main_arg8) = m ((c.tc : Thread Cert.EvenIdeal.nD Cert.EvenIdeal.τ).loc Cert.EvenIdeal.main_arg8))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2)
      ∧ r.2.mem ((c.tc : Thread Cert.EvenRefIdeal.nD Cert.EvenRefIdeal.τ).loc Cert.EvenRefIdeal.main_arg3) = m ((c.tc : Thread Cert.EvenRefIdeal.nD Cert.EvenRefIdeal.τ).loc Cert.EvenRefIdeal.main_arg3)
      ∧ r.2.mem ((c.tc : Thread Cert.EvenRefIdeal.nD Cert.EvenRefIdeal.τ).loc Cert.EvenRefIdeal.main_arg4) = m ((c.tc : Thread Cert.EvenRefIdeal.nD Cert.EvenRefIdeal.τ).loc Cert.EvenRefIdeal.main_arg4)
      ∧ r.2.mem ((c.tc : Thread Cert.EvenRefIdeal.nD Cert.EvenRefIdeal.τ).loc Cert.EvenRefIdeal.main_arg5) = m ((c.tc : Thread Cert.EvenRefIdeal.nD Cert.EvenRefIdeal.τ).loc Cert.EvenRefIdeal.main_arg5)
      ∧ r.2.mem ((c.tc : Thread Cert.EvenRefIdeal.nD Cert.EvenRefIdeal.τ).loc Cert.EvenRefIdeal.main_arg6) = m ((c.tc : Thread Cert.EvenRefIdeal.nD Cert.EvenRefIdeal.τ).loc Cert.EvenRefIdeal.main_arg6)
      ∧ r.2.mem ((c.tc : Thread Cert.EvenRefIdeal.nD Cert.EvenRefIdeal.τ).loc Cert.EvenRefIdeal.main_arg7) = m ((c.tc : Thread Cert.EvenRefIdeal.nD Cert.EvenRefIdeal.τ).loc Cert.EvenRefIdeal.main_arg7)
      ∧ r.2.mem ((c.tc : Thread Cert.EvenRefIdeal.nD Cert.EvenRefIdeal.τ).loc Cert.EvenRefIdeal.main_arg8) = m ((c.tc : Thread Cert.EvenRefIdeal.nD Cert.EvenRefIdeal.τ).loc Cert.EvenRefIdeal.main_arg8))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5)
      ∧ r.2.mem ((c.tc : Thread Cert.Odd.nD Cert.Odd.τ).loc Cert.Odd.main_arg6) = m ((c.tc : Thread Cert.Odd.nD Cert.Odd.τ).loc Cert.Odd.main_arg6)
      ∧ r.2.mem ((c.tc : Thread Cert.Odd.nD Cert.Odd.τ).loc Cert.Odd.main_arg7) = m ((c.tc : Thread Cert.Odd.nD Cert.Odd.τ).loc Cert.Odd.main_arg7)
      ∧ r.2.mem ((c.tc : Thread Cert.Odd.nD Cert.Odd.τ).loc Cert.Odd.main_arg8) = m ((c.tc : Thread Cert.Odd.nD Cert.Odd.τ).loc Cert.Odd.main_arg8)
      ∧ r.2.mem ((c.tc : Thread Cert.Odd.nD Cert.Odd.τ).loc Cert.Odd.main_arg9) = m ((c.tc : Thread Cert.Odd.nD Cert.Odd.τ).loc Cert.Odd.main_arg9)
      ∧ r.2.mem ((c.tc : Thread Cert.Odd.nD Cert.Odd.τ).loc Cert.Odd.main_arg10) = m ((c.tc : Thread Cert.Odd.nD Cert.Odd.τ).loc Cert.Odd.main_arg10)
      ∧ r.2.mem ((c.tc : Thread Cert.Odd.nD Cert.Odd.τ).loc Cert.Odd.main_arg11) = m ((c.tc : Thread Cert.Odd.nD Cert.Odd.τ).loc Cert.Odd.main_arg11)
      ∧ r.2.mem ((c.tc : Thread Cert.Odd.nD Cert.Odd.τ).loc Cert.Odd.main_arg12) = m ((c.tc : Thread Cert.Odd.nD Cert.Odd.τ).loc Cert.Odd.main_arg12)
      ∧ r.2.mem ((c.tc : Thread Cert.Odd.nD Cert.Odd.τ).loc Cert.Odd.main_arg13) = m ((c.tc : Thread Cert.Odd.nD Cert.Odd.τ).loc Cert.Odd.main_arg13)
      ∧ r.2.mem ((c.tc : Thread Cert.Odd.nD Cert.Odd.τ).loc Cert.Odd.main_arg14) = m ((c.tc : Thread Cert.Odd.nD Cert.Odd.τ).loc Cert.Odd.main_arg14))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
      ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
      ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
      ∧ r.2.mem ((c.tc : Thread Cert.OddIdeal.nD Cert.OddIdeal.τ).loc Cert.OddIdeal.main_arg8) = m ((c.tc : Thread Cert.OddIdeal.nD Cert.OddIdeal.τ).loc Cert.OddIdeal.main_arg8)
      ∧ r.2.mem ((c.tc : Thread Cert.OddIdeal.nD Cert.OddIdeal.τ).loc Cert.OddIdeal.main_arg9) = m ((c.tc : Thread Cert.OddIdeal.nD Cert.OddIdeal.τ).loc Cert.OddIdeal.main_arg9)
      ∧ r.2.mem ((c.tc : Thread Cert.OddIdeal.nD Cert.OddIdeal.τ).loc Cert.OddIdeal.main_arg10) = m ((c.tc : Thread Cert.OddIdeal.nD Cert.OddIdeal.τ).loc Cert.OddIdeal.main_arg10)
      ∧ r.2.mem ((c.tc : Thread Cert.OddIdeal.nD Cert.OddIdeal.τ).loc Cert.OddIdeal.main_arg11) = m ((c.tc : Thread Cert.OddIdeal.nD Cert.OddIdeal.τ).loc Cert.OddIdeal.main_arg11)
      ∧ r.2.mem ((c.tc : Thread Cert.OddIdeal.nD Cert.OddIdeal.τ).loc Cert.OddIdeal.main_arg12) = m ((c.tc : Thread Cert.OddIdeal.nD Cert.OddIdeal.τ).loc Cert.OddIdeal.main_arg12)
      ∧ r.2.mem ((c.tc : Thread Cert.OddIdeal.nD Cert.OddIdeal.τ).loc Cert.OddIdeal.main_arg13) = m ((c.tc : Thread Cert.OddIdeal.nD Cert.OddIdeal.τ).loc Cert.OddIdeal.main_arg13)
      ∧ r.2.mem ((c.tc : Thread Cert.OddIdeal.nD Cert.OddIdeal.τ).loc Cert.OddIdeal.main_arg14) = m ((c.tc : Thread Cert.OddIdeal.nD Cert.OddIdeal.τ).loc Cert.OddIdeal.main_arg14))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5)
      ∧ r.2.mem ((c.tc : Thread Cert.OddRefIdeal.nD Cert.OddRefIdeal.τ).loc Cert.OddRefIdeal.main_arg6) = m ((c.tc : Thread Cert.OddRefIdeal.nD Cert.OddRefIdeal.τ).loc Cert.OddRefIdeal.main_arg6)
      ∧ r.2.mem ((c.tc : Thread Cert.OddRefIdeal.nD Cert.OddRefIdeal.τ).loc Cert.OddRefIdeal.main_arg7) = m ((c.tc : Thread Cert.OddRefIdeal.nD Cert.OddRefIdeal.τ).loc Cert.OddRefIdeal.main_arg7)
      ∧ r.2.mem ((c.tc : Thread Cert.OddRefIdeal.nD Cert.OddRefIdeal.τ).loc Cert.OddRefIdeal.main_arg8) = m ((c.tc : Thread Cert.OddRefIdeal.nD Cert.OddRefIdeal.τ).loc Cert.OddRefIdeal.main_arg8)
      ∧ r.2.mem ((c.tc : Thread Cert.OddRefIdeal.nD Cert.OddRefIdeal.τ).loc Cert.OddRefIdeal.main_arg9) = m ((c.tc : Thread Cert.OddRefIdeal.nD Cert.OddRefIdeal.τ).loc Cert.OddRefIdeal.main_arg9)
      ∧ r.2.mem ((c.tc : Thread Cert.OddRefIdeal.nD Cert.OddRefIdeal.τ).loc Cert.OddRefIdeal.main_arg10) = m ((c.tc : Thread Cert.OddRefIdeal.nD Cert.OddRefIdeal.τ).loc Cert.OddRefIdeal.main_arg10)
      ∧ r.2.mem ((c.tc : Thread Cert.OddRefIdeal.nD Cert.OddRefIdeal.τ).loc Cert.OddRefIdeal.main_arg11) = m ((c.tc : Thread Cert.OddRefIdeal.nD Cert.OddRefIdeal.τ).loc Cert.OddRefIdeal.main_arg11)
      ∧ r.2.mem ((c.tc : Thread Cert.OddRefIdeal.nD Cert.OddRefIdeal.τ).loc Cert.OddRefIdeal.main_arg12) = m ((c.tc : Thread Cert.OddRefIdeal.nD Cert.OddRefIdeal.τ).loc Cert.OddRefIdeal.main_arg12)
      ∧ r.2.mem ((c.tc : Thread Cert.OddRefIdeal.nD Cert.OddRefIdeal.τ).loc Cert.OddRefIdeal.main_arg13) = m ((c.tc : Thread Cert.OddRefIdeal.nD Cert.OddRefIdeal.τ).loc Cert.OddRefIdeal.main_arg13)
      ∧ r.2.mem ((c.tc : Thread Cert.OddRefIdeal.nD Cert.OddRefIdeal.τ).loc Cert.OddRefIdeal.main_arg14) = m ((c.tc : Thread Cert.OddRefIdeal.nD Cert.OddRefIdeal.τ).loc Cert.OddRefIdeal.main_arg14))
      ∧ r.2.sem = fun _ => 0)

def preserves_Mla_MlaIdeal : Prop :=
  IdealRules.named_const.Statement Cert.MlaIdeal.κ "mask" .f32 0xF1800000#32 ⊥

def algebraic_MlaIdeal_MlaRefIdeal_pre_finite_mla [hMlaIdeal : Cert.MlaIdeal.Facts] [hMlaRefIdeal : Cert.MlaRefIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_mla m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)) →
    ∃ (v0 : (c : Dev Cert.MlaIdeal.nD) → Buf (Elt Ideal) ((c.tc : Thread Cert.MlaIdeal.nD Cert.MlaIdeal.τ).loc Cert.MlaIdeal.main_v18)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v18) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v31) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v39) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Diff_DiffIdeal : Prop :=
  IdealRules.named_const.Statement Cert.DiffIdeal.κ "scale" .f32 0x3E38AA3B#32 ((8⁻¹ * (Real.log 2)⁻¹ : ℝ) : EReal)
  ∧ IdealRules.named_const.Statement Cert.DiffIdeal.κ "mask" .f32 0xF1800000#32 ⊥

def algebraic_DiffIdeal_DiffRefIdeal_pre_finite_diff [hDiffIdeal : Cert.DiffIdeal.Facts] [hDiffRefIdeal : Cert.DiffRefIdeal.Facts] [hPre_finite_diff : Cert.Pre_finite_diff.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite_diff m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)) →
    ∃ (v0 : (c : Dev Cert.DiffIdeal.nD) → Buf (Elt Ideal) ((c.tc : Thread Cert.DiffIdeal.nD Cert.DiffIdeal.τ).loc Cert.DiffIdeal.main_v4)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v4) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v69) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v6)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v14) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Even_EvenIdeal : Prop :=
  True

def algebraic_EvenIdeal_EvenRefIdeal [hEvenIdeal : Cert.EvenIdeal.Facts] [hEvenRefIdeal : Cert.EvenRefIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenIdeal m →
    (∀ c : Dev Cert.EvenIdeal.nD,
      m' ((c.tc : Thread Cert.EvenRefIdeal.nD Cert.EvenRefIdeal.τ).loc Cert.EvenRefIdeal.main_arg0) = m ((c.tc : Thread Cert.EvenIdeal.nD Cert.EvenIdeal.τ).loc Cert.EvenIdeal.main_arg0)
      ∧ m' ((c.tc : Thread Cert.EvenRefIdeal.nD Cert.EvenRefIdeal.τ).loc Cert.EvenRefIdeal.main_arg1) = m ((c.tc : Thread Cert.EvenIdeal.nD Cert.EvenIdeal.τ).loc Cert.EvenIdeal.main_arg1)
      ∧ m' ((c.tc : Thread Cert.EvenRefIdeal.nD Cert.EvenRefIdeal.τ).loc Cert.EvenRefIdeal.main_arg2) = m ((c.tc : Thread Cert.EvenIdeal.nD Cert.EvenIdeal.τ).loc Cert.EvenIdeal.main_arg2)
      ∧ m' ((c.tc : Thread Cert.EvenRefIdeal.nD Cert.EvenRefIdeal.τ).loc Cert.EvenRefIdeal.main_arg3) = m ((c.tc : Thread Cert.EvenIdeal.nD Cert.EvenIdeal.τ).loc Cert.EvenIdeal.main_arg3)
      ∧ m' ((c.tc : Thread Cert.EvenRefIdeal.nD Cert.EvenRefIdeal.τ).loc Cert.EvenRefIdeal.main_arg4) = m ((c.tc : Thread Cert.EvenIdeal.nD Cert.EvenIdeal.τ).loc Cert.EvenIdeal.main_arg4)
      ∧ m' ((c.tc : Thread Cert.EvenRefIdeal.nD Cert.EvenRefIdeal.τ).loc Cert.EvenRefIdeal.main_arg5) = m ((c.tc : Thread Cert.EvenIdeal.nD Cert.EvenIdeal.τ).loc Cert.EvenIdeal.main_arg5)
      ∧ m' ((c.tc : Thread Cert.EvenRefIdeal.nD Cert.EvenRefIdeal.τ).loc Cert.EvenRefIdeal.main_arg6) = m ((c.tc : Thread Cert.EvenIdeal.nD Cert.EvenIdeal.τ).loc Cert.EvenIdeal.main_arg6)
      ∧ m' ((c.tc : Thread Cert.EvenRefIdeal.nD Cert.EvenRefIdeal.τ).loc Cert.EvenRefIdeal.main_arg7) = m ((c.tc : Thread Cert.EvenIdeal.nD Cert.EvenIdeal.τ).loc Cert.EvenIdeal.main_arg7)
      ∧ m' ((c.tc : Thread Cert.EvenRefIdeal.nD Cert.EvenRefIdeal.τ).loc Cert.EvenRefIdeal.main_arg8) = m ((c.tc : Thread Cert.EvenIdeal.nD Cert.EvenIdeal.τ).loc Cert.EvenIdeal.main_arg8)) →
    ∃ (v0 : (c : Dev Cert.EvenIdeal.nD) → Buf (Elt Ideal) ((c.tc : Thread Cert.EvenIdeal.nD Cert.EvenIdeal.τ).loc Cert.EvenIdeal.main_v5_2)) (v1 : (c : Dev Cert.EvenIdeal.nD) → Buf (Elt Ideal) ((c.tc : Thread Cert.EvenIdeal.nD Cert.EvenIdeal.τ).loc Cert.EvenIdeal.main_v5_5)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v5_2) = v0 c
          ∧ r.2.mem ((c.tc : Thread Cert.EvenIdeal.nD Cert.EvenIdeal.τ).loc Cert.EvenIdeal.main_v5_5) = v1 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
          ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
          ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
          ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
          ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6)
          ∧ r.2.mem ((c.tc : Thread Cert.EvenIdeal.nD Cert.EvenIdeal.τ).loc Cert.EvenIdeal.main_arg7) = m ((c.tc : Thread Cert.EvenIdeal.nD Cert.EvenIdeal.τ).loc Cert.EvenIdeal.main_arg7)
          ∧ r.2.mem ((c.tc : Thread Cert.EvenIdeal.nD Cert.EvenIdeal.τ).loc Cert.EvenIdeal.main_arg8) = m ((c.tc : Thread Cert.EvenIdeal.nD Cert.EvenIdeal.τ).loc Cert.EvenIdeal.main_arg8))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v32) = v0 c
          ∧ r.2.mem ((c.tc : Thread Cert.EvenRefIdeal.nD Cert.EvenRefIdeal.τ).loc Cert.EvenRefIdeal.main_v35) = v1 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1)
          ∧ r.2.mem ((c.tc : Thread Cert.EvenRefIdeal.nD Cert.EvenRefIdeal.τ).loc Cert.EvenRefIdeal.main_arg2) = m' ((c.tc : Thread Cert.EvenRefIdeal.nD Cert.EvenRefIdeal.τ).loc Cert.EvenRefIdeal.main_arg2)
          ∧ r.2.mem ((c.tc : Thread Cert.EvenRefIdeal.nD Cert.EvenRefIdeal.τ).loc Cert.EvenRefIdeal.main_arg3) = m' ((c.tc : Thread Cert.EvenRefIdeal.nD Cert.EvenRefIdeal.τ).loc Cert.EvenRefIdeal.main_arg3)
          ∧ r.2.mem ((c.tc : Thread Cert.EvenRefIdeal.nD Cert.EvenRefIdeal.τ).loc Cert.EvenRefIdeal.main_arg4) = m' ((c.tc : Thread Cert.EvenRefIdeal.nD Cert.EvenRefIdeal.τ).loc Cert.EvenRefIdeal.main_arg4)
          ∧ r.2.mem ((c.tc : Thread Cert.EvenRefIdeal.nD Cert.EvenRefIdeal.τ).loc Cert.EvenRefIdeal.main_arg5) = m' ((c.tc : Thread Cert.EvenRefIdeal.nD Cert.EvenRefIdeal.τ).loc Cert.EvenRefIdeal.main_arg5)
          ∧ r.2.mem ((c.tc : Thread Cert.EvenRefIdeal.nD Cert.EvenRefIdeal.τ).loc Cert.EvenRefIdeal.main_arg6) = m' ((c.tc : Thread Cert.EvenRefIdeal.nD Cert.EvenRefIdeal.τ).loc Cert.EvenRefIdeal.main_arg6)
          ∧ r.2.mem ((c.tc : Thread Cert.EvenRefIdeal.nD Cert.EvenRefIdeal.τ).loc Cert.EvenRefIdeal.main_arg7) = m' ((c.tc : Thread Cert.EvenRefIdeal.nD Cert.EvenRefIdeal.τ).loc Cert.EvenRefIdeal.main_arg7)
          ∧ r.2.mem ((c.tc : Thread Cert.EvenRefIdeal.nD Cert.EvenRefIdeal.τ).loc Cert.EvenRefIdeal.main_arg8) = m' ((c.tc : Thread Cert.EvenRefIdeal.nD Cert.EvenRefIdeal.τ).loc Cert.EvenRefIdeal.main_arg8))

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)
      ∧ m' ((c.tc : Thread Cert.OddRefIdeal.nD Cert.OddRefIdeal.τ).loc Cert.OddRefIdeal.main_arg4) = m ((c.tc : Thread Cert.OddIdeal.nD Cert.OddIdeal.τ).loc Cert.OddIdeal.main_arg4)
      ∧ m' ((c.tc : Thread Cert.OddRefIdeal.nD Cert.OddRefIdeal.τ).loc Cert.OddRefIdeal.main_arg5) = m ((c.tc : Thread Cert.OddIdeal.nD Cert.OddIdeal.τ).loc Cert.OddIdeal.main_arg5)
      ∧ m' ((c.tc : Thread Cert.OddRefIdeal.nD Cert.OddRefIdeal.τ).loc Cert.OddRefIdeal.main_arg6) = m ((c.tc : Thread Cert.OddIdeal.nD Cert.OddIdeal.τ).loc Cert.OddIdeal.main_arg6)
      ∧ m' ((c.tc : Thread Cert.OddRefIdeal.nD Cert.OddRefIdeal.τ).loc Cert.OddRefIdeal.main_arg7) = m ((c.tc : Thread Cert.OddIdeal.nD Cert.OddIdeal.τ).loc Cert.OddIdeal.main_arg7)
      ∧ m' ((c.tc : Thread Cert.OddRefIdeal.nD Cert.OddRefIdeal.τ).loc Cert.OddRefIdeal.main_arg8) = m ((c.tc : Thread Cert.OddIdeal.nD Cert.OddIdeal.τ).loc Cert.OddIdeal.main_arg8)
      ∧ m' ((c.tc : Thread Cert.OddRefIdeal.nD Cert.OddRefIdeal.τ).loc Cert.OddRefIdeal.main_arg9) = m ((c.tc : Thread Cert.OddIdeal.nD Cert.OddIdeal.τ).loc Cert.OddIdeal.main_arg9)
      ∧ m' ((c.tc : Thread Cert.OddRefIdeal.nD Cert.OddRefIdeal.τ).loc Cert.OddRefIdeal.main_arg10) = m ((c.tc : Thread Cert.OddIdeal.nD Cert.OddIdeal.τ).loc Cert.OddIdeal.main_arg10)
      ∧ m' ((c.tc : Thread Cert.OddRefIdeal.nD Cert.OddRefIdeal.τ).loc Cert.OddRefIdeal.main_arg11) = m ((c.tc : Thread Cert.OddIdeal.nD Cert.OddIdeal.τ).loc Cert.OddIdeal.main_arg11)
      ∧ m' ((c.tc : Thread Cert.OddRefIdeal.nD Cert.OddRefIdeal.τ).loc Cert.OddRefIdeal.main_arg12) = m ((c.tc : Thread Cert.OddIdeal.nD Cert.OddIdeal.τ).loc Cert.OddIdeal.main_arg12)
      ∧ m' ((c.tc : Thread Cert.OddRefIdeal.nD Cert.OddRefIdeal.τ).loc Cert.OddRefIdeal.main_arg13) = m ((c.tc : Thread Cert.OddIdeal.nD Cert.OddIdeal.τ).loc Cert.OddIdeal.main_arg13)
      ∧ m' ((c.tc : Thread Cert.OddRefIdeal.nD Cert.OddRefIdeal.τ).loc Cert.OddRefIdeal.main_arg14) = m ((c.tc : Thread Cert.OddIdeal.nD Cert.OddIdeal.τ).loc Cert.OddIdeal.main_arg14)) →
    ∃ (v0 : (c : Dev Cert.OddIdeal.nD) → Buf (Elt Ideal) ((c.tc : Thread Cert.OddIdeal.nD Cert.OddIdeal.τ).loc Cert.OddIdeal.main_v36_1)) (v1 : (c : Dev Cert.OddIdeal.nD) → Buf (Elt Ideal) ((c.tc : Thread Cert.OddIdeal.nD Cert.OddIdeal.τ).loc Cert.OddIdeal.main_v36_2)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v36_1) = v0 c
          ∧ r.2.mem ((c.tc : Thread Cert.OddIdeal.nD Cert.OddIdeal.τ).loc Cert.OddIdeal.main_v36_2) = v1 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
          ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
          ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
          ∧ r.2.mem ((c.tc : Thread Cert.OddIdeal.nD Cert.OddIdeal.τ).loc Cert.OddIdeal.main_arg8) = m ((c.tc : Thread Cert.OddIdeal.nD Cert.OddIdeal.τ).loc Cert.OddIdeal.main_arg8)
          ∧ r.2.mem ((c.tc : Thread Cert.OddIdeal.nD Cert.OddIdeal.τ).loc Cert.OddIdeal.main_arg9) = m ((c.tc : Thread Cert.OddIdeal.nD Cert.OddIdeal.τ).loc Cert.OddIdeal.main_arg9)
          ∧ r.2.mem ((c.tc : Thread Cert.OddIdeal.nD Cert.OddIdeal.τ).loc Cert.OddIdeal.main_arg10) = m ((c.tc : Thread Cert.OddIdeal.nD Cert.OddIdeal.τ).loc Cert.OddIdeal.main_arg10)
          ∧ r.2.mem ((c.tc : Thread Cert.OddIdeal.nD Cert.OddIdeal.τ).loc Cert.OddIdeal.main_arg11) = m ((c.tc : Thread Cert.OddIdeal.nD Cert.OddIdeal.τ).loc Cert.OddIdeal.main_arg11)
          ∧ r.2.mem ((c.tc : Thread Cert.OddIdeal.nD Cert.OddIdeal.τ).loc Cert.OddIdeal.main_arg12) = m ((c.tc : Thread Cert.OddIdeal.nD Cert.OddIdeal.τ).loc Cert.OddIdeal.main_arg12)
          ∧ r.2.mem ((c.tc : Thread Cert.OddIdeal.nD Cert.OddIdeal.τ).loc Cert.OddIdeal.main_arg13) = m ((c.tc : Thread Cert.OddIdeal.nD Cert.OddIdeal.τ).loc Cert.OddIdeal.main_arg13)
          ∧ r.2.mem ((c.tc : Thread Cert.OddIdeal.nD Cert.OddIdeal.τ).loc Cert.OddIdeal.main_arg14) = m ((c.tc : Thread Cert.OddIdeal.nD Cert.OddIdeal.τ).loc Cert.OddIdeal.main_arg14))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v45) = v0 c
          ∧ r.2.mem ((c.tc : Thread Cert.OddRefIdeal.nD Cert.OddRefIdeal.τ).loc Cert.OddRefIdeal.main_v95) = v1 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3)
          ∧ r.2.mem ((c.tc : Thread Cert.OddRefIdeal.nD Cert.OddRefIdeal.τ).loc Cert.OddRefIdeal.main_arg4) = m' ((c.tc : Thread Cert.OddRefIdeal.nD Cert.OddRefIdeal.τ).loc Cert.OddRefIdeal.main_arg4)
          ∧ r.2.mem ((c.tc : Thread Cert.OddRefIdeal.nD Cert.OddRefIdeal.τ).loc Cert.OddRefIdeal.main_arg5) = m' ((c.tc : Thread Cert.OddRefIdeal.nD Cert.OddRefIdeal.τ).loc Cert.OddRefIdeal.main_arg5)
          ∧ r.2.mem ((c.tc : Thread Cert.OddRefIdeal.nD Cert.OddRefIdeal.τ).loc Cert.OddRefIdeal.main_arg6) = m' ((c.tc : Thread Cert.OddRefIdeal.nD Cert.OddRefIdeal.τ).loc Cert.OddRefIdeal.main_arg6)
          ∧ r.2.mem ((c.tc : Thread Cert.OddRefIdeal.nD Cert.OddRefIdeal.τ).loc Cert.OddRefIdeal.main_arg7) = m' ((c.tc : Thread Cert.OddRefIdeal.nD Cert.OddRefIdeal.τ).loc Cert.OddRefIdeal.main_arg7)
          ∧ r.2.mem ((c.tc : Thread Cert.OddRefIdeal.nD Cert.OddRefIdeal.τ).loc Cert.OddRefIdeal.main_arg8) = m' ((c.tc : Thread Cert.OddRefIdeal.nD Cert.OddRefIdeal.τ).loc Cert.OddRefIdeal.main_arg8)
          ∧ r.2.mem ((c.tc : Thread Cert.OddRefIdeal.nD Cert.OddRefIdeal.τ).loc Cert.OddRefIdeal.main_arg9) = m' ((c.tc : Thread Cert.OddRefIdeal.nD Cert.OddRefIdeal.τ).loc Cert.OddRefIdeal.main_arg9)
          ∧ r.2.mem ((c.tc : Thread Cert.OddRefIdeal.nD Cert.OddRefIdeal.τ).loc Cert.OddRefIdeal.main_arg10) = m' ((c.tc : Thread Cert.OddRefIdeal.nD Cert.OddRefIdeal.τ).loc Cert.OddRefIdeal.main_arg10)
          ∧ r.2.mem ((c.tc : Thread Cert.OddRefIdeal.nD Cert.OddRefIdeal.τ).loc Cert.OddRefIdeal.main_arg11) = m' ((c.tc : Thread Cert.OddRefIdeal.nD Cert.OddRefIdeal.τ).loc Cert.OddRefIdeal.main_arg11)
          ∧ r.2.mem ((c.tc : Thread Cert.OddRefIdeal.nD Cert.OddRefIdeal.τ).loc Cert.OddRefIdeal.main_arg12) = m' ((c.tc : Thread Cert.OddRefIdeal.nD Cert.OddRefIdeal.τ).loc Cert.OddRefIdeal.main_arg12)
          ∧ r.2.mem ((c.tc : Thread Cert.OddRefIdeal.nD Cert.OddRefIdeal.τ).loc Cert.OddRefIdeal.main_arg13) = m' ((c.tc : Thread Cert.OddRefIdeal.nD Cert.OddRefIdeal.τ).loc Cert.OddRefIdeal.main_arg13)
          ∧ r.2.mem ((c.tc : Thread Cert.OddRefIdeal.nD Cert.OddRefIdeal.τ).loc Cert.OddRefIdeal.main_arg14) = m' ((c.tc : Thread Cert.OddRefIdeal.nD Cert.OddRefIdeal.τ).loc Cert.OddRefIdeal.main_arg14))

def Claim : Prop :=
  ∃ (hMla : Cert.Mla.Facts) (hMlaIdeal : Cert.MlaIdeal.Facts) (hMlaRefIdeal : Cert.MlaRefIdeal.Facts) (hFfn : Cert.Ffn.Facts) (hFfnIdeal : Cert.FfnIdeal.Facts) (hFfnRefIdeal : Cert.FfnRefIdeal.Facts) (hDiff : Cert.Diff.Facts) (hDiffIdeal : Cert.DiffIdeal.Facts) (hDiffRefIdeal : Cert.DiffRefIdeal.Facts) (hOut : Cert.Out.Facts) (hOutIdeal : Cert.OutIdeal.Facts) (hOutRefIdeal : Cert.OutRefIdeal.Facts) (hEven : Cert.Even.Facts) (hEvenIdeal : Cert.EvenIdeal.Facts) (hEvenRefIdeal : Cert.EvenRefIdeal.Facts) (hOdd : Cert.Odd.Facts) (hOddIdeal : Cert.OddIdeal.Facts) (hOddRefIdeal : Cert.OddRefIdeal.Facts) (hPre_finite_mla : Cert.Pre_finite_mla.Facts) (hPre_finite_diff : Cert.Pre_finite_diff.Facts),
    quiescent_Mla (hMla := hMla)
    ∧ quiescent_MlaIdeal (hMlaIdeal := hMlaIdeal)
    ∧ quiescent_MlaIdeal_pre_finite_mla (hMlaIdeal := hMlaIdeal) (hPre_finite_mla := hPre_finite_mla)
    ∧ quiescent_MlaRefIdeal (hMlaRefIdeal := hMlaRefIdeal)
    ∧ quiescent_MlaRefIdeal_pre_finite_mla (hMlaRefIdeal := hMlaRefIdeal) (hPre_finite_mla := hPre_finite_mla)
    ∧ quiescent_Ffn (hFfn := hFfn)
    ∧ quiescent_FfnIdeal (hFfnIdeal := hFfnIdeal)
    ∧ quiescent_FfnRefIdeal (hFfnRefIdeal := hFfnRefIdeal)
    ∧ quiescent_Diff (hDiff := hDiff)
    ∧ quiescent_DiffIdeal (hDiffIdeal := hDiffIdeal)
    ∧ quiescent_DiffIdeal_pre_finite_diff (hDiffIdeal := hDiffIdeal) (hPre_finite_diff := hPre_finite_diff)
    ∧ quiescent_DiffRefIdeal (hDiffRefIdeal := hDiffRefIdeal)
    ∧ quiescent_DiffRefIdeal_pre_finite_diff (hDiffRefIdeal := hDiffRefIdeal) (hPre_finite_diff := hPre_finite_diff)
    ∧ quiescent_Out (hOut := hOut)
    ∧ quiescent_OutIdeal (hOutIdeal := hOutIdeal)
    ∧ quiescent_OutRefIdeal (hOutRefIdeal := hOutRefIdeal)
    ∧ quiescent_Even (hEven := hEven)
    ∧ quiescent_EvenIdeal (hEvenIdeal := hEvenIdeal)
    ∧ quiescent_EvenRefIdeal (hEvenRefIdeal := hEvenRefIdeal)
    ∧ quiescent_Odd (hOdd := hOdd)
    ∧ quiescent_OddIdeal (hOddIdeal := hOddIdeal)
    ∧ quiescent_OddRefIdeal (hOddRefIdeal := hOddRefIdeal)
    ∧ preserves_Mla_MlaIdeal
    ∧ algebraic_MlaIdeal_MlaRefIdeal_pre_finite_mla (hMlaIdeal := hMlaIdeal) (hMlaRefIdeal := hMlaRefIdeal) (hPre_finite_mla := hPre_finite_mla)
    ∧ preserves_Ffn_FfnIdeal
    ∧ algebraic_FfnIdeal_FfnRefIdeal (hFfnIdeal := hFfnIdeal) (hFfnRefIdeal := hFfnRefIdeal)
    ∧ preserves_Diff_DiffIdeal
    ∧ algebraic_DiffIdeal_DiffRefIdeal_pre_finite_diff (hDiffIdeal := hDiffIdeal) (hDiffRefIdeal := hDiffRefIdeal) (hPre_finite_diff := hPre_finite_diff)
    ∧ preserves_Out_OutIdeal
    ∧ algebraic_OutIdeal_OutRefIdeal (hOutIdeal := hOutIdeal) (hOutRefIdeal := hOutRefIdeal)
    ∧ preserves_Even_EvenIdeal
    ∧ algebraic_EvenIdeal_EvenRefIdeal (hEvenIdeal := hEvenIdeal) (hEvenRefIdeal := hEvenRefIdeal)
    ∧ preserves_Odd_OddIdeal
    ∧ algebraic_OddIdeal_OddRefIdeal (hOddIdeal := hOddIdeal) (hOddRefIdeal := hOddRefIdeal)
-- ==== Pre_finite_diff.lean ====
abbrev S8x4096x4x2x64 : Shape := ⟨5, ![8, 4096, 4, 2, 64]⟩
abbrev S8x4096x2x128 : Shape := ⟨4, ![8, 4096, 2, 128]⟩
abbrev S4x64 : Shape := ⟨2, ![4, 64]⟩
abbrev S128 : Shape := ⟨1, ![128]⟩
abbrev S_ : Shape := ⟨0, ![]⟩

class Facts : Prop where
  bcast_S_S8x4096x4x2x64 : S_.BroadcastsInDim S8x4096x4x2x64 (![] : Fin 0 → Fin S8x4096x4x2x64.rank)
  reducesTo_S8x4096x4x2x64_S_d0_1_2_3_4 : S8x4096x4x2x64.ReducesTo [0, 1, 2, 3, 4] S_
  h_S_ : 0 < S_.numel
  bcast_S_S8x4096x2x128 : S_.BroadcastsInDim S8x4096x2x128 (![] : Fin 0 → Fin S8x4096x2x128.rank)
  reducesTo_S8x4096x2x128_S_d0_1_2_3 : S8x4096x2x128.ReducesTo [0, 1, 2, 3] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  main_v18

def fn {F : FTy → Type} [FloatOps F] (main_arg0 : FVec F S8x4096x4x2x64 .f32) (main_arg1 : FVec F S8x4096x2x128 .f32) (main_arg2 : FVec F S8x4096x2x128 .f32) (main_arg3 : FVec F S4x64 .f32) (main_arg4 : FVec F S128 .f32) : IVec S_ 1 :=
  let main_v0 : FVec F S8x4096x4x2x64 .f32 := Host.absf main_arg0
  let main_cst : FVec F S_ .f32 := constant S_ .f32 0x7F800000#32
  let main_v1 : FVec F S8x4096x4x2x64 .f32 := broadcastInDim S8x4096x4x2x64 ![] bcast_S_S8x4096x4x2x64 main_cst
  let main_v2 : IVec S8x4096x4x2x64 1 := cmpf .olt main_v0 main_v1
  let main_c : IVec S_ 1 := constantI S_ 1 1#1
  let main_v3 : IVec S_ 1 := (fun x v => Host.reduce IntOp.andi x v reducesTo_S8x4096x4x2x64_S_d0_1_2_3_4 h_S_) main_v2 main_c
  let main_v4 : FVec F S8x4096x2x128 .f32 := Host.absf main_arg1
  let main_cst_0 : FVec F S_ .f32 := constant S_ .f32 0x7F800000#32
  let main_v5 : FVec F S8x4096x2x128 .f32 := broadcastInDim S8x4096x2x128 ![] bcast_S_S8x4096x2x128 main_cst_0
  let main_v6 : IVec S8x4096x2x128 1 := cmpf .olt main_v4 main_v5
  let main_c_1 : IVec S_ 1 := constantI S_ 1 1#1
  let main_v7 : IVec S_ 1 := (fun x v => Host.reduce IntOp.andi x v reducesTo_S8x4096x2x128_S_d0_1_2_3 h_S_) main_v6 main_c_1
  let main_v8 : IVec S_ 1 := andi main_v3 main_v7
  let main_v9 : FVec F S8x4096x2x128 .f32 := Host.absf main_arg2
  let main_cst_2 : FVec F S_ .f32 := constant S_ .f32 0x7F800000#32
  let main_v10 : FVec F S8x4096x2x128 .f32 := broadcastInDim S8x4096x2x128 ![] bcast_S_S8x4096x2x128 main_cst_2
  let main_v11 : IVec S8x4096x2x128 1 := cmpf .olt main_v9 main_v10
  let main_c_3 : IVec S_ 1 := constantI S_ 1 1#1
  let main_v12 : IVec S_ 1 := (fun x v => Host.reduce IntOp.andi x v reducesTo_S8x4096x2x128_S_d0_1_2_3 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_v13 main_v16
-- ==== Pre_finite_mla.lean ====
abbrev S8x4096x16x64 : Shape := ⟨4, ![8, 4096, 16, 64]⟩
abbrev S8x4096x16x32 : Shape := ⟨4, ![8, 4096, 16, 32]⟩
abbrev S8x4096x32 : Shape := ⟨3, ![8, 4096, 32]⟩
abbrev S_ : Shape := ⟨0, ![]⟩

class Facts : Prop where
  bcast_S_S8x4096x16x64 : S_.BroadcastsInDim S8x4096x16x64 (![] : Fin 0 → Fin S8x4096x16x64.rank)
  reducesTo_S8x4096x16x64_S_d0_1_2_3 : S8x4096x16x64.ReducesTo [0, 1, 2, 3] S_
  h_S_ : 0 < S_.numel
  bcast_S_S8x4096x16x32 : S_.BroadcastsInDim S8x4096x16x32 (![] : Fin 0 → Fin S8x4096x16x32.rank)
  reducesTo_S8x4096x16x32_S_d0_1_2_3 : S8x4096x16x32.ReducesTo [0, 1, 2, 3] S_
  bcast_S_S8x4096x32 : S_.BroadcastsInDim S8x4096x32 (![] : Fin 0 → Fin S8x4096x32.rank)
  reducesTo_S8x4096x32_S_d0_1_2 : S8x4096x32.ReducesTo [0, 1, 2] S_

variable [Facts]

def fn_part1 {F : FTy → Type} [FloatOps F] (main_arg4 : FVec F S8x4096x16x64 .f32) (main_v13 : IVec S_ 1) (main_v16 : IVec S8x4096x32 1) : IVec S_ 1 :=
  let main_c_5 : IVec S_ 1 := constantI S_ 1 1#1
  let main_v17 : IVec S_ 1 := (fun x v => Host.reduce IntOp.andi x v reducesTo_S8x4096x32_S_d0_1_2 h_S_) main_v16 main_c_5
  let main_v18 : IVec S_ 1 := andi main_v13 main_v17
  let main_v19 : FVec F S8x4096x16x64 .f32 := Host.absf main_arg4
  let main_cst_6 : FVec F S_ .f32 := constant S_ .f32 0x7F800000#32
  let main_v20 : FVec F S8x4096x16x64 .f32 := broadcastInDim S8x4096x16x64 ![] bcast_S_S8x4096x16x64 main_cst_6
  let main_v21 : IVec S8x4096x16x64 1 := cmpf .olt main_v19 main_v20
  let main_c_7 : IVec S_ 1 := constantI S_ 1 1#1
  let main_v22 : IVec S_ 1 := (fun x v => Host.reduce IntOp.andi x v reducesTo_S8x4096x16x64_S_d0_1_2_3 h_S_) main_v21 main_c_7
  let main_v23 : IVec S_ 1 := andi main_v18 main_v22
  main_v23

def fn {F : FTy → Type} [FloatOps F] (main_arg0 : FVec F S8x4096x16x64 .f32) (main_arg1 : FVec F S8x4096x16x32 .f32) (main_arg2 : FVec F S8x4096x16x64 .f32) (main_arg3 : FVec F S8x4096x32 .f32) (main_arg4 : FVec F S8x4096x16x64 .f32) : IVec S_ 1 :=
  let main_v0 : FVec F S8x4096x16x64 .f32 := Host.absf main_arg0
  let main_cst : FVec F S_ .f32 := constant S_ .f32 0x7F800000#32
  let main_v1 : FVec F S8x4096x16x64 .f32 := broadcastInDim S8x4096x16x64 ![] bcast_S_S8x4096x16x64 main_cst
  let main_v2 : IVec S8x4096x16x64 1 := cmpf .olt main_v0 main_v1
  let main_c : IVec S_ 1 := constantI S_ 1 1#1
  let main_v3 : IVec S_ 1 := (fun x v => Host.reduce IntOp.andi x v reducesTo_S8x4096x16x64_S_d0_1_2_3 h_S_) main_v2 main_c
  let main_v4 : FVec F S8x4096x16x32 .f32 := Host.absf main_arg1
  let main_cst_0 : FVec F S_ .f32 := constant S_ .f32 0x7F800000#32
  let main_v5 : FVec F S8x4096x16x32 .f32 := broadcastInDim S8x4096x16x32 ![] bcast_S_S8x4096x16x32 main_cst_0
  let main_v6 : IVec S8x4096x16x32 1 := cmpf .olt main_v4 main_v5
  let main_c_1 : IVec S_ 1 := constantI S_ 1 1#1
  let main_v7 : IVec S_ 1 := (fun x v => Host.reduce IntOp.andi x v reducesTo_S8x4096x16x32_S_d0_1_2_3 h_S_) main_v6 main_c_1
  let main_v8 : IVec S_ 1 := andi main_v3 main_v7
  let main_v9 : FVec F S8x4096x16x64 .f32 := Host.absf main_arg2
  let main_cst_2 : FVec F S_ .f32 := constant S_ .f32 0x7F800000#32
  let main_v10 : FVec F S8x4096x16x64 .f32 := broadcastInDim S8x4096x16x64 ![] bcast_S_S8x4096x16x64 main_cst_2
  let main_v11 : IVec S8x4096x16x64 1 := cmpf .olt main_v9 main_v10
  let main_c_3 : IVec S_ 1 := constantI S_ 1 1#1
  let main_v12 : IVec S_ 1 := (fun x v => Host.reduce IntOp.andi x v reducesTo_S8x4096x16x64_S_d0_1_2_3 h_S_) main_v11 main_c_3
  let main_v13 : IVec S_ 1 := andi main_v8 main_v12
  let main_v14 : FVec F S8x4096x32 .f32 := Host.absf main_arg3
  let main_cst_4 : FVec F S_ .f32 := constant S_ .f32 0x7F800000#32
  let main_v15 : FVec F S8x4096x32 .f32 := broadcastInDim S8x4096x32 ![] bcast_S_S8x4096x32 main_cst_4
  let main_v16 : IVec S8x4096x32 1 := cmpf .olt main_v14 main_v15
  fn_part1 (F := F) main_arg4 main_v13 main_v16
-- ==== Mla.lean ====
abbrev S8x4096x16x64 : Shape := ⟨4, ![8, 4096, 16, 64]⟩
abbrev S8x4096x16x32 : Shape := ⟨4, ![8, 4096, 16, 32]⟩
abbrev S8x4096x32 : Shape := ⟨3, ![8, 4096, 32]⟩
abbrev S_ : Shape := ⟨0, ![]⟩
abbrev S8x4096x16x128 : Shape := ⟨4, ![8, 4096, 16, 128]⟩
abbrev S8x4096x2048 : Shape := ⟨3, ![8, 4096, 2048]⟩
abbrev S8x4096x1x32 : Shape := ⟨4, ![8, 4096, 1, 32]⟩
abbrev S8x16x256x1024 : Shape := ⟨4, ![8, 16, 256, 1024]⟩
abbrev S8x16x1024x256 : Shape := ⟨4, ![8, 16, 1024, 256]⟩
abbrev S8x1024x4096 : Shape := ⟨3, ![8, 1024, 4096]⟩
abbrev S1x256x1024 : Shape := ⟨3, ![1, 256, 1024]⟩
abbrev S1x4096x1024 : Shape := ⟨3, ![1, 4096, 1024]⟩
abbrev S1x16x512x256 : Shape := ⟨4, ![1, 16, 512, 256]⟩
abbrev S1x512x256 : Shape := ⟨3, ![1, 512, 256]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S1x256 : Shape := ⟨2, ![1, 256]⟩
abbrev S1x1x64x256 : Shape := ⟨4, ![1, 1, 64, 256]⟩
abbrev S64x256 : Shape := ⟨2, ![64, 256]⟩
abbrev S1x64x256 : Shape := ⟨3, ![1, 64, 256]⟩

abbrev nBuf : Space → Nat
  | .hbm => 28
  | .vmem => 8
  | .smem => 0
  | _ => 0

abbrev bufTy : (tb : Table) → Fin (tcTables nBuf tb) → BufTy
  | .hbm, ⟨0, _⟩ => ⟨S8x4096x16x64, .f32⟩
  | .hbm, ⟨1, _⟩ => ⟨S8x4096x16x32, .f32⟩
  | .hbm, ⟨2, _⟩ => ⟨S8x4096x16x64, .f32⟩
  | .hbm, ⟨3, _⟩ => ⟨S8x4096x32, .f32⟩
  | .hbm, ⟨4, _⟩ => ⟨S8x4096x16x64, .f32⟩
  | .hbm, ⟨5, _⟩ => ⟨S_, .f32⟩
  | .hbm, ⟨6, _⟩ => ⟨S8x4096x16x32, .f32⟩
  | .hbm, ⟨7, _⟩ => ⟨S8x4096x16x128, .f32⟩
  | .hbm, ⟨8, _⟩ => ⟨S8x4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x4096x2048, .f32⟩
  | .hbm, ⟨15, _⟩ => ⟨S8x4096x2048, .f32⟩
  | .hbm, ⟨16, _⟩ => ⟨S8x4096x2048, .bf16⟩
  | .hbm, ⟨17, _⟩ => ⟨S8x4096x1x32, .f32⟩
  | .hbm, ⟨18, _⟩ => ⟨S8x4096x16x32, .f32⟩
  | .hbm, ⟨19, _⟩ => ⟨S_, .f32⟩
  | .hbm, ⟨20, _⟩ => ⟨S8x4096x16x32, .f32⟩
  | .hbm, ⟨21, _⟩ => ⟨S8x4096x16x128, .f32⟩
  | .hbm, ⟨22, _⟩ => ⟨S8x4096x2048, .f32⟩
  | .hbm, ⟨23, _⟩ => ⟨S8x4096x2048, .bf16⟩
  | .hbm, ⟨24, _⟩ => ⟨S8x16x256x1024, .f32⟩
  | .hbm, ⟨25, _⟩ => ⟨S8x16x1024x256, .f32⟩
  | .hbm, ⟨26, _⟩ => ⟨S8x16x1024x256, .bf16⟩
  | .hbm, ⟨27, _⟩ => ⟨S8x1024x4096, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x16x512x256, .bf16⟩
  | .local _ .vmem, ⟨5, _⟩ => ⟨S1x16x512x256, .bf16⟩
  | .local _ .vmem, ⟨6, _⟩ => ⟨S1x512x256, .bf16⟩
  | .local _ .vmem, ⟨7, _⟩ => ⟨S1x512x256, .bf16⟩
  | _, _ => ⟨S8x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 16], ![false, false, false]⟩

def k0_mult1 (i : grid0.Coords) : BitVec 32 :=
  let arg2 : BitVec 32 := BitVec.ofNat 32 (i 2).val
  let c256_i32 : BitVec 32 := 256#32
  let v19 : BitVec 32 := Scalar.muli arg2 c256_i32
  v19
def k0_off1 (i : grid0.Coords) : Fin 3 → Nat :=
  let c0_16 : Index := 0#32
  let arg2 : BitVec 32 := BitVec.ofNat 32 (i 2).val
  let c256_i32 : BitVec 32 := 256#32
  let v19 : BitVec 32 := Scalar.muli arg2 c256_i32
  let v20 : BitVec 32 := v19
  let v21 : Index := Scalar.indexCast v20
  let c0_17 : Index := 0#32
  ![0, v21.toNat, 0]
def k0_mult2 (i : grid0.Coords) : BitVec 32 :=
  let arg2 : BitVec 32 := BitVec.ofNat 32 (i 2).val
  let c256_i32_18 : BitVec 32 := 256#32
  let v25 : BitVec 32 := Scalar.muli arg2 c256_i32_18
  v25
def k0_off2 (i : grid0.Coords) : Fin 3 → Nat :=
  let c0_19 : Index := 0#32
  let arg2 : BitVec 32 := BitVec.ofNat 32 (i 2).val
  let c256_i32_18 : BitVec 32 := 256#32
  let v25 : BitVec 32 := Scalar.muli arg2 c256_i32_18
  let v26 : BitVec 32 := v25
  let v27 : Index := Scalar.indexCast v26
  let c128_20 : Index := 128#32
  ![0, v27.toNat, 128]
def k0_mult3 (i : grid0.Coords) : BitVec 32 :=
  let arg2 : BitVec 32 := BitVec.ofNat 32 (i 2).val
  let c256_i32_22 : BitVec 32 := 256#32
  let v31 : BitVec 32 := Scalar.muli arg2 c256_i32_22
  v31
def k0_off3 (i : grid0.Coords) : Fin 3 → Nat :=
  let c0_23 : Index := 0#32
  let arg2 : BitVec 32 := BitVec.ofNat 32 (i 2).val
  let c256_i32_22 : BitVec 32 := 256#32
  let v31 : BitVec 32 := Scalar.muli arg2 c256_i32_22
  let v32 : BitVec 32 := v31
  let v33 : Index := Scalar.indexCast v32
  let c256_24 : Index := 256#32
  ![0, v33.toNat, 256]
def k0_mult4 (i : grid0.Coords) : BitVec 32 :=
  let arg2 : BitVec 32 := BitVec.ofNat 32 (i 2).val
  let c256_i32_26 : BitVec 32 := 256#32
  let v37 : BitVec 32 := Scalar.muli arg2 c256_i32_26
  v37
def k0_off4 (i : grid0.Coords) : Fin 3 → Nat :=
  let c0_27 : Index := 0#32
  let arg2 : BitVec 32 := BitVec.ofNat 32 (i 2).val
  let c256_i32_26 : BitVec 32 := 256#32
  let v37 : BitVec 32 := Scalar.muli arg2 c256_i32_26
  let v38 : BitVec 32 := v37
  let v39 : Index := Scalar.indexCast v38
  let c384_28 : Index := 384#32
  ![0, v39.toNat, 384]
def k0_mult5 (i : grid0.Coords) : BitVec 32 :=
  let arg2 : BitVec 32 := BitVec.ofNat 32 (i 2).val
  let c256_i32_30 : BitVec 32 := 256#32
  let v43 : BitVec 32 := Scalar.muli arg2 c256_i32_30
  v43
def k0_off5 (i : grid0.Coords) : Fin 3 → Nat :=
  let c0_31 : Index := 0#32
  let arg2 : BitVec 32 := BitVec.ofNat 32 (i 2).val
  let c256_i32_30 : BitVec 32 := 256#32
  let v43 : BitVec 32 := Scalar.muli arg2 c256_i32_30
  let v44 : BitVec 32 := v43
  let v45 : Index := Scalar.indexCast v44
  let c512_32 : Index := 512#32
  ![0, v45.toNat, 512]
def k0_mult6 (i : grid0.Coords) : BitVec 32 :=
  let arg2 : BitVec 32 := BitVec.ofNat 32 (i 2).val
  let c256_i32_34 : BitVec 32 := 256#32
  let v49 : BitVec 32 := Scalar.muli arg2 c256_i32_34
  v49
def k0_off6 (i : grid0.Coords) : Fin 3 → Nat :=
  let c0_35 : Index := 0#32
  let arg2 : BitVec 32 := BitVec.ofNat 32 (i 2).val
  let c256_i32_34 : BitVec 32 := 256#32
  let v49 : BitVec 32 := Scalar.muli arg2 c256_i32_34
  let v50 : BitVec 32 := v49
  let v51 : Index := Scalar.indexCast v50
  let c640_36 : Index := 640#32
  ![0, v51.toNat, 640]
def k0_mult7 (i : grid0.Coords) : BitVec 32 :=
  let arg2 : BitVec 32 := BitVec.ofNat 32 (i 2).val
  let c256_i32_38 : BitVec 32 := 256#32
  let v55 : BitVec 32 := Scalar.muli arg2 c256_i32_38
  v55
def k0_off7 (i : grid0.Coords) : Fin 3 → Nat :=
  let c0_39 : Index := 0#32
  let arg2 : BitVec 32 := BitVec.ofNat 32 (i 2).val
  let c256_i32_38 : BitVec 32 := 256#32
  let v55 : BitVec 32 := Scalar.muli arg2 c256_i32_38
  let v56 : BitVec 32 := v55
  let v57 : Index := Scalar.indexCast v56
  let c768_40 : Index := 768#32
  ![0, v57.toNat, 768]
def k0_mult8 (i : grid0.Coords) : BitVec 32 :=
  let arg2 : BitVec 32 := BitVec.ofNat 32 (i 2).val
  let c256_i32_42 : BitVec 32 := 256#32
  let v61 : BitVec 32 := Scalar.muli arg2 c256_i32_42
  v61
def k0_off8 (i : grid0.Coords) : Fin 3 → Nat :=
  let c0_43 : Index := 0#32
  let arg2 : BitVec 32 := BitVec.ofNat 32 (i 2).val
  let c256_i32_42 : BitVec 32 := 256#32
  let v61 : BitVec 32 := Scalar.muli arg2 c256_i32_42
  let v62 : BitVec 32 := v61
  let v63 : Index := Scalar.indexCast v62
  let c896_44 : Index := 896#32
  ![0, v63.toNat, 896]
def k0_off9 (i : grid0.Coords) : Fin 4 → Nat :=
  let c0_63 : Index := 0#32
  let arg2 : BitVec 32 := BitVec.ofNat 32 (i 2).val
  let v125 : Index := Scalar.indexCast arg2
  let c0_64 : Index := 0#32
  let c0_65 : Index := 0#32
  ![0, v125.toNat, 0, 0]
def k0_off10 (i : grid0.Coords) : Fin 4 → Nat :=
  let c0_68 : Index := 0#32
  let arg2 : BitVec 32 := BitVec.ofNat 32 (i 2).val
  let v132 : Index := Scalar.indexCast arg2
  let c64 : Index := 64#32
  let c0_69 : Index := 0#32
  ![0, v132.toNat, 64, 0]
def k0_off11 (i : grid0.Coords) : Fin 4 → Nat :=
  let c0_72 : Index := 0#32
  let arg2 : BitVec 32 := BitVec.ofNat 32 (i 2).val
  let v139 : Index := Scalar.indexCast arg2
  let c128_73 : Index := 128#32
  let c0_74 : Index := 0#32
  ![0, v139.toNat, 128, 0]
def k0_off12 (i : grid0.Coords) : Fin 4 → Nat :=
  let c0_77 : Index := 0#32
  let arg2 : BitVec 32 := BitVec.ofNat 32 (i 2).val
  let v146 : Index := Scalar.indexCast arg2
  let c192 : Index := 192#32
  let c0_78 : Index := 0#32
  ![0, v146.toNat, 192, 0]
def k0_off13 (i : grid0.Coords) : Fin 4 → Nat :=
  let c0_81 : Index := 0#32
  let arg2 : BitVec 32 := BitVec.ofNat 32 (i 2).val
  let v153 : Index := Scalar.indexCast arg2
  let c256_82 : Index := 256#32
  let c0_83 : Index := 0#32
  ![0, v153.toNat, 256, 0]
def k0_off14 (i : grid0.Coords) : Fin 4 → Nat :=
  let c0_86 : Index := 0#32
  let arg2 : BitVec 32 := BitVec.ofNat 32 (i 2).val
  let v160 : Index := Scalar.indexCast arg2
  let c320 : Index := 320#32
  let c0_87 : Index := 0#32
  ![0, v160.toNat, 320, 0]
def k0_off15 (i : grid0.Coords) : Fin 4 → Nat :=
  let c0_90 : Index := 0#32
  let arg2 : BitVec 32 := BitVec.ofNat 32 (i 2).val
  let v167 : Index := Scalar.indexCast arg2
  let c384_91 : Index := 384#32
  let c0_92 : Index := 0#32
  ![0, v167.toNat, 384, 0]
def k0_off16 (i : grid0.Coords) : Fin 4 → Nat :=
  let c0_95 : Index := 0#32
  let arg2 : BitVec 32 := BitVec.ofNat 32 (i 2).val
  let v174 : Index := Scalar.indexCast arg2
  let c448 : Index := 448#32
  let c0_96 : Index := 0#32
  ![0, v174.toNat, 448, 0]
@[reducible] def k0_t1_loop (i : grid0.Coords) : Scf.Loop 32 :=
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_98 : BitVec 32 := 1#32
  ⟨c0_i32, v183, c1_i32_98⟩
def k0_mult9 (i : grid0.Coords) (k0_t1 : Fin (k0_t1_loop i).trips) : BitVec 32 :=
  let c0_i32 : BitVec 32 := 0#32
  let c1_i32_98 : BitVec 32 := 1#32
  let arg7 : BitVec 32 := Scf.iv c0_i32 c1_i32_98 k0_t1
  let c256_i32_124 : BitVec 32 := 256#32
  let v234 : BitVec 32 := Scalar.muli arg7 c256_i32_124
  v234
def k0_off17 (i : grid0.Coords) (k0_t1 : Fin (k0_t1_loop i).trips) : Fin 3 → Nat :=
  let c0_125 : Index := 0#32
  let c0_i32 : BitVec 32 := 0#32
  let c1_i32_98 : BitVec 32 := 1#32
  let arg7 : BitVec 32 := Scf.iv c0_i32 c1_i32_98 k0_t1
  let c256_i32_124 : BitVec 32 := 256#32
  let v234 : BitVec 32 := Scalar.muli arg7 c256_i32_124
  let v235 : BitVec 32 := v234
  let v236 : Index := Scalar.indexCast v235
  let c0_126 : Index := 0#32
  ![0, v236.toNat, 0]
def k0_mult10 (i : grid0.Coords) (k0_t1 : Fin (k0_t1_loop i).trips) : BitVec 32 :=
  let c0_i32 : BitVec 32 := 0#32
  let c1_i32_98 : BitVec 32 := 1#32
  let arg7 : BitVec 32 := Scf.iv c0_i32 c1_i32_98 k0_t1
  let c256_i32_128 : BitVec 32 := 256#32
  let v240 : BitVec 32 := Scalar.muli arg7 c256_i32_128
  v240
def k0_off18 (i : grid0.Coords) (k0_t1 : Fin (k0_t1_loop i).trips) : Fin 3 → Nat :=
  let c0_129 : Index := 0#32
  let c0_i32 : BitVec 32 := 0#32
  let c1_i32_98 : BitVec 32 := 1#32
  let arg7 : BitVec 32 := Scf.iv c0_i32 c1_i32_98 k0_t1
  let c256_i32_128 : BitVec 32 := 256#32
  let v240 : BitVec 32 := Scalar.muli arg7 c256_i32_128
  let v241 : BitVec 32 := v240
  let v242 : Index := Scalar.indexCast v241
  let c128_130 : Index := 128#32
  ![0, v242.toNat, 128]
def k0_mult11 (i : grid0.Coords) (k0_t1 : Fin (k0_t1_loop i).trips) : BitVec 32 :=
  let c0_i32 : BitVec 32 := 0#32
  let c1_i32_98 : BitVec 32 := 1#32
  let arg7 : BitVec 32 := Scf.iv c0_i32 c1_i32_98 k0_t1
  let c256_i32_132 : BitVec 32 := 256#32
  let v246 : BitVec 32 := Scalar.muli arg7 c256_i32_132
  v246
def k0_off19 (i : grid0.Coords) (k0_t1 : Fin (k0_t1_loop i).trips) : Fin 3 → Nat :=
  let c0_133 : Index := 0#32
  let c0_i32 : BitVec 32 := 0#32
  let c1_i32_98 : BitVec 32 := 1#32
  let arg7 : BitVec 32 := Scf.iv c0_i32 c1_i32_98 k0_t1
  let c256_i32_132 : BitVec 32 := 256#32
  let v246 : BitVec 32 := Scalar.muli arg7 c256_i32_132
  let v247 : BitVec 32 := v246
  let v248 : Index := Scalar.indexCast v247
  let c256_134 : Index := 256#32
  ![0, v248.toNat, 256]
def k0_mult12 (i : grid0.Coords) (k0_t1 : Fin (k0_t1_loop i).trips) : BitVec 32 :=
  let c0_i32 : BitVec 32 := 0#32
  let c1_i32_98 : BitVec 32 := 1#32
  let arg7 : BitVec 32 := Scf.iv c0_i32 c1_i32_98 k0_t1
  let c256_i32_136 : BitVec 32 := 256#32
  let v252 : BitVec 32 := Scalar.muli arg7 c256_i32_136
  v252
def k0_off20 (i : grid0.Coords) (k0_t1 : Fin (k0_t1_loop i).trips) : Fin 3 → Nat :=
  let c0_137 : Index := 0#32
  let c0_i32 : BitVec 32 := 0#32
  let c1_i32_98 : BitVec 32 := 1#32
  let arg7 : BitVec 32 := Scf.iv c0_i32 c1_i32_98 k0_t1
  let c256_i32_136 : BitVec 32 := 256#32
  let v252 : BitVec 32 := Scalar.muli arg7 c256_i32_136
  let v253 : BitVec 32 := v252
  let v254 : Index := Scalar.indexCast v253
  let c384_138 : Index := 384#32
  ![0, v254.toNat, 384]
def k0_mult13 (i : grid0.Coords) (k0_t1 : Fin (k0_t1_loop i).trips) : BitVec 32 :=
  let c0_i32 : BitVec 32 := 0#32
  let c1_i32_98 : BitVec 32 := 1#32
  let arg7 : BitVec 32 := Scf.iv c0_i32 c1_i32_98 k0_t1
  let c256_i32_140 : BitVec 32 := 256#32
  let v258 : BitVec 32 := Scalar.muli arg7 c256_i32_140
  v258
def k0_off21 (i : grid0.Coords) (k0_t1 : Fin (k0_t1_loop i).trips) : Fin 3 → Nat :=
  let c0_141 : Index := 0#32
  let c0_i32 : BitVec 32 := 0#32
  let c1_i32_98 : BitVec 32 := 1#32
  let arg7 : BitVec 32 := Scf.iv c0_i32 c1_i32_98 k0_t1
  let c256_i32_140 : BitVec 32 := 256#32
  let v258 : BitVec 32 := Scalar.muli arg7 c256_i32_140
  let v259 : BitVec 32 := v258
  let v260 : Index := Scalar.indexCast v259
  let c512_142 : Index := 512#32
  ![0, v260.toNat, 512]
def k0_mult14 (i : grid0.Coords) (k0_t1 : Fin (k0_t1_loop i).trips) : BitVec 32 :=
  let c0_i32 : BitVec 32 := 0#32
  let c1_i32_98 : BitVec 32 := 1#32
  let arg7 : BitVec 32 := Scf.iv c0_i32 c1_i32_98 k0_t1
  let c256_i32_144 : BitVec 32 := 256#32
  let v264 : BitVec 32 := Scalar.muli arg7 c256_i32_144
  v264
def k0_off22 (i : grid0.Coords) (k0_t1 : Fin (k0_t1_loop i).trips) : Fin 3 → Nat :=
  let c0_145 : Index := 0#32
  let c0_i32 : BitVec 32 := 0#32
  let c1_i32_98 : BitVec 32 := 1#32
  let arg7 : BitVec 32 := Scf.iv c0_i32 c1_i32_98 k0_t1
  let c256_i32_144 : BitVec 32 := 256#32
  let v264 : BitVec 32 := Scalar.muli arg7 c256_i32_144
  let v265 : BitVec 32 := v264
  let v266 : Index := Scalar.indexCast v265
  let c640_146 : Index := 640#32
  ![0, v266.toNat, 640]
def k0_mult15 (i : grid0.Coords) (k0_t1 : Fin (k0_t1_loop i).trips) : BitVec 32 :=
  let c0_i32 : BitVec 32 := 0#32
  let c1_i32_98 : BitVec 32 := 1#32
  let arg7 : BitVec 32 := Scf.iv c0_i32 c1_i32_98 k0_t1
  let c256_i32_148 : BitVec 32 := 256#32
  let v270 : BitVec 32 := Scalar.muli arg7 c256_i32_148
  v270
def k0_off23 (i : grid0.Coords) (k0_t1 : Fin (k0_t1_loop i).trips) : Fin 3 → Nat :=
  let c0_149 : Index := 0#32
  let c0_i32 : BitVec 32 := 0#32
  let c1_i32_98 : BitVec 32 := 1#32
  let arg7 : BitVec 32 := Scf.iv c0_i32 c1_i32_98 k0_t1
  let c256_i32_148 : BitVec 32 := 256#32
  let v270 : BitVec 32 := Scalar.muli arg7 c256_i32_148
  let v271 : BitVec 32 := v270
  let v272 : Index := Scalar.indexCast v271
  let c768_150 : Index := 768#32
  ![0, v272.toNat, 768]
def k0_mult16 (i : grid0.Coords) (k0_t1 : Fin (k0_t1_loop i).trips) : BitVec 32 :=
  let c0_i32 : BitVec 32 := 0#32
  let c1_i32_98 : BitVec 32 := 1#32
  let arg7 : BitVec 32 := Scf.iv c0_i32 c1_i32_98 k0_t1
  let c256_i32_152 : BitVec 32 := 256#32
  let v276 : BitVec 32 := Scalar.muli arg7 c256_i32_152
  v276
def k0_off24 (i : grid0.Coords) (k0_t1 : Fin (k0_t1_loop i).trips) : Fin 3 → Nat :=
  let c0_153 : Index := 0#32
  let c0_i32 : BitVec 32 := 0#32
  let c1_i32_98 : BitVec 32 := 1#32
  let arg7 : BitVec 32 := Scf.iv c0_i32 c1_i32_98 k0_t1
  let c256_i32_152 : BitVec 32 := 256#32
  let v276 : BitVec 32 := Scalar.muli arg7 c256_i32_152
  let v277 : BitVec 32 := v276
  let v278 : Index := Scalar.indexCast v277
  let c896_154 : Index := 896#32
  ![0, v278.toNat, 896]
def k0_off25 (i : grid0.Coords) (k0_t1 : Fin (k0_t1_loop i).trips) : Fin 4 → Nat :=
  let c0_172 : Index := 0#32
  let c0_i32 : BitVec 32 := 0#32
  let c1_i32_98 : BitVec 32 := 1#32
  let arg7 : BitVec 32 := Scf.iv c0_i32 c1_i32_98 k0_t1
  let v388 : Index := Scalar.indexCast arg7
  let c0_173 : Index := 0#32
  let c0_174 : Index := 0#32
  ![0, v388.toNat, 0, 0]
def k0_off26 (i : grid0.Coords) (k0_t1 : Fin (k0_t1_loop i).trips) : Fin 4 → Nat :=
  let c0_176 : Index := 0#32
  let c0_i32 : BitVec 32 := 0#32
  let c1_i32_98 : BitVec 32 := 1#32
  let arg7 : BitVec 32 := Scf.iv c0_i32 c1_i32_98 k0_t1
  let v395 : Index := Scalar.indexCast arg7
  let c64_177 : Index := 64#32
  let c0_178 : Index := 0#32
  ![0, v395.toNat, 64, 0]
def k0_off27 (i : grid0.Coords) (k0_t1 : Fin (k0_t1_loop i).trips) : Fin 4 → Nat :=
  let c0_180 : Index := 0#32
  let c0_i32 : BitVec 32 := 0#32
  let c1_i32_98 : BitVec 32 := 1#32
  let arg7 : BitVec 32 := Scf.iv c0_i32 c1_i32_98 k0_t1
  let v402 : Index := Scalar.indexCast arg7
  let c128_181 : Index := 128#32
  let c0_182 : Index := 0#32
  ![0, v402.toNat, 128, 0]
def k0_off28 (i : grid0.Coords) (k0_t1 : Fin (k0_t1_loop i).trips) : Fin 4 → Nat :=
  let c0_184 : Index := 0#32
  let c0_i32 : BitVec 32 := 0#32
  let c1_i32_98 : BitVec 32 := 1#32
  let arg7 : BitVec 32 := Scf.iv c0_i32 c1_i32_98 k0_t1
  let v409 : Index := Scalar.indexCast arg7
  let c192_185 : Index := 192#32
  let c0_186 : Index := 0#32
  ![0, v409.toNat, 192, 0]
def k0_off29 (i : grid0.Coords) (k0_t1 : Fin (k0_t1_loop i).trips) : Fin 4 → Nat :=
  let c0_188 : Index := 0#32
  let c0_i32 : BitVec 32 := 0#32
  let c1_i32_98 : BitVec 32 := 1#32
  let arg7 : BitVec 32 := Scf.iv c0_i32 c1_i32_98 k0_t1
  let v416 : Index := Scalar.indexCast arg7
  let c256_189 : Index := 256#32
  let c0_190 : Index := 0#32
  ![0, v416.toNat, 256, 0]
def k0_off30 (i : grid0.Coords) (k0_t1 : Fin (k0_t1_loop i).trips) : Fin 4 → Nat :=
  let c0_192 : Index := 0#32
  let c0_i32 : BitVec 32 := 0#32
  let c1_i32_98 : BitVec 32 := 1#32
  let arg7 : BitVec 32 := Scf.iv c0_i32 c1_i32_98 k0_t1
  let v423 : Index := Scalar.indexCast arg7
  let c320_193 : Index := 320#32
  let c0_194 : Index := 0#32
  ![0, v423.toNat, 320, 0]
def k0_off31 (i : grid0.Coords) (k0_t1 : Fin (k0_t1_loop i).trips) : Fin 4 → Nat :=
  let c0_196 : Index := 0#32
  let c0_i32 : BitVec 32 := 0#32
  let c1_i32_98 : BitVec 32 := 1#32
  let arg7 : BitVec 32 := Scf.iv c0_i32 c1_i32_98 k0_t1
  let v430 : Index := Scalar.indexCast arg7
  let c384_197 : Index := 384#32
  let c0_198 : Index := 0#32
  ![0, v430.toNat, 384, 0]
def k0_off32 (i : grid0.Coords) (k0_t1 : Fin (k0_t1_loop i).trips) : Fin 4 → Nat :=
  let c0_200 : Index := 0#32
  let c0_i32 : BitVec 32 := 0#32
  let c1_i32_98 : BitVec 32 := 1#32
  let arg7 : BitVec 32 := Scf.iv c0_i32 c1_i32_98 k0_t1
  let v437 : Index := Scalar.indexCast arg7
  let c448_201 : Index := 448#32
  let c0_202 : Index := 0#32
  ![0, v437.toNat, 448, 0]
@[reducible] def k0_t2_loop (i : grid0.Coords) : Scf.Loop 32 :=
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let v180 : BitVec 32 := Scalar.addi c0_i32 v179
  let c1_i32_99 : BitVec 32 := 1#32
  ⟨v183, v180, c1_i32_99⟩
def k0_mult17 (i : grid0.Coords) (k0_t2 : Fin (k0_t2_loop i).trips) : BitVec 32 :=
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let c256_i32_124 : BitVec 32 := 256#32
  let v234 : BitVec 32 := Scalar.muli arg7 c256_i32_124
  v234
def k0_off33 (i : grid0.Coords) (k0_t2 : Fin (k0_t2_loop i).trips) : Fin 3 → Nat :=
  let c0_125 : Index := 0#32
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let c256_i32_124 : BitVec 32 := 256#32
  let v234 : BitVec 32 := Scalar.muli arg7 c256_i32_124
  let v235 : BitVec 32 := v234
  let v236 : Index := Scalar.indexCast v235
  let c0_126 : Index := 0#32
  ![0, v236.toNat, 0]
def k0_mult18 (i : grid0.Coords) (k0_t2 : Fin (k0_t2_loop i).trips) : BitVec 32 :=
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let c256_i32_128 : BitVec 32 := 256#32
  let v240 : BitVec 32 := Scalar.muli arg7 c256_i32_128
  v240
def k0_off34 (i : grid0.Coords) (k0_t2 : Fin (k0_t2_loop i).trips) : Fin 3 → Nat :=
  let c0_129 : Index := 0#32
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let c256_i32_128 : BitVec 32 := 256#32
  let v240 : BitVec 32 := Scalar.muli arg7 c256_i32_128
  let v241 : BitVec 32 := v240
  let v242 : Index := Scalar.indexCast v241
  let c128_130 : Index := 128#32
  ![0, v242.toNat, 128]
def k0_mult19 (i : grid0.Coords) (k0_t2 : Fin (k0_t2_loop i).trips) : BitVec 32 :=
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let c256_i32_132 : BitVec 32 := 256#32
  let v246 : BitVec 32 := Scalar.muli arg7 c256_i32_132
  v246
def k0_off35 (i : grid0.Coords) (k0_t2 : Fin (k0_t2_loop i).trips) : Fin 3 → Nat :=
  let c0_133 : Index := 0#32
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let c256_i32_132 : BitVec 32 := 256#32
  let v246 : BitVec 32 := Scalar.muli arg7 c256_i32_132
  let v247 : BitVec 32 := v246
  let v248 : Index := Scalar.indexCast v247
  let c256_134 : Index := 256#32
  ![0, v248.toNat, 256]
def k0_mult20 (i : grid0.Coords) (k0_t2 : Fin (k0_t2_loop i).trips) : BitVec 32 :=
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let c256_i32_136 : BitVec 32 := 256#32
  let v252 : BitVec 32 := Scalar.muli arg7 c256_i32_136
  v252
def k0_off36 (i : grid0.Coords) (k0_t2 : Fin (k0_t2_loop i).trips) : Fin 3 → Nat :=
  let c0_137 : Index := 0#32
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let c256_i32_136 : BitVec 32 := 256#32
  let v252 : BitVec 32 := Scalar.muli arg7 c256_i32_136
  let v253 : BitVec 32 := v252
  let v254 : Index := Scalar.indexCast v253
  let c384_138 : Index := 384#32
  ![0, v254.toNat, 384]
def k0_mult21 (i : grid0.Coords) (k0_t2 : Fin (k0_t2_loop i).trips) : BitVec 32 :=
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let c256_i32_140 : BitVec 32 := 256#32
  let v258 : BitVec 32 := Scalar.muli arg7 c256_i32_140
  v258
def k0_off37 (i : grid0.Coords) (k0_t2 : Fin (k0_t2_loop i).trips) : Fin 3 → Nat :=
  let c0_141 : Index := 0#32
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let c256_i32_140 : BitVec 32 := 256#32
  let v258 : BitVec 32 := Scalar.muli arg7 c256_i32_140
  let v259 : BitVec 32 := v258
  let v260 : Index := Scalar.indexCast v259
  let c512_142 : Index := 512#32
  ![0, v260.toNat, 512]
def k0_mult22 (i : grid0.Coords) (k0_t2 : Fin (k0_t2_loop i).trips) : BitVec 32 :=
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let c256_i32_144 : BitVec 32 := 256#32
  let v264 : BitVec 32 := Scalar.muli arg7 c256_i32_144
  v264
def k0_off38 (i : grid0.Coords) (k0_t2 : Fin (k0_t2_loop i).trips) : Fin 3 → Nat :=
  let c0_145 : Index := 0#32
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let c256_i32_144 : BitVec 32 := 256#32
  let v264 : BitVec 32 := Scalar.muli arg7 c256_i32_144
  let v265 : BitVec 32 := v264
  let v266 : Index := Scalar.indexCast v265
  let c640_146 : Index := 640#32
  ![0, v266.toNat, 640]
def k0_mult23 (i : grid0.Coords) (k0_t2 : Fin (k0_t2_loop i).trips) : BitVec 32 :=
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let c256_i32_148 : BitVec 32 := 256#32
  let v270 : BitVec 32 := Scalar.muli arg7 c256_i32_148
  v270
def k0_off39 (i : grid0.Coords) (k0_t2 : Fin (k0_t2_loop i).trips) : Fin 3 → Nat :=
  let c0_149 : Index := 0#32
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let c256_i32_148 : BitVec 32 := 256#32
  let v270 : BitVec 32 := Scalar.muli arg7 c256_i32_148
  let v271 : BitVec 32 := v270
  let v272 : Index := Scalar.indexCast v271
  let c768_150 : Index := 768#32
  ![0, v272.toNat, 768]
def k0_mult24 (i : grid0.Coords) (k0_t2 : Fin (k0_t2_loop i).trips) : BitVec 32 :=
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let c256_i32_152 : BitVec 32 := 256#32
  let v276 : BitVec 32 := Scalar.muli arg7 c256_i32_152
  v276
def k0_off40 (i : grid0.Coords) (k0_t2 : Fin (k0_t2_loop i).trips) : Fin 3 → Nat :=
  let c0_153 : Index := 0#32
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let c256_i32_152 : BitVec 32 := 256#32
  let v276 : BitVec 32 := Scalar.muli arg7 c256_i32_152
  let v277 : BitVec 32 := v276
  let v278 : Index := Scalar.indexCast v277
  let c896_154 : Index := 896#32
  ![0, v278.toNat, 896]
def k0_off41 (i : grid0.Coords) (k0_t2 : Fin (k0_t2_loop i).trips) : Fin 4 → Nat :=
  let c0_172 : Index := 0#32
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let v388 : Index := Scalar.indexCast arg7
  let c0_173 : Index := 0#32
  let c0_174 : Index := 0#32
  ![0, v388.toNat, 0, 0]
def k0_off42 (i : grid0.Coords) (k0_t2 : Fin (k0_t2_loop i).trips) : Fin 4 → Nat :=
  let c0_176 : Index := 0#32
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let v395 : Index := Scalar.indexCast arg7
  let c64_177 : Index := 64#32
  let c0_178 : Index := 0#32
  ![0, v395.toNat, 64, 0]
def k0_off43 (i : grid0.Coords) (k0_t2 : Fin (k0_t2_loop i).trips) : Fin 4 → Nat :=
  let c0_180 : Index := 0#32
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let v402 : Index := Scalar.indexCast arg7
  let c128_181 : Index := 128#32
  let c0_182 : Index := 0#32
  ![0, v402.toNat, 128, 0]
def k0_off44 (i : grid0.Coords) (k0_t2 : Fin (k0_t2_loop i).trips) : Fin 4 → Nat :=
  let c0_184 : Index := 0#32
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let v409 : Index := Scalar.indexCast arg7
  let c192_185 : Index := 192#32
  let c0_186 : Index := 0#32
  ![0, v409.toNat, 192, 0]
def k0_off45 (i : grid0.Coords) (k0_t2 : Fin (k0_t2_loop i).trips) : Fin 4 → Nat :=
  let c0_188 : Index := 0#32
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let v416 : Index := Scalar.indexCast arg7
  let c256_189 : Index := 256#32
  let c0_190 : Index := 0#32
  ![0, v416.toNat, 256, 0]
def k0_off46 (i : grid0.Coords) (k0_t2 : Fin (k0_t2_loop i).trips) : Fin 4 → Nat :=
  let c0_192 : Index := 0#32
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let v423 : Index := Scalar.indexCast arg7
  let c320_193 : Index := 320#32
  let c0_194 : Index := 0#32
  ![0, v423.toNat, 320, 0]
def k0_off47 (i : grid0.Coords) (k0_t2 : Fin (k0_t2_loop i).trips) : Fin 4 → Nat :=
  let c0_196 : Index := 0#32
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let v430 : Index := Scalar.indexCast arg7
  let c384_197 : Index := 384#32
  let c0_198 : Index := 0#32
  ![0, v430.toNat, 384, 0]
def k0_off48 (i : grid0.Coords) (k0_t2 : Fin (k0_t2_loop i).trips) : Fin 4 → Nat :=
  let c0_200 : Index := 0#32
  let c0_i32 : BitVec 32 := 0#32
  let arg2 : BitVec 32 := BitVec.ofNat 32 (i 2).val
  let v179 : BitVec 32 := Scalar.subi arg2 c0_i32
  let c1_i32 : BitVec 32 := 1#32
  let v181 : BitVec 32 := Scalar.divsi v179 c1_i32
  let v182 : BitVec 32 := Scalar.muli v181 c1_i32
  let v183 : BitVec 32 := Scalar.addi c0_i32 v182
  let c1_i32_99 : BitVec 32 := 1#32
  let arg7 : BitVec 32 := Scf.iv v183 c1_i32_99 k0_t2
  let v437 : Index := Scalar.indexCast arg7
  let c448_201 : Index := 448#32
  let c0_202 : Index := 0#32
  ![0, v437.toNat, 448, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaIdeal.lean ====
variable {F : FTy → Type} [FloatOps F] [Named F]
def κ : String → Option EReal := fun
  | "mask" => some ⊥
  | _ => none
-- ==== MlaRefIdeal.lean ====
abbrev S8x4096x16x64 : Shape := ⟨4, ![8, 4096, 16, 64]⟩
abbrev S8x4096x16x32 : Shape := ⟨4, ![8, 4096, 16, 32]⟩
abbrev S8x4096x32 : Shape := ⟨3, ![8, 4096, 32]⟩
abbrev S8x16x4096x4096 : Shape := ⟨4, ![8, 16, 4096, 4096]⟩
abbrev S8x4096x16x4096 : Shape := ⟨4, ![8, 4096, 16, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x1x4096 : Shape := ⟨4, ![1, 4096, 1, 4096]⟩
abbrev S_ : Shape := ⟨0, ![]⟩
abbrev S8x4096x16 : Shape := ⟨3, ![8, 4096, 16]⟩
abbrev S8x4096x16x1 : Shape := ⟨4, ![8, 4096, 16, 1]⟩
abbrev S8x16x64x4096 : Shape := ⟨4, ![8, 16, 64, 4096]⟩
abbrev S8x4096x1024 : Shape := ⟨3, ![8, 4096, 1024]⟩
abbrev S8x1024x4096 : Shape := ⟨3, ![8, 1024, 4096]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x16x64, .f32⟩
  | .hbm, ⟨1, _⟩ => ⟨S8x4096x16x32, .f32⟩
  | .hbm, ⟨2, _⟩ => ⟨S8x4096x16x64, .f32⟩
  | .hbm, ⟨3, _⟩ => ⟨S8x4096x32, .f32⟩
  | .hbm, ⟨4, _⟩ => ⟨S8x4096x16x64, .f32⟩
  | .hbm, ⟨5, _⟩ => ⟨S8x16x4096x4096, .f32⟩
  | .hbm, ⟨6, _⟩ => ⟨S8x4096x16x4096, .f32⟩
  | .hbm, ⟨7, _⟩ => ⟨S8x4096x16x4096, .f32⟩
  | .hbm, ⟨8, _⟩ => ⟨S8x4096x16x4096, .f32⟩
  | .hbm, ⟨9, _⟩ => ⟨S4096, .i32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S1x4096x1x4096, .i1⟩
  | .hbm, ⟨17, _⟩ => ⟨S_, .f32⟩
  | .hbm, ⟨18, _⟩ => ⟨S_, .f32⟩
  | .hbm, ⟨19, _⟩ => ⟨S8x4096x16x4096, .f32⟩
  | .hbm, ⟨20, _⟩ => ⟨S8x4096x16x4096, .f32⟩
  | .hbm, ⟨21, _⟩ => ⟨S_, .f32⟩
  | .hbm, ⟨22, _⟩ => ⟨S_, .f32⟩
  | .hbm, ⟨23, _⟩ => ⟨S8x4096x16x4096, .i1⟩
  | .hbm, ⟨24, _⟩ => ⟨S8x4096x16x4096, .f32⟩
  | .hbm, ⟨25, _⟩ => ⟨S8x4096x16x4096, .f32⟩
  | .hbm, ⟨26, _⟩ => ⟨S_, .f32⟩
  | .hbm, ⟨27, _⟩ => ⟨S8x4096x16, .f32⟩
  | .hbm, ⟨28, _⟩ => ⟨S_, .f32⟩
  | .hbm, ⟨29, _⟩ => ⟨S8x4096x16, .f32⟩
  | .hbm, ⟨30, _⟩ => ⟨S8x4096x16, .f32⟩
  | .hbm, ⟨31, _⟩ => ⟨S8x4096x16x1, .f32⟩
  | .hbm, ⟨32, _⟩ => ⟨S8x4096x16x4096, .f32⟩
  | .hbm, ⟨33, _⟩ => ⟨S8x4096x16x4096, .f32⟩
  | .hbm, ⟨34, _⟩ => ⟨S8x4096x16x4096, .f32⟩
  | .hbm, ⟨35, _⟩ => ⟨S_, .f32⟩
  | .hbm, ⟨36, _⟩ => ⟨S8x4096x16, .f32⟩
  | .hbm, ⟨37, _⟩ => ⟨S8x4096x16x1, .f32⟩
  | .hbm, ⟨38, _⟩ => ⟨S8x4096x16x4096, .f32⟩
  | .hbm, ⟨39, _⟩ => ⟨S8x4096x16x4096, .f32⟩
  | .hbm, ⟨40, _⟩ => ⟨S8x16x64x4096, .f32⟩
  | .hbm, ⟨41, _⟩ => ⟨S8x4096x16x64, .f32⟩
  | .hbm, ⟨42, _⟩ => ⟨S8x4096x1024, .f32⟩
  | .hbm, ⟨43, _⟩ => ⟨S8x1024x4096, .f32⟩
  | .hbm, ⟨44, _⟩ => ⟨S8x1024x4096, .bf16⟩
  | _, _ => ⟨S8x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Ffn.lean ====
abbrev S8x4096x1024 : Shape := ⟨3, ![8, 4096, 1024]⟩
abbrev S8x9216 : Shape := ⟨2, ![8, 9216]⟩
abbrev S1024 : Shape := ⟨1, ![1024]⟩
abbrev S1024x5632 : Shape := ⟨2, ![1024, 5632]⟩
abbrev S2816x1024 : Shape := ⟨2, ![2816, 1024]⟩
abbrev S8x9x1024 : Shape := ⟨3, ![8, 9, 1024]⟩
abbrev S1x1024 : Shape := ⟨2, ![1, 1024]⟩
abbrev S1x512x1024 : Shape := ⟨3, ![1, 512, 1024]⟩
abbrev S1x9x1024 : Shape := ⟨3, ![1, 9, 1024]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 10
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S8x9x1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x512x1024, .f32⟩
  | .local _ .vmem, ⟨8, _⟩ => ⟨S1x512x1024, .f32⟩
  | .local _ .vmem, ⟨9, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnRefIdeal.lean ====
abbrev S8x4096x1024 : Shape := ⟨3, ![8, 4096, 1024]⟩
abbrev S8x9216 : Shape := ⟨2, ![8, 9216]⟩
abbrev S1024 : Shape := ⟨1, ![1024]⟩
abbrev S1024x5632 : Shape := ⟨2, ![1024, 5632]⟩
abbrev S2816x1024 : Shape := ⟨2, ![2816, 1024]⟩
abbrev S8x1x9216 : Shape := ⟨3, ![8, 1, 9216]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩

abbrev nBuf : Space → Nat
  | .hbm => 58
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S8x1x9216, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x5632, .f32⟩
  | .hbm, ⟨39, _⟩ => ⟨S8x4096x2816, .f32⟩
  | .hbm, ⟨40, _⟩ => ⟨S8x4096x2816, .f32⟩
  | .hbm, ⟨41, _⟩ => ⟨S8x4096x2816, .f32⟩
  | .hbm, ⟨42, _⟩ => ⟨S8x4096x2816, .f32⟩
  | .hbm, ⟨43, _⟩ => ⟨S_, .f32⟩
  | .hbm, ⟨44, _⟩ => ⟨S8x4096x2816, .f32⟩
  | .hbm, ⟨45, _⟩ => ⟨S8x4096x2816, .f32⟩
  | .hbm, ⟨46, _⟩ => ⟨S_, .f32⟩
  | .hbm, ⟨47, _⟩ => ⟨S8x4096x2816, .f32⟩
  | .hbm, ⟨48, _⟩ => ⟨S8x4096x2816, .f32⟩
  | .hbm, ⟨49, _⟩ => ⟨S8x4096x2816, .f32⟩
  | .hbm, ⟨50, _⟩ => ⟨S8x4096x2816, .f32⟩
  | .hbm, ⟨51, _⟩ => ⟨S8x4096x1024, .f32⟩
  | .hbm, ⟨52, _⟩ => ⟨S_, .f32⟩
  | .hbm, ⟨53, _⟩ => ⟨S8x1x1024, .f32⟩
  | .hbm, ⟨54, _⟩ => ⟨S8x1x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== Diff.lean ====
abbrev S8x4096x4x2x64 : Shape := ⟨5, ![8, 4096, 4, 2, 64]⟩
abbrev S8x4096x2x128 : Shape := ⟨4, ![8, 4096, 2, 128]⟩
abbrev S4x64 : Shape := ⟨2, ![4, 64]⟩
abbrev S128 : Shape := ⟨1, ![128]⟩
abbrev S8x4096x512 : Shape := ⟨3, ![8, 4096, 512]⟩
abbrev S8x4096x256 : Shape := ⟨3, ![8, 4096, 256]⟩
abbrev S128x1 : Shape := ⟨2, ![128, 1]⟩
abbrev S8x512x4096 : Shape := ⟨3, ![8, 512, 4096]⟩
abbrev S1x256x512 : Shape := ⟨3, ![1, 256, 512]⟩
abbrev S1x4096x256 : Shape := ⟨3, ![1, 4096, 256]⟩
abbrev S1x512x256 : Shape := ⟨3, ![1, 512, 256]⟩
abbrev S4096x256 : Shape := ⟨2, ![4096, 256]⟩
abbrev S16x256x256 : Shape := ⟨3, ![16, 256, 256]⟩
abbrev S1x256x256 : Shape := ⟨3, ![1, 256, 256]⟩
abbrev S256x256 : Shape := ⟨2, ![256, 256]⟩
abbrev S1x64 : Shape := ⟨2, ![1, 64]⟩
abbrev S1 : Shape := ⟨1, ![1]⟩
abbrev S1x1 : Shape := ⟨2, ![1, 1]⟩
abbrev S256x128 : Shape := ⟨2, ![256, 128]⟩
abbrev S1x256x128 : Shape := ⟨3, ![1, 256, 128]⟩
abbrev S256 : Shape := ⟨1, ![256]⟩
abbrev S1x256 : Shape := ⟨2, ![1, 256]⟩
abbrev S1x128x256 : Shape := ⟨3, ![1, 128, 256]⟩
abbrev S128x256 : Shape := ⟨2, ![128, 256]⟩

abbrev nBuf : Space → Nat
  | .hbm => 10
  | .vmem => 12
  | .smem => 0
  | _ => 0

abbrev bufTy : (tb : Table) → Fin (tcTables nBuf tb) → BufTy
  | .hbm, ⟨0, _⟩ => ⟨S8x4096x4x2x64, .f32⟩
  | .hbm, ⟨1, _⟩ => ⟨S8x4096x2x128, .f32⟩
  | .hbm, ⟨2, _⟩ => ⟨S8x4096x2x128, .f32⟩
  | .hbm, ⟨3, _⟩ => ⟨S4x64, .f32⟩
  | .hbm, ⟨4, _⟩ => ⟨S128, .f32⟩
  | .hbm, ⟨5, _⟩ => ⟨S8x4096x512, .f32⟩
  | .hbm, ⟨6, _⟩ => ⟨S8x4096x256, .f32⟩
  | .hbm, ⟨7, _⟩ => ⟨S8x4096x256, .f32⟩
  | .hbm, ⟨8, _⟩ => ⟨S128x1, .f32⟩
  | .hbm, ⟨9, _⟩ => ⟨S8x512x4096, .bf16⟩
  | .local _ .vmem, ⟨0, _⟩ => ⟨S1x256x512, .f32⟩
  | .local _ .vmem, ⟨1, _⟩ => ⟨S1x256x512, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S4x64, .f32⟩
  | .local _ .vmem, ⟨7, _⟩ => ⟨S128x1, .f32⟩
  | .local _ .vmem, ⟨8, _⟩ => ⟨S1x512x256, .bf16⟩
  | .local _ .vmem, ⟨9, _⟩ => ⟨S1x512x256, .bf16⟩
  | .local _ .vmem, ⟨10, _⟩ => ⟨S4096x256, .bf16⟩
  | .local _ .vmem, ⟨11, _⟩ => ⟨S16x256x256, .bf16⟩
  | _, _ => ⟨S8x4096x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c256_i32 : BitVec 32 := 256#32
  let v271 : BitVec 32 := Scalar.muli arg1 c256_i32
  v271
def k0_off1 (i : grid0.Coords) : Fin 2 → Nat :=
  let arg1 : BitVec 32 := BitVec.ofNat 32 (i 1).val
  let c256_i32 : BitVec 32 := 256#32
  let v271 : BitVec 32 := Scalar.muli arg1 c256_i32
  let v272 : BitVec 32 := v271
  let v273 : Index := Scalar.indexCast v272
  let c0_87 : Index := 0#32
  ![v273.toNat, 0]
def k0_mult2 (i : grid0.Coords) : BitVec 32 :=
  let arg1 : BitVec 32 := BitVec.ofNat 32 (i 1).val
  let c256_i32_89 : BitVec 32 := 256#32
  let v276 : BitVec 32 := Scalar.muli arg1 c256_i32_89
  v276
def k0_mult3 (i : grid0.Coords) : BitVec 32 :=
  let arg1 : BitVec 32 := BitVec.ofNat 32 (i 1).val
  let c256_i32_92 : BitVec 32 := 256#32
  let v281 : BitVec 32 := Scalar.muli arg1 c256_i32_92
  v281
def k0_mult4 (i : grid0.Coords) : BitVec 32 :=
  let arg1 : BitVec 32 := BitVec.ofNat 32 (i 1).val
  let c256_i32_95 : BitVec 32 := 256#32
  let v286 : BitVec 32 := Scalar.muli arg1 c256_i32_95
  v286
def k0_mult5 (i : grid0.Coords) : BitVec 32 :=
  let arg1 : BitVec 32 := BitVec.ofNat 32 (i 1).val
  let c256_i32_98 : BitVec 32 := 256#32
  let v291 : BitVec 32 := Scalar.muli arg1 c256_i32_98
  v291
def k0_off2 (i : grid0.Coords) : Fin 2 → Nat :=
  let arg1 : BitVec 32 := BitVec.ofNat 32 (i 1).val
  let c256_i32_98 : BitVec 32 := 256#32
  let v291 : BitVec 32 := Scalar.muli arg1 c256_i32_98
  let v292 : BitVec 32 := v291
  let v293 : Index := Scalar.indexCast v292
  let c128_99 : Index := 128#32
  ![v293.toNat, 128]
def k0_mult6 (i : grid0.Coords) : BitVec 32 :=
  let arg1 : BitVec 32 := BitVec.ofNat 32 (i 1).val
  let c256_i32_101 : BitVec 32 := 256#32
  let v296 : BitVec 32 := Scalar.muli arg1 c256_i32_101
  v296
def k0_mult7 (i : grid0.Coords) : BitVec 32 :=
  let arg1 : BitVec 32 := BitVec.ofNat 32 (i 1).val
  let c256_i32_104 : BitVec 32 := 256#32
  let v301 : BitVec 32 := Scalar.muli arg1 c256_i32_104
  v301
def k0_mult8 (i : grid0.Coords) : BitVec 32 :=
  let arg1 : BitVec 32 := BitVec.ofNat 32 (i 1).val
  let c256_i32_107 : BitVec 32 := 256#32
  let v306 : BitVec 32 := Scalar.muli arg1 c256_i32_107
  v306
def k0_off3 (i : grid0.Coords) : Fin 3 → Nat :=
  let arg1 : BitVec 32 := BitVec.ofNat 32 (i 1).val
  let v369 : Index := Scalar.indexCast arg1
  let c0_127 : Index := 0#32
  let c0_128 : Index := 0#32
  ![v369.toNat, 0, 0]
def k0_off4 (i : grid0.Coords) : Fin 3 → Nat :=
  let arg1 : BitVec 32 := BitVec.ofNat 32 (i 1).val
  let v397 : Index := Scalar.indexCast arg1
  let c128_143 : Index := 128#32
  let c0_144 : Index := 0#32
  ![v397.toNat, 128, 0]
@[reducible] def k0_t1_loop (i : grid0.Coords) : Scf.Loop 32 :=
  let c0_i32_158 : BitVec 32 := 0#32
  let arg1 : BitVec 32 := BitVec.ofNat 32 (i 1).val
  let v423 : BitVec 32 := Scalar.subi arg1 c0_i32_158
  let c1_i32_159 : BitVec 32 := 1#32
  let v425 : BitVec 32 := Scalar.divsi v423 c1_i32_159
  let v426 : BitVec 32 := Scalar.muli v425 c1_i32_159
  let v427 : BitVec 32 := Scalar.addi c0_i32_158 v426
  let c1_i32_160 : BitVec 32 := 1#32
  ⟨c0_i32_158, v427, c1_i32_160⟩
def k0_mult9 (i : grid0.Coords) (k0_t1 : Fin (k0_t1_loop i).trips) : BitVec 32 :=
  let c0_i32_158 : BitVec 32 := 0#32
  let c1_i32_160 : BitVec 32 := 1#32
  let arg10 : BitVec 32 := Scf.iv c0_i32_158 c1_i32_160 k0_t1
  let c256_i32_198 : BitVec 32 := 256#32
  let v538 : BitVec 32 := Scalar.muli arg10 c256_i32_198
  v538
def k0_off5 (i : grid0.Coords) (k0_t1 : Fin (k0_t1_loop i).trips) : Fin 2 → Nat :=
  let c0_i32_158 : BitVec 32 := 0#32
  let c1_i32_160 : BitVec 32 := 1#32
  let arg10 : BitVec 32 := Scf.iv c0_i32_158 c1_i32_160 k0_t1
  let c256_i32_198 : BitVec 32 := 256#32
  let v538 : BitVec 32 := Scalar.muli arg10 c256_i32_198
  let v539 : BitVec 32 := v538
  let v540 : Index := Scalar.indexCast v539
  let c0_199 : Index := 0#32
  ![v540.toNat, 0]
def k0_mult10 (i : grid0.Coords) (k0_t1 : Fin (k0_t1_loop i).trips) : BitVec 32 :=
  let c0_i32_158 : BitVec 32 := 0#32
  let c1_i32_160 : BitVec 32 := 1#32
  let arg10 : BitVec 32 := Scf.iv c0_i32_158 c1_i32_160 k0_t1
  let c256_i32_201 : BitVec 32 := 256#32
  let v543 : BitVec 32 := Scalar.muli arg10 c256_i32_201
  v543
def k0_mult11 (i : grid0.Coords) (k0_t1 : Fin (k0_t1_loop i).trips) : BitVec 32 :=
  let c0_i32_158 : BitVec 32 := 0#32
  let c1_i32_160 : BitVec 32 := 1#32
  let arg10 : BitVec 32 := Scf.iv c0_i32_158 c1_i32_160 k0_t1
  let c256_i32_204 : BitVec 32 := 256#32
  let v548 : BitVec 32 := Scalar.muli arg10 c256_i32_204
  v548
def k0_mult12 (i : grid0.Coords) (k0_t1 : Fin (k0_t1_loop i).trips) : BitVec 32 :=
  let c0_i32_158 : BitVec 32 := 0#32
  let c1_i32_160 : BitVec 32 := 1#32
  let arg10 : BitVec 32 := Scf.iv c0_i32_158 c1_i32_160 k0_t1
  let c256_i32_207 : BitVec 32 := 256#32
  let v553 : BitVec 32 := Scalar.muli arg10 c256_i32_207
  v553
def k0_mult13 (i : grid0.Coords) (k0_t1 : Fin (k0_t1_loop i).trips) : BitVec 32 :=
  let c0_i32_158 : BitVec 32 := 0#32
  let c1_i32_160 : BitVec 32 := 1#32
  let arg10 : BitVec 32 := Scf.iv c0_i32_158 c1_i32_160 k0_t1
  let c256_i32_210 : BitVec 32 := 256#32
  let v558 : BitVec 32 := Scalar.muli arg10 c256_i32_210
  v558
def k0_off6 (i : grid0.Coords) (k0_t1 : Fin (k0_t1_loop i).trips) : Fin 2 → Nat :=
  let c0_i32_158 : BitVec 32 := 0#32
  let c1_i32_160 : BitVec 32 := 1#32
  let arg10 : BitVec 32 := Scf.iv c0_i32_158 c1_i32_160 k0_t1
  let c256_i32_210 : BitVec 32 := 256#32
  let v558 : BitVec 32 := Scalar.muli arg10 c256_i32_210
  let v559 : BitVec 32 := v558
  let v560 : Index := Scalar.indexCast v559
  let c128_211 : Index := 128#32
  ![v560.toNat, 128]
def k0_mult14 (i : grid0.Coords) (k0_t1 : Fin (k0_t1_loop i).trips) : BitVec 32 :=
  let c0_i32_158 : BitVec 32 := 0#32
  let c1_i32_160 : BitVec 32 := 1#32
  let arg10 : BitVec 32 := Scf.iv c0_i32_158 c1_i32_160 k0_t1
  let c256_i32_213 : BitVec 32 := 256#32
  let v563 : BitVec 32 := Scalar.muli arg10 c256_i32_213
  v563
def k0_mult15 (i : grid0.Coords) (k0_t1 : Fin (k0_t1_loop i).trips) : BitVec 32 :=
  let c0_i32_158 : BitVec 32 := 0#32
  let c1_i32_160 : BitVec 32 := 1#32
  let arg10 : BitVec 32 := Scf.iv c0_i32_158 c1_i32_160 k0_t1
  let c256_i32_216 : BitVec 32 := 256#32
  let v568 : BitVec 32 := Scalar.muli arg10 c256_i32_216
  v568
def k0_mult16 (i : grid0.Coords) (k0_t1 : Fin (k0_t1_loop i).trips) : BitVec 32 :=
  let c0_i32_158 : BitVec 32 := 0#32
  let c1_i32_160 : BitVec 32 := 1#32
  let arg10 : BitVec 32 := Scf.iv c0_i32_158 c1_i32_160 k0_t1
  let c256_i32_219 : BitVec 32 := 256#32
  let v573 : BitVec 32 := Scalar.muli arg10 c256_i32_219
  v573
def k0_off7 (i : grid0.Coords) (k0_t1 : Fin (k0_t1_loop i).trips) : Fin 3 → Nat :=
  let c0_i32_158 : BitVec 32 := 0#32
  let c1_i32_160 : BitVec 32 := 1#32
  let arg10 : BitVec 32 := Scf.iv c0_i32_158 c1_i32_160 k0_t1
  let v684 : Index := Scalar.indexCast arg10
  let c0_238 : Index := 0#32
  let c0_239 : Index := 0#32
  ![v684.toNat, 0, 0]
def k0_off8 (i : grid0.Coords) (k0_t1 : Fin (k0_t1_loop i).trips) : Fin 3 → Nat :=
  let c0_i32_158 : BitVec 32 := 0#32
  let c1_i32_160 : BitVec 32 := 1#32
  let arg10 : BitVec 32 := Scf.iv c0_i32_158 c1_i32_160 k0_t1
  let v712 : Index := Scalar.indexCast arg10
  let c128_250 : Index := 128#32
  let c0_251 : Index := 0#32
  ![v712.toNat, 128, 0]
@[reducible] def k0_t2_loop (i : grid0.Coords) : Scf.Loop 32 :=
  let c0_i32_158 : BitVec 32 := 0#32
  let arg1 : BitVec 32 := BitVec.ofNat 32 (i 1).val
  let v423 : BitVec 32 := Scalar.subi arg1 c0_i32_158
  let c1_i32_159 : BitVec 32 := 1#32
  let v425 : BitVec 32 := Scalar.divsi v423 c1_i32_159
  let v426 : BitVec 32 := Scalar.muli v425 c1_i32_159
  let v427 : BitVec 32 := Scalar.addi c0_i32_158 v426
  let v424 : BitVec 32 := Scalar.addi c0_i32_158 v423
  let c1_i32_161 : BitVec 32 := 1#32
  ⟨v427, v424, c1_i32_161⟩
def k0_mult17 (i : grid0.Coords) (k0_t2 : Fin (k0_t2_loop i).trips) : BitVec 32 :=
  let c0_i32_158 : BitVec 32 := 0#32
  let arg1 : BitVec 32 := BitVec.ofNat 32 (i 1).val
  let v423 : BitVec 32 := Scalar.subi arg1 c0_i32_158
  let c1_i32_159 : BitVec 32 := 1#32
  let v425 : BitVec 32 := Scalar.divsi v423 c1_i32_159
  let v426 : BitVec 32 := Scalar.muli v425 c1_i32_159
  let v427 : BitVec 32 := Scalar.addi c0_i32_158 v426
  let c1_i32_161 : BitVec 32 := 1#32
  let arg10 : BitVec 32 := Scf.iv v427 c1_i32_161 k0_t2
  let c256_i32_198 : BitVec 32 := 256#32
  let v538 : BitVec 32 := Scalar.muli arg10 c256_i32_198
  v538
def k0_off9 (i : grid0.Coords) (k0_t2 : Fin (k0_t2_loop i).trips) : Fin 2 → Nat :=
  let c0_i32_158 : BitVec 32 := 0#32
  let arg1 : BitVec 32 := BitVec.ofNat 32 (i 1).val
  let v423 : BitVec 32 := Scalar.subi arg1 c0_i32_158
  let c1_i32_159 : BitVec 32 := 1#32
  let v425 : BitVec 32 := Scalar.divsi v423 c1_i32_159
  let v426 : BitVec 32 := Scalar.muli v425 c1_i32_159
  let v427 : BitVec 32 := Scalar.addi c0_i32_158 v426
  let c1_i32_161 : BitVec 32 := 1#32
  let arg10 : BitVec 32 := Scf.iv v427 c1_i32_161 k0_t2
  let c256_i32_198 : BitVec 32 := 256#32
  let v538 : BitVec 32 := Scalar.muli arg10 c256_i32_198
  let v539 : BitVec 32 := v538
  let v540 : Index := Scalar.indexCast v539
  let c0_199 : Index := 0#32
  ![v540.toNat, 0]
def k0_mult18 (i : grid0.Coords) (k0_t2 : Fin (k0_t2_loop i).trips) : BitVec 32 :=
  let c0_i32_158 : BitVec 32 := 0#32
  let arg1 : BitVec 32 := BitVec.ofNat 32 (i 1).val
  let v423 : BitVec 32 := Scalar.subi arg1 c0_i32_158
  let c1_i32_159 : BitVec 32 := 1#32
  let v425 : BitVec 32 := Scalar.divsi v423 c1_i32_159
  let v426 : BitVec 32 := Scalar.muli v425 c1_i32_159
  let v427 : BitVec 32 := Scalar.addi c0_i32_158 v426
  let c1_i32_161 : BitVec 32 := 1#32
  let arg10 : BitVec 32 := Scf.iv v427 c1_i32_161 k0_t2
  let c256_i32_201 : BitVec 32 := 256#32
  let v543 : BitVec 32 := Scalar.muli arg10 c256_i32_201
  v543
def k0_mult19 (i : grid0.Coords) (k0_t2 : Fin (k0_t2_loop i).trips) : BitVec 32 :=
  let c0_i32_158 : BitVec 32 := 0#32
  let arg1 : BitVec 32 := BitVec.ofNat 32 (i 1).val
  let v423 : BitVec 32 := Scalar.subi arg1 c0_i32_158
  let c1_i32_159 : BitVec 32 := 1#32
  let v425 : BitVec 32 := Scalar.divsi v423 c1_i32_159
  let v426 : BitVec 32 := Scalar.muli v425 c1_i32_159
  let v427 : BitVec 32 := Scalar.addi c0_i32_158 v426
  let c1_i32_161 : BitVec 32 := 1#32
  let arg10 : BitVec 32 := Scf.iv v427 c1_i32_161 k0_t2
  let c256_i32_204 : BitVec 32 := 256#32
  let v548 : BitVec 32 := Scalar.muli arg10 c256_i32_204
  v548
def k0_mult20 (i : grid0.Coords) (k0_t2 : Fin (k0_t2_loop i).trips) : BitVec 32 :=
  let c0_i32_158 : BitVec 32 := 0#32
  let arg1 : BitVec 32 := BitVec.ofNat 32 (i 1).val
  let v423 : BitVec 32 := Scalar.subi arg1 c0_i32_158
  let c1_i32_159 : BitVec 32 := 1#32
  let v425 : BitVec 32 := Scalar.divsi v423 c1_i32_159
  let v426 : BitVec 32 := Scalar.muli v425 c1_i32_159
  let v427 : BitVec 32 := Scalar.addi c0_i32_158 v426
  let c1_i32_161 : BitVec 32 := 1#32
  let arg10 : BitVec 32 := Scf.iv v427 c1_i32_161 k0_t2
  let c256_i32_207 : BitVec 32 := 256#32
  let v553 : BitVec 32 := Scalar.muli arg10 c256_i32_207
  v553
def k0_mult21 (i : grid0.Coords) (k0_t2 : Fin (k0_t2_loop i).trips) : BitVec 32 :=
  let c0_i32_158 : BitVec 32 := 0#32
  let arg1 : BitVec 32 := BitVec.ofNat 32 (i 1).val
  let v423 : BitVec 32 := Scalar.subi arg1 c0_i32_158
  let c1_i32_159 : BitVec 32 := 1#32
  let v425 : BitVec 32 := Scalar.divsi v423 c1_i32_159
  let v426 : BitVec 32 := Scalar.muli v425 c1_i32_159
  let v427 : BitVec 32 := Scalar.addi c0_i32_158 v426
  let c1_i32_161 : BitVec 32 := 1#32
  let arg10 : BitVec 32 := Scf.iv v427 c1_i32_161 k0_t2
  let c256_i32_210 : BitVec 32 := 256#32
  let v558 : BitVec 32 := Scalar.muli arg10 c256_i32_210
  v558
def k0_off10 (i : grid0.Coords) (k0_t2 : Fin (k0_t2_loop i).trips) : Fin 2 → Nat :=
  let c0_i32_158 : BitVec 32 := 0#32
  let arg1 : BitVec 32 := BitVec.ofNat 32 (i 1).val
  let v423 : BitVec 32 := Scalar.subi arg1 c0_i32_158
  let c1_i32_159 : BitVec 32 := 1#32
  let v425 : BitVec 32 := Scalar.divsi v423 c1_i32_159
  let v426 : BitVec 32 := Scalar.muli v425 c1_i32_159
  let v427 : BitVec 32 := Scalar.addi c0_i32_158 v426
  let c1_i32_161 : BitVec 32 := 1#32
  let arg10 : BitVec 32 := Scf.iv v427 c1_i32_161 k0_t2
  let c256_i32_210 : BitVec 32 := 256#32
  let v558 : BitVec 32 := Scalar.muli arg10 c256_i32_210
  let v559 : BitVec 32 := v558
  let v560 : Index := Scalar.indexCast v559
  let c128_211 : Index := 128#32
  ![v560.toNat, 128]
def k0_mult22 (i : grid0.Coords) (k0_t2 : Fin (k0_t2_loop i).trips) : BitVec 32 :=
  let c0_i32_158 : BitVec 32 := 0#32
  let arg1 : BitVec 32 := BitVec.ofNat 32 (i 1).val
  let v423 : BitVec 32 := Scalar.subi arg1 c0_i32_158
  let c1_i32_159 : BitVec 32 := 1#32
  let v425 : BitVec 32 := Scalar.divsi v423 c1_i32_159
  let v426 : BitVec 32 := Scalar.muli v425 c1_i32_159
  let v427 : BitVec 32 := Scalar.addi c0_i32_158 v426
  let c1_i32_161 : BitVec 32 := 1#32
  let arg10 : BitVec 32 := Scf.iv v427 c1_i32_161 k0_t2
  let c256_i32_213 : BitVec 32 := 256#32
  let v563 : BitVec 32 := Scalar.muli arg10 c256_i32_213
  v563
def k0_mult23 (i : grid0.Coords) (k0_t2 : Fin (k0_t2_loop i).trips) : BitVec 32 :=
  let c0_i32_158 : BitVec 32 := 0#32
  let arg1 : BitVec 32 := BitVec.ofNat 32 (i 1).val
  let v423 : BitVec 32 := Scalar.subi arg1 c0_i32_158
  let c1_i32_159 : BitVec 32 := 1#32
  let v425 : BitVec 32 := Scalar.divsi v423 c1_i32_159
  let v426 : BitVec 32 := Scalar.muli v425 c1_i32_159
  let v427 : BitVec 32 := Scalar.addi c0_i32_158 v426
  let c1_i32_161 : BitVec 32 := 1#32
  let arg10 : BitVec 32 := Scf.iv v427 c1_i32_161 k0_t2
  let c256_i32_216 : BitVec 32 := 256#32
  let v568 : BitVec 32 := Scalar.muli arg10 c256_i32_216
  v568
def k0_mult24 (i : grid0.Coords) (k0_t2 : Fin (k0_t2_loop i).trips) : BitVec 32 :=
  let c0_i32_158 : BitVec 32 := 0#32
  let arg1 : BitVec 32 := BitVec.ofNat 32 (i 1).val
  let v423 : BitVec 32 := Scalar.subi arg1 c0_i32_158
  let c1_i32_159 : BitVec 32 := 1#32
  let v425 : BitVec 32 := Scalar.divsi v423 c1_i32_159
  let v426 : BitVec 32 := Scalar.muli v425 c1_i32_159
  let v427 : BitVec 32 := Scalar.addi c0_i32_158 v426
  let c1_i32_161 : BitVec 32 := 1#32
  let arg10 : BitVec 32 := Scf.iv v427 c1_i32_161 k0_t2
  let c256_i32_219 : BitVec 32 := 256#32
  let v573 : BitVec 32 := Scalar.muli arg10 c256_i32_219
  v573
def k0_off11 (i : grid0.Coords) (k0_t2 : Fin (k0_t2_loop i).trips) : Fin 3 → Nat :=
  let c0_i32_158 : BitVec 32 := 0#32
  let arg1 : BitVec 32 := BitVec.ofNat 32 (i 1).val
  let v423 : BitVec 32 := Scalar.subi arg1 c0_i32_158
  let c1_i32_159 : BitVec 32 := 1#32
  let v425 : BitVec 32 := Scalar.divsi v423 c1_i32_159
  let v426 : BitVec 32 := Scalar.muli v425 c1_i32_159
  let v427 : BitVec 32 := Scalar.addi c0_i32_158 v426
  let c1_i32_161 : BitVec 32 := 1#32
  let arg10 : BitVec 32 := Scf.iv v427 c1_i32_161 k0_t2
  let v684 : Index := Scalar.indexCast arg10
  let c0_238 : Index := 0#32
  let c0_239 : Index := 0#32
  ![v684.toNat, 0, 0]
def k0_off12 (i : grid0.Coords) (k0_t2 : Fin (k0_t2_loop i).trips) : Fin 3 → Nat :=
  let c0_i32_158 : BitVec 32 := 0#32
  let arg1 : BitVec 32 := BitVec.ofNat 32 (i 1).val
  let v423 : BitVec 32 := Scalar.subi arg1 c0_i32_158
  let c1_i32_159 : BitVec 32 := 1#32
  let v425 : BitVec 32 := Scalar.divsi v423 c1_i32_159
  let v426 : BitVec 32 := Scalar.muli v425 c1_i32_159
  let v427 : BitVec 32 := Scalar.addi c0_i32_158 v426
  let c1_i32_161 : BitVec 32 := 1#32
  let arg10 : BitVec 32 := Scf.iv v427 c1_i32_161 k0_t2
  let v712 : Index := Scalar.indexCast arg10
  let c128_250 : Index := 128#32
  let c0_251 : Index := 0#32
  ![v712.toNat, 128, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DiffIdeal.lean ====
variable {F : FTy → Type} [FloatOps F] [Named F]
def κ : String → Option EReal := fun
  | "mask" => some ⊥
  | "scale" => some ((8⁻¹ * (Real.log 2)⁻¹ : ℝ) : EReal)
  | _ => none
-- ==== DiffRefIdeal.lean ====
abbrev S8x4096x4x2x64 : Shape := ⟨5, ![8, 4096, 4, 2, 64]⟩
abbrev S8x4096x2x128 : Shape := ⟨4, ![8, 4096, 2, 128]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S8x4096x2x2x2x64 : Shape := ⟨6, ![8, 4096, 2, 2, 2, 64]⟩
abbrev S8x4096x2x2x64 : Shape := ⟨5, ![8, 4096, 2, 2, 64]⟩
abbrev S8x2x2x4096x4096x2 : Shape := ⟨6, ![8, 2, 2, 4096, 4096, 2]⟩
abbrev S8x4096x2x2x2x4096 : Shape := ⟨6, ![8, 4096, 2, 2, 2, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x1x1x1x4096 : Shape := ⟨6, ![1, 4096, 1, 1, 1, 4096]⟩
abbrev S8x4096x2x2x2 : Shape := ⟨5, ![8, 4096, 2, 2, 2]⟩
abbrev S8x4096x2x2x2x1 : Shape := ⟨6, ![8, 4096, 2, 2, 2, 1]⟩
abbrev S8x4096x2x2x1x4096 : Shape := ⟨6, ![8, 4096, 2, 2, 1, 4096]⟩
abbrev S8x4096x2x2x4096 : Shape := ⟨5, ![8, 4096, 2, 2, 4096]⟩
abbrev S8x2x128x4096x2 : Shape := ⟨5, ![8, 2, 128, 4096, 2]⟩
abbrev S8x4096x2x2x128 : Shape := ⟨5, ![8, 4096, 2, 2, 128]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S8x4096x512 : Shape := ⟨3, ![8, 4096, 512]⟩
abbrev S8x512x4096 : Shape := ⟨3, ![8, 512, 4096]⟩

abbrev nBuf : Space → Nat
  | .hbm => 90
  | .vmem => 0
  | .smem => 0
  | _ => 0

abbrev bufTy : (tb : Table) → Fin (tcTables nBuf tb) → BufTy
  | .hbm, ⟨0, _⟩ => ⟨S8x4096x4x2x64, .f32⟩
  | .hbm, ⟨1, _⟩ => ⟨S8x4096x2x128, .f32⟩
  | .hbm, ⟨2, _⟩ => ⟨S8x4096x2x128, .f32⟩
  | .hbm, ⟨3, _⟩ => ⟨S4x64, .f32⟩
  | .hbm, ⟨4, _⟩ => ⟨S128, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8x4096x2x2x2x64, .f32⟩
  | .hbm, ⟨25, _⟩ => ⟨S8x4096x2x2x64, .f32⟩
  | .hbm, ⟨26, _⟩ => ⟨S8x2x2x4096x4096x2, .f32⟩
  | .hbm, ⟨27, _⟩ => ⟨S8x4096x2x2x2x4096, .f32⟩
  | .hbm, ⟨28, _⟩ => ⟨S_, .f32⟩
  | .hbm, ⟨29, _⟩ => ⟨S8x4096x2x2x2x4096, .f32⟩
  | .hbm, ⟨30, _⟩ => ⟨S8x4096x2x2x2x4096, .f32⟩
  | .hbm, ⟨31, _⟩ => ⟨S4096, .i32⟩
  | .hbm, ⟨32, _⟩ => ⟨S4096, .i32⟩
  | .hbm, ⟨33, _⟩ => ⟨S1x4096, .i32⟩
  | .hbm, ⟨34, _⟩ => ⟨S4096x1, .i32⟩
  | .hbm, ⟨35, _⟩ => ⟨S4096x4096, .i32⟩
  | .hbm, ⟨36, _⟩ => ⟨S4096x4096, .i32⟩
  | .hbm, ⟨37, _⟩ => ⟨S4096x4096, .i1⟩
  | .hbm, ⟨38, _⟩ => ⟨S1x4096x1x1x1x4096, .i1⟩
  | .hbm, ⟨39, _⟩ => ⟨S_, .f32⟩
  | .hbm, ⟨40, _⟩ => ⟨S_, .f32⟩
  | .hbm, ⟨41, _⟩ => ⟨S8x4096x2x2x2x4096, .i1⟩
  | .hbm, ⟨42, _⟩ => ⟨S8x4096x2x2x2x4096, .f32⟩
  | .hbm, ⟨43, _⟩ => ⟨S8x4096x2x2x2x4096, .f32⟩
  | .hbm, ⟨44, _⟩ => ⟨S_, .f32⟩
  | .hbm, ⟨45, _⟩ => ⟨S8x4096x2x2x2, .f32⟩
  | .hbm, ⟨46, _⟩ => ⟨S_, .f32⟩
  | .hbm, ⟨47, _⟩ => ⟨S8x4096x2x2x2, .f32⟩
  | .hbm, ⟨48, _⟩ => ⟨S8x4096x2x2x2, .f32⟩
  | .hbm, ⟨49, _⟩ => ⟨S8x4096x2x2x2x1, .f32⟩
  | .hbm, ⟨50, _⟩ => ⟨S8x4096x2x2x2x4096, .f32⟩
  | .hbm, ⟨51, _⟩ => ⟨S8x4096x2x2x2x4096, .f32⟩
  | .hbm, ⟨52, _⟩ => ⟨S8x4096x2x2x2x4096, .f32⟩
  | .hbm, ⟨53, _⟩ => ⟨S_, .f32⟩
  | .hbm, ⟨54, _⟩ => ⟨S8x4096x2x2x2, .f32⟩
  | .hbm, ⟨55, _⟩ => ⟨S8x4096x2x2x2x1, .f32⟩
  | .hbm, ⟨56, _⟩ => ⟨S8x4096x2x2x2x4096, .f32⟩
  | .hbm, ⟨57, _⟩ => ⟨S8x4096x2x2x2x4096, .f32⟩
  | .hbm, ⟨58, _⟩ => ⟨S8x4096x2x2x1x4096, .f32⟩
  | .hbm, ⟨59, _⟩ => ⟨S8x4096x2x2x4096, .f32⟩
  | .hbm, ⟨60, _⟩ => ⟨S8x4096x2x2x1x4096, .f32⟩
  | .hbm, ⟨61, _⟩ => ⟨S8x4096x2x2x4096, .f32⟩
  | .hbm, ⟨62, _⟩ => ⟨S8x4096x2x2x4096, .f32⟩
  | .hbm, ⟨63, _⟩ => ⟨S8x4096x2x2x4096, .f32⟩
  | .hbm, ⟨64, _⟩ => ⟨S8x4096x2x2x4096, .f32⟩
  | .hbm, ⟨65, _⟩ => ⟨S8x2x128x4096x2, .f32⟩
  | .hbm, ⟨66, _⟩ => ⟨S8x4096x2x2x128, .f32⟩
  | .hbm, ⟨67, _⟩ => ⟨S8x4096x4x128, .f32⟩
  | .hbm, ⟨68, _⟩ => ⟨S8x4096x4x128, .f32⟩
  | .hbm, ⟨69, _⟩ => ⟨S_, .f32⟩
  | .hbm, ⟨70, _⟩ => ⟨S8x4096x4, .f32⟩
  | .hbm, ⟨71, _⟩ => ⟨S8x4096x4x1, .f32⟩
  | .hbm, ⟨72, _⟩ => ⟨S_, .f32⟩
  | .hbm, ⟨73, _⟩ => ⟨S8x4096x4x1, .f32⟩
  | .hbm, ⟨74, _⟩ => ⟨S8x4096x4x1, .f32⟩
  | .hbm, ⟨75, _⟩ => ⟨S_, .f32⟩
  | .hbm, ⟨76, _⟩ => ⟨S8x4096x4x1, .f32⟩
  | .hbm, ⟨77, _⟩ => ⟨S8x4096x4x1, .f32⟩
  | .hbm, ⟨78, _⟩ => ⟨S8x4096x4x1, .f32⟩
  | .hbm, ⟨79, _⟩ => ⟨S8x4096x4x128, .f32⟩
  | .hbm, ⟨80, _⟩ => ⟨S8x4096x4x128, .f32⟩
  | .hbm, ⟨81, _⟩ => ⟨S1x1x1x128, .f32⟩
  | .hbm, ⟨82, _⟩ => ⟨S8x4096x4x128, .f32⟩
  | .hbm, ⟨83, _⟩ => ⟨S8x4096x4x128, .f32⟩
  | .hbm, ⟨84, _⟩ => ⟨S_, .f32⟩
  | .hbm, ⟨85, _⟩ => ⟨S8x4096x4x128, .f32⟩
  | .hbm, ⟨86, _⟩ => ⟨S8x4096x4x128, .f32⟩
  | .hbm, ⟨87, _⟩ => ⟨S8x4096x512, .f32⟩
  | .hbm, ⟨88, _⟩ => ⟨S8x512x4096, .f32⟩
  | .hbm, ⟨89, _⟩ => ⟨S8x512x4096, .bf16⟩
  | _, _ => ⟨S8x4096x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_10 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩

abbrev nD : Nat := 1
abbrev τ : Topo := Topo.v7x

variable {F : FTy → Type} [FloatOps F]
-- ==== Out.lean ====
abbrev S8x4096x1024 : Shape := ⟨3, ![8, 4096, 1024]⟩
abbrev S8x9216 : Shape := ⟨2, ![8, 9216]⟩
abbrev S8x4096x512 : Shape := ⟨3, ![8, 4096, 512]⟩
abbrev S1024x1024 : Shape := ⟨2, ![1024, 1024]⟩
abbrev S8x512x4096 : Shape := ⟨3, ![8, 512, 4096]⟩
abbrev S8x9x1024 : Shape := ⟨3, ![8, 9, 1024]⟩
abbrev S1x512x1024 : Shape := ⟨3, ![1, 512, 1024]⟩
abbrev S1x9x1024 : Shape := ⟨3, ![1, 9, 1024]⟩
abbrev S1x512x512 : Shape := ⟨3, ![1, 512, 512]⟩
abbrev S1x1x1024 : Shape := ⟨3, ![1, 1, 1024]⟩
abbrev S1x1024 : Shape := ⟨2, ![1, 1024]⟩
abbrev S512x512 : Shape := ⟨2, ![512, 512]⟩
abbrev S512x1024 : Shape := ⟨2, ![512, 1024]⟩

abbrev nBuf : Space → Nat
  | .hbm => 12
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S8x4096x512, .f32⟩
  | .hbm, ⟨3, _⟩ => ⟨S8x4096x512, .f32⟩
  | .hbm, ⟨4, _⟩ => ⟨S1024x1024, .f32⟩
  | .hbm, ⟨5, _⟩ => ⟨S8x512x4096, .f32⟩
  | .hbm, ⟨6, _⟩ => ⟨S8x512x4096, .bf16⟩
  | .hbm, ⟨7, _⟩ => ⟨S8x512x4096, .f32⟩
  | .hbm, ⟨8, _⟩ => ⟨S8x512x4096, .bf16⟩
  | .hbm, ⟨9, _⟩ => ⟨S8x9x1024, .f32⟩
  | .hbm, ⟨10, _⟩ => ⟨S1024x1024, .bf16⟩
  | .hbm, ⟨11, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1024x1024, .bf16⟩
  | .local _ .vmem, ⟨9, _⟩ => ⟨S1x512x1024, .f32⟩
  | .local _ .vmem, ⟨10, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutRefIdeal.lean ====
abbrev S8x4096x1024 : Shape := ⟨3, ![8, 4096, 1024]⟩
abbrev S8x9216 : Shape := ⟨2, ![8, 9216]⟩
abbrev S8x4096x512 : Shape := ⟨3, ![8, 4096, 512]⟩
abbrev S1024x1024 : Shape := ⟨2, ![1024, 1024]⟩
abbrev S8x1x9216 : Shape := ⟨3, ![8, 1, 9216]⟩
abbrev S8x1x1024 : Shape := ⟨3, ![8, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S8x4096x512, .f32⟩
  | .hbm, ⟨3, _⟩ => ⟨S8x4096x512, .f32⟩
  | .hbm, ⟨4, _⟩ => ⟨S1024x1024, .f32⟩
  | .hbm, ⟨5, _⟩ => ⟨S8x1x9216, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Even.lean ====
abbrev S8x4096x1024 : Shape := ⟨3, ![8, 4096, 1024]⟩
abbrev S8x9216 : Shape := ⟨2, ![8, 9216]⟩
abbrev S1024 : Shape := ⟨1, ![1024]⟩
abbrev S1024x1792 : Shape := ⟨2, ![1024, 1792]⟩
abbrev S1792 : Shape := ⟨1, ![1792]⟩
abbrev S4096x128 : Shape := ⟨2, ![4096, 128]⟩
abbrev S256x256 : Shape := ⟨2, ![256, 256]⟩
abbrev S8x9x1024 : Shape := ⟨3, ![8, 9, 1024]⟩
abbrev S1x1024 : Shape := ⟨2, ![1, 1024]⟩
abbrev S1x1792 : Shape := ⟨2, ![1, 1792]⟩
abbrev S8x4096x512 : Shape := ⟨3, ![8, 4096, 512]⟩
abbrev S8x4096x128 : Shape := ⟨3, ![8, 4096, 128]⟩
abbrev S8x4096x256 : Shape := ⟨3, ![8, 4096, 256]⟩
abbrev S1x512x1024 : Shape := ⟨3, ![1, 512, 1024]⟩
abbrev S1x9x1024 : Shape := ⟨3, ![1, 9, 1024]⟩
abbrev S512x128 : Shape := ⟨2, ![512, 128]⟩
abbrev S1x512x512 : Shape := ⟨3, ![1, 512, 512]⟩
abbrev S1x512x128 : Shape := ⟨3, ![1, 512, 128]⟩
abbrev S1x512x256 : Shape := ⟨3, ![1, 512, 256]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x1792 : Shape := ⟨2, ![512, 1792]⟩
abbrev S512x256 : Shape := ⟨2, ![512, 256]⟩
abbrev S1x256 : Shape := ⟨2, ![1, 256]⟩
abbrev S128x128 : Shape := ⟨2, ![128, 128]⟩
abbrev S1x128 : Shape := ⟨2, ![1, 128]⟩

abbrev nBuf : Space → Nat
  | .hbm => 20
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024, .f32⟩
  | .hbm, ⟨3, _⟩ => ⟨S1024x1792, .f32⟩
  | .hbm, ⟨4, _⟩ => ⟨S1792, .f32⟩
  | .hbm, ⟨5, _⟩ => ⟨S4096x128, .f32⟩
  | .hbm, ⟨6, _⟩ => ⟨S4096x128, .f32⟩
  | .hbm, ⟨7, _⟩ => ⟨S4096x128, .f32⟩
  | .hbm, ⟨8, _⟩ => ⟨S256x256, .f32⟩
  | .hbm, ⟨9, _⟩ => ⟨S8x9x1024, .f32⟩
  | .hbm, ⟨10, _⟩ => ⟨S1x1024, .f32⟩
  | .hbm, ⟨11, _⟩ => ⟨S1024x1792, .bf16⟩
  | .hbm, ⟨12, _⟩ => ⟨S1x1792, .f32⟩
  | .hbm, ⟨13, _⟩ => ⟨S256x256, .bf16⟩
  | .hbm, ⟨14, _⟩ => ⟨S8x4096x512, .f32⟩
  | .hbm, ⟨15, _⟩ => ⟨S8x4096x128, .f32⟩
  | .hbm, ⟨16, _⟩ => ⟨S8x4096x128, .f32⟩
  | .hbm, ⟨17, _⟩ => ⟨S8x4096x512, .f32⟩
  | .hbm, ⟨18, _⟩ => ⟨S8x4096x256, .f32⟩
  | .hbm, ⟨19, _⟩ => ⟨S8x4096x256, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x1792, .bf16⟩
  | .local _ .vmem, ⟨6, _⟩ => ⟨S1x1792, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S256x256, .bf16⟩
  | .local _ .vmem, ⟨14, _⟩ => ⟨S1x512x512, .f32⟩
  | .local _ .vmem, ⟨15, _⟩ => ⟨S1x512x512, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x512x512, .f32⟩
  | .local _ .vmem, ⟨21, _⟩ => ⟨S1x512x512, .f32⟩
  | .local _ .vmem, ⟨22, _⟩ => ⟨S1x512x256, .f32⟩
  | .local _ .vmem, ⟨23, _⟩ => ⟨S1x512x256, .f32⟩
  | .local _ .vmem, ⟨24, _⟩ => ⟨S1x512x256, .f32⟩
  | .local _ .vmem, ⟨25, _⟩ => ⟨S1x512x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== EvenRefIdeal.lean ====
abbrev S8x4096x1024 : Shape := ⟨3, ![8, 4096, 1024]⟩
abbrev S8x9216 : Shape := ⟨2, ![8, 9216]⟩
abbrev S1024 : Shape := ⟨1, ![1024]⟩
abbrev S1024x1792 : Shape := ⟨2, ![1024, 1792]⟩
abbrev S1792 : Shape := ⟨1, ![1792]⟩
abbrev S4096x128 : Shape := ⟨2, ![4096, 128]⟩
abbrev S256x256 : Shape := ⟨2, ![256, 256]⟩
abbrev S8x1x9216 : Shape := ⟨3, ![8, 1, 9216]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x1792 : Shape := ⟨3, ![8, 4096, 1792]⟩
abbrev S8x4096x512 : Shape := ⟨3, ![8, 4096, 512]⟩
abbrev S8x4096x128 : Shape := ⟨3, ![8, 4096, 128]⟩
abbrev S8x4096x256 : Shape := ⟨3, ![8, 4096, 256]⟩

abbrev nBuf : Space → Nat
  | .hbm => 49
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024, .f32⟩
  | .hbm, ⟨3, _⟩ => ⟨S1024x1792, .f32⟩
  | .hbm, ⟨4, _⟩ => ⟨S1792, .f32⟩
  | .hbm, ⟨5, _⟩ => ⟨S4096x128, .f32⟩
  | .hbm, ⟨6, _⟩ => ⟨S4096x128, .f32⟩
  | .hbm, ⟨7, _⟩ => ⟨S4096x128, .f32⟩
  | .hbm, ⟨8, _⟩ => ⟨S256x256, .f32⟩
  | .hbm, ⟨9, _⟩ => ⟨S8x1x9216, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x4096x1024, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x1, .f32⟩
  | .hbm, ⟨30, _⟩ => ⟨S8x4096x1024, .f32⟩
  | .hbm, ⟨31, _⟩ => ⟨S8x4096x1024, .f32⟩
  | .hbm, ⟨32, _⟩ => ⟨S1x1x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1792, .f32⟩
  | .hbm, ⟨43, _⟩ => ⟨S8x4096x512, .f32⟩
  | .hbm, ⟨44, _⟩ => ⟨S8x4096x128, .f32⟩
  | .hbm, ⟨45, _⟩ => ⟨S8x4096x128, .f32⟩
  | .hbm, ⟨46, _⟩ => ⟨S8x4096x512, .f32⟩
  | .hbm, ⟨47, _⟩ => ⟨S8x4096x256, .f32⟩
  | .hbm, ⟨48, _⟩ => ⟨S8x4096x256, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Odd.lean ====
abbrev S8x4096x1024 : Shape := ⟨3, ![8, 4096, 1024]⟩
abbrev S8x9216 : Shape := ⟨2, ![8, 9216]⟩
abbrev S1024 : Shape := ⟨1, ![1024]⟩
abbrev S1024x544 : Shape := ⟨2, ![1024, 544]⟩
abbrev S256 : Shape := ⟨1, ![256]⟩
abbrev S32 : Shape := ⟨1, ![32]⟩
abbrev S256x2048 : Shape := ⟨2, ![256, 2048]⟩
abbrev S4096x128 : Shape := ⟨2, ![4096, 128]⟩
abbrev S256x256 : Shape := ⟨2, ![256, 256]⟩
abbrev S384x2048 : Shape := ⟨2, ![384, 2048]⟩
abbrev S1024x256 : Shape := ⟨2, ![1024, 256]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x112 : Shape := ⟨2, ![4096, 112]⟩
abbrev S1024x640 : Shape := ⟨2, ![1024, 640]⟩
abbrev S128 : Shape := ⟨1, ![128]⟩
abbrev S1x128 : Shape := ⟨2, ![1, 128]⟩
abbrev S8x9x1024 : Shape := ⟨3, ![8, 9, 1024]⟩
abbrev S1x1024 : Shape := ⟨2, ![1, 1024]⟩
abbrev S1x256 : Shape := ⟨2, ![1, 256]⟩
abbrev S8x4096x2048 : Shape := ⟨3, ![8, 4096, 2048]⟩
abbrev S8x4096x256 : Shape := ⟨3, ![8, 4096, 256]⟩
abbrev S8x4096x32 : Shape := ⟨3, ![8, 4096, 32]⟩
abbrev S8x16x1024x256 : Shape := ⟨4, ![8, 16, 1024, 256]⟩
abbrev S1x512x1024 : Shape := ⟨3, ![1, 512, 1024]⟩
abbrev S1x9x1024 : Shape := ⟨3, ![1, 9, 1024]⟩
abbrev S512x128 : Shape := ⟨2, ![512, 128]⟩
abbrev S1x512x2048 : Shape := ⟨3, ![1, 512, 2048]⟩
abbrev S1x512x256 : Shape := ⟨3, ![1, 512, 256]⟩
abbrev S1x512x32 : Shape := ⟨3, ![1, 512, 32]⟩
abbrev S1x2x1024x256 : Shape := ⟨4, ![1, 2, 1024, 256]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x640 : Shape := ⟨2, ![512, 640]⟩
abbrev S512x256 : Shape := ⟨2, ![512, 256]⟩
abbrev S512x2048 : Shape := ⟨2, ![512, 2048]⟩
abbrev S512x32 : Shape := ⟨2, ![512, 32]⟩
abbrev S512x384 : Shape := ⟨2, ![512, 384]⟩
abbrev S1x1x1024x256 : Shape := ⟨4, ![1, 1, 1024, 256]⟩

abbrev nBuf : Space → Nat
  | .hbm => 66
  | .vmem => 36
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024, .f32⟩
  | .hbm, ⟨3, _⟩ => ⟨S1024x544, .f32⟩
  | .hbm, ⟨4, _⟩ => ⟨S256, .f32⟩
  | .hbm, ⟨5, _⟩ => ⟨S32, .f32⟩
  | .hbm, ⟨6, _⟩ => ⟨S256, .f32⟩
  | .hbm, ⟨7, _⟩ => ⟨S256x2048, .f32⟩
  | .hbm, ⟨8, _⟩ => ⟨S256, .f32⟩
  | .hbm, ⟨9, _⟩ => ⟨S4096x128, .f32⟩
  | .hbm, ⟨10, _⟩ => ⟨S4096x128, .f32⟩
  | .hbm, ⟨11, _⟩ => ⟨S4096x128, .f32⟩
  | .hbm, ⟨12, _⟩ => ⟨S256x256, .f32⟩
  | .hbm, ⟨13, _⟩ => ⟨S384x2048, .f32⟩
  | .hbm, ⟨14, _⟩ => ⟨S1024x256, .f32⟩
  | .hbm, ⟨15, _⟩ => ⟨S4096, .i32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S4096, .f32⟩
  | .hbm, ⟨25, _⟩ => ⟨S4096x1, .f32⟩
  | .hbm, ⟨26, _⟩ => ⟨S1x16, .f32⟩
  | .hbm, ⟨27, _⟩ => ⟨S4096x16, .f32⟩
  | .hbm, ⟨28, _⟩ => ⟨S4096x16, .f32⟩
  | .hbm, ⟨29, _⟩ => ⟨S4096x16, .f32⟩
  | .hbm, ⟨30, _⟩ => ⟨S4096x16, .f32⟩
  | .hbm, ⟨31, _⟩ => ⟨S4096x16, .f32⟩
  | .hbm, ⟨32, _⟩ => ⟨S_, .f32⟩
  | .hbm, ⟨33, _⟩ => ⟨S4096x96, .f32⟩
  | .hbm, ⟨34, _⟩ => ⟨S4096x128, .f32⟩
  | .hbm, ⟨35, _⟩ => ⟨S4096x16, .f32⟩
  | .hbm, ⟨36, _⟩ => ⟨S_, .f32⟩
  | .hbm, ⟨37, _⟩ => ⟨S4096x112, .f32⟩
  | .hbm, ⟨38, _⟩ => ⟨S4096x128, .f32⟩
  | .hbm, ⟨39, _⟩ => ⟨S_, .f32⟩
  | .hbm, ⟨40, _⟩ => ⟨S4096x16, .f32⟩
  | .hbm, ⟨41, _⟩ => ⟨S_, .f32⟩
  | .hbm, ⟨42, _⟩ => ⟨S4096x96, .f32⟩
  | .hbm, ⟨43, _⟩ => ⟨S4096x128, .f32⟩
  | .hbm, ⟨44, _⟩ => ⟨S_, .i32⟩
  | .hbm, ⟨45, _⟩ => ⟨S_, .f32⟩
  | .hbm, ⟨46, _⟩ => ⟨S1024x640, .f32⟩
  | .hbm, ⟨47, _⟩ => ⟨S1024x640, .bf16⟩
  | .hbm, ⟨48, _⟩ => ⟨S_, .i32⟩
  | .hbm, ⟨49, _⟩ => ⟨S_, .f32⟩
  | .hbm, ⟨50, _⟩ => ⟨S128, .f32⟩
  | .hbm, ⟨51, _⟩ => ⟨S1x128, .f32⟩
  | .hbm, ⟨52, _⟩ => ⟨S8x9x1024, .f32⟩
  | .hbm, ⟨53, _⟩ => ⟨S1x1024, .f32⟩
  | .hbm, ⟨54, _⟩ => ⟨S1x256, .f32⟩
  | .hbm, ⟨55, _⟩ => ⟨S256x2048, .bf16⟩
  | .hbm, ⟨56, _⟩ => ⟨S1x256, .f32⟩
  | .hbm, ⟨57, _⟩ => ⟨S1x256, .f32⟩
  | .hbm, ⟨58, _⟩ => ⟨S256x256, .bf16⟩
  | .hbm, ⟨59, _⟩ => ⟨S384x2048, .bf16⟩
  | .hbm, ⟨60, _⟩ => ⟨S1024x256, .bf16⟩
  | .hbm, ⟨61, _⟩ => ⟨S8x4096x2048, .bf16⟩
  | .hbm, ⟨62, _⟩ => ⟨S8x4096x256, .f32⟩
  | .hbm, ⟨63, _⟩ => ⟨S8x4096x32, .f32⟩
  | .hbm, ⟨64, _⟩ => ⟨S8x4096x2048, .bf16⟩
  | .hbm, ⟨65, _⟩ => ⟨S8x16x1024x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x640, .bf16⟩
  | .local _ .vmem, ⟨6, _⟩ => ⟨S1x256, .f32⟩
  | .local _ .vmem, ⟨7, _⟩ => ⟨S256x2048, .bf16⟩
  | .local _ .vmem, ⟨8, _⟩ => ⟨S1x256, .f32⟩
  | .local _ .vmem, ⟨9, _⟩ => ⟨S1x256, .f32⟩
  | .local _ .vmem, ⟨10, _⟩ => ⟨S1x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S256x256, .bf16⟩
  | .local _ .vmem, ⟨24, _⟩ => ⟨S384x2048, .bf16⟩
  | .local _ .vmem, ⟨25, _⟩ => ⟨S1024x256, .bf16⟩
  | .local _ .vmem, ⟨26, _⟩ => ⟨S1x512x2048, .bf16⟩
  | .local _ .vmem, ⟨27, _⟩ => ⟨S1x512x2048, .bf16⟩
  | .local _ .vmem, ⟨28, _⟩ => ⟨S1x512x256, .f32⟩
  | .local _ .vmem, ⟨29, _⟩ => ⟨S1x512x256, .f32⟩
  | .local _ .vmem, ⟨30, _⟩ => ⟨S1x512x32, .f32⟩
  | .local _ .vmem, ⟨31, _⟩ => ⟨S1x512x32, .f32⟩
  | .local _ .vmem, ⟨32, _⟩ => ⟨S1x512x2048, .bf16⟩
  | .local _ .vmem, ⟨33, _⟩ => ⟨S1x512x2048, .bf16⟩
  | .local _ .vmem, ⟨34, _⟩ => ⟨S1x2x1024x256, .bf16⟩
  | .local _ .vmem, ⟨35, _⟩ => ⟨S1x2x1024x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_c : Ref sig .tc := ⟨.hbm, 44, rfl⟩
abbrev main_call0_v0 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_call1_v0 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36_0 : Ref sig .tc := ⟨.hbm, 61, rfl⟩
abbrev main_v36_1 : Ref sig .tc := ⟨.hbm, 62, rfl⟩
abbrev main_v36_2 : Ref sig .tc := ⟨.hbm, 63, rfl⟩
abbrev main_v36_3 : Ref sig .tc := ⟨.hbm, 64, rfl⟩
abbrev main_v36_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S384x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x32 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x2x1024x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== OddRefIdeal.lean ====
abbrev S8x4096x1024 : Shape := ⟨3, ![8, 4096, 1024]⟩
abbrev S8x9216 : Shape := ⟨2, ![8, 9216]⟩
abbrev S1024 : Shape := ⟨1, ![1024]⟩
abbrev S1024x544 : Shape := ⟨2, ![1024, 544]⟩
abbrev S256 : Shape := ⟨1, ![256]⟩
abbrev S32 : Shape := ⟨1, ![32]⟩
abbrev S256x2048 : Shape := ⟨2, ![256, 2048]⟩
abbrev S4096x128 : Shape := ⟨2, ![4096, 128]⟩
abbrev S256x256 : Shape := ⟨2, ![256, 256]⟩
abbrev S384x2048 : Shape := ⟨2, ![384, 2048]⟩
abbrev S1024x256 : Shape := ⟨2, ![1024, 256]⟩
abbrev S8x1x9216 : Shape := ⟨3, ![8, 1, 9216]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x544 : Shape := ⟨3, ![8, 4096, 544]⟩
abbrev S8x4096x256 : Shape := ⟨3, ![8, 4096, 256]⟩
abbrev S8x4096x32 : Shape := ⟨3, ![8, 4096, 32]⟩
abbrev S1x1x256 : Shape := ⟨3, ![1, 1, 256]⟩
abbrev S1x1x32 : Shape := ⟨3, ![1, 1, 32]⟩
abbrev S8x4096x1x32 : Shape := ⟨4, ![8, 4096, 1, 32]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S8x4096x1x16 : Shape := ⟨4, ![8, 4096, 1, 16]⟩
abbrev S8x4096x1x0 : Shape := ⟨4, ![8, 4096, 1, 0]⟩
abbrev S1x4096x1x16 : Shape := ⟨4, ![1, 4096, 1, 16]⟩

abbrev nBuf : Space → Nat
  | .hbm => 123
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024, .f32⟩
  | .hbm, ⟨3, _⟩ => ⟨S1024x544, .f32⟩
  | .hbm, ⟨4, _⟩ => ⟨S256, .f32⟩
  | .hbm, ⟨5, _⟩ => ⟨S32, .f32⟩
  | .hbm, ⟨6, _⟩ => ⟨S256, .f32⟩
  | .hbm, ⟨7, _⟩ => ⟨S256x2048, .f32⟩
  | .hbm, ⟨8, _⟩ => ⟨S256, .f32⟩
  | .hbm, ⟨9, _⟩ => ⟨S4096x128, .f32⟩
  | .hbm, ⟨10, _⟩ => ⟨S4096x128, .f32⟩
  | .hbm, ⟨11, _⟩ => ⟨S4096x128, .f32⟩
  | .hbm, ⟨12, _⟩ => ⟨S256x256, .f32⟩
  | .hbm, ⟨13, _⟩ => ⟨S384x2048, .f32⟩
  | .hbm, ⟨14, _⟩ => ⟨S1024x256, .f32⟩
  | .hbm, ⟨15, _⟩ => ⟨S8x1x9216, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x1x1024, .f32⟩
  | .hbm, ⟨24, _⟩ => ⟨S8x1x1024, .f32⟩
  | .hbm, ⟨25, _⟩ => ⟨S8x4096x1024, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S8x4096x1, .f32⟩
  | .hbm, ⟨36, _⟩ => ⟨S8x4096x1024, .f32⟩
  | .hbm, ⟨37, _⟩ => ⟨S8x4096x1024, .f32⟩
  | .hbm, ⟨38, _⟩ => ⟨S1x1x1024, .f32⟩
  | .hbm, ⟨39, _⟩ => ⟨S8x4096x1024, .f32⟩
  | .hbm, ⟨40, _⟩ => ⟨S8x4096x1024, .f32⟩
  | .hbm, ⟨41, _⟩ => ⟨S_, .f32⟩
  | .hbm, ⟨42, _⟩ => ⟨S8x1x1024, .f32⟩
  | .hbm, ⟨43, _⟩ => ⟨S8x1x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x544, .f32⟩
  | .hbm, ⟨49, _⟩ => ⟨S8x4096x256, .f32⟩
  | .hbm, ⟨50, _⟩ => ⟨S8x4096x256, .f32⟩
  | .hbm, ⟨51, _⟩ => ⟨S8x4096x32, .f32⟩
  | .hbm, ⟨52, _⟩ => ⟨S8x4096x256, .f32⟩
  | .hbm, ⟨53, _⟩ => ⟨S_, .f32⟩
  | .hbm, ⟨54, _⟩ => ⟨S8x4096, .f32⟩
  | .hbm, ⟨55, _⟩ => ⟨S8x4096x1, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S_, .f32⟩
  | .hbm, ⟨60, _⟩ => ⟨S8x4096x1, .f32⟩
  | .hbm, ⟨61, _⟩ => ⟨S8x4096x1, .f32⟩
  | .hbm, ⟨62, _⟩ => ⟨S8x4096x1, .f32⟩
  | .hbm, ⟨63, _⟩ => ⟨S8x4096x256, .f32⟩
  | .hbm, ⟨64, _⟩ => ⟨S8x4096x256, .f32⟩
  | .hbm, ⟨65, _⟩ => ⟨S1x1x256, .f32⟩
  | .hbm, ⟨66, _⟩ => ⟨S8x4096x256, .f32⟩
  | .hbm, ⟨67, _⟩ => ⟨S8x4096x256, .f32⟩
  | .hbm, ⟨68, _⟩ => ⟨S8x4096x32, .f32⟩
  | .hbm, ⟨69, _⟩ => ⟨S_, .f32⟩
  | .hbm, ⟨70, _⟩ => ⟨S8x4096, .f32⟩
  | .hbm, ⟨71, _⟩ => ⟨S8x4096x1, .f32⟩
  | .hbm, ⟨72, _⟩ => ⟨S_, .f32⟩
  | .hbm, ⟨73, _⟩ => ⟨S8x4096x1, .f32⟩
  | .hbm, ⟨74, _⟩ => ⟨S8x4096x1, .f32⟩
  | .hbm, ⟨75, _⟩ => ⟨S_, .f32⟩
  | .hbm, ⟨76, _⟩ => ⟨S8x4096x1, .f32⟩
  | .hbm, ⟨77, _⟩ => ⟨S8x4096x1, .f32⟩
  | .hbm, ⟨78, _⟩ => ⟨S8x4096x1, .f32⟩
  | .hbm, ⟨79, _⟩ => ⟨S8x4096x32, .f32⟩
  | .hbm, ⟨80, _⟩ => ⟨S8x4096x32, .f32⟩
  | .hbm, ⟨81, _⟩ => ⟨S1x1x32, .f32⟩
  | .hbm, ⟨82, _⟩ => ⟨S8x4096x32, .f32⟩
  | .hbm, ⟨83, _⟩ => ⟨S8x4096x32, .f32⟩
  | .hbm, ⟨84, _⟩ => ⟨S8x4096x1x32, .f32⟩
  | .hbm, ⟨85, _⟩ => ⟨S4096, .i32⟩
  | .hbm, ⟨86, _⟩ => ⟨S16, .f32⟩
  | .hbm, ⟨87, _⟩ => ⟨S16, .f32⟩
  | .hbm, ⟨88, _⟩ => ⟨S_, .f32⟩
  | .hbm, ⟨89, _⟩ => ⟨S16, .f32⟩
  | .hbm, ⟨90, _⟩ => ⟨S16, .f32⟩
  | .hbm, ⟨91, _⟩ => ⟨S_, .f32⟩
  | .hbm, ⟨92, _⟩ => ⟨S16, .f32⟩
  | .hbm, ⟨93, _⟩ => ⟨S16, .f32⟩
  | .hbm, ⟨94, _⟩ => ⟨S4096, .f32⟩
  | .hbm, ⟨95, _⟩ => ⟨S4096x1, .f32⟩
  | .hbm, ⟨96, _⟩ => ⟨S1x16, .f32⟩
  | .hbm, ⟨97, _⟩ => ⟨S4096x16, .f32⟩
  | .hbm, ⟨98, _⟩ => ⟨S4096x16, .f32⟩
  | .hbm, ⟨99, _⟩ => ⟨S4096x16, .f32⟩
  | .hbm, ⟨100, _⟩ => ⟨S4096x16, .f32⟩
  | .hbm, ⟨101, _⟩ => ⟨S4096x1x16, .f32⟩
  | .hbm, ⟨102, _⟩ => ⟨S4096x16, .f32⟩
  | .hbm, ⟨103, _⟩ => ⟨S4096x1x16, .f32⟩
  | .hbm, ⟨104, _⟩ => ⟨S8x4096x1x16, .f32⟩
  | .hbm, ⟨105, _⟩ => ⟨S8x4096x1x16, .f32⟩
  | .hbm, ⟨106, _⟩ => ⟨S8x4096x1x0, .f32⟩
  | .hbm, ⟨107, _⟩ => ⟨S1x4096x1x16, .f32⟩
  | .hbm, ⟨108, _⟩ => ⟨S8x4096x1x16, .f32⟩
  | .hbm, ⟨109, _⟩ => ⟨S8x4096x1x16, .f32⟩
  | .hbm, ⟨110, _⟩ => ⟨S1x4096x1x16, .f32⟩
  | .hbm, ⟨111, _⟩ => ⟨S8x4096x1x16, .f32⟩
  | .hbm, ⟨112, _⟩ => ⟨S8x4096x1x16, .f32⟩
  | .hbm, ⟨113, _⟩ => ⟨S8x4096x1x16, .f32⟩
  | .hbm, ⟨114, _⟩ => ⟨S1x4096x1x16, .f32⟩
  | .hbm, ⟨115, _⟩ => ⟨S8x4096x1x16, .f32⟩
  | .hbm, ⟨116, _⟩ => ⟨S8x4096x1x16, .f32⟩
  | .hbm, ⟨117, _⟩ => ⟨S1x4096x1x16, .f32⟩
  | .hbm, ⟨118, _⟩ => ⟨S8x4096x1x16, .f32⟩
  | .hbm, ⟨119, _⟩ => ⟨S8x4096x1x16, .f32⟩
  | .hbm, ⟨120, _⟩ => ⟨S8x4096x1x16, .f32⟩
  | .hbm, ⟨121, _⟩ => ⟨S8x4096x1x32, .f32⟩
  | .hbm, ⟨122, _⟩ => ⟨S8x4096x32, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_9 : Ref sig .tc := ⟨.hbm, 88, rfl⟩
abbrev main_v63 : Ref sig .tc := ⟨.hbm, 89, rfl⟩
abbrev main_v64 : Ref sig .tc := ⟨.hbm, 90, rfl⟩
abbrev main_cst_10 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩

abbrev nD : Nat := 1
abbrev τ : Topo := Topo.v7x

variable {F : FTy → Type} [FloatOps F]
-- ==== Proof.FlashMath.lean ====
/-
  The arithmetic of attention over one column of queries, apart from any program: what the running state of the
  kernels (a running maximum, a running sum of powers of two, a running weighted sum) is after each tile of keys, what
  its last quotient is, and that the textbook softmax of the same scores gives the same quotient.

  Scores and values are reals given by functions of the key's position. A tile holds 256 keys. The query's own tile is
  number `n`, its column inside the tile is `c`; the keys a causal mask keeps are those at positions `≤ 256 n + c`.
-/
module

public import Idealize.ShloMosaic.PureOps.Ideal
public import Mathlib.Analysis.SpecialFunctions.Pow.Real

@[expose] public section

noncomputable section

namespace Cert.FlashMath

open Idealize.ShloMosaic

/-- A finite sum of reals, read in the extended reals, is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is neither infinity is a real. -/
theorem exists_real {x : EReal} (h1 : x ≠ ⊥) (h2 : x ≠ ⊤) : ∃ r : ℝ, x = (r : EReal) :=
  ⟨x.toReal, (EReal.coe_toReal h2 h1).symm⟩

/-- A maximum, from `-∞`, of values below `+∞` one of which is above `-∞`, is a real. -/
theorem fold_max_real {ι : Type*} [Fintype ι] (f : ι → EReal) (k0 : ι) (h0 : f k0 ≠ ⊥) (h : ∀ k, f k ≠ ⊤) :
    ∃ r : ℝ, Finset.univ.fold max ⊥ f = (r : EReal) := by
  refine exists_real (ne_of_gt ?_) (ne_of_lt ?_)
  · rw [Finset.lt_fold_max]
    exact Or.inr ⟨k0, Finset.mem_univ _, bot_lt_iff_ne_bot.mpr h0⟩
  · rw [Finset.fold_max_lt]
    exact ⟨bot_lt_top, fun k _ => lt_top_iff_ne_top.mpr (h k)⟩

/-- The greater of two reals, in the extended reals, is a real. -/
theorem max_real (a b : ℝ) : max (a : EReal) (b : EReal) = ((max a b : ℝ) : EReal) :=
  ((EReal.coe_strictMono.monotone).map_max (a := a) (b := b)).symm

/-- Two to the power of a difference of reals. -/
theorem exp2_sub (a b : ℝ) : Ideal.exp2 ((a : EReal) - (b : EReal)) = (((2 : ℝ) ^ (a - b) : ℝ) : EReal) := by
  rw [← EReal.coe_sub, Ideal.exp2_coe]; rfl

/-- Two to the power `-∞` minus a real is zero: a masked key weighs nothing. -/
theorem exp2_bot_sub (b : ℝ) : Ideal.exp2 ((⊥ : EReal) - (b : EReal)) = 0 := by
  rw [show (⊥ : EReal) - (b : EReal) = ⊥ from EReal.bot_sub _, Ideal.exp2_bot]

/-- The same for the base of the natural logarithm. -/
theorem exp_sub_coe (a b : ℝ) : Ideal.exp ((a : EReal) - (b : EReal)) = ((Real.exp (a - b) : ℝ) : EReal) := by
  rw [← EReal.coe_sub, Ideal.exp_coe]

/-- The exponential of `-∞` minus a real is zero. -/
theorem exp_bot_sub (b : ℝ) : Ideal.exp ((⊥ : EReal) - (b : EReal)) = 0 := by
  rw [show (⊥ : EReal) - (b : EReal) = ⊥ from EReal.bot_sub _, Ideal.exp_bot]

/-- The quotient of two reals whose divisor is not zero. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The weighted sum of powers `Σ g k · 2 ^ (s k - μ)` over the keys processed so far: the kept ones of the query's own
    tile `n` (those at row `≤ c`), then those of the tiles before tile `j`. -/
def wsum (s g : ℕ → ℝ) (n c j : ℕ) (μ : ℝ) : ℝ :=
  (∑ r : Fin 256, if r.val ≤ c then g (256 * n + r.val) * (2 : ℝ) ^ (s (256 * n + r.val) - μ) else 0)
    + ∑ k ∈ Finset.range (256 * j), g k * (2 : ℝ) ^ (s k - μ)

/-- Changing the reference exponent multiplies the sum by one power of two. -/
theorem wsum_shift (s g : ℕ → ℝ) (n c j : ℕ) (μ μ' : ℝ) :
    wsum s g n c j μ' = (2 : ℝ) ^ (μ - μ') * wsum s g n c j μ := by
  have e : ∀ x : ℝ, (2 : ℝ) ^ (x - μ') = (2 : ℝ) ^ (μ - μ') * (2 : ℝ) ^ (x - μ) := fun x => by
    rw [← Real.rpow_add (by norm_num)]; congr 1; ring
  unfold wsum
  rw [mul_add, Finset.mul_sum, Finset.mul_sum]
  congr 1
  · refine Finset.sum_congr rfl fun r _ => ?_
    split
    · rw [e]; ring
    · rw [mul_zero]
  · exact Finset.sum_congr rfl fun k _ => by rw [e]; ring

/-- One more tile of keys adds its 256 terms. -/
theorem wsum_succ (s g : ℕ → ℝ) (n c j : ℕ) (μ : ℝ) :
    wsum s g n c (j + 1) μ
      = wsum s g n c j μ + ∑ r : Fin 256, g (256 * j + r.val) * (2 : ℝ) ^ (s (256 * j + r.val) - μ) := by
  unfold wsum
  rw [show 256 * (j + 1) = 256 * j + 256 from by ring, Finset.sum_range_add,
    Finset.sum_range (fun x => g (256 * j + x) * (2 : ℝ) ^ (s (256 * j + x) - μ)), add_assoc]

/-- After all tiles before the query's own, the processed keys are exactly those at positions `≤ 256 n + c`. -/
theorem wsum_full (s g : ℕ → ℝ) (n c : ℕ) (hc : c < 256) (μ : ℝ) :
    wsum s g n c n μ = ∑ k ∈ Finset.range (256 * n + c + 1), g k * (2 : ℝ) ^ (s k - μ) := by
  unfold wsum
  rw [add_assoc (256 * n), Finset.sum_range_add, add_comm]
  congr 1
  rw [← Finset.sum_range (fun r => if r ≤ c then g (256 * n + r) * (2 : ℝ) ^ (s (256 * n + r) - μ) else 0),
    ← Finset.sum_filter]
  refine Finset.sum_congr ?_ fun _ _ => rfl
  ext r
  simp only [Finset.mem_filter, Finset.mem_range]
  omega

/-- THE RUNNING STATE: for some real exponent `μ`, the running maximum is `μ`, the running sum is the sum of the
    processed keys' powers against `μ`, and the running accumulator their weighted sum. (`μ` need not be the maximum:
    the last quotient does not depend on it.) -/
def Inv (s v : ℕ → ℝ) (n c j : ℕ) (m l a : EReal) : Prop :=
  ∃ μ : ℝ, m = (μ : EReal) ∧ l = (wsum s (fun _ => 1) n c j μ : EReal) ∧ a = (wsum s v n c j μ : EReal)

/-- The state after the query's own tile, whose later keys are masked. -/
theorem inv_init (s v : ℕ → ℝ) (n c : ℕ) (S V : Fin 256 → EReal)
    (hS : ∀ r : Fin 256, S r = if r.val ≤ c then (s (256 * n + r.val) : EReal) else ⊥)
    (hV : ∀ r : Fin 256, V r = (v (256 * n + r.val) : EReal)) :
    Inv s v n c 0 (Finset.univ.fold max ⊥ S)
      (∑ r, Ideal.exp2 (S r - Finset.univ.fold max ⊥ S))
      (∑ r, V r * Ideal.exp2 (S r - Finset.univ.fold max ⊥ S)) := by
  obtain ⟨μ, hμ⟩ := fold_max_real S 0 (by rw [hS, if_pos (show ((0 : Fin 256) : ℕ) ≤ c from Nat.zero_le c)]; exact EReal.coe_ne_bot _)
    (fun k => by rw [hS]; split; exacts [EReal.coe_ne_top _, bot_ne_top])
  rw [hμ]
  have e : ∀ r : Fin 256, Ideal.exp2 (S r - (μ : EReal))
      = ((if r.val ≤ c then (2 : ℝ) ^ (s (256 * n + r.val) - μ) else 0 : ℝ) : EReal) := fun r => by
    rw [hS]; split
    · exact exp2_sub _ _
    · rw [exp2_bot_sub, EReal.coe_zero]
  refine ⟨μ, rfl, ?_, ?_⟩
  · simp only [e, wsum, mul_zero, Finset.range_zero, Finset.sum_empty, add_zero, one_mul]
    exact (coe_sum _ _).symm
  · simp only [e, hV, wsum, mul_zero, Finset.range_zero, Finset.sum_empty, add_zero]
    rw [coe_sum]
    refine Finset.sum_congr rfl fun r _ => ?_
    rw [← EReal.coe_mul]
    congr 1
    split
    · rfl
    · rw [mul_zero]

/-- One more tile: the maximum is raised, the two sums are rescaled by the power of the difference and the tile's terms
    are added. -/
theorem inv_step (s v : ℕ → ℝ) (n c j : ℕ) (m l a : EReal) (S V : Fin 256 → EReal) (h : Inv s v n c j m l a)
    (hS : ∀ r : Fin 256, S r = (s (256 * j + r.val) : EReal)) (hV : ∀ r : Fin 256, V r = (v (256 * j + r.val) : EReal)) :
    Inv s v n c (j + 1) (max m (Finset.univ.fold max ⊥ S))
      (Ideal.exp2 (m - max m (Finset.univ.fold max ⊥ S)) * l
        + ∑ r, Ideal.exp2 (S r - max m (Finset.univ.fold max ⊥ S)))
      (Ideal.exp2 (m - max m (Finset.univ.fold max ⊥ S)) * a
        + ∑ r, V r * Ideal.exp2 (S r - max m (Finset.univ.fold max ⊥ S))) := by
  obtain ⟨μ, rfl, rfl, rfl⟩ := h
  obtain ⟨τ, hτ⟩ := fold_max_real S 0 (by rw [hS]; exact EReal.coe_ne_bot _)
    (fun k => by rw [hS]; exact EReal.coe_ne_top _)
  rw [hτ, max_real]
  generalize max μ τ = μ'
  simp only [hS, hV, exp2_sub, ← EReal.coe_mul]
  refine ⟨μ', rfl, ?_, ?_⟩
  · rw [wsum_succ, wsum_shift s _ n c j μ μ', ← coe_sum, ← EReal.coe_add]
    simp only [one_mul]
  · rw [wsum_succ, wsum_shift s _ n c j μ μ', ← coe_sum, ← EReal.coe_add]

/-- The weighted mean of the values at the first `N` keys, with weights `2 ^ s`. -/
def mean (s v : ℕ → ℝ) (N : ℕ) : ℝ :=
  (∑ k ∈ Finset.range N, v k * (2 : ℝ) ^ s k) / ∑ k ∈ Finset.range N, (2 : ℝ) ^ s k

/-- THE LAST QUOTIENT is the weighted mean over the keys a causal mask keeps. -/
theorem inv_final (s v : ℕ → ℝ) (n c : ℕ) (hc : c < 256) (m l a : EReal) (h : Inv s v n c n m l a) :
    Ideal.div a l = (mean s v (256 * n + c + 1) : EReal) := by
  obtain ⟨μ, rfl, rfl, rfl⟩ := h
  have e : ∀ g : ℕ → ℝ, wsum s g n c n μ
      = (∑ k ∈ Finset.range (256 * n + c + 1), g k * (2 : ℝ) ^ s k) * (2 : ℝ) ^ (-μ) := fun g => by
    rw [wsum_full s g n c hc, Finset.sum_mul]
    refine Finset.sum_congr rfl fun k _ => ?_
    rw [sub_eq_add_neg, Real.rpow_add (by norm_num), mul_assoc]
  have hp : (2 : ℝ) ^ (-μ) ≠ 0 := (Real.rpow_pos_of_pos (by norm_num) _).ne'
  have hz : 0 < ∑ k ∈ Finset.range (256 * n + c + 1), (1 : ℝ) * (2 : ℝ) ^ s k :=
    Finset.sum_pos (fun k _ => by rw [one_mul]; exact Real.rpow_pos_of_pos (by norm_num) _)
      ⟨0, Finset.mem_range.mpr (Nat.succ_pos _)⟩
  rw [e, e, div_real _ _ (mul_ne_zero hz.ne' hp), mul_div_mul_right _ _ hp]
  simp only [one_mul, mean]

/-- THE TEXTBOOK SOFTMAX of `M` scores, those from position `N` on masked by `-∞`, applied to the values: each exponential
    against any real `μ`, divided by their sum, times the value, summed, is the weighted mean over the first `N` keys —
    where a score `σ` is `s · log 2`. -/
theorem softmax_mean (s v : ℕ → ℝ) (N M : ℕ) (hN : 0 < N) (hM : N ≤ M) (S V : Fin M → EReal) (μ : ℝ)
    (hS : ∀ r : Fin M, S r = if r.val < N then ((s r.val * Real.log 2 : ℝ) : EReal) else ⊥)
    (hV : ∀ r : Fin M, V r = (v r.val : EReal)) :
    ∑ r, V r * Ideal.div (Ideal.exp (S r - (μ : EReal))) (∑ r, Ideal.exp (S r - (μ : EReal)))
      = (mean s v N : EReal) := by
  have e : ∀ r : Fin M, Ideal.exp (S r - (μ : EReal))
      = ((if r.val < N then (2 : ℝ) ^ s r.val * Real.exp (-μ) else 0 : ℝ) : EReal) := fun r => by
    rw [hS]; split
    · rw [exp_sub_coe, sub_eq_add_neg, Real.exp_add, mul_comm (s r.val), Real.rpow_def_of_pos (by norm_num)]
    · rw [exp_bot_sub, EReal.coe_zero]
  have sumN : ∀ g : ℕ → ℝ, ∑ r : Fin M, (if r.val < N then g r.val else 0) = ∑ k ∈ Finset.range N, g k := fun g => by
    rw [← Finset.sum_range (fun r => if r < N then g r else 0), ← Finset.sum_filter]
    refine Finset.sum_congr ?_ fun _ _ => rfl
    ext r
    simp only [Finset.mem_filter, Finset.mem_range]
    omega
  have hp : Real.exp (-μ) ≠ 0 := (Real.exp_pos _).ne'
  have hz : 0 < ∑ k ∈ Finset.range N, (2 : ℝ) ^ s k :=
    Finset.sum_pos (fun k _ => Real.rpow_pos_of_pos (by norm_num) _) ⟨0, Finset.mem_range.mpr hN⟩
  have hz' : (∑ k ∈ Finset.range N, (2 : ℝ) ^ s k) * Real.exp (-μ) ≠ 0 := mul_ne_zero hz.ne' hp
  simp only [e, hV]
  rw [← coe_sum, sumN (fun k => (2 : ℝ) ^ s k * Real.exp (-μ)), ← Finset.sum_mul]
  simp only [div_real _ _ hz', ← EReal.coe_mul]
  rw [← coe_sum]
  congr 1
  have t : ∀ r : Fin M, v r.val * ((if r.val < N then (2 : ℝ) ^ s r.val * Real.exp (-μ) else 0)
      / ((∑ k ∈ Finset.range N, (2 : ℝ) ^ s k) * Real.exp (-μ)))
      = if r.val < N then v r.val * (2 : ℝ) ^ s r.val / ∑ k ∈ Finset.range N, (2 : ℝ) ^ s k else 0 := fun r => by
    split
    · rw [mul_div_mul_right _ _ hp, mul_div_assoc]
    · rw [zero_div, mul_zero]
  simp only [t]
  rw [sumN (fun k => v k * (2 : ℝ) ^ s k / ∑ k ∈ Finset.range N, (2 : ℝ) ^ s k), mean, Finset.sum_div]

end Cert.FlashMath

end
-- ==== Proof.MlaHead.lean ====
/-
  One head of the attention kernel, apart from the memory it reads: what its named values are at an index, at `Ideal`.
-/
module

public import proofs.«01_k».proof.Proof.Gen.MlaIdeal.Skeleton
public import proofs.«01_k».proof.Proof.FlashMath
public import Idealize.ShloMosaic.Lib.Pointwise
public import Idealize.ShloMosaic.Lib.WordCmp

@[expose] public section

set_option maxRecDepth 16384

noncomputable section

namespace Cert.MlaIdeal.Head

open Idealize.ShloMosaic Cert.MlaIdeal Cert.MlaIdeal.Gen

/-- The word of `-∞` denotes the least extended real. -/
theorem ofBits_bot : Ideal.ofBits .f32 0xFF800000#32 = ⊥ := by simp [Ideal.ofBits, Ideal.ieee]

/-! ## The tiles a head reads -/

/-- Head `h`'s queries in the block of queries. -/
def qHead (x0 : Vec Ideal S1x256x1024 .bf16) (h : Fin 8) : FVec Ideal S256x128 .bf16 :=
  fun x => x0 (ix3 0 (x 0) ⟨128 * h.val + (x 1).val, by have := h.isLt; have : (x 1).val < 128 := (x 1).isLt; omega⟩)

/-- Head `h`'s keys in tile `j`. -/
def kTile (x1 : Vec Ideal S1x4096x1024 .bf16) (j : Fin 16) (h : Fin 8) : Vec Ideal S1x256x128 .bf16 :=
  fun x => x1 (ix3 0 ⟨256 * j.val + (x 1).val, by have := j.isLt; have : (x 1).val < 256 := (x 1).isLt; omega⟩
    ⟨128 * h.val + (x 2).val, by have := h.isLt; have : (x 2).val < 128 := (x 2).isLt; omega⟩)

/-- Head `h`'s values in tile `j`, features by keys. -/
def vTile (x2 : Vec Ideal S1x16x512x256 .bf16) (j : Fin 16) (h : Fin 8) : Vec Ideal S1x1x64x256 .bf16 :=
  fun x => x2 (ix4 0 j ⟨64 * h.val + (x 2).val, by have := h.isLt; have : (x 2).val < 64 := (x 2).isLt; omega⟩ (x 3))

/-! ## One head's state: after its own tile, and after one more tile -/

/-- The masked scores of a head's own tile. -/
def diagS (q : FVec Ideal S256x128 .bf16) (kt : Vec Ideal S1x256x128 .bf16) : FVec Ideal S256x256 .f32 :=
  k0_pay126 k0_pay118 (k0_pay4 q kt)
/-- Their running maximum, -/
def initM (q : FVec Ideal S256x128 .bf16) (kt : Vec Ideal S1x256x128 .bf16) : FVec Ideal S1x256 .f32 :=
  k0_pay134 k0_pay118 (k0_pay4 q kt)
/-- running sum -/
def initL (q : FVec Ideal S256x128 .bf16) (kt : Vec Ideal S1x256x128 .bf16) : FVec Ideal S1x256 .f32 :=
  k0_pay150 (k0_pay142 k0_pay118 (k0_pay4 q kt))
/-- and accumulator. -/
def initA (q : FVec Ideal S256x128 .bf16) (kt : Vec Ideal S1x256x128 .bf16) (vt : Vec Ideal S1x1x64x256 .bf16) :
    FVec Ideal S64x256 .f32 :=
  k0_pay151 (k0_pay142 k0_pay118 (k0_pay4 q kt)) vt

/-- The maximum after one more tile, -/
def stepM (m : FVec Ideal S1x256 .f32) (q : FVec Ideal S256x128 .bf16) (kt : Vec Ideal S1x256x128 .bf16) :
    FVec Ideal S1x256 .f32 := k0_pay13 m (k0_pay4 q kt)
/-- the sum -/
def stepL (m l : FVec Ideal S1x256 .f32) (q : FVec Ideal S256x128 .bf16) (kt : Vec Ideal S1x256x128 .bf16) :
    FVec Ideal S1x256 .f32 := k0_pay16 m l (k0_pay4 q kt)
/-- and the accumulator. -/
def stepA (m : FVec Ideal S1x256 .f32) (a : FVec Ideal S64x256 .f32) (q : FVec Ideal S256x128 .bf16)
    (kt : Vec Ideal S1x256x128 .bf16) (vt : Vec Ideal S1x1x64x256 .bf16) : FVec Ideal S64x256 .f32 :=
  k0_pay53 a (k0_pay14 m (k0_pay4 q kt)) (k0_pay17 m (k0_pay4 q kt)) vt

/-! ## The same at an index -/

/-- A score is the inner product of the key's row with the query's. -/
theorem pay4_apply (q : FVec Ideal S256x128 .bf16) (kt : Vec Ideal S1x256x128 .bf16) (r c : Fin 256) :
    k0_pay4 q kt (ix2 r c) = ∑ d : Fin 128, kt (ix3 0 r d) * q (ix2 c d) := by
  pointwise [k0_pay4]

/-- The raised maximum. -/
theorem pay13_apply (m : FVec Ideal S1x256 .f32) (s : FVec Ideal S256x256 .f32) (c : Fin 256) :
    k0_pay13 m s (ix2 0 c) = max (m (ix2 0 c)) (Finset.univ.fold max ⊥ fun r : Fin 256 => s (ix2 r c)) := by
  pointwise [k0_pay13]
  rw [ofBits_bot]

/-- The rescaled sum plus the tile's powers. -/
theorem pay16_apply (m l : FVec Ideal S1x256 .f32) (s : FVec Ideal S256x256 .f32) (c : Fin 256) :
    k0_pay16 m l s (ix2 0 c) = Ideal.exp2 (m (ix2 0 c) - k0_pay13 m s (ix2 0 c)) * l (ix2 0 c)
      + ∑ r : Fin 256, Ideal.exp2 (s (ix2 r c) - k0_pay13 m s (ix2 0 c)) := by
  pointwise [k0_pay16, k0_pay14, k0_pay15]
  rfl

/-- The rescaled accumulator plus the tile's weighted values. -/
theorem pay53_apply (a : FVec Ideal S64x256 .f32) (m : FVec Ideal S1x256 .f32) (s : FVec Ideal S256x256 .f32)
    (vt : Vec Ideal S1x1x64x256 .bf16) (e : Fin 64) (c : Fin 256) :
    k0_pay53 a (k0_pay14 m s) (k0_pay17 m s) vt (ix2 e c)
      = Ideal.exp2 (m (ix2 0 c) - k0_pay13 m s (ix2 0 c)) * a (ix2 e c)
        + ∑ r : Fin 256, vt (ix4 0 0 e r) * Ideal.exp2 (s (ix2 r c) - k0_pay13 m s (ix2 0 c)) := by
  pointwise [k0_pay53, k0_pay14, k0_pay17, k0_pay15]
  rfl

/-- The named mask denotes the least extended real. -/
theorem mask_eq : Named.named (F := Ideal) κ "mask" (φ := .f32) 0xF1800000#32 = (⊥ : EReal) :=
  IdealRules.named_const.ideal_named_scalar _ _ _ _ rfl

/-- The causal mask inside the query's own tile keeps the keys at rows up to the query's column. -/
theorem diagS_apply (q : FVec Ideal S256x128 .bf16) (kt : Vec Ideal S1x256x128 .bf16) (r c : Fin 256) :
    diagS q kt (ix2 r c) = if r.val ≤ c.val then k0_pay4 q kt (ix2 r c) else ⊥ := by
  unfold diagS
  generalize k0_pay4 q kt = s
  pointwise [k0_pay126, k0_pay118]
  rw [WordCmp.cmpi_sle_ofNat (by have := r.isLt; omega) (by have := c.isLt; omega), mask_eq, Scalar.select_ofBool]
  simp only [decide_eq_true_eq]

/-- The first maximum: over the tile's masked scores. -/
theorem initM_apply (q : FVec Ideal S256x128 .bf16) (kt : Vec Ideal S1x256x128 .bf16) (c : Fin 256) :
    initM q kt (ix2 0 c) = Finset.univ.fold max ⊥ fun r : Fin 256 => diagS q kt (ix2 r c) := by
  unfold initM diagS
  generalize k0_pay4 q kt = s
  pointwise [k0_pay134]
  rw [ofBits_bot]

/-- The first denominator: the sum of the tile's exponentials. -/
theorem initL_apply (q : FVec Ideal S256x128 .bf16) (kt : Vec Ideal S1x256x128 .bf16) (c : Fin 256) :
    initL q kt (ix2 0 c) = ∑ r : Fin 256, Ideal.exp2 (diagS q kt (ix2 r c) - initM q kt (ix2 0 c)) := by
  unfold initL initM diagS
  generalize k0_pay4 q kt = s
  pointwise [k0_pay150, k0_pay142]
  rfl

/-- The first numerator: the tile's values weighted by the exponentials. -/
theorem initA_apply (q : FVec Ideal S256x128 .bf16) (kt : Vec Ideal S1x256x128 .bf16) (vt : Vec Ideal S1x1x64x256 .bf16)
    (e : Fin 64) (c : Fin 256) :
    initA q kt vt (ix2 e c)
      = ∑ r : Fin 256, vt (ix4 0 0 e r) * Ideal.exp2 (diagS q kt (ix2 r c) - initM q kt (ix2 0 c)) := by
  unfold initA initM diagS
  generalize k0_pay4 q kt = s
  pointwise [k0_pay151, k0_pay142]
  rfl

/-! ## The invariant, for one head -/

/-- The scores and values of every head of a block are the reals `s` and `v`: score of head `h`, query column `c`, key
    position `k`; value of head `h`, feature `e`, key position `k`. -/
structure Reals (x0 : Vec Ideal S1x256x1024 .bf16) (x1 : Vec Ideal S1x4096x1024 .bf16) (x2 : Vec Ideal S1x16x512x256 .bf16)
    (s : Fin 8 → Fin 256 → ℕ → ℝ) (v : Fin 8 → Fin 64 → ℕ → ℝ) : Prop where
  score : ∀ (h : Fin 8) (c : Fin 256) (j : Fin 16) (r : Fin 256),
    k0_pay4 (qHead x0 h) (kTile x1 j h) (ix2 r c) = ((s h c (256 * j.val + r.val) : ℝ) : EReal)
  value : ∀ (h : Fin 8) (e : Fin 64) (j : Fin 16) (r : Fin 256),
    vTile x2 j h (ix4 0 0 e r) = ((v h e (256 * j.val + r.val) : ℝ) : EReal)

variable {x0 : Vec Ideal S1x256x1024 .bf16} {x1 : Vec Ideal S1x4096x1024 .bf16} {x2 : Vec Ideal S1x16x512x256 .bf16}
  {s : Fin 8 → Fin 256 → ℕ → ℝ} {v : Fin 8 → Fin 64 → ℕ → ℝ}

open Cert.FlashMath in
/-- After its own tile `n`, a head's state is the running state over no other tile. -/
theorem head_init (R : Reals x0 x1 x2 s v) (n : Fin 16) (h : Fin 8) (e : Fin 64) (c : Fin 256) :
    Inv (s h c) (v h e) n.val c.val 0 (initM (qHead x0 h) (kTile x1 n h) (ix2 0 c))
      (initL (qHead x0 h) (kTile x1 n h) (ix2 0 c)) (initA (qHead x0 h) (kTile x1 n h) (vTile x2 n h) (ix2 e c)) := by
  rw [initL_apply, initA_apply, initM_apply]
  exact inv_init (s h c) (v h e) n.val c.val (fun r => diagS (qHead x0 h) (kTile x1 n h) (ix2 r c))
    (fun r => vTile x2 n h (ix4 0 0 e r)) (fun r => (diagS_apply _ _ r c).trans (by rw [R.score])) (fun r => R.value h e n r)

open Cert.FlashMath in
/-- One more tile `j` keeps a head's state the running state. -/
theorem head_step (R : Reals x0 x1 x2 s v) (n : ℕ) (j : Fin 16) (h : Fin 8) (e : Fin 64) (c : Fin 256)
    (m l : FVec Ideal S1x256 .f32) (a : FVec Ideal S64x256 .f32)
    (hi : Inv (s h c) (v h e) n c.val j.val (m (ix2 0 c)) (l (ix2 0 c)) (a (ix2 e c))) :
    Inv (s h c) (v h e) n c.val (j.val + 1) (stepM m (qHead x0 h) (kTile x1 j h) (ix2 0 c))
      (stepL m l (qHead x0 h) (kTile x1 j h) (ix2 0 c))
      (stepA m a (qHead x0 h) (kTile x1 j h) (vTile x2 j h) (ix2 e c)) := by
  unfold stepM stepL stepA
  rw [pay16_apply, pay53_apply, pay13_apply]
  exact inv_step (s h c) (v h e) n c.val j.val _ _ _ (fun r => k0_pay4 (qHead x0 h) (kTile x1 j h) (ix2 r c))
    (fun r => vTile x2 j h (ix4 0 0 e r)) hi (fun r => R.score h c j r) (fun r => R.value h e j r)

end Cert.MlaIdeal.Head

end
-- ==== Proof.MlaTrip.lean ====
/-
  The attention kernel's loop over the key tiles before the query's own: what one trip makes of the eight heads' states,
  and, by induction on the trips, that each head's state is the running state of the processed keys.
-/
module

public import proofs.«01_k».proof.Proof.Gen.MlaIdeal.Value
public import proofs.«01_k».proof.Proof.MlaHead

@[expose] public section

set_option maxRecDepth 16384

noncomputable section

namespace Cert.MlaIdeal.Head

open Idealize.ShloMosaic Cert.MlaIdeal Cert.MlaIdeal.Gen Idealize.ShloMosaic.TcCoe Idealize.SL.Sem

/-- The state the loop carries: maximum, sum and accumulator of each of the eight heads. -/
abbrev Carry : Type := FVec Ideal S1x256 .f32 × FVec Ideal S1x256 .f32 × FVec Ideal S64x256 .f32 × FVec Ideal S1x256 .f32 × FVec Ideal S1x256 .f32 × FVec Ideal S64x256 .f32 × FVec Ideal S1x256 .f32 × FVec Ideal S1x256 .f32 × FVec Ideal S64x256 .f32 × FVec Ideal S1x256 .f32 × FVec Ideal S1x256 .f32 × FVec Ideal S64x256 .f32 × FVec Ideal S1x256 .f32 × FVec Ideal S1x256 .f32 × FVec Ideal S64x256 .f32 × FVec Ideal S1x256 .f32 × FVec Ideal S1x256 .f32 × FVec Ideal S64x256 .f32 × FVec Ideal S1x256 .f32 × FVec Ideal S1x256 .f32 × FVec Ideal S64x256 .f32 × FVec Ideal S1x256 .f32 × FVec Ideal S1x256 .f32 × FVec Ideal S64x256 .f32

/-- One head's part of the carried state. -/
def comp (acc : Carry) (h : Fin 8) : FVec Ideal S1x256 .f32 × FVec Ideal S1x256 .f32 × FVec Ideal S64x256 .f32 :=
  match h with
  | 0 => (acc.1, acc.2.1, acc.2.2.1)
  | 1 => (acc.2.2.2.1, acc.2.2.2.2.1, acc.2.2.2.2.2.1)
  | 2 => (acc.2.2.2.2.2.2.1, acc.2.2.2.2.2.2.2.1, acc.2.2.2.2.2.2.2.2.1)
  | 3 => (acc.2.2.2.2.2.2.2.2.2.1, acc.2.2.2.2.2.2.2.2.2.2.1, acc.2.2.2.2.2.2.2.2.2.2.2.1)
  | 4 => (acc.2.2.2.2.2.2.2.2.2.2.2.2.1, acc.2.2.2.2.2.2.2.2.2.2.2.2.2.1, acc.2.2.2.2.2.2.2.2.2.2.2.2.2.2.1)
  | 5 => (acc.2.2.2.2.2.2.2.2.2.2.2.2.2.2.2.1, acc.2.2.2.2.2.2.2.2.2.2.2.2.2.2.2.2.1, acc.2.2.2.2.2.2.2.2.2.2.2.2.2.2.2.2.2.1)
  | 6 => (acc.2.2.2.2.2.2.2.2.2.2.2.2.2.2.2.2.2.2.1, acc.2.2.2.2.2.2.2.2.2.2.2.2.2.2.2.2.2.2.2.1, acc.2.2.2.2.2.2.2.2.2.2.2.2.2.2.2.2.2.2.2.2.1)
  | 7 => (acc.2.2.2.2.2.2.2.2.2.2.2.2.2.2.2.2.2.2.2.2.2.1, acc.2.2.2.2.2.2.2.2.2.2.2.2.2.2.2.2.2.2.2.2.2.2.1, acc.2.2.2.2.2.2.2.2.2.2.2.2.2.2.2.2.2.2.2.2.2.2.2)

/-! ## The reads -/

/-- The row a tile starts at, as the kernel computes it, is 256 times the tile's number. -/
theorem tile_row (j : Fin 16) : (Scalar.indexCast (Scalar.muli (Scf.iv (0#32) (1#32) j.val) (256#32)) : Index).toNat = 256 * j.val := by
  revert j; decide

/-- The tile's number, as the kernel computes it. -/
theorem tile_num (j : Fin 16) : (Scalar.indexCast (Scf.iv (0#32) (1#32) j.val) : Index).toNat = j.val := by
  revert j; decide

/-- A load of a head's keys from the whole key buffer. -/
theorem ld_k (x1 : Vec Ideal S1x4096x1024 .bf16) (j : Fin 16) (h : Fin 8) (off : Fin 3 → Nat)
    (inb : ∀ a, off a + S1x256x128.size a ≤ S1x4096x1024.size a) (e1 : off = ![0, 256 * j.val, 128 * h.val]) :
    View.ld x1 (Rect.unit off S1x256x128.size inb) = kTile x1 j h := by
  subst e1
  funext x
  idx_vars x
  pointwise [kTile]

/-- A load of a head's values from the whole value buffer. -/
theorem ld_v (x2 : Vec Ideal S1x16x512x256 .bf16) (j : Fin 16) (h : Fin 8) (off : Fin 4 → Nat)
    (inb : ∀ a, off a + S1x1x64x256.size a ≤ S1x16x512x256.size a) (e1 : off = ![0, j.val, 64 * h.val, 0]) :
    View.ld x2 (Rect.unit off S1x1x64x256.size inb) = vTile x2 j h := by
  subst e1
  funext x
  idx_vars x
  pointwise [vTile]

/-- A load of a head's queries from the query block. -/
theorem ld_q (x0 : Vec Ideal S1x256x1024 .bf16) (h : Fin 8) (off : Fin 3 → Nat)
    (inb : ∀ a, off a + S1x256x128.size a ≤ S1x256x1024.size a) (e1 : off = ![0, 0, 128 * h.val]) :
    k0_pay110 (View.ld x0 (Rect.unit off S1x256x128.size inb)) = qHead x0 h := by
  subst e1
  funext x
  idx_vars x
  pointwise [qHead, k0_pay110]

/-! ## One trip -/

/-- The step over one tile, of every head. -/
def steps (acc : Carry) (q : Fin 8 → FVec Ideal S256x128 .bf16) (K : Fin 8 → Vec Ideal S1x256x128 .bf16)
    (V : Fin 8 → Vec Ideal S1x1x64x256 .bf16) : Carry :=
  (stepM (comp acc 0).1 (q 0) (K 0), stepL (comp acc 0).1 (comp acc 0).2.1 (q 0) (K 0), stepA (comp acc 0).1 (comp acc 0).2.2 (q 0) (K 0) (V 0),
      stepM (comp acc 1).1 (q 1) (K 1), stepL (comp acc 1).1 (comp acc 1).2.1 (q 1) (K 1), stepA (comp acc 1).1 (comp acc 1).2.2 (q 1) (K 1) (V 1),
      stepM (comp acc 2).1 (q 2) (K 2), stepL (comp acc 2).1 (comp acc 2).2.1 (q 2) (K 2), stepA (comp acc 2).1 (comp acc 2).2.2 (q 2) (K 2) (V 2),
      stepM (comp acc 3).1 (q 3) (K 3), stepL (comp acc 3).1 (comp acc 3).2.1 (q 3) (K 3), stepA (comp acc 3).1 (comp acc 3).2.2 (q 3) (K 3) (V 3),
      stepM (comp acc 4).1 (q 4) (K 4), stepL (comp acc 4).1 (comp acc 4).2.1 (q 4) (K 4), stepA (comp acc 4).1 (comp acc 4).2.2 (q 4) (K 4) (V 4),
      stepM (comp acc 5).1 (q 5) (K 5), stepL (comp acc 5).1 (comp acc 5).2.1 (q 5) (K 5), stepA (comp acc 5).1 (comp acc 5).2.2 (q 5) (K 5) (V 5),
      stepM (comp acc 6).1 (q 6) (K 6), stepL (comp acc 6).1 (comp acc 6).2.1 (q 6) (K 6), stepA (comp acc 6).1 (comp acc 6).2.2 (q 6) (K 6) (V 6),
      stepM (comp acc 7).1 (q 7) (K 7), stepL (comp acc 7).1 (comp acc 7).2.1 (q 7) (K 7), stepA (comp acc 7).1 (comp acc 7).2.2 (q 7) (K 7) (V 7))

/-- A component of the step is the step of the component. -/
theorem comp_steps (acc : Carry) (q : Fin 8 → FVec Ideal S256x128 .bf16) (K : Fin 8 → Vec Ideal S1x256x128 .bf16)
    (V : Fin 8 → Vec Ideal S1x1x64x256 .bf16) (h : Fin 8) :
    comp (steps acc q K V) h = (stepM (comp acc h).1 (q h) (K h), stepL (comp acc h).1 (comp acc h).2.1 (q h) (K h),
      stepA (comp acc h).1 (comp acc h).2.2 (q h) (K h) (V h)) := by
  fin_cases h <;> rfl

/-- The rows of a tile are inside the key buffer. -/
theorem inb_k (j : Fin 16) (h : Fin 8) (a : Fin 3) :
    (![0, (Scalar.indexCast (Scalar.muli (Scf.iv (0#32) (1#32) j.val) (256#32)) : Index).toNat, 128 * h.val] : Fin 3 → Nat) a
      + S1x256x128.size a ≤ S1x4096x1024.size a := by
  rw [tile_row]
  have := j.isLt
  have := h.isLt
  fin_cases a <;> (simp [S1x256x128, S1x4096x1024]; try omega)

/-- A tile is inside the value buffer. -/
theorem inb_v (j : Fin 16) (h : Fin 8) (a : Fin 4) :
    (![0, (Scalar.indexCast (Scf.iv (0#32) (1#32) j.val) : Index).toNat, 64 * h.val, 0] : Fin 4 → Nat) a
      + S1x1x64x256.size a ≤ S1x16x512x256.size a := by
  rw [tile_num]
  have := j.isLt
  have := h.isLt
  fin_cases a <;> (simp [S1x1x64x256, S1x16x512x256]; try omega)

/-- ONE TRIP applies, head by head, the step over tile `k`. -/
theorem trip_eq (𝒱 : Variants) (c : Dev nD) (bd : Option 𝒱.V) (i : grid0.Coords) (arg3 : Memref sig .tc .vmem S1x256x1024 .bf16) (harg3 : arg3.IsWhole) (arg4 : Memref sig .tc .vmem S1x4096x1024 .bf16) (harg4 : arg4.IsWhole) (arg5 : Memref sig .tc .vmem S1x16x512x256 .bf16) (harg5 : arg5.IsWhole) (arg6 : Memref sig .tc .vmem S1x512x256 .bf16) (harg6 : arg6.IsWhole) (v1 : FVec Ideal S256x128 .bf16) (v3 : FVec Ideal S256x128 .bf16) (v5 : FVec Ideal S256x128 .bf16) (v7 : FVec Ideal S256x128 .bf16) (v9 : FVec Ideal S256x128 .bf16) (v11 : FVec Ideal S256x128 .bf16) (v13 : FVec Ideal S256x128 .bf16) (v15 : FVec Ideal S256x128 .bf16) (v84 : FVec Ideal S1x256 .f32) (v86 : FVec Ideal S1x256 .f32) (v88 : FVec Ideal S1x256 .f32) (v90 : FVec Ideal S1x256 .f32) (v92 : FVec Ideal S1x256 .f32) (v94 : FVec Ideal S1x256 .f32) (v96 : FVec Ideal S1x256 .f32) (v98 : FVec Ideal S1x256 .f32) (v124 : FVec Ideal S1x256 .f32) (v129 : FVec Ideal S64x256 .f32) (v131 : FVec Ideal S1x256 .f32) (v136 : FVec Ideal S64x256 .f32) (v138 : FVec Ideal S1x256 .f32) (v143 : FVec Ideal S64x256 .f32) (v145 : FVec Ideal S1x256 .f32) (v150 : FVec Ideal S64x256 .f32) (v152 : FVec Ideal S1x256 .f32) (v157 : FVec Ideal S64x256 .f32) (v159 : FVec Ideal S1x256 .f32) (v164 : FVec Ideal S64x256 .f32) (v166 : FVec Ideal S1x256 .f32) (v171 : FVec Ideal S64x256 .f32) (v173 : FVec Ideal S1x256 .f32) (v178 : FVec Ideal S64x256 .f32) (c0_i32 : BitVec 32) (v182 : BitVec 32)
    (x1 : Vec Ideal S1x4096x1024 .bf16) (x2 : Vec Ideal S1x16x512x256 .bf16) (k : Fin (k0_t1_loop i).trips) (j : Fin 16)
    (hj : k.val = j.val) (acc : Carry) :
    tripR_k0_t1 (F := Ideal) 𝒱 c bd i arg3 harg3 arg4 harg4 arg5 harg5 arg6 harg6 v1 v3 v5 v7 v9 v11 v13 v15 v84 v86 v88 v90 v92 v94 v96 v98 v124 v129 v131 v136 v138 v143 v145 v150 v152 v157 v159 v164 v166 v171 v173 v178 c0_i32 v182 (harg4.unread x1) (harg5.unread x2) k acc
    = steps acc ![v1, v3, v5, v7, v9, v11, v13, v15] (kTile x1 j) (vTile x2 j) := by
  obtain ⟨k, hk⟩ := k
  simp only at hj
  subst hj
  have hK : kTile x1 j = fun h => View.ld x1 (Rect.unit _ S1x256x128.size (inb_k j h)) :=
    funext fun h => (ld_k x1 j h _ _ (by rw [tile_row])).symm
  have hV : vTile x2 j = fun h => View.ld x2 (Rect.unit _ S1x1x64x256.size (inb_v j h)) :=
    funext fun h => (ld_v x2 j h _ _ (by rw [tile_num])).symm
  rw [hK, hV]
  unfold tripR_k0_t1 trip_k0_t1
  dsimp only
  sl_unfold_words
  simp only [View.readAt_eq_ld, harg4.read_unread, harg5.read_unread]
  rfl

end Cert.MlaIdeal.Head

end
-- ==== Proof.MlaLoop.lean ====
/-
  The attention kernel's loop, trip by trip: each head's state is the running state of the processed keys.
-/
module

public import proofs.«01_k».proof.Proof.MlaTrip

@[expose] public section

set_option maxRecDepth 16384

noncomputable section

namespace Cert.MlaIdeal.Head

open Idealize.ShloMosaic Cert.MlaIdeal Cert.MlaIdeal.Gen Idealize.ShloMosaic.TcCoe Idealize.SL.Sem Cert.FlashMath

/-- The loop makes one trip per tile before the query's own. -/
theorem trips_eq (i : grid0.Coords) : (k0_t1_loop i).trips = (i 2).val := by
  have H : ∀ n : Fin 16, Scf.trips 0#32 (Scalar.addi 0#32 (Scalar.muli (Scalar.divsi (Scalar.subi (BitVec.ofNat 32 n.val) 0#32) 1#32) 1#32)) 1#32 = n.val := by
    decide
  exact H (i 2)

/-- THE LOOP KEEPS EVERY HEAD'S STATE the running state: before trip `k` the processed tiles are the query's own and those
    before `k`. -/
theorem st_inv (𝒱 : Variants) (c : Dev nD) (bd : Option 𝒱.V) (i : grid0.Coords) (arg3 : Memref sig .tc .vmem S1x256x1024 .bf16) (harg3 : arg3.IsWhole) (arg4 : Memref sig .tc .vmem S1x4096x1024 .bf16) (harg4 : arg4.IsWhole) (arg5 : Memref sig .tc .vmem S1x16x512x256 .bf16) (harg5 : arg5.IsWhole) (arg6 : Memref sig .tc .vmem S1x512x256 .bf16) (harg6 : arg6.IsWhole) (v1 : FVec Ideal S256x128 .bf16) (v3 : FVec Ideal S256x128 .bf16) (v5 : FVec Ideal S256x128 .bf16) (v7 : FVec Ideal S256x128 .bf16) (v9 : FVec Ideal S256x128 .bf16) (v11 : FVec Ideal S256x128 .bf16) (v13 : FVec Ideal S256x128 .bf16) (v15 : FVec Ideal S256x128 .bf16) (v84 : FVec Ideal S1x256 .f32) (v86 : FVec Ideal S1x256 .f32) (v88 : FVec Ideal S1x256 .f32) (v90 : FVec Ideal S1x256 .f32) (v92 : FVec Ideal S1x256 .f32) (v94 : FVec Ideal S1x256 .f32) (v96 : FVec Ideal S1x256 .f32) (v98 : FVec Ideal S1x256 .f32) (v124 : FVec Ideal S1x256 .f32) (v129 : FVec Ideal S64x256 .f32) (v131 : FVec Ideal S1x256 .f32) (v136 : FVec Ideal S64x256 .f32) (v138 : FVec Ideal S1x256 .f32) (v143 : FVec Ideal S64x256 .f32) (v145 : FVec Ideal S1x256 .f32) (v150 : FVec Ideal S64x256 .f32) (v152 : FVec Ideal S1x256 .f32) (v157 : FVec Ideal S64x256 .f32) (v159 : FVec Ideal S1x256 .f32) (v164 : FVec Ideal S64x256 .f32) (v166 : FVec Ideal S1x256 .f32) (v171 : FVec Ideal S64x256 .f32) (v173 : FVec Ideal S1x256 .f32) (v178 : FVec Ideal S64x256 .f32) (c0_i32 : BitVec 32) (v182 : BitVec 32)
    {x0 : Vec Ideal S1x256x1024 .bf16} {x1 : Vec Ideal S1x4096x1024 .bf16} {x2 : Vec Ideal S1x16x512x256 .bf16}
    {s : Fin 8 → Fin 256 → ℕ → ℝ} {v : Fin 8 → Fin 64 → ℕ → ℝ} (R : Reals x0 x1 x2 s v)
    (hq : ![v1, v3, v5, v7, v9, v11, v13, v15] = qHead x0) (init : Carry)
    (h0 : ∀ (h : Fin 8) (e : Fin 64) (c : Fin 256), Inv (s h c) (v h e) (i 2).val c.val 0 ((comp init h).1 (ix2 0 c))
      ((comp init h).2.1 (ix2 0 c)) ((comp init h).2.2 (ix2 e c))) (k : ℕ) (hk : k ≤ (k0_t1_loop i).trips)
    (h : Fin 8) (e : Fin 64) (c' : Fin 256) (r : Carry)
    (hr : r = st_k0_t1 (F := Ideal) 𝒱 c bd i arg3 harg3 arg4 harg4 arg5 harg5 arg6 harg6 v1 v3 v5 v7 v9 v11 v13 v15 v84 v86 v88 v90 v92 v94 v96 v98 v124 v129 v131 v136 v138 v143 v145 v150 v152 v157 v159 v164 v166 v171 v173 v178 c0_i32 v182 (harg4.unread x1) (harg5.unread x2) init k) :
    Inv (s h c') (v h e) (i 2).val c'.val k ((comp r h).1 (ix2 0 c')) ((comp r h).2.1 (ix2 0 c')) ((comp r h).2.2 (ix2 e c')) := by
  induction k generalizing r with
  | zero => subst hr; exact h0 h e c'
  | succ k ih =>
    have hlt : k < 16 := by
      have := trips_eq i
      have h16 : (i 2).val < 16 := (i 2).isLt
      omega
    subst hr
    rw [st_k0_t1_succ (F := Ideal) 𝒱 c bd i arg3 harg3 arg4 harg4 arg5 harg5 arg6 harg6 v1 v3 v5 v7 v9 v11 v13 v15 v84 v86 v88 v90 v92 v94 v96 v98 v124 v129 v131 v136 v138 v143 v145 v150 v152 v157 v159 v164 v166 v171 v173 v178 c0_i32 v182 (harg4.unread x1) (harg5.unread x2) init ⟨k, hk⟩,
      trip_eq (j := ⟨k, hlt⟩) (hj := rfl), comp_steps, hq]
    exact head_step R _ ⟨k, hlt⟩ h e c' _ _ _ (ih (Nat.le_of_succ_le hk) _ rfl)

end Cert.MlaIdeal.Head

end
-- ==== Proof.Bands.lean ====
/-
  A block of 512 rows by 256 columns written band by band: what is read back at a row is what the row's own band was
  written with.
-/
module

public import Idealize.ShloMosaic.Lib.Pipeline.FrameBody
public import Idealize.ShloMosaic.Lib.Pointwise

@[expose] public section

noncomputable section

namespace Cert.Bands

open Idealize.ShloMosaic

variable {Val : EltTy → Type} [∀ e, Nonempty (Val e)] {t : EltTy}

/-- The block's shape. -/
abbrev Block : Shape := ⟨3, ![1, 512, 256]⟩

/-- The rows from `o` on, as many as `n`. -/
abbrev band (o n : ℕ) (inb : ∀ a, (![0, o, 0] : Fin 3 → ℕ) a + (![1, n, 256] : Fin 3 → ℕ) a ≤ Block.size a) : Rect Block :=
  Rect.unit ![0, o, 0] ![1, n, 256] inb

/-- Under the last band written, its payload is read. -/
theorem band_hit (o n : ℕ) (inb) (w : (band o n inb).shape.Idx → Val t) (L : List (View.Piece Val Block t)) (e : Fin n)
    (c : Fin 256) (hr : o + e.val < 512) :
    View.canon ((⟨band o n inb, w⟩ : View.Piece Val Block t) :: L) (ix3 0 ⟨o + e.val, hr⟩ c) = w (ix3 (0 : Fin 1) e c) := by
  refine (congrArg (View.canon ((⟨band o n inb, w⟩ : View.Piece Val Block t) :: L)) ?_).trans
    (View.canon_cons_emb (band o n inb) w L (ix3 (0 : Fin 1) e c))
  funext a
  apply Fin.ext
  fin_cases a
  · rfl
  · show o + e.val = o + 1 * e.val
    omega
  · show c.val = 0 + 1 * c.val
    omega

/-- Off the last band written, the earlier ones are read. -/
theorem band_miss (o n : ℕ) (inb) (w : (band o n inb).shape.Idx → Val t) (L : List (View.Piece Val Block t)) (r : Fin 512)
    (c : Fin 256) (h : r.val < o ∨ o + n ≤ r.val) :
    View.canon ((⟨band o n inb, w⟩ : View.Piece Val Block t) :: L) (ix3 0 r c) = View.canon L (ix3 0 r c) := by
  refine View.canon_cons_of_not_mem _ _ fun hm => ?_
  have h1 := (Rect.mem_set_unit (inb := inb) |>.mp hm) (1 : Fin 3)
  have a1 : o ≤ r.val := h1.1
  have a2 : r.val < o + n := h1.2
  omega

/-- Eight bands of 64 rows, the last written first. -/
theorem bands8 (i0 : ∀ a, (![0, 0, 0] : Fin 3 → ℕ) a + (![1, 64, 256] : Fin 3 → ℕ) a ≤ Block.size a) (i1 i2 i3 i4 i5 i6 i7)
    (w : Fin 8 → Shape.Idx ⟨3, ![1, 64, 256]⟩ → Val t) (h : Fin 8) (e : Fin 64) (c : Fin 256) :
    View.canon ([⟨band 448 64 i7, w 7⟩, ⟨band 384 64 i6, w 6⟩, ⟨band 320 64 i5, w 5⟩, ⟨band 256 64 i4, w 4⟩,
        ⟨band 192 64 i3, w 3⟩, ⟨band 128 64 i2, w 2⟩, ⟨band 64 64 i1, w 1⟩, ⟨band 0 64 i0, w 0⟩] : List (View.Piece Val Block t))
      (ix3 0 ⟨64 * h.val + e.val, by have := h.isLt; have := e.isLt; omega⟩ c) = w h (ix3 (0 : Fin 1) e c) := by
  have he := e.isLt
  have hh := h.isLt
  obtain ⟨h, hlt⟩ := h
  interval_cases h
  · iterate 7 rw [band_miss _ _ _ _ _ _ _ (by simp only; omega)]
    exact band_hit 0 64 _ _ _ e c (by omega)
  · iterate 6 rw [band_miss _ _ _ _ _ _ _ (by simp only; omega)]
    exact band_hit 64 64 _ _ _ e c (by omega)
  · iterate 5 rw [band_miss _ _ _ _ _ _ _ (by simp only; omega)]
    exact band_hit 128 64 _ _ _ e c (by omega)
  · iterate 4 rw [band_miss _ _ _ _ _ _ _ (by simp only; omega)]
    exact band_hit 192 64 _ _ _ e c (by omega)
  · iterate 3 rw [band_miss _ _ _ _ _ _ _ (by simp only; omega)]
    exact band_hit 256 64 _ _ _ e c (by omega)
  · iterate 2 rw [band_miss _ _ _ _ _ _ _ (by simp only; omega)]
    exact band_hit 320 64 _ _ _ e c (by omega)
  · rw [band_miss _ _ _ _ _ _ _ (by simp only; omega)]
    exact band_hit 384 64 _ _ _ e c (by omega)
  · exact band_hit 448 64 _ _ _ e c (by omega)

/-- The same, where the bands' payloads are given one by one. -/
theorem bands8_of (i0 : ∀ a, (![0, 0, 0] : Fin 3 → ℕ) a + (![1, 64, 256] : Fin 3 → ℕ) a ≤ Block.size a) (i1 i2 i3 i4 i5 i6 i7)
    (w : Fin 8 → Shape.Idx ⟨3, ![1, 64, 256]⟩ → Val t) (w0 w1 w2 w3 w4 w5 w6 w7 : Shape.Idx ⟨3, ![1, 64, 256]⟩ → Val t)
    (e0 : w0 = w 0) (e1 : w1 = w 1) (e2 : w2 = w 2) (e3 : w3 = w 3) (e4 : w4 = w 4) (e5 : w5 = w 5) (e6 : w6 = w 6)
    (e7 : w7 = w 7) (h : Fin 8) (e : Fin 64) (c : Fin 256) :
    View.canon ([⟨band 448 64 i7, w7⟩, ⟨band 384 64 i6, w6⟩, ⟨band 320 64 i5, w5⟩, ⟨band 256 64 i4, w4⟩,
        ⟨band 192 64 i3, w3⟩, ⟨band 128 64 i2, w2⟩, ⟨band 64 64 i1, w1⟩, ⟨band 0 64 i0, w0⟩] : List (View.Piece Val Block t))
      (ix3 0 ⟨64 * h.val + e.val, by have := h.isLt; have := e.isLt; omega⟩ c) = w h (ix3 (0 : Fin 1) e c) := by
  subst e0 e1 e2 e3 e4 e5 e6 e7
  exact bands8 i0 i1 i2 i3 i4 i5 i6 i7 w h e c

/-- Four bands of 128 rows, the last written first. -/
theorem bands4 (i0 : ∀ a, (![0, 0, 0] : Fin 3 → ℕ) a + (![1, 128, 256] : Fin 3 → ℕ) a ≤ Block.size a) (i1 i2 i3)
    (w : Fin 4 → Shape.Idx ⟨3, ![1, 128, 256]⟩ → Val t) (h : Fin 4) (e : Fin 128) (c : Fin 256) :
    View.canon ([⟨band 384 128 i3, w 3⟩, ⟨band 256 128 i2, w 2⟩, ⟨band 128 128 i1, w 1⟩,
        ⟨band 0 128 i0, w 0⟩] : List (View.Piece Val Block t))
      (ix3 0 ⟨128 * h.val + e.val, by have := h.isLt; have := e.isLt; omega⟩ c) = w h (ix3 (0 : Fin 1) e c) := by
  have he := e.isLt
  have hh := h.isLt
  obtain ⟨h, hlt⟩ := h
  interval_cases h
  · iterate 3 rw [band_miss _ _ _ _ _ _ _ (by simp only; omega)]
    exact band_hit 0 128 _ _ _ e c (by omega)
  · iterate 2 rw [band_miss _ _ _ _ _ _ _ (by simp only; omega)]
    exact band_hit 128 128 _ _ _ e c (by omega)
  · rw [band_miss _ _ _ _ _ _ _ (by simp only; omega)]
    exact band_hit 256 128 _ _ _ e c (by omega)
  · exact band_hit 384 128 _ _ _ e c (by omega)

/-- The same, where the bands' payloads are given one by one. -/
theorem bands4_of (i0 : ∀ a, (![0, 0, 0] : Fin 3 → ℕ) a + (![1, 128, 256] : Fin 3 → ℕ) a ≤ Block.size a) (i1 i2 i3)
    (w : Fin 4 → Shape.Idx ⟨3, ![1, 128, 256]⟩ → Val t) (w0 w1 w2 w3 : Shape.Idx ⟨3, ![1, 128, 256]⟩ → Val t)
    (e0 : w0 = w 0) (e1 : w1 = w 1) (e2 : w2 = w 2) (e3 : w3 = w 3) (h : Fin 4) (e : Fin 128) (c : Fin 256) :
    View.canon ([⟨band 384 128 i3, w3⟩, ⟨band 256 128 i2, w2⟩, ⟨band 128 128 i1, w1⟩,
        ⟨band 0 128 i0, w0⟩] : List (View.Piece Val Block t))
      (ix3 0 ⟨128 * h.val + e.val, by have := h.isLt; have := e.isLt; omega⟩ c) = w h (ix3 (0 : Fin 1) e c) := by
  subst e0 e1 e2 e3
  exact bands4 i0 i1 i2 i3 w h e c

end Cert.Bands

end
-- ==== Proof.MlaOut.lean ====
/-
  The attention kernel's output block at an index: the weighted mean of the head's values over the keys the causal mask
  keeps.
-/
module

public import proofs.«01_k».proof.Proof.MlaLoop
public import proofs.«01_k».proof.Proof.Bands

@[expose] public section

set_option maxRecDepth 16384

noncomputable section

namespace Cert.MlaIdeal.Head

open Idealize.ShloMosaic Cert.MlaIdeal Cert.MlaIdeal.Gen Idealize.ShloMosaic.TcCoe Idealize.SL.Sem Cert.FlashMath Cert.Bands

/-- The second loop, which starts where the first ends, makes no trip. -/
theorem trips2_eq (i : grid0.Coords) : (k0_t2_loop i).trips = 0 := by
  have H : ∀ n : Fin 16, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by
    decide
  exact H (i 2)

/-- One head's block of output: the accumulator over the sum. -/
theorem pay179_apply (l : FVec Ideal S1x256 .f32) (a : FVec Ideal S64x256 .f32) (e : Fin 64) (c : Fin 256) :
    k0_pay179 l a (ix3 0 e c) = Ideal.div (a (ix2 e c)) (l (ix2 0 c)) := by
  pointwise [k0_pay179]

/-- The row a tile starts at, as the kernel computes it from its own number. -/
theorem own_row (i : grid0.Coords) : (Scalar.indexCast (Scalar.muli (BitVec.ofNat 32 (i 2).val) (256#32)) : Index).toNat = 256 * (i 2).val := by
  have H : ∀ n : Fin 16, (Scalar.indexCast (Scalar.muli (BitVec.ofNat 32 n.val) (256#32)) : Index).toNat = 256 * n.val := by decide
  exact H (i 2)

/-- The query's own tile number as the kernel computes it. -/
theorem own_num (i : grid0.Coords) : (Scalar.indexCast (BitVec.ofNat 32 (i 2).val) : Index).toNat = (i 2).val := by
  have H : ∀ n : Fin 16, (Scalar.indexCast (BitVec.ofNat 32 n.val) : Index).toNat = n.val := by decide
  exact H (i 2)

/-- The rows of the query's own tile are inside the key buffer. -/
theorem inb_own_k (i : grid0.Coords) (h : Fin 8) (a : Fin 3) :
    (![0, (Scalar.indexCast (Scalar.muli (BitVec.ofNat 32 (i 2).val) (256#32)) : Index).toNat, 128 * h.val] : Fin 3 → Nat) a
      + S1x256x128.size a ≤ S1x4096x1024.size a := by
  rw [own_row]
  have : (i 2).val < 16 := (i 2).isLt
  have := h.isLt
  fin_cases a <;> (simp [S1x256x128, S1x4096x1024]; try omega)

/-- The query's own tile is inside the value buffer. -/
theorem inb_own_v (i : grid0.Coords) (h : Fin 8) (a : Fin 4) :
    (![0, (Scalar.indexCast (BitVec.ofNat 32 (i 2).val) : Index).toNat, 64 * h.val, 0] : Fin 4 → Nat) a
      + S1x1x64x256.size a ≤ S1x16x512x256.size a := by
  rw [own_num]
  have : (i 2).val < 16 := (i 2).isLt
  have := h.isLt
  fin_cases a <;> (simp [S1x1x64x256, S1x16x512x256]; try omega)

/-- A head's queries are inside the block of queries. -/
theorem inb_q (h : Fin 8) (a : Fin 3) :
    (![0, 0, 128 * h.val] : Fin 3 → Nat) a + S1x256x128.size a ≤ S1x256x1024.size a := by
  have := h.isLt
  fin_cases a <;> (simp [S1x256x128, S1x256x1024]; try omega)

/-- The state the loop starts from, where every head's part is that of its own tile. -/
theorem init_inv {x0 : Vec Ideal S1x256x1024 .bf16} {x1 : Vec Ideal S1x4096x1024 .bf16} {x2 : Vec Ideal S1x16x512x256 .bf16}
    {s : Fin 8 → Fin 256 → ℕ → ℝ} {v : Fin 8 → Fin 64 → ℕ → ℝ} (R : Reals x0 x1 x2 s v) (n : Fin 16)
    (m0 l0 m1 l1 m2 l2 m3 l3 m4 l4 m5 l5 m6 l6 m7 l7 : FVec Ideal S1x256 .f32) (a0 a1 a2 a3 a4 a5 a6 a7 : FVec Ideal S64x256 .f32)
    (M0 : m0 = initM (qHead x0 0) (kTile x1 n 0)) (L0 : l0 = initL (qHead x0 0) (kTile x1 n 0)) (A0 : a0 = initA (qHead x0 0) (kTile x1 n 0) (vTile x2 n 0)) (M1 : m1 = initM (qHead x0 1) (kTile x1 n 1)) (L1 : l1 = initL (qHead x0 1) (kTile x1 n 1)) (A1 : a1 = initA (qHead x0 1) (kTile x1 n 1) (vTile x2 n 1)) (M2 : m2 = initM (qHead x0 2) (kTile x1 n 2)) (L2 : l2 = initL (qHead x0 2) (kTile x1 n 2)) (A2 : a2 = initA (qHead x0 2) (kTile x1 n 2) (vTile x2 n 2)) (M3 : m3 = initM (qHead x0 3) (kTile x1 n 3)) (L3 : l3 = initL (qHead x0 3) (kTile x1 n 3)) (A3 : a3 = initA (qHead x0 3) (kTile x1 n 3) (vTile x2 n 3)) (M4 : m4 = initM (qHead x0 4) (kTile x1 n 4)) (L4 : l4 = initL (qHead x0 4) (kTile x1 n 4)) (A4 : a4 = initA (qHead x0 4) (kTile x1 n 4) (vTile x2 n 4)) (M5 : m5 = initM (qHead x0 5) (kTile x1 n 5)) (L5 : l5 = initL (qHead x0 5) (kTile x1 n 5)) (A5 : a5 = initA (qHead x0 5) (kTile x1 n 5) (vTile x2 n 5)) (M6 : m6 = initM (qHead x0 6) (kTile x1 n 6)) (L6 : l6 = initL (qHead x0 6) (kTile x1 n 6)) (A6 : a6 = initA (qHead x0 6) (kTile x1 n 6) (vTile x2 n 6)) (M7 : m7 = initM (qHead x0 7) (kTile x1 n 7)) (L7 : l7 = initL (qHead x0 7) (kTile x1 n 7)) (A7 : a7 = initA (qHead x0 7) (kTile x1 n 7) (vTile x2 n 7))
    (h : Fin 8) (e : Fin 64) (c : Fin 256) :
    Inv (s h c) (v h e) n.val c.val 0 ((comp (m0, l0, a0, m1, l1, a1, m2, l2, a2, m3, l3, a3, m4, l4, a4, m5, l5, a5, m6, l6, a6, m7, l7, a7) h).1 (ix2 0 c))
      ((comp (m0, l0, a0, m1, l1, a1, m2, l2, a2, m3, l3, a3, m4, l4, a4, m5, l5, a5, m6, l6, a6, m7, l7, a7) h).2.1 (ix2 0 c)) ((comp (m0, l0, a0, m1, l1, a1, m2, l2, a2, m3, l3, a3, m4, l4, a4, m5, l5, a5, m6, l6, a6, m7, l7, a7) h).2.2 (ix2 e c)) := by
  have H : comp (m0, l0, a0, m1, l1, a1, m2, l2, a2, m3, l3, a3, m4, l4, a4, m5, l5, a5, m6, l6, a6, m7, l7, a7) h = (initM (qHead x0 h) (kTile x1 n h), initL (qHead x0 h) (kTile x1 n h),
      initA (qHead x0 h) (kTile x1 n h) (vTile x2 n h)) :=
    match h with
    | 0 => show (m0, l0, a0) = _ by rw [M0, L0, A0]
    | 1 => show (m1, l1, a1) = _ by rw [M1, L1, A1]
    | 2 => show (m2, l2, a2) = _ by rw [M2, L2, A2]
    | 3 => show (m3, l3, a3) = _ by rw [M3, L3, A3]
    | 4 => show (m4, l4, a4) = _ by rw [M4, L4, A4]
    | 5 => show (m5, l5, a5) = _ by rw [M5, L5, A5]
    | 6 => show (m6, l6, a6) = _ by rw [M6, L6, A6]
    | 7 => show (m7, l7, a7) = _ by rw [M7, L7, A7]
  rw [H]
  dsimp only
  exact head_init R n h e c

/-- THE OUTPUT BLOCK of a grid point: row `64 h + e`, column `c` is the weighted mean of head `h`'s feature `e` over the keys
    up to the query's position. -/
theorem out_value (c : Dev nD) (i : grid0.Coords) (arg3 : Memref sig .tc .vmem S1x256x1024 .bf16) (harg3 : arg3.IsWhole) (arg4 : Memref sig .tc .vmem S1x4096x1024 .bf16) (harg4 : arg4.IsWhole) (arg5 : Memref sig .tc .vmem S1x16x512x256 .bf16) (harg5 : arg5.IsWhole) (arg6 : Memref sig .tc .vmem S1x512x256 .bf16) (harg6 : arg6.IsWhole)
    (x0 : Vec Ideal S1x256x1024 .bf16) (x1 : Vec Ideal S1x4096x1024 .bf16) (x2 : Vec Ideal S1x16x512x256 .bf16)
    (s : Fin 8 → Fin 256 → ℕ → ℝ) (v : Fin 8 → Fin 64 → ℕ → ℝ) (R : Reals x0 x1 x2 s v) (h : Fin 8) (e : Fin 64) (c' : Fin 256) :
    out0_A_3 c i arg3 harg3 arg4 harg4 arg5 harg5 arg6 harg6 x0 x1 x2
        (ix3 0 ⟨64 * h.val + e.val, by have := h.isLt; have := e.isLt; omega⟩ c')
      = ((mean (s h c') (v h e) (256 * (i 2).val + c'.val + 1) : ℝ) : EReal) := by
  have hQ : qHead x0 = fun h => k0_pay110 (View.ld x0 (Rect.unit _ S1x256x128.size (inb_q h))) :=
    funext fun h => (ld_q x0 h _ _ rfl).symm
  have hK : kTile x1 (i 2) = fun h => View.ld x1 (Rect.unit _ S1x256x128.size (inb_own_k i h)) :=
    funext fun h => (ld_k x1 (i 2) h _ _ (by rw [own_row])).symm
  have hV : vTile x2 (i 2) = fun h => View.ld x2 (Rect.unit _ S1x1x64x256.size (inb_own_v i h)) :=
    funext fun h => (ld_v x2 (i 2) h _ _ (by rw [own_num])).symm
  unfold out0_A_3
  rw [View.read_writes_eq_canon _ _ _ (cover0_A_3 c i _ harg3 _ harg4 _ harg5 _ harg6 x0 x1 x2)]
  unfold kernelRun0_A
  dsimp only
  sl_unfold_words
  generalize hr2 : st_k0_t2 (F := Ideal) _ _ _ _ _ _ _ _ _ _ _ _ _ _ _ _ _ _ _ _ _ _ _ _ _ _ _ _ _ _ _ _ _ _ _ _ _ _ _ _ _ _ _ _ _ _ _ _ _ _ _ = r2
  generalize hr : st_k0_t1 (F := Ideal) _ _ _ _ _ _ _ _ _ _ _ _ _ _ _ _ _ _ _ _ _ _ _ _ _ _ _ _ _ _ _ _ _ _ _ _ _ _ _ _ _ _ _ _ _ _ _ _ _ _ = r at hr2
  have hr2' : st_k0_t2 (F := Ideal) _ _ _ _ _ _ _ _ _ _ _ _ _ _ _ _ _ _ _ _ _ _ _ _ _ _ _ _ _ _ _ _ _ _ _ _ _ _ _ _ _ _ _ _ _ _ _ _ _ _ (k0_t2_loop i).trips = r2 := hr2
  rw [trips2_eq, st_k0_t2_zero] at hr2'
  have e2 : r = r2 := hr2'
  clear hr2 hr2'
  subst e2
  simp only [View.readAt_eq_ld, harg3.read_unread, harg4.read_unread, harg5.read_unread] at hr
  have key : ∀ (h : Fin 8) (e : Fin 64) (c : Fin 256), Inv (s h c) (v h e) (i 2).val c.val (i 2).val
      ((comp r h).1 (ix2 0 c)) ((comp r h).2.1 (ix2 0 c)) ((comp r h).2.2 (ix2 e c)) := by
    intro h e c
    have ht := trips_eq i
    refine st_inv (hr := (by rw [← ht]; exact hr.symm)) (R := R) (hk := ht.ge) (hq := ?_) (h0 := ?_) ..
    · rw [hQ]; funext h; fin_cases h <;> rfl
    · refine init_inv R (i 2) _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_  <;>
        (simp only [hQ, hK, hV]; rfl)
  refine (bands8_of _ _ _ _ _ _ _ _ (fun h => k0_pay179 (comp r h).2.1 (comp r h).2.2) _ _ _ _ _ _ _ _ ?_ ?_ ?_ ?_ ?_ ?_ ?_ ?_ h e c').trans
    ((pay179_apply _ _ _ _).trans (inv_final _ _ _ _ c'.isLt _ _ _ (key h e c')))
  all_goals rfl

end Cert.MlaIdeal.Head

end
-- ==== Proof.MlaHost.lean ====
/-
  The attention kernel's operands as the host hands them over: the queries and keys packed by head in 128 lanes, the
  values turned by tile.
-/
module

public import proofs.«01_k».proof.Proof.MlaOut

@[expose] public section

set_option maxRecDepth 16384

noncomputable section

namespace Cert.MlaIdeal.HostValue

open Idealize.ShloMosaic Cert.MlaIdeal Cert.MlaIdeal.Gen Idealize.ShloMosaic.TcCoe Idealize.SL.Sem Cert.FlashMath

variable (m : (ℓ : Loc nD τ sig) → Buf (Elt Ideal) ℓ)

/-- A head's 128 lanes: 64 of the first part, 32 of the second, then zeros. -/
def lanes (f : Fin 64 → EReal) (g : Fin 32 → EReal) (d : Fin 128) : EReal :=
  if h : d.val < 64 then f ⟨d.val, h⟩ else if h' : d.val - 64 < 32 then g ⟨d.val - 64, h'⟩ else 0

/-- What the queries are divided by. -/
def scale : EReal := Ideal.sqrt (Ideal.ofBits .f32 0x42C00000#32) * Ideal.log (Ideal.ofBits .f32 0x40000000#32)

/-- The heads' lanes as the host joins them: the two parts, then zeros. -/
theorem join_apply (x : FVec Ideal S8x4096x16x64 .f32) (y : FVec Ideal S8x4096x16x32 .f32) (b : Fin 8) (t : Fin 4096)
    (h : Fin 16) (d : Fin 128) :
    concatenate S8x4096x16x128 3 [⟨S8x4096x16x64, x⟩, ⟨S8x4096x16x32, y⟩,
        ⟨S8x4096x16x32, broadcastInDim S8x4096x16x32 ![] bcast_S_S8x4096x16x32 (constant (F := Ideal) S_ .f32 0#32)⟩]
        concatenates_S8x4096x16x64_S8x4096x16x32_S8x4096x16x32_S8x4096x16x128_d3 (ix4 b t h d)
      = lanes (fun k => x (ix4 b t h k)) (fun k => y (ix4 b t h k)) d := by
  pointwise [lanes]

/-- The heads' lanes side by side. -/
theorem join_flat (z : FVec Ideal S8x4096x16x128 .f32) (b : Fin 8) (t : Fin 4096) (h : Fin 16) (d : Fin 128) :
    shapeCast S8x4096x2048 z shapeCasts_S8x4096x16x128_S8x4096x2048 (ix3 b t ⟨128 * h.val + d.val, by omega⟩)
      = z (ix4 b t h d) :=
  shapeCast_apply z shapeCasts_S8x4096x16x128_S8x4096x2048 _ _ (by
    rewrite [Shape.rowMajor_val_four, Shape.rowMajor_val_three]
    show ((b.val * 4096 + t.val) * 16 + h.val) * 128 + d.val = (b.val * 4096 + t.val) * 2048 + (128 * h.val + d.val)
    omega)

/-- The three parts of every head, joined and laid side by side. -/
def flat (x : FVec Ideal S8x4096x16x64 .f32) (y : FVec Ideal S8x4096x16x32 .f32) : FVec Ideal S8x4096x2048 .f32 :=
  shapeCast S8x4096x2048 (concatenate S8x4096x16x128 3 [⟨S8x4096x16x64, x⟩, ⟨S8x4096x16x32, y⟩,
      ⟨S8x4096x16x32, broadcastInDim S8x4096x16x32 ![] bcast_S_S8x4096x16x32 (constant (F := Ideal) S_ .f32 0#32)⟩]
      concatenates_S8x4096x16x64_S8x4096x16x32_S8x4096x16x32_S8x4096x16x128_d3)
    shapeCasts_S8x4096x16x128_S8x4096x2048

/-- A lane of the joined heads. -/
theorem flat_apply (x : FVec Ideal S8x4096x16x64 .f32) (y : FVec Ideal S8x4096x16x32 .f32) (b : Fin 8) (t : Fin 4096)
    (h : Fin 16) (d : Fin 128) :
    flat x y (ix3 b t ⟨128 * h.val + d.val, by omega⟩) = lanes (fun k => x (ix4 b t h k)) (fun k => y (ix4 b t h k)) d := by
  unfold flat
  rw [join_flat, join_apply]

/-- The queries as the host hands them over. -/
def packQ (x : FVec Ideal S8x4096x16x64 .f32) (y : FVec Ideal S8x4096x16x32 .f32) : FVec Ideal S8x4096x2048 .bf16 :=
  truncf .bf16 (Host.divf (flat x y) (broadcastInDim S8x4096x2048 ![] bcast_S_S8x4096x2048
    (mulf (Host.sqrt (constant S_ .f32 0x42C00000#32)) (Host.log (constant S_ .f32 0x40000000#32))))) bitsLt_bf16_f32

/-- A lane of the queries: the head's lane over the scale. -/
theorem packQ_apply (x : FVec Ideal S8x4096x16x64 .f32) (y : FVec Ideal S8x4096x16x32 .f32) (b : Fin 8) (t : Fin 4096)
    (h : Fin 16) (d : Fin 128) :
    packQ x y (ix3 b t ⟨128 * h.val + d.val, by omega⟩)
      = Ideal.div (lanes (fun k => x (ix4 b t h k)) (fun k => y (ix4 b t h k)) d) scale := by
  rw [← flat_apply]
  generalize hi : (ix3 b t ⟨128 * h.val + d.val, _⟩ : S8x4096x2048.Idx) = i
  unfold packQ scale
  generalize flat x y = z
  pointwise

/-- The queries the kernel reads. -/
theorem V_q (c : Dev nD) : V m c main_v8 = packQ (m ((c : Thread nD τ).loc main_arg0)) (m ((c : Thread nD τ).loc main_arg1)) := by
  unfold V
  after_results_simp
  rfl

/-- The rotary keys of every head: the same for all. -/
def spread (y : FVec Ideal S8x4096x32 .f32) : FVec Ideal S8x4096x16x32 .f32 :=
  broadcastInDim S8x4096x16x32 ![0, 1, 2, 3] bcast_S8x4096x1x32_S8x4096x16x32_0_1_2_3
    (broadcastInDim S8x4096x1x32 ![0, 1, 3] bcast_S8x4096x32_S8x4096x1x32_0_1_3 y)

/-- The rotary keys of a head. -/
theorem spread_apply (y : FVec Ideal S8x4096x32 .f32) (b : Fin 8) (t : Fin 4096) (h : Fin 16) (k : Fin 32) :
    spread y (ix4 b t h k) = y (ix3 b t k) := by
  pointwise [spread]

/-- The keys the kernel reads. -/
theorem V_k (c : Dev nD) : V m c main_v14
    = flat (m ((c : Thread nD τ).loc main_arg2)) (spread (m ((c : Thread nD τ).loc main_arg3))) := by
  unfold V
  after_results_simp
  rfl

/-- The values as the host hands them over: tiles of keys, features by keys. -/
def packV (x : FVec Ideal S8x4096x16x64 .f32) : FVec Ideal S8x16x1024x256 .f32 :=
  transpose S8x16x1024x256 [0, 1, 3, 2] (shapeCast S8x16x256x1024 x shapeCasts_S8x4096x16x64_S8x16x256x1024)
      transposes_S8x16x256x1024_S8x16x1024x256_0_1_3_2

/-- A value the kernel reads. -/
theorem packV_apply (x : FVec Ideal S8x4096x16x64 .f32) (b : Fin 8) (j : Fin 16) (h : Fin 16) (e : Fin 64) (r : Fin 256) :
    packV x (ix4 b j ⟨64 * h.val + e.val, by omega⟩ r) = x (ix4 b ⟨256 * j.val + r.val, by omega⟩ h e) := by
  have e1 : shapeCast S8x16x256x1024 x shapeCasts_S8x4096x16x64_S8x16x256x1024 (ix4 b j r ⟨64 * h.val + e.val, by omega⟩)
      = x (ix4 b ⟨256 * j.val + r.val, by omega⟩ h e) :=
    shapeCast_apply x shapeCasts_S8x4096x16x64_S8x16x256x1024 _ _ (by
      rewrite [Shape.rowMajor_val_four, Shape.rowMajor_val_four]
      show ((b.val * 4096 + (256 * j.val + r.val)) * 16 + h.val) * 64 + e.val
        = ((b.val * 16 + j.val) * 256 + r.val) * 1024 + (64 * h.val + e.val)
      omega)
  rw [← e1]
  unfold packV
  generalize shapeCast S8x16x256x1024 x shapeCasts_S8x4096x16x64_S8x16x256x1024 = y
  pointwise

/-- The values the kernel reads. -/
theorem V_v (c : Dev nD) : V m c main_v17 = packV (m ((c : Thread nD τ).loc main_arg4)) := by
  unfold V
  after_results_simp
  rfl

end Cert.MlaIdeal.HostValue

end
-- ==== Proof.MlaArr.lean ====
/-
  The attention kernel's result array: at every query, the mean of the head's values over the earlier keys, weighted by two
  to the scaled score.
-/
module

public import proofs.«01_k».proof.Proof.MlaHost
public import Idealize.ShloMosaic.Lib.Pipeline.ValueKit

@[expose] public section

set_option maxRecDepth 16384

noncomputable section

namespace Cert.MlaIdeal.HostValue

open Idealize.ShloMosaic Cert.MlaIdeal Cert.MlaIdeal.Gen Idealize.ShloMosaic.TcCoe Idealize.SL.Sem Cert.FlashMath Cert.MlaIdeal.Head

/-- Every entry of an array is a real number. -/
def Finite {s : Shape} (x : s.Idx → EReal) : Prop := ∀ i, x i = ((x i).toReal : EReal)

/-- The 96 products of a query with a key, the first 64 and the other 32 summed apart. -/
def dots (x0 : FVec Ideal S8x4096x16x64 .f32) (x1 : FVec Ideal S8x4096x16x32 .f32) (x2 : FVec Ideal S8x4096x16x64 .f32)
    (x3 : FVec Ideal S8x4096x32 .f32) (b : Fin 8) (h : Fin 16) (t : Fin 4096) (k : ℕ) : ℝ :=
  if hk : k < 4096 then
    (∑ d : Fin 64, (x2 (ix4 b ⟨k, hk⟩ h d)).toReal * (x0 (ix4 b t h d)).toReal)
      + ∑ d : Fin 32, (x1 (ix4 b t h d)).toReal * (x3 (ix3 b ⟨k, hk⟩ d)).toReal
  else 0

/-- The scaled score, as a power of two. -/
def score (x0 : FVec Ideal S8x4096x16x64 .f32) (x1 : FVec Ideal S8x4096x16x32 .f32) (x2 : FVec Ideal S8x4096x16x64 .f32)
    (x3 : FVec Ideal S8x4096x32 .f32) (b : Fin 8) (h : Fin 16) (t : Fin 4096) (k : ℕ) : ℝ :=
  dots x0 x1 x2 x3 b h t k / (Real.sqrt 96 * Real.log 2)

/-- A value. -/
def value (x4 : FVec Ideal S8x4096x16x64 .f32) (b : Fin 8) (h : Fin 16) (e : Fin 64) (k : ℕ) : ℝ :=
  if hk : k < 4096 then (x4 (ix4 b ⟨k, hk⟩ h e)).toReal else 0

/-- The result: features by queries. -/
def result (x0 : FVec Ideal S8x4096x16x64 .f32) (x1 : FVec Ideal S8x4096x16x32 .f32) (x2 : FVec Ideal S8x4096x16x64 .f32)
    (x3 : FVec Ideal S8x4096x32 .f32) (x4 : FVec Ideal S8x4096x16x64 .f32) : FVec Ideal S8x1024x4096 .bf16 := fun i =>
  ((mean (score x0 x1 x2 x3 (i 0) ⟨(i 1).val / 64, by have : (i 1).val < 1024 := (i 1).isLt; omega⟩ (i 2))
    (value x4 (i 0) ⟨(i 1).val / 64, by have : (i 1).val < 1024 := (i 1).isLt; omega⟩ ⟨(i 1).val % 64, by omega⟩)
    ((i 2).val + 1) : ℝ) : EReal)

/-- What the queries are divided by: the square root of 96 times the logarithm of 2. -/
theorem scale_eq : scale = ((Real.sqrt 96 * Real.log 2 : ℝ) : EReal) := by
  have h1 : Ideal.ofBits .f32 0x42C00000#32 = ((96 : ℝ) : EReal) := by
    simp [Ideal.ofBits, Ideal.ieee]
    rw [← EReal.coe_mul]
    congr 1
    norm_num
  have h2 : Ideal.ofBits .f32 0x40000000#32 = ((2 : ℝ) : EReal) := by
    simp [Ideal.ofBits, Ideal.ieee]
    rw [← EReal.coe_mul]
    congr 1
    norm_num
  unfold scale
  rw [h1, h2, Ideal.sqrt_coe, Ideal.log_coe, if_neg (by norm_num), if_neg (by norm_num), ← EReal.coe_mul]

/-- The scale is not zero. -/
theorem scale_ne : Real.sqrt 96 * Real.log 2 ≠ 0 :=
  mul_ne_zero (by positivity) (Real.log_pos (by norm_num)).ne'

/-- A sum over a head's lanes: the two parts' sums. -/
theorem lanes_sum (f f' : Fin 64 → ℝ) (g g' : Fin 32 → ℝ) :
    ∑ d : Fin 128, lanes (fun k => (f k : EReal)) (fun k => (g k : EReal)) d
        * Ideal.div (lanes (fun k => (f' k : EReal)) (fun k => (g' k : EReal)) d) scale
      = (((∑ d, f d * f' d + ∑ d, g d * g' d) / (Real.sqrt 96 * Real.log 2) : ℝ) : EReal) := by
  have e : ∀ (f : Fin 64 → ℝ) (g : Fin 32 → ℝ) (d : Fin 128), lanes (fun k => (f k : EReal)) (fun k => (g k : EReal)) d
      = (((if h : d.val < 64 then f ⟨d.val, h⟩ else if h' : d.val - 64 < 32 then g ⟨d.val - 64, h'⟩ else 0 : ℝ)) : EReal) := by
    intro f g d
    unfold lanes
    split_ifs <;> simp
  simp only [e, scale_eq, div_real _ _ scale_ne, ← EReal.coe_mul]
  rw [← coe_sum]
  congr 1
  have cut : ∀ F : Fin 128 → ℝ, ∑ d, F d = ∑ d : Fin 64, F ⟨d.val, by omega⟩
      + (∑ d : Fin 32, F ⟨64 + d.val, by omega⟩ + ∑ d : Fin 32, F ⟨96 + d.val, by omega⟩) := by
    intro F
    refine (Fin.sum_univ_add (a := 64) (b := 64) F).trans ?_
    refine congrArg₂ (· + ·) rfl ((Fin.sum_univ_add (a := 32) (b := 32) fun i => F (Fin.natAdd 64 i)).trans ?_)
    refine congrArg₂ (· + ·) rfl (Finset.sum_congr rfl fun d _ => congrArg F (Fin.ext ?_))
    show 64 + (32 + d.val) = 96 + d.val
    omega
  rw [cut, add_div, Finset.sum_div, Finset.sum_div, ← add_zero (∑ d : Fin 32, g d * g' d / _)]
  refine congrArg₂ (· + ·) (Finset.sum_congr rfl fun d _ => ?_)
    (congrArg₂ (· + ·) (Finset.sum_congr rfl fun d _ => ?_) (Finset.sum_eq_zero fun d _ => ?_))
  · rw [dif_pos d.isLt, dif_pos d.isLt, mul_div_assoc]
  · have h1 : ¬ 64 + d.val < 64 := by omega
    have h2 : 64 + d.val - 64 < 32 := by omega
    have h3 : (⟨64 + d.val - 64, h2⟩ : Fin 32) = d := Fin.ext (by show 64 + d.val - 64 = d.val; omega)
    rw [dif_neg h1, dif_neg h1, dif_pos h2, dif_pos h2, h3, mul_div_assoc]
  · have h1 : ¬ 96 + d.val < 64 := by omega
    have h2 : ¬ 96 + d.val - 64 < 32 := by omega
    rw [dif_neg h1, dif_neg h2, zero_mul]

variable (m : (ℓ : Loc nD τ sig) → Buf (Elt Ideal) ℓ)

/-- The blocks of the queries: batch, query tile, head group. -/
theorem index_q : ∀ t : Fin cfg0.N, win0_0.index t = ![(grid0.coords t 0).val, (grid0.coords t 2).val, (grid0.coords t 1).val] :=
  (by decide +kernel : ∀ t : Fin grid0.N, _)
/-- The blocks of the keys: batch, all keys, head group. -/
theorem index_k : ∀ t : Fin cfg0.N, win0_1.index t = ![(grid0.coords t 0).val, 0, (grid0.coords t 1).val] :=
  (by decide +kernel : ∀ t : Fin grid0.N, _)
/-- The blocks of the values: batch, all tiles, head group. -/
theorem index_v : ∀ t : Fin cfg0.N, win0_2.index t = ![(grid0.coords t 0).val, 0, (grid0.coords t 1).val, 0] :=
  (by decide +kernel : ∀ t : Fin grid0.N, _)
/-- The blocks of the result: batch, head group, query tile. -/
theorem index_o : ∀ t : Fin cfg0.N, win0_3.index t = ![(grid0.coords t 0).val, (grid0.coords t 1).val, (grid0.coords t 2).val] :=
  (by decide +kernel : ∀ t : Fin grid0.N, _)

/-- A point's batch, head group and query tile. -/
theorem coords_lt (t : Fin cfg0.N) : (grid0.coords t 0).val < 8 ∧ (grid0.coords t 1).val < 2 ∧ (grid0.coords t 2).val < 16 :=
  ⟨(grid0.coords t 0).isLt, (grid0.coords t 1).isLt, (grid0.coords t 2).isLt⟩

variable (c : Dev nD)

/-- A block of the queries. -/
theorem iblk_q (t : Fin cfg0.N) (b : Fin 8) (g : Fin 2) (n : Fin 16) (hb : (grid0.coords t 0).val = b.val)
    (hg : (grid0.coords t 1).val = g.val) (hn : (grid0.coords t 2).val = n.val) (z : FVec Ideal S8x4096x2048 .bf16)
    (hz : V m c main_v8 = z) (q : Fin 256) (l : Fin 1024) :
    iblk m c 0 t (ix3 0 q l) = z (ix3 b ⟨256 * n.val + q.val, by omega⟩ ⟨1024 * g.val + l.val, by omega⟩) := by
  unfold iblk
  generalize V m c = W at hz ⊢
  rw [← hz]
  blk_simp [index_q]
  refine congrArg (W main_v8) ?_
  blk_ext [index_q]

/-- The block of the keys at a point: every key of the batch, a head group's lanes. -/
def blkK (t : Fin cfg0.N) : Vec Ideal S1x4096x1024 .bf16 := iblk m c 1 t

/-- A block of the keys. -/
theorem iblk_k (t : Fin cfg0.N) (b : Fin 8) (g : Fin 2) (hb : (grid0.coords t 0).val = b.val)
    (hg : (grid0.coords t 1).val = g.val) (z : FVec Ideal S8x4096x2048 .bf16)
    (hz : V m c main_v14 = z) (x : S1x4096x1024.Idx) (i : S8x4096x2048.Idx) (h0 : (i 0).val = b.val + (x 0).val)
    (h1 : (i 1).val = (x 1).val) (h2 : (i 2).val = 1024 * g.val + (x 2).val) :
    blkK m c t x = z i := by
  have o0 : ((win0_1.blk t).view.emb x 0).val = b.val + (x 0).val := by
    have hx : (x 0).val < 1 := (x 0).isLt
    blk_simp [index_k]
    omega
  have o1 : ((win0_1.blk t).view.emb x 1).val = (x 1).val := by
    blk_simp [index_k]
  have o2 : ((win0_1.blk t).view.emb x 2).val = 1024 * g.val + (x 2).val := by
    blk_simp [index_k]
    omega
  have e : (win0_1.blk t).view.emb x = i := by
    have o : ∀ a : Fin 3, ((win0_1.blk t).view.emb x a).val = (i a).val :=
      Fin.forall_fin_succ.2 ⟨o0.trans h0.symm, Fin.forall_fin_succ.2 ⟨o1.trans h1.symm,
        Fin.forall_fin_succ.2 ⟨o2.trans h2.symm, fun a => a.elim0⟩⟩⟩
    exact funext fun a => Fin.ext (o a)
  unfold blkK iblk
  generalize V m c = W at hz ⊢
  rw [View.read_apply, e, hz]
  exact cast_eq _ _

/-- A block of the values. -/
theorem iblk_v (t : Fin cfg0.N) (b : Fin 8) (g : Fin 2) (hb : (grid0.coords t 0).val = b.val)
    (hg : (grid0.coords t 1).val = g.val) (z : FVec Ideal S8x16x1024x256 .bf16)
    (hz : V m c main_v17 = z) (j : Fin 16) (l : Fin 512) (r : Fin 256) :
    iblk m c 2 t (ix4 0 j l r) = z (ix4 b j ⟨512 * g.val + l.val, by omega⟩ r) := by
  unfold iblk
  generalize V m c = W at hz ⊢
  rw [← hz]
  blk_simp [index_v]
  refine congrArg (W main_v17) ?_
  blk_ext [index_v]

/-- At every point the block's scores and values are the reals that the arguments give. -/
theorem reals (t : Fin cfg0.N) (b : Fin 8) (g : Fin 2) (n : Fin 16) (hb : (grid0.coords t 0).val = b.val)
    (hg : (grid0.coords t 1).val = g.val) (hn : (grid0.coords t 2).val = n.val)
    (x0 : FVec Ideal S8x4096x16x64 .f32) (x1 : FVec Ideal S8x4096x16x32 .f32) (x2 : FVec Ideal S8x4096x16x64 .f32)
    (x3 : FVec Ideal S8x4096x32 .f32) (x4 : FVec Ideal S8x4096x16x64 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3)
    (e4 : m ((c : Thread nD τ).loc main_arg4) = x4)
    (f0 : Finite x0) (f1 : Finite x1) (f2 : Finite x2) (f3 : Finite x3) (f4 : Finite x4) :
    Reals (iblk m c 0 t) (blkK m c t) (iblk m c 2 t)
      (fun h q => score x0 x1 x2 x3 b ⟨8 * g.val + h.val, by omega⟩ ⟨256 * n.val + q.val, by omega⟩)
      (fun h e => value x4 b ⟨8 * g.val + h.val, by omega⟩ e) where
  score h q j r := by
    rw [pay4_apply]
    have ek : ∀ d : Fin 128, kTile (blkK m c t) j h (ix3 0 r d)
        = lanes (fun k => ((x2 (ix4 b ⟨256 * j.val + r.val, by omega⟩ ⟨8 * g.val + h.val, by omega⟩ k)).toReal : EReal))
            (fun k => ((x3 (ix3 b ⟨256 * j.val + r.val, by omega⟩ k)).toReal : EReal)) d := by
      intro d
      have := flat_apply x2 (spread x3) b ⟨256 * j.val + r.val, by omega⟩ ⟨8 * g.val + h.val, by omega⟩ d
      simp only [spread_apply] at this
      simp only [← f2 _, ← f3 _]
      refine Eq.trans ?_ this
      refine iblk_k m c t b g hb hg _ ((V_k m c).trans (by rw [e2, e3])) _ _ ?_ ?_ ?_
      · rfl
      · rfl
      · show 128 * (8 * g.val + h.val) + d.val = 1024 * g.val + (128 * h.val + d.val)
        omega
    have eq : ∀ d : Fin 128, qHead (iblk m c 0 t) h (ix2 q d)
        = Ideal.div (lanes (fun k => ((x0 (ix4 b ⟨256 * n.val + q.val, by omega⟩ ⟨8 * g.val + h.val, by omega⟩ k)).toReal : EReal))
            (fun k => ((x1 (ix4 b ⟨256 * n.val + q.val, by omega⟩ ⟨8 * g.val + h.val, by omega⟩ k)).toReal : EReal)) d) scale := by
      intro d
      have := packQ_apply x0 x1 b ⟨256 * n.val + q.val, by omega⟩ ⟨8 * g.val + h.val, by omega⟩ d
      simp only [← f0 _, ← f1 _]
      refine Eq.trans ?_ this
      refine (iblk_q m c t b g n hb hg hn _ ((V_q m c).trans (by rw [e0, e1])) _ _).trans (congrArg (packQ x0 x1) ?_)
      blk_ext
    simp only [ek, eq]
    rw [lanes_sum]
    have hk : 256 * j.val + r.val < 4096 := by omega
    unfold HostValue.score dots
    rw [dif_pos hk]
    simp only [mul_comm (x1 _).toReal]
  value h e j r := by
    have hk : 256 * j.val + r.val < 4096 := by omega
    unfold HostValue.value
    rw [dif_pos hk, ← f4 _]
    refine Eq.trans ?_ (packV_apply x4 b j ⟨8 * g.val + h.val, by omega⟩ e r)
    refine (iblk_v m c t b g hb hg _ ((V_v m c).trans (by rw [e4])) _ _ _).trans (congrArg (packV x4) ?_)
    blk_ext

/-- THE RESULT ARRAY of the attention kernel. -/
theorem final (x0 : FVec Ideal S8x4096x16x64 .f32) (x1 : FVec Ideal S8x4096x16x32 .f32) (x2 : FVec Ideal S8x4096x16x64 .f32)
    (x3 : FVec Ideal S8x4096x32 .f32) (x4 : FVec Ideal S8x4096x16x64 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3)
    (e4 : m ((c : Thread nD τ).loc main_arg4) = x4)
    (f0 : Finite x0) (f1 : Finite x1) (f2 : Finite x2) (f3 : Finite x3) (f4 : Finite x4) :
    (dats m 0 c).arrAt 3 cfg0.N = result x0 x1 x2 x3 x4 := by
  refine (dats m 0 c).arrAt_eq_of_covers 3 _ (by decide +kernel) fun t hf y => ?_
  blk_simp
  obtain ⟨hb, hg, hn⟩ := coords_lt t
  have R := reals m c t ⟨_, hb⟩ ⟨_, hg⟩ ⟨_, hn⟩ rfl rfl rfl x0 x1 x2 x3 x4 e0 e1 e2 e3 e4 f0 f1 f2 f3 f4
  have hy1 : (y 1).val < 512 := (y 1).isLt
  have hy2 : (y 2).val < 256 := (y 2).isLt
  have key := out_value c (grid0.coords t) (ms0_0 t) (hs0_0 t) (ms0_1 t) (hs0_1 t) (ms0_2 t) (hs0_2 t) (ms0_3 t) (hs0_3 t)
    (iblk m c 0 t) (iblk m c 1 t) (iblk m c 2 t) _ _ R ⟨(y 1).val / 64, by omega⟩ ⟨(y 1).val % 64, by omega⟩ ⟨(y 2).val, hy2⟩
  rw [after0_3]
  unfold outsAt0
  refine Eq.trans (congrArg _ ?_) (key.trans ?_)
  · blk_ext
  unfold result
  have o0 : (win0_3.blk t).view.emb y 0 = (⟨(grid0.coords t 0).val, hb⟩ : Fin 8) := by
    apply Fin.ext; blk_simp [index_o]
  have o1 : ((win0_3.blk t).view.emb y 1).val = (grid0.coords t 1).val * 512 + (y 1).val := by
    blk_simp [index_o]
  have o2 : ((win0_3.blk t).view.emb y 2).val = (grid0.coords t 2).val * 256 + (y 2).val := by
    blk_simp [index_o]
  have H : ∀ (b b' : Fin 8) (h h' : Fin 16) (t t' : Fin 4096) (e e' : Fin 64) (N N' : ℕ), b = b' → h = h' → t = t' → e = e' →
      N = N' → ((mean (score x0 x1 x2 x3 b h t) (value x4 b h e) N : ℝ) : EReal)
        = ((mean (score x0 x1 x2 x3 b' h' t') (value x4 b' h' e') N' : ℝ) : EReal) := by
    rintro _ _ _ _ _ _ _ _ _ _ rfl rfl rfl rfl rfl; rfl
  refine H _ _ _ _ _ _ _ _ _ _ o0.symm (Fin.ext ?_) (Fin.ext ?_) (Fin.ext ?_) ?_
  · show 8 * (grid0.coords t 1).val + (y 1).val / 64 = ((win0_3.blk t).view.emb y 1).val / 64
    rw [o1]; omega
  · show 256 * (grid0.coords t 2).val + (y 2).val = ((win0_3.blk t).view.emb y 2).val
    rw [o2]; omega
  · show (y 1).val % 64 = ((win0_3.blk t).view.emb y 1).val % 64
    rw [o1]; omega
  · show 256 * (grid0.coords t 2).val + (y 2).val + 1 = ((win0_3.blk t).view.emb y 2).val + 1
    rw [o2]; omega

end Cert.MlaIdeal.HostValue

end
-- ==== Proof.MlaRef.lean ====
/-
  The attention's reference, read at an index: the textbook softmax is the weighted mean that the kernel returns.
-/
module

public import proofs.«01_k».proof.Proof.MlaArr
public import proofs.«01_k».proof.Proof.Gen.MlaRefIdeal.Read
public import Idealize.ShloMosaic.Lib.WordCmp

@[expose] public section

set_option maxRecDepth 16384

noncomputable section

namespace Cert.MlaRefIdeal.Math

open Idealize.ShloMosaic Cert.MlaRefIdeal Cert.MlaRefIdeal.Gen Cert.MlaRefIdeal.Read Cert.FlashMath
open Cert.MlaIdeal.HostValue (Finite dots score value result)

/-- Indices of four axes with the same coordinates are the same. -/
theorem ext4 {n : Fin 4 → ℕ} {i j : (⟨4, n⟩ : Shape).Idx} (h0 : (i 0).val = (j 0).val) (h1 : (i 1).val = (j 1).val)
    (h2 : (i 2).val = (j 2).val) (h3 : (i 3).val = (j 3).val) : i = j :=
  funext fun a => Fin.ext (by fin_cases a <;> assumption)

/-- Indices of three axes with the same coordinates are the same. -/
theorem ext3 {n : Fin 3 → ℕ} {i j : (⟨3, n⟩ : Shape).Idx} (h0 : (i 0).val = (j 0).val) (h1 : (i 1).val = (j 1).val)
    (h2 : (i 2).val = (j 2).val) : i = j :=
  funext fun a => Fin.ext (by fin_cases a <;> assumption)

variable (x0 : FVec Ideal S8x4096x16x64 .f32) (x1 : FVec Ideal S8x4096x16x32 .f32) (x2 : FVec Ideal S8x4096x16x64 .f32)
  (x3 : FVec Ideal S8x4096x32 .f32) (x4 : FVec Ideal S8x4096x16x64 .f32)

/-- What the scores are divided by. -/
theorem root (i : S8x4096x16x4096.Idx) : val_main_v13 (F := Ideal) i = ((Real.sqrt 96 : ℝ) : EReal) := by
  have h1 : Ideal.ofBits .f32 0x42C00000#32 = ((96 : ℝ) : EReal) := by
    simp [Ideal.ofBits, Ideal.ieee]
    rw [← EReal.coe_mul]
    congr 1
    norm_num
  rw [val_main_v13_apply, val_main_v12_apply, val_main_cst_apply]
  show Ideal.sqrt (Ideal.ofBits .f32 0x42C00000#32) = _
  rw [h1, Ideal.sqrt_coe, if_neg (by norm_num)]

/-- The word that masks a score is `-∞`. -/
theorem mask_word : Ideal.ofBits .f32 0xFF800000#32 = ⊥ := by
  simp [Ideal.ofBits, Ideal.ieee]

/-- The mask: keys up to the query. -/
theorem mask (b : Fin 8) (t : Fin 4096) (h : Fin 16) (k : Fin 4096) :
    val_main_call0_v1 (F := Ideal) (ix4 b t h k) = BitVec.ofBool (decide (k.val ≤ t.val)) := by
  rw [val_main_call0_v1_apply, val_main_v11_apply, val_main_v10_apply, val_main_v8_apply, val_main_v9_apply,
    val_main_v6_apply, val_main_v7_apply, val_main_v5_apply, val_main_v4_apply]
  have hk : k.val < 2 ^ (32 - 1) := by have := k.isLt; omega
  have ht : t.val < 2 ^ (32 - 1) := by have := t.isLt; omega
  exact WordCmp.cmpi_sle_ofNat hk ht

/-- A query's products with a key. -/
theorem products (f0 : Finite x0) (f1 : Finite x1) (f2 : Finite x2) (f3 : Finite x3)
    (b : Fin 8) (t : Fin 4096) (h : Fin 16) (k : Fin 4096) :
    val_main_v3 (F := Ideal) x0 x1 x2 x3 (ix4 b t h k) = ((dots x0 x1 x2 x3 b h t k.val : ℝ) : EReal) := by
  rw [val_main_v3_apply, val_main_v1_apply, val_main_v0_apply, val_main_v2_apply]
  have a0 : ∀ d : Fin 64, x2 (lidx_main_v0 (idx_main_v1 (ix4 b t h k)) d) * x0 (ridx_main_v0 (idx_main_v1 (ix4 b t h k)) d)
      = (((x2 (ix4 b k h d)).toReal * (x0 (ix4 b t h d)).toReal : ℝ) : EReal) := fun d => by
    rw [EReal.coe_mul, ← f2, ← f0]
    exact congrArg₂ (fun a b => a * b) (congrArg x2 (ext4 rfl rfl rfl rfl)) (congrArg x0 (ext4 rfl rfl rfl rfl))
  have a1 : ∀ d : Fin 32, x1 (lidx_main_v2 (ix4 b t h k) d) * x3 (ridx_main_v2 (ix4 b t h k) d)
      = (((x1 (ix4 b t h d)).toReal * (x3 (ix3 b k d)).toReal : ℝ) : EReal) := fun d => by
    rw [EReal.coe_mul, ← f1, ← f3]
    exact congrArg₂ (fun a b => a * b) (congrArg x1 (ext4 rfl rfl rfl rfl)) (congrArg x3 (ext3 rfl rfl rfl))
  simp only [a0, a1]
  rw [← coe_sum, ← coe_sum]
  unfold dots
  rw [dif_pos k.isLt, EReal.coe_add]
  rfl

/-- A masked score. -/
theorem masked (f0 : Finite x0) (f1 : Finite x1) (f2 : Finite x2) (f3 : Finite x3)
    (b : Fin 8) (t : Fin 4096) (h : Fin 16) (k : Fin 4096) :
    val_main_v15 (F := Ideal) x0 x1 x2 x3 (ix4 b t h k)
      = if k.val < t.val + 1 then ((score x0 x1 x2 x3 b h t k.val * Real.log 2 : ℝ) : EReal) else ⊥ := by
  rw [val_main_v15_apply, val_main_v14_apply, mask, Scalar.select_ofBool, products x0 x1 x2 x3 f0 f1 f2 f3, root,
    val_main_call0_v2_apply, val_main_call0_v0_apply, val_main_cst_0_apply]
  have hl : Real.log 2 ≠ 0 := (Real.log_pos (by norm_num)).ne'
  have hs : Real.sqrt 96 ≠ 0 := by positivity
  have e : score x0 x1 x2 x3 b h t k.val * Real.log 2 = dots x0 x1 x2 x3 b h t k.val / Real.sqrt 96 := by
    unfold score
    field_simp
  by_cases hk : k.val ≤ t.val
  · rw [if_pos (by simpa using hk), if_pos (by omega), e]
    exact div_real _ _ hs
  · rw [if_neg (by simpa using hk), if_neg (by omega)]
    exact mask_word

/-- A maximum along the last axis. -/
theorem max_last (y : FVec Ideal S8x4096x16x4096 .f32) (z : FVec Ideal S_ .f32) (hz : ∀ i, z i = ⊥) (b : Fin 8) (t : Fin 4096)
    (h : Fin 16) :
    Host.reduce (FloatOps.maximumf (F := Ideal) (φ := .f32)) y z reducesTo_S8x4096x16x4096_S8x4096x16_d3 h_S_ (ix3 b t h)
      = (Finset.univ : Finset (Fin 4096)).fold max ⊥ fun k => y (ix4 b t h k) := by
  pointwise
  exact congrArg (fun a => Finset.fold max a (fun k => y (ix4 b t h k)) Finset.univ) (hz _)

/-- The greatest masked score of a query is a real. -/
theorem greatest (f0 : Finite x0) (f1 : Finite x1) (f2 : Finite x2) (f3 : Finite x3)
    (b : Fin 8) (t : Fin 4096) (h : Fin 16) :
    ∃ μ : ℝ, val_main_v18 (F := Ideal) x0 x1 x2 x3 (ix3 b t h) = (μ : EReal) := by
  have hm := masked x0 x1 x2 x3 f0 f1 f2 f3 b t h
  rw [val_main_v18_apply, val_main_v17_apply, val_main_cst_2_apply]
  unfold val_main_v16
  generalize val_main_v15 (F := Ideal) x0 x1 x2 x3 = y at hm ⊢
  have e := max_last y (val_main_cst_1 (F := Ideal)) (fun _ => mask_word) b t h
  obtain ⟨μ, hμ⟩ := fold_max_real (fun k => y (ix4 b t h k)) ⟨0, by omega⟩
    (by rw [hm, if_pos (Nat.succ_pos _)]; exact EReal.coe_ne_bot _)
    (fun k => by rw [hm]; split; exacts [EReal.coe_ne_top _, bot_ne_top])
  refine ⟨μ, ?_⟩
  rw [e, hμ]
  show max (Ideal.ofBits .f32 0xFF800000#32) (μ : EReal) = μ
  rw [mask_word]
  exact max_eq_right bot_le

/-- THE REFERENCE'S RESULT. -/
theorem textbook (f0 : Finite x0) (f1 : Finite x1) (f2 : Finite x2) (f3 : Finite x3) (f4 : Finite x4) :
    val_main_v31 (F := Ideal) x0 x1 x2 x3 x4 = result x0 x1 x2 x3 x4 := by
  funext i
  have h0 : (i 0).val < 8 := (i 0).isLt
  have h1 : (i 1).val < 1024 := (i 1).isLt
  have h2 : (i 2).val < 4096 := (i 2).isLt
  obtain ⟨b, hb⟩ : ∃ b : Fin 8, b.val = (i 0).val := ⟨⟨_, h0⟩, rfl⟩
  obtain ⟨t, ht⟩ : ∃ t : Fin 4096, t.val = (i 2).val := ⟨⟨_, h2⟩, rfl⟩
  obtain ⟨h, hh⟩ : ∃ h : Fin 16, h.val = (i 1).val / 64 := ⟨⟨(i 1).val / 64, by omega⟩, rfl⟩
  obtain ⟨e, he⟩ : ∃ e : Fin 64, e.val = (i 1).val % 64 := ⟨⟨(i 1).val % 64, by omega⟩, rfl⟩
  have hr : result x0 x1 x2 x3 x4 i = ((mean (score x0 x1 x2 x3 b h t) (value x4 b h e) (t.val + 1) : ℝ) : EReal) := by
    unfold result
    rw [show (⟨(i 1).val / 64, by omega⟩ : Fin 16) = h from Fin.ext hh.symm,
      show (⟨(i 1).val % 64, by omega⟩ : Fin 64) = e from Fin.ext he.symm, show (i 0 : Fin 8) = b from Fin.ext hb.symm,
      show (i 2 : Fin 4096) = t from Fin.ext ht.symm]
  rw [hr, val_main_v31_apply, val_main_v30_apply, val_main_v29_apply, val_main_v28_apply, val_main_v27_apply]
  have j : idx_main_v28 (idx_main_v29 (idx_main_v30 i)) = ix4 b h e t := by
    refine ext4 ?_ ?_ ?_ ?_
    · show (((i 0).val * 4096 + (i 2).val) * 1024 + (i 1).val) / 4194304 = b.val
      omega
    · show (((i 0).val * 4096 + (i 2).val) * 1024 + (i 1).val) / 64 % 16 = h.val
      omega
    · show (((i 0).val * 4096 + (i 2).val) * 1024 + (i 1).val) % 64 = e.val
      omega
    · show (((i 0).val * 4096 + (i 2).val) * 1024 + (i 1).val) / 1024 % 4096 = t.val
      omega
  rw [j]
  show ∑ k : Fin 4096, _ = _
  obtain ⟨μ, hμ⟩ := greatest x0 x1 x2 x3 f0 f1 f2 f3 b t h
  have hw : ∀ k : Fin 4096, val_main_v22 (F := Ideal) x0 x1 x2 x3 (ix4 b t h k)
      = Ideal.exp (val_main_v15 (F := Ideal) x0 x1 x2 x3 (ix4 b t h k) - (μ : EReal)) := fun k => by
    rw [val_main_v22_apply, val_main_v21_apply, val_main_v20_apply, val_main_v19_apply, ← hμ]
    exact congrArg (fun z => Ideal.exp (val_main_v15 (F := Ideal) x0 x1 x2 x3 (ix4 b t h k) - val_main_v18 (F := Ideal) x0 x1 x2 x3 z))
      (ext3 rfl rfl rfl)
  have hz : ∀ k : Fin 4096, val_main_v25 (F := Ideal) x0 x1 x2 x3 (ix4 b t h k)
      = ∑ k : Fin 4096, Ideal.exp (val_main_v15 (F := Ideal) x0 x1 x2 x3 (ix4 b t h k) - (μ : EReal)) := fun k => by
    rw [val_main_v25_apply, val_main_v24_apply, val_main_v23_apply, val_main_cst_3_apply]
    show Ideal.ofBits .f32 0x00000000#32 + _ = _
    rw [Ideal.ofBits_zero, zero_add]
    refine Finset.sum_congr rfl fun k' _ => ?_
    rw [show idx_main_v23 (idx_main_v24 (idx_main_v25 (ix4 b t h k))) k' = ix4 b t h k' from ext4 rfl rfl rfl rfl]
    exact hw k'
  refine Eq.trans (Finset.sum_congr rfl fun k _ => ?_) (softmax_mean (score x0 x1 x2 x3 b h t) (value x4 b h e) (t.val + 1) 4096
    (Nat.succ_pos _) t.isLt _ (fun k => x4 (ix4 b k h e)) μ (masked x0 x1 x2 x3 f0 f1 f2 f3 b t h) fun k => ?_)
  · refine congrArg₂ (fun a b => a * b) (congrArg x4 (ext4 rfl rfl rfl rfl)) ?_
    rw [show ridx_main_v27 (ix4 b h e t) k = ix4 b t h k from ext4 rfl rfl rfl rfl, val_main_v26_apply, hw, hz]
    rfl
  · unfold value
    rw [dif_pos k.isLt, ← f4]

end Cert.MlaRefIdeal.Math

end
-- ==== Proof.MlaClaims.lean ====
/-
  The attention's claims: the runs, the mask's reading, and the equality with the textbook attention.
-/
module

public import proofs.«01_k».proof.Defs
public import proofs.«01_k».proof.Proof.MlaRef
public import proofs.«01_k».proof.Proof.Gen.Mla.Frame
public import proofs.«01_k».proof.Proof.Gen.Pre_finite_mla
public import Idealize.ShloMosaic.Lib.ReduceAll
public import Idealize.ShloMosaic.Adequacy

@[expose] public section

set_option maxRecDepth 16384

noncomputable section

namespace Cert.Proof

open Idealize.ShloMosaic Idealize.SL.Sem Cert.MlaIdeal.HostValue

/-- An extended real whose magnitude is below `+∞` is a real. -/
theorem real_of_abs_lt (x : EReal) (h : Ideal.cmp .olt (max x (-x)) (Ideal.ofBits .f32 0x7F800000#32) = 1#1) :
    x = (x.toReal : EReal) := by
  have e : Ideal.ofBits .f32 0x7F800000#32 = ⊤ := by simp [Ideal.ofBits, Ideal.ieee]
  rw [e] at h
  have h' : max x (-x) < ⊤ := by
    by_contra hn
    simp [Ideal.cmp, hn] at h
  refine (EReal.coe_toReal ?_ ?_).symm
  · rintro rfl
    simp at h'
  · rintro rfl
    simp at h'

/-- The precondition says that every entry of the five arguments is a real. -/
theorem finite_of_pre (x0 : FVec Ideal ⟨4, ![8, 4096, 16, 64]⟩ .f32) (x1 : FVec Ideal ⟨4, ![8, 4096, 16, 32]⟩ .f32)
    (x2 : FVec Ideal ⟨4, ![8, 4096, 16, 64]⟩ .f32) (x3 : FVec Ideal ⟨3, ![8, 4096, 32]⟩ .f32)
    (x4 : FVec Ideal ⟨4, ![8, 4096, 16, 64]⟩ .f32) (h : Cert.Pre_finite_mla.fn (F := Ideal) x0 x1 x2 x3 x4 = fun _ => 1#1) :
    Finite x0 ∧ Finite x1 ∧ Finite x2 ∧ Finite x3 ∧ Finite x4 := by
  haveI : Subsingleton Cert.Pre_finite_mla.S_.Idx := ⟨fun a b => funext fun i => i.elim0⟩
  have h' := congrFun h (Shape.Idx.first Cert.Pre_finite_mla.Gen.h_S_)
  unfold Cert.Pre_finite_mla.fn Cert.Pre_finite_mla.fn_part1 at h'
  obtain ⟨h', h4⟩ := IntOp.andi_eq_one.1 h'
  obtain ⟨h', h3⟩ := IntOp.andi_eq_one.1 h'
  obtain ⟨h', h2⟩ := IntOp.andi_eq_one.1 h'
  obtain ⟨h0, h1⟩ := IntOp.andi_eq_one.1 h'
  exact ⟨fun i => real_of_abs_lt _ (Host.reduce_andi_all _ _ _ _ _ h0 i), fun i => real_of_abs_lt _ (Host.reduce_andi_all _ _ _ _ _ h1 i),
    fun i => real_of_abs_lt _ (Host.reduce_andi_all _ _ _ _ _ h2 i), fun i => real_of_abs_lt _ (Host.reduce_andi_all _ _ _ _ _ h3 i),
    fun i => real_of_abs_lt _ (Host.reduce_andi_all _ _ _ _ _ h4 i)⟩

/-- The attention kernel runs and leaves its arguments. -/
theorem frame_mla : Cert.quiescent_Mla := fun m ρ _ => Cert.Mla.Gen.frame m ρ

/-- Its idealization runs and leaves its arguments. -/
theorem frame_mlaIdeal : Cert.quiescent_MlaIdeal := fun m ρ _ => Cert.MlaIdeal.Gen.frame m ρ

/-- The same under the precondition. -/
theorem frame_mlaIdeal_pre : Cert.quiescent_MlaIdeal_pre_finite_mla := fun m ρ _ => Cert.MlaIdeal.Gen.frame m ρ

/-- The attention's reference runs and leaves its arguments. -/
theorem frame_mlaRef : Cert.quiescent_MlaRefIdeal := fun m ρ _ =>
  (θ_run Cert.MlaRefIdeal.defs _ _).mono
    (fun r h => ⟨fun c => (h c).2, sem_eq_zero_of_no_sems (by decide) r.2⟩) (Cert.MlaRefIdeal.Value.run (F := Ideal) m ρ)

/-- The same under the precondition. -/
theorem frame_mlaRef_pre : Cert.quiescent_MlaRefIdeal_pre_finite_mla := fun m ρ _ => frame_mlaRef m ρ trivial

/-- The mask's word may be read as `-∞`. -/
theorem preserves_mla : Cert.preserves_Mla_MlaIdeal :=
  IdealRules.named_const.statement Cert.MlaIdeal.κ "mask" .f32 0xF1800000#32 ⊥ rfl

/-- THE ATTENTION KERNEL IS THE TEXTBOOK ATTENTION, on finite arguments. -/
theorem algebraic_mla : Cert.algebraic_MlaIdeal_MlaRefIdeal_pre_finite_mla := by
  intro m ρ m' ρ' hpre hagree
  refine ⟨_, Cert.MlaIdeal.Value.run_blocks (F := Ideal) m ρ, ?_⟩
  refine (θ_run Cert.MlaRefIdeal.defs _ _).mono (fun _ h c => ⟨(h c).1.trans ?_, (h c).2⟩)
    (Cert.MlaRefIdeal.Value.run (F := Ideal) m' ρ')
  obtain ⟨a0, a1, a2, a3, a4⟩ := hagree c
  obtain ⟨f0, f1, f2, f3, f4⟩ := finite_of_pre _ _ _ _ _ (hpre c)
  rw [Cert.MlaRefIdeal.Read.val_main_v31_eq, a0, a1, a2, a3, a4]
  exact (Cert.MlaRefIdeal.Math.textbook _ _ _ _ _ f0 f1 f2 f3 f4).trans
    (final m c _ _ _ _ _ rfl rfl rfl rfl rfl f0 f1 f2 f3 f4).symm

end Cert.Proof

end
-- ==== Proof.FfnMath.lean ====
/-
  The half-step on one row, as plain mathematics: the modulated root-mean-square norm, the gated hidden features, and half
  of the gate times their projection, added to the row.
-/
module

public import Idealize.ShloMosaic.Lib.Pipeline.FrameBody
public import Idealize.ShloMosaic.Lib.Pointwise

@[expose] public section

noncomputable section

namespace Cert.FfnMath

open Idealize.ShloMosaic

/-- The row normed, gained, scaled and shifted. -/
def hid (x sh sc g : Fin 1024 → EReal) (d : Fin 1024) : EReal :=
  x d * Ideal.rsqrt (Ideal.div (∑ k, x k * x k) (Ideal.ofBits .f32 0x44800000#32) + Ideal.ofBits .f32 0x358637BD#32) * g d
    * (Ideal.ofBits .f32 0x3F800000#32 + sc d) + sh d

/-- One hidden feature: `a · σ(a) · u`, where `a` and `u` are the row's products with two columns. -/
def act (h a u : Fin 1024 → EReal) : EReal :=
  (∑ k, h k * a k) * Ideal.div (Ideal.ofBits .f32 0x3F800000#32)
      (Ideal.ofBits .f32 0x3F800000#32 + Ideal.exp (0 - ∑ k, h k * a k))
    * ∑ k, h k * u k

/-- The row after the half-step. -/
def step (x sh sc gt g : Fin 1024 → EReal) (a u : Fin 2816 → Fin 1024 → EReal) (w : Fin 2816 → Fin 1024 → EReal)
    (d : Fin 1024) : EReal :=
  x d + Ideal.ofBits .f32 0x3F000000#32 * gt d * ∑ f, act (hid x sh sc g) (a f) (u f) * w f d

end Cert.FfnMath

end
-- ==== Proof.FfnBody.lean ====
/-
  The half-step kernel's output block at an index: the row after the half-step.
-/
module

public import proofs.«01_k».proof.Proof.Gen.FfnIdeal.Value
public import proofs.«01_k».proof.Proof.FfnMath

@[expose] public section

set_option maxRecDepth 16384

noncomputable section

namespace Cert.FfnIdeal.Body

open Idealize.ShloMosaic Cert.FfnIdeal Cert.FfnIdeal.Gen Idealize.ShloMosaic.TcCoe Idealize.SL.Sem Cert.FfnMath

/-! ## The named values at an index -/

/-- The normed row. -/
theorem pay5_apply (x : Vec Ideal S1x512x1024 .f32) (sh sc : Vec Ideal S1x1x1024 .f32) (g : Vec Ideal S1x1024 .f32)
    (r : Fin 512) (d : Fin 1024) :
    k0_pay5 x sh sc g (ix2 r d)
      = hid (fun k => x (ix3 0 r k)) (fun k => sh (ix3 0 0 k)) (fun k => sc (ix3 0 0 k)) (fun k => g (ix2 0 k)) d := by
  pointwise [k0_pay5, k0_pay3, hid]

/-- A band of hidden features. -/
theorem pay1_apply (h : FVec Ideal S512x1024 .bf16) (a u : Vec Ideal S1024x256 .bf16) (r : Fin 512) (e : Fin 256) :
    k0_pay1 h a u (ix2 r e) = act (fun k => h (ix2 r k)) (fun k => a (ix2 k e)) (fun k => u (ix2 k e)) := by
  pointwise [k0_pay1, act]

/-- The block of output. -/
theorem pay2_apply (x : FVec Ideal S512x1024 .f32) (gt : FVec Ideal S1x1024 .f32) (v : Vec Ideal S512x2816 .bf16)
    (w : Vec Ideal S2816x1024 .bf16) (r : Fin 512) (d : Fin 1024) :
    k0_pay2 x gt v w (ix3 0 r d)
      = x (ix2 r d) + Ideal.ofBits .f32 0x3F000000#32 * gt (ix2 0 d) * ∑ f : Fin 2816, v (ix2 r f) * w (ix2 f d) := by
  pointwise [k0_pay2]

/-- The block's rows. -/
theorem pay3_apply (x : Vec Ideal S1x512x1024 .f32) (r : Fin 512) (d : Fin 1024) :
    k0_pay3 x (ix2 r d) = x (ix3 0 r d) := by
  pointwise [k0_pay3]

/-- The gate's row. -/
theorem pay4_apply (x : Vec Ideal S1x1x1024 .f32) (d : Fin 1024) : k0_pay4 x (ix2 0 d) = x (ix3 0 0 d) := by
  pointwise [k0_pay4]

/-! ## What is read of the blocks -/

/-- A row of the modulation. -/
theorem ld_row (x : Vec Ideal S1x9x1024 .f32) (n : Fin 9) (off : Fin 3 → Nat)
    (inb : ∀ a, off a + S1x1x1024.size a ≤ S1x9x1024.size a) (e : off = ![0, n.val, 0]) (d : Fin 1024) :
    View.ld x (Rect.unit off S1x1x1024.size inb) (ix3 0 0 d) = x (ix3 0 n d) := by
  subst e
  pointwise []

/-- A band of columns of the weights. -/
theorem ld_cols (x : Vec Ideal S1024x5632 .bf16) (o : ℕ) (inb : ∀ a, (![0, o] : Fin 2 → Nat) a + S1024x256.size a ≤ S1024x5632.size a)
    (k : Fin 1024) (e : Fin 256) (h : o + e.val < 5632) :
    View.ld x (Rect.unit ![0, o] S1024x256.size inb) (ix2 k e) = x (ix2 k ⟨o + e.val, h⟩) := by
  pointwise []

/-! ## The hidden features, written band by band -/

/-- The columns from `o` on, 256 of them. -/
abbrev band (o : ℕ) (inb : ∀ a, (![0, o] : Fin 2 → ℕ) a + S512x256.size a ≤ S512x2816.size a) : Rect S512x2816 :=
  Rect.unit ![0, o] S512x256.size inb

/-- What is read at a column, where the last band written, and the ones before it, hold what they should. -/
theorem band_step (A : Fin 512 → Fin 2816 → Elt Ideal .bf16) (r : Fin 512) (f : Fin 2816) (o : ℕ) (inb) (ho : o + 256 ≤ 2816)
    (w : (band o inb).shape.Idx → Elt Ideal .bf16) (L : List (View.Piece (Elt Ideal) S512x2816 .bf16))
    (hf : f.val < o + 256) (hw : ∀ (e : Fin 256) (h : o + e.val < 2816), w (ix2 r e) = A r ⟨o + e.val, h⟩)
    (hL : f.val < o → View.canon L (ix2 r f) = A r f) :
    View.canon ((⟨band o inb, w⟩ : View.Piece (Elt Ideal) S512x2816 .bf16) :: L) (ix2 r f) = A r f := by
  by_cases h : f.val < o
  · refine Eq.trans (View.canon_cons_of_not_mem _ _ fun hm => ?_) (hL h)
    have h1 := (Rect.mem_set_unit (inb := inb) |>.mp hm) (1 : Fin 2)
    have a1 : o ≤ f.val := h1.1
    omega
  · have e0 : o + (f.val - o) = f.val := by omega
    have hw' := hw ⟨f.val - o, by omega⟩ (by show o + (f.val - o) < 2816; omega)
    have ef : (⟨o + (f.val - o), by omega⟩ : Fin 2816) = f := Fin.ext e0
    refine Eq.trans ?_ (hw'.trans (congrArg (A r) ef))
    refine (congrArg (View.canon ((⟨band o inb, w⟩ : View.Piece (Elt Ideal) S512x2816 .bf16) :: L)) ?_).trans
      (View.canon_cons_emb (band o inb) w L (ix2 r (⟨f.val - o, by omega⟩ : Fin 256)))
    funext a
    apply Fin.ext
    fin_cases a
    · show r.val = 0 + 1 * r.val
      omega
    · show f.val = o + 1 * (f.val - o)
      omega

/-- One band's payload: the hidden features of its columns. -/
theorem band_pay (h : FVec Ideal S512x1024 .bf16) (x3 : Vec Ideal S1024x5632 .bf16) (o o' : ℕ) (e' : o' = 2816 + o) (inb inb')
    (r : Fin 512) (e : Fin 256) (he : o + e.val < 2816) :
    k0_pay1 h (View.ld x3 (Rect.unit ![0, o] S1024x256.size inb)) (View.ld x3 (Rect.unit ![0, o'] S1024x256.size inb')) (ix2 r e)
      = act (fun k => h (ix2 r k)) (fun k => x3 (ix2 k ⟨o + e.val, by omega⟩)) (fun k => x3 (ix2 k ⟨2816 + (o + e.val), by omega⟩)) := by
  subst e'
  rw [pay1_apply]
  refine congrArg₂ (act _) (funext fun k => ld_cols x3 o inb k e _) (funext fun k => ?_)
  exact (ld_cols x3 (2816 + o) inb' k e (by omega)).trans (congrArg (fun j => x3 (ix2 k j)) (Fin.ext (Nat.add_assoc _ _ _)))

/-- All eleven bands of the hidden features, the last written first. -/
theorem hidden (h : FVec Ideal S512x1024 .bf16) (x3 : Vec Ideal S1024x5632 .bf16) (r : Fin 512) (f : Fin 2816)
    (i0 : ∀ a, (![0, 0] : Fin 2 → Nat) a + S512x256.size a ≤ S512x2816.size a) (g0 : ∀ a, (![0, 0] : Fin 2 → Nat) a + S1024x256.size a ≤ S1024x5632.size a)
    (u0 : ∀ a, (![0, 2816] : Fin 2 → Nat) a + S1024x256.size a ≤ S1024x5632.size a)
    (i1 : ∀ a, (![0, 256] : Fin 2 → Nat) a + S512x256.size a ≤ S512x2816.size a) (g1 : ∀ a, (![0, 256] : Fin 2 → Nat) a + S1024x256.size a ≤ S1024x5632.size a)
    (u1 : ∀ a, (![0, 3072] : Fin 2 → Nat) a + S1024x256.size a ≤ S1024x5632.size a)
    (i2 : ∀ a, (![0, 512] : Fin 2 → Nat) a + S512x256.size a ≤ S512x2816.size a) (g2 : ∀ a, (![0, 512] : Fin 2 → Nat) a + S1024x256.size a ≤ S1024x5632.size a)
    (u2 : ∀ a, (![0, 3328] : Fin 2 → Nat) a + S1024x256.size a ≤ S1024x5632.size a)
    (i3 : ∀ a, (![0, 768] : Fin 2 → Nat) a + S512x256.size a ≤ S512x2816.size a) (g3 : ∀ a, (![0, 768] : Fin 2 → Nat) a + S1024x256.size a ≤ S1024x5632.size a)
    (u3 : ∀ a, (![0, 3584] : Fin 2 → Nat) a + S1024x256.size a ≤ S1024x5632.size a)
    (i4 : ∀ a, (![0, 1024] : Fin 2 → Nat) a + S512x256.size a ≤ S512x2816.size a) (g4 : ∀ a, (![0, 1024] : Fin 2 → Nat) a + S1024x256.size a ≤ S1024x5632.size a)
    (u4 : ∀ a, (![0, 3840] : Fin 2 → Nat) a + S1024x256.size a ≤ S1024x5632.size a)
    (i5 : ∀ a, (![0, 1280] : Fin 2 → Nat) a + S512x256.size a ≤ S512x2816.size a) (g5 : ∀ a, (![0, 1280] : Fin 2 → Nat) a + S1024x256.size a ≤ S1024x5632.size a)
    (u5 : ∀ a, (![0, 4096] : Fin 2 → Nat) a + S1024x256.size a ≤ S1024x5632.size a)
    (i6 : ∀ a, (![0, 1536] : Fin 2 → Nat) a + S512x256.size a ≤ S512x2816.size a) (g6 : ∀ a, (![0, 1536] : Fin 2 → Nat) a + S1024x256.size a ≤ S1024x5632.size a)
    (u6 : ∀ a, (![0, 4352] : Fin 2 → Nat) a + S1024x256.size a ≤ S1024x5632.size a)
    (i7 : ∀ a, (![0, 1792] : Fin 2 → Nat) a + S512x256.size a ≤ S512x2816.size a) (g7 : ∀ a, (![0, 1792] : Fin 2 → Nat) a + S1024x256.size a ≤ S1024x5632.size a)
    (u7 : ∀ a, (![0, 4608] : Fin 2 → Nat) a + S1024x256.size a ≤ S1024x5632.size a)
    (i8 : ∀ a, (![0, 2048] : Fin 2 → Nat) a + S512x256.size a ≤ S512x2816.size a) (g8 : ∀ a, (![0, 2048] : Fin 2 → Nat) a + S1024x256.size a ≤ S1024x5632.size a)
    (u8 : ∀ a, (![0, 4864] : Fin 2 → Nat) a + S1024x256.size a ≤ S1024x5632.size a)
    (i9 : ∀ a, (![0, 2304] : Fin 2 → Nat) a + S512x256.size a ≤ S512x2816.size a) (g9 : ∀ a, (![0, 2304] : Fin 2 → Nat) a + S1024x256.size a ≤ S1024x5632.size a)
    (u9 : ∀ a, (![0, 5120] : Fin 2 → Nat) a + S1024x256.size a ≤ S1024x5632.size a)
    (i10 : ∀ a, (![0, 2560] : Fin 2 → Nat) a + S512x256.size a ≤ S512x2816.size a) (g10 : ∀ a, (![0, 2560] : Fin 2 → Nat) a + S1024x256.size a ≤ S1024x5632.size a)
    (u10 : ∀ a, (![0, 5376] : Fin 2 → Nat) a + S1024x256.size a ≤ S1024x5632.size a) :
    View.canon ([
        ⟨band 2560 i10, k0_pay1 h (View.ld x3 (Rect.unit ![0, 2560] S1024x256.size g10)) (View.ld x3 (Rect.unit ![0, 5376] S1024x256.size u10))⟩,
        ⟨band 2304 i9, k0_pay1 h (View.ld x3 (Rect.unit ![0, 2304] S1024x256.size g9)) (View.ld x3 (Rect.unit ![0, 5120] S1024x256.size u9))⟩,
        ⟨band 2048 i8, k0_pay1 h (View.ld x3 (Rect.unit ![0, 2048] S1024x256.size g8)) (View.ld x3 (Rect.unit ![0, 4864] S1024x256.size u8))⟩,
        ⟨band 1792 i7, k0_pay1 h (View.ld x3 (Rect.unit ![0, 1792] S1024x256.size g7)) (View.ld x3 (Rect.unit ![0, 4608] S1024x256.size u7))⟩,
        ⟨band 1536 i6, k0_pay1 h (View.ld x3 (Rect.unit ![0, 1536] S1024x256.size g6)) (View.ld x3 (Rect.unit ![0, 4352] S1024x256.size u6))⟩,
        ⟨band 1280 i5, k0_pay1 h (View.ld x3 (Rect.unit ![0, 1280] S1024x256.size g5)) (View.ld x3 (Rect.unit ![0, 4096] S1024x256.size u5))⟩,
        ⟨band 1024 i4, k0_pay1 h (View.ld x3 (Rect.unit ![0, 1024] S1024x256.size g4)) (View.ld x3 (Rect.unit ![0, 3840] S1024x256.size u4))⟩,
        ⟨band 768 i3, k0_pay1 h (View.ld x3 (Rect.unit ![0, 768] S1024x256.size g3)) (View.ld x3 (Rect.unit ![0, 3584] S1024x256.size u3))⟩,
        ⟨band 512 i2, k0_pay1 h (View.ld x3 (Rect.unit ![0, 512] S1024x256.size g2)) (View.ld x3 (Rect.unit ![0, 3328] S1024x256.size u2))⟩,
        ⟨band 256 i1, k0_pay1 h (View.ld x3 (Rect.unit ![0, 256] S1024x256.size g1)) (View.ld x3 (Rect.unit ![0, 3072] S1024x256.size u1))⟩,
        ⟨band 0 i0, k0_pay1 h (View.ld x3 (Rect.unit ![0, 0] S1024x256.size g0)) (View.ld x3 (Rect.unit ![0, 2816] S1024x256.size u0))⟩] :
        List (View.Piece (Elt Ideal) S512x2816 .bf16)) (ix2 r f)
      = act (fun k => h (ix2 r k)) (fun k => x3 (ix2 k ⟨f.val, by omega⟩)) (fun k => x3 (ix2 k ⟨2816 + f.val, by omega⟩)) := by
  let A : Fin 512 → Fin 2816 → Elt Ideal .bf16 := fun r f =>
    act (fun k => h (ix2 r k)) (fun k => x3 (ix2 k ⟨f.val, by omega⟩)) (fun k => x3 (ix2 k ⟨2816 + f.val, by omega⟩))
  show _ = A r f
  refine band_step A r f 2560 _ (by omega) _ _ f.isLt (fun e he => (band_pay h x3 2560 5376 rfl _ _ r e he)) fun hf0 => ?_
  refine band_step A r f 2304 _ (by omega) _ _ hf0 (fun e he => (band_pay h x3 2304 5120 rfl _ _ r e he)) fun hf1 => ?_
  refine band_step A r f 2048 _ (by omega) _ _ hf1 (fun e he => (band_pay h x3 2048 4864 rfl _ _ r e he)) fun hf2 => ?_
  refine band_step A r f 1792 _ (by omega) _ _ hf2 (fun e he => (band_pay h x3 1792 4608 rfl _ _ r e he)) fun hf3 => ?_
  refine band_step A r f 1536 _ (by omega) _ _ hf3 (fun e he => (band_pay h x3 1536 4352 rfl _ _ r e he)) fun hf4 => ?_
  refine band_step A r f 1280 _ (by omega) _ _ hf4 (fun e he => (band_pay h x3 1280 4096 rfl _ _ r e he)) fun hf5 => ?_
  refine band_step A r f 1024 _ (by omega) _ _ hf5 (fun e he => (band_pay h x3 1024 3840 rfl _ _ r e he)) fun hf6 => ?_
  refine band_step A r f 768 _ (by omega) _ _ hf6 (fun e he => (band_pay h x3 768 3584 rfl _ _ r e he)) fun hf7 => ?_
  refine band_step A r f 512 _ (by omega) _ _ hf7 (fun e he => (band_pay h x3 512 3328 rfl _ _ r e he)) fun hf8 => ?_
  refine band_step A r f 256 _ (by omega) _ _ hf8 (fun e he => (band_pay h x3 256 3072 rfl _ _ r e he)) fun hf9 => ?_
  refine band_step A r f 0 _ (by omega) _ _ hf9 (fun e he => (band_pay h x3 0 2816 rfl _ _ r e he)) fun hf10 => ?_
  omega

/-- The body's result at an index: the row after the half-step. -/
theorem out_value (c : Dev nD) (i : grid0.Coords) (arg2 : Memref sig .tc .vmem S1x512x1024 .f32) (harg2 : arg2.IsWhole)
    (arg3 : Memref sig .tc .vmem S1x9x1024 .f32) (harg3 : arg3.IsWhole) (arg4 : Memref sig .tc .vmem S1x1024 .f32) (harg4 : arg4.IsWhole)
    (arg5 : Memref sig .tc .vmem S1024x5632 .bf16) (harg5 : arg5.IsWhole) (arg6 : Memref sig .tc .vmem S2816x1024 .bf16)
    (harg6 : arg6.IsWhole) (arg7 : Memref sig .tc .vmem S1x512x1024 .f32) (harg7 : arg7.IsWhole)
    (arg8 : Memref sig .tc .vmem S512x2816 .bf16) (harg8 : arg8.IsWhole)
    (x0 : Vec Ideal S1x512x1024 .f32) (x1 : Vec Ideal S1x9x1024 .f32) (x2 : Vec Ideal S1x1024 .f32)
    (x3 : Vec Ideal S1024x5632 .bf16) (x4 : Vec Ideal S2816x1024 .bf16) (r : Fin 512) (d : Fin 1024) :
    out0_A_5 c i arg2 harg2 arg3 harg3 arg4 harg4 arg5 harg5 arg6 harg6 arg7 harg7 arg8 harg8 x0 x1 x2 x3 x4 (ix3 0 r d)
      = step (fun k => x0 (ix3 0 r k)) (fun k => x1 (ix3 0 6 k)) (fun k => x1 (ix3 0 7 k)) (fun k => x1 (ix3 0 8 k))
          (fun k => x2 (ix2 0 k)) (fun f k => x3 (ix2 k ⟨f.val, by omega⟩)) (fun f k => x3 (ix2 k ⟨2816 + f.val, by omega⟩))
          (fun f k => x4 (ix2 f k)) d := by
  have z2 : (![0, 0] : Fin 2 → Nat) = fun _ => 0 := by decide
  have z3 : (![0, 0, 0] : Fin 3 → Nat) = fun _ => 0 := by decide
  unfold out0_A_5
  rw [View.read_writes_eq_canon _ _ _ (cover0_A_5 c i _ harg2 _ harg3 _ harg4 _ harg5 _ harg6 _ harg7 _ harg8 x0 x1 x2 x3 x4)]
  unfold kernelRun0_A
  dsimp only
  sl_unfold_words
  simp only [View.readAt_eq_ld, harg2.read_unread, harg3.read_unread, harg4.read_unread, harg5.read_unread, harg6.read_unread]
  refine (congrFun (View.canon_unit_zero z3 _ _) (ix3 0 r d)).trans ?_
  refine (pay2_apply _ _ _ _ r d).trans ?_
  have e0 := fun k => ld_row x1 6 _ inb_S1x9x1024_S1x1x1024_0_6_0 rfl k
  have e1 := fun k => ld_row x1 7 _ inb_S1x9x1024_S1x1x1024_0_7_0 rfl k
  have e2 := ld_row x1 8 _ inb_S1x9x1024_S1x1x1024_0_8_0 rfl d
  have w0 := View.ld_unit_zero z3 inb_S1x512x1024_S1x512x1024_0_0_0 x0
  have w2 := View.ld_unit_zero z2 inb_S1x1024_S1x1024_0_0 x2
  have w4 := View.ld_unit_zero z2 inb_S2816x1024_S2816x1024_0_0 x4
  unfold step
  refine congrArg₂ (fun a b : EReal => a + b) ((pay3_apply _ r d).trans (congrFun w0 (ix3 0 r d)))
    (congrArg₂ (fun a b : EReal => a * b) (congrArg (fun a : EReal => Ideal.ofBits .f32 0x3F000000#32 * a) ((pay4_apply _ d).trans e2))
      (Finset.sum_congr rfl fun f _ => congrArg₂ (fun a b : EReal => a * b) ?_ (congrFun w4 (ix2 f d))))
  have eh : (fun k => k0_pay5 (View.ld x0 (Rect.unit ![0, 0, 0] S1x512x1024.size inb_S1x512x1024_S1x512x1024_0_0_0))
      (View.ld x1 (Rect.unit ![0, 6, 0] S1x1x1024.size inb_S1x9x1024_S1x1x1024_0_6_0))
      (View.ld x1 (Rect.unit ![0, 7, 0] S1x1x1024.size inb_S1x9x1024_S1x1x1024_0_7_0))
      (View.ld x2 (Rect.unit ![0, 0] S1x1024.size inb_S1x1024_S1x1024_0_0)) (ix2 r k))
        = hid (fun k => x0 (ix3 0 r k)) (fun k => x1 (ix3 0 6 k)) (fun k => x1 (ix3 0 7 k)) (fun k => x2 (ix2 0 k)) := by
    funext k
    rw [w0, w2, pay5_apply]
    simp only [e0, e1]
  rw [← eh]
  refine (congrFun (View.readCov_eq_canon' (Val := Elt Ideal) arg8.view _
    (Rect.unit ![0, 0] S512x2816.size inb_S512x2816_S512x2816_0_0).toLoadRect) (ix2 r f)).trans ?_
  have eix : (Rect.unit ![0, 0] S512x2816.size inb_S512x2816_S512x2816_0_0).toLoadRect.idx (ix2 r f) = ix2 r f := by
    funext a
    apply Fin.ext
    fin_cases a
    · show 0 + 1 * r.val = r.val
      omega
    · show 0 + 1 * f.val = f.val
      omega
  refine (congrArg (View.canon _) eix).trans ?_
  exact hidden _ x3 r f _ _ _ _ _ _ _ _ _ _ _ _ _ _ _ _ _ _ _ _ _ _ _ _ _ _ _ _ _ _ _ _ _

end Cert.FfnIdeal.Body

end
-- ==== Proof.FfnRef.lean ====
/-
  The half-step's reference, read at an index: the row after the half-step.
-/
module

public import proofs.«01_k».proof.Proof.FfnMath
public import proofs.«01_k».proof.Proof.Gen.FfnRefIdeal.Read

@[expose] public section

set_option maxRecDepth 16384

noncomputable section

namespace Cert.FfnRefIdeal.Math

open Idealize.ShloMosaic Cert.FfnRefIdeal Cert.FfnRefIdeal.Gen Cert.FfnRefIdeal.Read Cert.FfnMath

/-- The result: every row after its half-step. -/
def result (x0 : FVec Ideal S8x4096x1024 .f32) (x1 : FVec Ideal S8x9216 .f32) (x2 : FVec Ideal S1024 .f32)
    (x3 : FVec Ideal S1024x5632 .f32) (x4 : FVec Ideal S2816x1024 .f32) (b : Fin 8) (t : Fin 4096) (d : Fin 1024) : EReal :=
  step (fun k => x0 (ix3 b t k)) (fun k => x1 (ix2 b ⟨6144 + k.val, by omega⟩)) (fun k => x1 (ix2 b ⟨7168 + k.val, by omega⟩))
    (fun k => x1 (ix2 b ⟨8192 + k.val, by omega⟩)) (fun k => x2 (ix1 k))
    (fun f k => x3 (ix2 k ⟨f.val, by omega⟩)) (fun f k => x3 (ix2 k ⟨2816 + f.val, by omega⟩)) (fun f k => x4 (ix2 f k)) d

/-- Indices of three axes with the same coordinates are the same. -/
theorem same3 {n : Fin 3 → ℕ} {i j : (⟨3, n⟩ : Shape).Idx} (h0 : (i 0).val = (j 0).val) (h1 : (i 1).val = (j 1).val)
    (h2 : (i 2).val = (j 2).val) : i = j :=
  funext fun a => Fin.ext (by fin_cases a <;> assumption)

/-- Indices of two axes with the same coordinates are the same. -/
theorem same2 {n : Fin 2 → ℕ} {i j : (⟨2, n⟩ : Shape).Idx} (h0 : (i 0).val = (j 0).val) (h1 : (i 1).val = (j 1).val) : i = j :=
  funext fun a => Fin.ext (by fin_cases a <;> assumption)

variable (x0 : FVec Ideal S8x4096x1024 .f32) (x1 : FVec Ideal S8x9216 .f32) (x2 : FVec Ideal S1024 .f32)
  (x3 : FVec Ideal S1024x5632 .f32) (x4 : FVec Ideal S2816x1024 .f32)

/-- The shift of a batch. -/
theorem shift (b : Fin 8) (t : Fin 4096) (d : Fin 1024) :
    val_main_v27 (F := Ideal) x1 (ix3 b t d) = x1 (ix2 b ⟨6144 + d.val, by omega⟩) := by
  rw [val_main_v27_apply, val_main_v7_apply, val_main_v0_apply]
  exact congrArg x1 (same2 rfl rfl)

/-- The scale of a batch, which starts at one. -/
theorem scale (b : Fin 8) (t : Fin 4096) (d : Fin 1024) :
    val_main_v25 (F := Ideal) x1 (ix3 b t d) = Ideal.ofBits .f32 0x3F800000#32 + x1 (ix2 b ⟨7168 + d.val, by omega⟩) := by
  rw [val_main_v25_apply, val_main_v24_apply, val_main_v23_apply, val_main_v8_apply, val_main_v0_apply]
  exact congrArg (fun a : EReal => Ideal.ofBits .f32 0x3F800000#32 + a) (congrArg x1 (same2 rfl rfl))

/-- Half of the gate of a batch. -/
theorem gate (b : Fin 8) (t : Fin 4096) (d : Fin 1024) :
    val_main_v37 (F := Ideal) x1 (ix3 b t d) = Ideal.ofBits .f32 0x3F000000#32 * x1 (ix2 b ⟨8192 + d.val, by omega⟩) := by
  rw [val_main_v37_apply, val_main_v36_apply, val_main_v35_apply, val_main_v9_apply, val_main_v0_apply]
  exact congrArg (fun a : EReal => Ideal.ofBits .f32 0x3F000000#32 * a) (congrArg x1 (same2 rfl rfl))

/-- The gain. -/
theorem gain (b : Fin 8) (t : Fin 4096) (d : Fin 1024) : val_main_v21 (F := Ideal) x2 (ix3 b t d) = x2 (ix1 d) := by
  rw [val_main_v21_apply, val_main_v20_apply]
  exact congrArg x2 (funext fun a => Fin.ext (by fin_cases a; rfl))

/-- The sum of a row's squares. -/
theorem squares (b : Fin 8) (t : Fin 4096) :
    val_main_v11 (F := Ideal) x0 (ix2 b t) = ∑ k : Fin 1024, x0 (ix3 b t k) * x0 (ix3 b t k) := by
  rw [val_main_v11_apply, val_main_cst_apply]
  refine (congrArg₂ (fun a b : EReal => a + b) (Ideal.ofBits_zero .f32) (Finset.sum_congr rfl fun k _ => ?_)).trans (zero_add _)
  have e : idx_main_v11 (ix2 b t) k = ix3 b t k := same3 rfl rfl rfl
  rw [e]
  rfl

/-- The inverse root of a row's mean square. -/
theorem root (b : Fin 8) (t : Fin 4096) (d : Fin 1024) :
    val_main_v18 (F := Ideal) x0 (ix3 b t d)
      = Ideal.rsqrt (Ideal.div (∑ k : Fin 1024, x0 (ix3 b t k) * x0 (ix3 b t k)) (Ideal.ofBits .f32 0x44800000#32)
          + Ideal.ofBits .f32 0x358637BD#32) := by
  rw [val_main_v18_apply, val_main_v17_apply, val_main_v16_apply, val_main_v14_apply, val_main_v12_apply, val_main_v13_apply,
    val_main_v15_apply]
  have e : idx_main_v12 (idx_main_v18 (ix3 b t d)) = ix2 b t := same2 rfl rfl
  rw [e, squares]
  rfl

/-- The normed row. -/
theorem normed (b : Fin 8) (t : Fin 4096) (d : Fin 1024) :
    val_main_v28 (F := Ideal) x0 x1 x2 (ix3 b t d)
      = hid (fun k => x0 (ix3 b t k)) (fun k => x1 (ix2 b ⟨6144 + k.val, by omega⟩)) (fun k => x1 (ix2 b ⟨7168 + k.val, by omega⟩))
          (fun k => x2 (ix1 k)) d := by
  rw [val_main_v28_apply, val_main_v26_apply, val_main_v22_apply, val_main_v19_apply, root, gain, scale, shift]
  rfl

/-- The normed row's product with a column. -/
theorem column (b : Fin 8) (t : Fin 4096) (f : Fin 5632) (i : S8x4096x5632.Idx) (hi : i = ix3 b t f) :
    val_main_v29 (F := Ideal) x0 x1 x2 x3 i
      = ∑ k : Fin 1024, hid (fun k => x0 (ix3 b t k)) (fun k => x1 (ix2 b ⟨6144 + k.val, by omega⟩))
          (fun k => x1 (ix2 b ⟨7168 + k.val, by omega⟩)) (fun k => x2 (ix1 k)) k * x3 (ix2 k f) := by
  subst hi
  rw [val_main_v29_apply]
  refine Finset.sum_congr rfl fun k _ => ?_
  have e : lidx_main_v29 (ix3 b t f) k = ix3 b t k := same3 rfl rfl rfl
  have e' : ridx_main_v29 (ix3 b t f) k = ix2 k f := same2 rfl rfl
  rw [e, e', normed]

/-- A hidden feature. -/
theorem feature (b : Fin 8) (t : Fin 4096) (f : Fin 2816) :
    val_main_v33 (F := Ideal) x0 x1 x2 x3 (ix3 b t f)
      = act (hid (fun k => x0 (ix3 b t k)) (fun k => x1 (ix2 b ⟨6144 + k.val, by omega⟩)) (fun k => x1 (ix2 b ⟨7168 + k.val, by omega⟩))
          (fun k => x2 (ix1 k))) (fun k => x3 (ix2 k ⟨f.val, by omega⟩)) (fun k => x3 (ix2 k ⟨2816 + f.val, by omega⟩)) := by
  rw [val_main_v33_apply, val_main_v32_apply, val_main_call0_v5_apply, val_main_call0_v4_apply, val_main_call0_v3_apply,
    val_main_call0_v2_apply, val_main_call0_v1_apply, val_main_call0_v0_apply, val_main_v30_apply, val_main_v31_apply,
    column x0 x1 x2 x3 b t ⟨f.val, by omega⟩ (idx_main_v30 (ix3 b t f)) (same3 rfl rfl rfl),
    column x0 x1 x2 x3 b t ⟨2816 + f.val, by omega⟩ (idx_main_v31 (ix3 b t f)) (same3 rfl rfl rfl)]
  unfold act
  rw [zero_sub]
  rfl

/-- THE REFERENCE'S RESULT. -/
theorem reference (b : Fin 8) (t : Fin 4096) (d : Fin 1024) :
    val_main_v39 (F := Ideal) x0 x1 x2 x3 x4 (ix3 b t d) = result x0 x1 x2 x3 x4 b t d := by
  rw [val_main_v39_apply, val_main_v38_apply, gate, val_main_v34_apply]
  unfold result step
  refine congrArg (fun s : EReal => x0 (ix3 b t d) + Ideal.ofBits .f32 0x3F000000#32 * x1 (ix2 b ⟨8192 + d.val, by omega⟩) * s)
    (Finset.sum_congr rfl fun f _ => ?_)
  have e : lidx_main_v34 (ix3 b t d) f = ix3 b t f := same3 rfl rfl rfl
  have e' : ridx_main_v34 (ix3 b t d) f = ix2 f d := same2 rfl rfl
  rw [e, e', feature]

end Cert.FfnRefIdeal.Math

end
-- ==== Proof.FfnArr.lean ====
/-
  The half-step kernel's result array: every row after its half-step.
-/
module

public import proofs.«01_k».proof.Proof.FfnBody
public import proofs.«01_k».proof.Proof.FfnRef
public import Idealize.ShloMosaic.Lib.Pipeline.ValueKit

@[expose] public section

set_option maxRecDepth 16384

noncomputable section

namespace Cert.FfnIdeal.HostValue

open Idealize.ShloMosaic Cert.FfnIdeal Cert.FfnIdeal.Gen Idealize.ShloMosaic.TcCoe Idealize.SL.Sem Cert.FfnMath Cert.FfnIdeal.Body
open Cert.FfnRefIdeal.Math (result same2 same3)

/-! ## The operands as the host hands them over -/

/-- The modulation laid out in nine rows a batch. -/
theorem rows_apply (x : FVec Ideal S8x9216 .f32) (b : Fin 8) (n : Fin 9) (k : Fin 1024) :
    shapeCast S8x9x1024 x shapeCasts_S8x9216_S8x9x1024 (ix3 b n k) = x (ix2 b ⟨1024 * n.val + k.val, by omega⟩) :=
  shapeCast_apply x shapeCasts_S8x9216_S8x9x1024 _ _ (by
    rewrite [Shape.rowMajor_val_two, Shape.rowMajor_val_three]
    show b.val * 9216 + (1024 * n.val + k.val) = (b.val * 9 + n.val) * 1024 + k.val
    omega)

/-- The gain as one row. -/
theorem gain_apply (x : FVec Ideal S1024 .f32) (k : Fin 1024) :
    shapeCast S1x1024 x shapeCasts_S1024_S1x1024 (ix2 0 k) = x (ix1 k) := by
  pointwise []

variable (m : (ℓ : Loc nD τ sig) → Buf (Elt Ideal) ℓ) (c : Dev nD)

/-- The rows are an argument. -/
theorem V_x : V m c main_arg0 = m ((c : Thread nD τ).loc main_arg0) := by
  unfold V
  after_results_simp
  try rfl

/-- The modulation at the kernel's start. -/
theorem V_mod : V m c main_v0 = shapeCast S8x9x1024 (m ((c : Thread nD τ).loc main_arg1)) shapeCasts_S8x9216_S8x9x1024 := by
  unfold V
  after_results_simp
  rfl

/-- The gain at the kernel's start. -/
theorem V_gain : V m c main_v1 = shapeCast S1x1024 (m ((c : Thread nD τ).loc main_arg2)) shapeCasts_S1024_S1x1024 := by
  unfold V
  after_results_simp
  rfl

/-- The weights of the hidden features at the kernel's start. -/
theorem V_up : V m c main_v2 = m ((c : Thread nD τ).loc main_arg3) := by
  unfold V
  after_results_simp
  rfl

/-- The weights of the projection at the kernel's start. -/
theorem V_down : V m c main_v3 = m ((c : Thread nD τ).loc main_arg4) := by
  unfold V
  after_results_simp
  rfl

/-! ## The blocks a point reads -/

/-- The blocks of the rows: batch, tile of rows. -/
theorem index_x : ∀ t : Fin cfg0.N, win0_0.index t = ![(grid0.coords t 0).val, (grid0.coords t 1).val, 0] :=
  (by decide +kernel : ∀ t : Fin grid0.N, _)
/-- The blocks of the modulation: batch. -/
theorem index_mod : ∀ t : Fin cfg0.N, win0_1.index t = ![(grid0.coords t 0).val, 0, 0] :=
  (by decide +kernel : ∀ t : Fin grid0.N, _)
/-- The gain is one block. -/
theorem index_gain : ∀ t : Fin cfg0.N, win0_2.index t = ![0, 0] :=
  (by decide +kernel : ∀ t : Fin grid0.N, _)
/-- The features' weights are one block. -/
theorem index_up : ∀ t : Fin cfg0.N, win0_3.index t = ![0, 0] :=
  (by decide +kernel : ∀ t : Fin grid0.N, _)
/-- The projection's weights are one block. -/
theorem index_down : ∀ t : Fin cfg0.N, win0_4.index t = ![0, 0] :=
  (by decide +kernel : ∀ t : Fin grid0.N, _)
/-- The blocks of the result: batch, tile of rows. -/
theorem index_o : ∀ t : Fin cfg0.N, win0_5.index t = ![(grid0.coords t 0).val, (grid0.coords t 1).val, 0] :=
  (by decide +kernel : ∀ t : Fin grid0.N, _)

/-- A point's batch and tile. -/
theorem coords_lt (t : Fin cfg0.N) : (grid0.coords t 0).val < 8 ∧ (grid0.coords t 1).val < 8 :=
  ⟨(grid0.coords t 0).isLt, (grid0.coords t 1).isLt⟩

/-- A block of rows. -/
theorem iblk_x (t : Fin cfg0.N) (b : Fin 8) (n : Fin 8) (hb : (grid0.coords t 0).val = b.val)
    (hn : (grid0.coords t 1).val = n.val) (z : FVec Ideal S8x4096x1024 .f32) (hz : V m c main_arg0 = z) (r : Fin 512) (k : Fin 1024) :
    iblk m c 0 t (ix3 0 r k) = z (ix3 b ⟨512 * n.val + r.val, by omega⟩ k) := by
  unfold iblk
  generalize V m c = W at hz ⊢
  rw [← hz]
  blk_simp [index_x]
  refine congrArg (W main_arg0) ?_
  blk_ext [index_x]

/-- A block of the modulation. -/
theorem iblk_mod (t : Fin cfg0.N) (b : Fin 8) (hb : (grid0.coords t 0).val = b.val) (z : FVec Ideal S8x9x1024 .f32)
    (hz : V m c main_v0 = z) (n : Fin 9) (k : Fin 1024) :
    iblk m c 1 t (ix3 0 n k) = z (ix3 b n k) := by
  unfold iblk
  generalize V m c = W at hz ⊢
  rw [← hz]
  blk_simp [index_mod]
  refine congrArg (W main_v0) ?_
  blk_ext [index_mod]

/-- The block of the gain. -/
theorem iblk_gain (t : Fin cfg0.N) (z : FVec Ideal S1x1024 .f32) (hz : V m c main_v1 = z) (k : Fin 1024) :
    iblk m c 2 t (ix2 0 k) = z (ix2 0 k) := by
  unfold iblk
  generalize V m c = W at hz ⊢
  rw [← hz]
  blk_simp [index_gain]
  refine congrArg (W main_v1) ?_
  blk_ext [index_gain]

/-- The block of the features' weights. -/
def blkUp (t : Fin cfg0.N) : Vec Ideal S1024x5632 .bf16 := iblk m c 3 t

/-- It is the whole of them. -/
theorem blkUp_apply (t : Fin cfg0.N) (z : FVec Ideal S1024x5632 .bf16) (hz : V m c main_v2 = z) (x : S1024x5632.Idx) :
    blkUp m c t x = z x := by
  have o0 : ((win0_3.blk t).view.emb x 0).val = (x 0).val := by
    blk_simp [index_up]
  have o1 : ((win0_3.blk t).view.emb x 1).val = (x 1).val := by
    blk_simp [index_up]
  have e : (win0_3.blk t).view.emb x = x := by
    have o : ∀ a : Fin 2, ((win0_3.blk t).view.emb x a).val = (x a).val :=
      Fin.forall_fin_succ.2 ⟨o0, Fin.forall_fin_succ.2 ⟨o1, fun a => a.elim0⟩⟩
    exact funext fun a => Fin.ext (o a)
  unfold blkUp iblk
  generalize V m c = W at hz ⊢
  rw [View.read_apply, e, hz]
  exact cast_eq _ _

/-- The block of the projection's weights. -/
def blkDown (t : Fin cfg0.N) : Vec Ideal S2816x1024 .bf16 := iblk m c 4 t

/-- It is the whole of them. -/
theorem blkDown_apply (t : Fin cfg0.N) (z : FVec Ideal S2816x1024 .bf16) (hz : V m c main_v3 = z) (x : S2816x1024.Idx) :
    blkDown m c t x = z x := by
  have o0 : ((win0_4.blk t).view.emb x 0).val = (x 0).val := by
    blk_simp [index_down]
  have o1 : ((win0_4.blk t).view.emb x 1).val = (x 1).val := by
    blk_simp [index_down]
  have e : (win0_4.blk t).view.emb x = x := by
    have o : ∀ a : Fin 2, ((win0_4.blk t).view.emb x a).val = (x a).val :=
      Fin.forall_fin_succ.2 ⟨o0, Fin.forall_fin_succ.2 ⟨o1, fun a => a.elim0⟩⟩
    exact funext fun a => Fin.ext (o a)
  unfold blkDown iblk
  generalize V m c = W at hz ⊢
  rw [View.read_apply, e, hz]
  exact cast_eq _ _

/-! ## The result -/

/-- A row after the half-step, from equal rows and weights. -/
theorem step_congr {x x' sh sh' sc sc' gt gt' g g' : Fin 1024 → EReal} {a a' u u' w w' : Fin 2816 → Fin 1024 → EReal} {d d' : Fin 1024}
    (hx : ∀ k, x k = x' k) (hsh : ∀ k, sh k = sh' k) (hsc : ∀ k, sc k = sc' k) (hgt : ∀ k, gt k = gt' k) (hg : ∀ k, g k = g' k)
    (ha : ∀ f k, a f k = a' f k) (hu : ∀ f k, u f k = u' f k) (hw : ∀ f k, w f k = w' f k) (hd : d = d') :
    step x sh sc gt g a u w d = step x' sh' sc' gt' g' a' u' w' d' := by
  obtain rfl : x = x' := funext hx
  obtain rfl : sh = sh' := funext hsh
  obtain rfl : sc = sc' := funext hsc
  obtain rfl : gt = gt' := funext hgt
  obtain rfl : g = g' := funext hg
  obtain rfl : a = a' := funext fun f => funext (ha f)
  obtain rfl : u = u' := funext fun f => funext (hu f)
  obtain rfl : w = w' := funext fun f => funext (hw f)
  subst hd
  rfl

/-- What a point leaves in its block of the result. -/
theorem point (x0 : FVec Ideal S8x4096x1024 .f32) (x1 : FVec Ideal S8x9216 .f32) (x2 : FVec Ideal S1024 .f32)
    (x3 : FVec Ideal S1024x5632 .f32) (x4 : FVec Ideal S2816x1024 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3)
    (e4 : m ((c : Thread nD τ).loc main_arg4) = x4)
    (t : Fin cfg0.N) (b n : Fin 8) (hb : (grid0.coords t 0).val = b.val) (hn : (grid0.coords t 1).val = n.val) (r : Fin 512)
    (d : Fin 1024) :
    step (fun k => iblk m c 0 t (ix3 0 r k)) (fun k => iblk m c 1 t (ix3 0 6 k)) (fun k => iblk m c 1 t (ix3 0 7 k))
        (fun k => iblk m c 1 t (ix3 0 8 k)) (fun k => iblk m c 2 t (ix2 0 k))
        (fun f k => blkUp m c t (ix2 k ⟨f.val, by omega⟩)) (fun f k => blkUp m c t (ix2 k ⟨2816 + f.val, by omega⟩))
        (fun f k => blkDown m c t (ix2 f k)) d
      = result x0 x1 x2 x3 x4 b ⟨512 * n.val + r.val, by omega⟩ d := by
  subst e0 e1 e2 e3 e4
  have hm : ∀ (j : Fin 9) (k : Fin 1024), iblk m c 1 t (ix3 0 j k)
      = m ((c : Thread nD τ).loc main_arg1) (ix2 b ⟨1024 * j.val + k.val, by omega⟩) := fun j k =>
    (iblk_mod m c t b hb _ (V_mod m c) j k).trans (rows_apply _ b j k)
  unfold result
  refine step_congr (fun k => iblk_x m c t b n hb hn _ (V_x m c) r k)
    (fun k => hm 6 k) (fun k => hm 7 k) (fun k => hm 8 k)
    (fun k => (iblk_gain m c t _ (V_gain m c) k).trans (gain_apply _ k))
    (fun f k => blkUp_apply m c t _ (V_up m c) _) (fun f k => blkUp_apply m c t _ (V_up m c) _)
    (fun f k => blkDown_apply m c t _ (V_down m c) _) rfl

/-- THE RESULT ARRAY of the half-step kernel. -/
theorem final (x0 : FVec Ideal S8x4096x1024 .f32) (x1 : FVec Ideal S8x9216 .f32) (x2 : FVec Ideal S1024 .f32)
    (x3 : FVec Ideal S1024x5632 .f32) (x4 : FVec Ideal S2816x1024 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3)
    (e4 : m ((c : Thread nD τ).loc main_arg4) = x4) :
    (dats m 0 c).arrAt 5 cfg0.N = fun i => result x0 x1 x2 x3 x4 (i 0) (i 1) (i 2) := by
  refine (dats m 0 c).arrAt_eq_of_covers 5 _ (by decide +kernel) fun t hf y => ?_
  blk_simp
  obtain ⟨hb, hn⟩ := coords_lt t
  have hy1 : (y 1).val < 512 := (y 1).isLt
  have hy2 : (y 2).val < 1024 := (y 2).isLt
  have key := (out_value c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) (iblk m c 0 t) (iblk m c 1 t) (iblk m c 2 t) (blkUp m c t) (blkDown m c t)
    ⟨(y 1).val, hy1⟩ ⟨(y 2).val, hy2⟩).trans
      (point m c x0 x1 x2 x3 x4 e0 e1 e2 e3 e4 t ⟨_, hb⟩ ⟨_, hn⟩ rfl rfl ⟨(y 1).val, hy1⟩ ⟨(y 2).val, hy2⟩)
  rw [after0_5]
  unfold outsAt0
  refine Eq.trans (congrArg _ ?_) (key.trans ?_)
  · blk_ext
  have o0 : (win0_5.blk t).view.emb y 0 = (⟨(grid0.coords t 0).val, hb⟩ : Fin 8) := by
    apply Fin.ext; blk_simp [index_o]
  have v1 : ((win0_5.blk t).view.emb y 1).val = (grid0.coords t 1).val * 512 + (y 1).val := by
    blk_simp [index_o]
  have o1 : (win0_5.blk t).view.emb y 1 = (⟨512 * (grid0.coords t 1).val + (y 1).val, by omega⟩ : Fin 4096) :=
    Fin.ext (v1.trans (congrArg (fun a => a + (y 1).val) (Nat.mul_comm _ 512)))
  have o2 : (win0_5.blk t).view.emb y 2 = (⟨(y 2).val, hy2⟩ : Fin 1024) := by
    apply Fin.ext; blk_simp [index_o]
  rw [o0, o1, o2]

end Cert.FfnIdeal.HostValue

end
-- ==== Proof.FfnClaims.lean ====
/-
  The half-step's claims: the runs, and that the kernel's result is the reference's.
-/
module

public import proofs.«01_k».proof.Defs
public import proofs.«01_k».proof.Proof.Gen.Ffn.Frame
public import proofs.«01_k».proof.Proof.Gen.FfnIdeal.Frame
public import proofs.«01_k».proof.Proof.Gen.FfnRefIdeal.Run
public import proofs.«01_k».proof.Proof.FfnArr
public import Idealize.ShloMosaic.Adequacy

@[expose] public section

noncomputable section

namespace Cert.Proof

open Idealize.ShloMosaic Idealize.SL.Sem

/-- The half-step kernel runs and leaves its arguments. -/
theorem frame_ffn : Cert.quiescent_Ffn := fun m ρ _ => Cert.Ffn.Gen.frame m ρ

/-- Its idealization runs and leaves its arguments. -/
theorem frame_ffnIdeal : Cert.quiescent_FfnIdeal := fun m ρ _ => Cert.FfnIdeal.Gen.frame m ρ

/-- Its reference runs and leaves its arguments. -/
theorem frame_ffnRef : Cert.quiescent_FfnRefIdeal := fun m ρ _ =>
  (θ_run Cert.FfnRefIdeal.defs _ _).mono
    (fun r h => ⟨fun c => (h c).2, sem_eq_zero_of_no_sems (by decide) r.2⟩) (Cert.FfnRefIdeal.Value.run (F := Ideal) m ρ)

/-- No constant of the half-step is read as another. -/
theorem preserves_ffn : Cert.preserves_Ffn_FfnIdeal := trivial

/-- THE HALF-STEP KERNEL IS ITS REFERENCE, on any arguments. -/
theorem algebraic_ffn : Cert.algebraic_FfnIdeal_FfnRefIdeal := by
  intro m ρ m' ρ' _ hagree
  refine ⟨_, Cert.FfnIdeal.Value.run_blocks (F := Ideal) m ρ, ?_⟩
  refine (θ_run Cert.FfnRefIdeal.defs _ _).mono (fun _ h c => ⟨(h c).1.trans ?_, (h c).2⟩)
    (Cert.FfnRefIdeal.Value.run (F := Ideal) m' ρ')
  obtain ⟨a0, a1, a2, a3, a4⟩ := hagree c
  rw [Cert.FfnRefIdeal.Read.val_main_v39_eq, a0, a1, a2, a3, a4]
  refine Eq.trans (funext fun i => ?_) (Cert.FfnIdeal.HostValue.final m c _ _ _ _ _ rfl rfl rfl rfl rfl).symm
  have e : i = ix3 (i 0) (i 1) (i 2) := Cert.FfnRefIdeal.Math.same3 rfl rfl rfl
  exact (congrArg _ e).trans (Cert.FfnRefIdeal.Math.reference _ _ _ _ _ (i 0) (i 1) (i 2))

end Cert.Proof

end
-- ==== Proof.DiffHead.lean ====
/-
  One head of the differential attention kernel, apart from the memory it reads: what its named values are at an index, at `Ideal`.
-/
module

public import proofs.«01_k».proof.Proof.Gen.DiffIdeal.Skeleton
public import proofs.«01_k».proof.Proof.FlashMath
public import Idealize.ShloMosaic.Lib.Pointwise
public import Idealize.ShloMosaic.Lib.WordCmp

@[expose] public section

set_option maxRecDepth 16384

noncomputable section

namespace Cert.DiffIdeal.Head

open Idealize.ShloMosaic Cert.DiffIdeal Cert.DiffIdeal.Gen

/-- The word of `-∞` denotes the least extended real. -/
theorem ofBits_bot : Ideal.ofBits .f32 0xFF800000#32 = ⊥ := by simp [Ideal.ofBits, Ideal.ieee]

/-! ## The tiles a chain reads

Eight chains: chain `2 h + m` is map `m` of head `h`; two heads share their keys and values. -/

/-- The factor the queries carry: `1/8` over `log 2`. -/
def scale : EReal := Named.named (F := Ideal) κ "scale" (φ := .f32) 0x3E38AA3B#32

/-- Chain `h`'s queries in the block of queries: its head's, scaled, zero off the lanes of its map. -/
def qHead (x0 : Vec Ideal S1x256x512 .f32) (h : Fin 8) : FVec Ideal S256x128 .bf16 :=
  fun x => if (x 1).val / 64 = h.val % 2 then
    x0 (ix3 0 (x 0) ⟨128 * (h.val / 2) + (x 1).val, by have := h.isLt; have : (x 1).val < 128 := (x 1).isLt; omega⟩) * scale else 0

/-- Chain `h`'s keys in tile `j`. -/
def kTile (x1 : Vec Ideal S4096x256 .bf16) (j : Fin 16) (h : Fin 8) : Vec Ideal S256x128 .bf16 :=
  fun x => x1 (ix2 ⟨256 * j.val + (x 0).val, by have := j.isLt; have : (x 0).val < 256 := (x 0).isLt; omega⟩
    ⟨128 * (h.val / 4) + (x 1).val, by have := h.isLt; have : (x 1).val < 128 := (x 1).isLt; omega⟩)

/-- Chain `h`'s values in tile `j`, features by keys. -/
def vTile (x2 : Vec Ideal S16x256x256 .bf16) (j : Fin 16) (h : Fin 8) : Vec Ideal S1x128x256 .bf16 :=
  fun x => x2 (ix3 j ⟨128 * (h.val / 4) + (x 1).val, by have := h.isLt; have : (x 1).val < 128 := (x 1).isLt; omega⟩ (x 2))

/-! ## One chain's state: after its own tile, and after one more tile -/

/-- The masked scores of a chain's own tile. -/
def diagS (q : FVec Ideal S256x128 .bf16) (kt : Vec Ideal S256x128 .bf16) : FVec Ideal S256x256 .f32 :=
  k0_pay165 k0_pay158 (k0_pay17 q kt)
/-- Their running maximum, -/
def initM (q : FVec Ideal S256x128 .bf16) (kt : Vec Ideal S256x128 .bf16) : FVec Ideal S1x256 .f32 :=
  k0_pay173 k0_pay158 (k0_pay17 q kt)
/-- running sum -/
def initL (q : FVec Ideal S256x128 .bf16) (kt : Vec Ideal S256x128 .bf16) : FVec Ideal S1x256 .f32 :=
  k0_pay190 (diagS q kt) (initM q kt)
/-- and accumulator. -/
def initA (q : FVec Ideal S256x128 .bf16) (kt : Vec Ideal S256x128 .bf16) (vt : Vec Ideal S1x128x256 .bf16) :
    FVec Ideal S128x256 .f32 :=
  k0_pay191 (diagS q kt) (initM q kt) vt

/-- The maximum after one more tile, -/
def stepM (m : FVec Ideal S1x256 .f32) (q : FVec Ideal S256x128 .bf16) (kt : Vec Ideal S256x128 .bf16) :
    FVec Ideal S1x256 .f32 := k0_pay25 m (k0_pay17 q kt)
/-- the sum -/
def stepL (m l : FVec Ideal S1x256 .f32) (q : FVec Ideal S256x128 .bf16) (kt : Vec Ideal S256x128 .bf16) :
    FVec Ideal S1x256 .f32 := k0_pay28 m l (k0_pay17 q kt)
/-- and the accumulator. -/
def stepA (m : FVec Ideal S1x256 .f32) (a : FVec Ideal S128x256 .f32) (q : FVec Ideal S256x128 .bf16)
    (kt : Vec Ideal S256x128 .bf16) (vt : Vec Ideal S1x128x256 .bf16) : FVec Ideal S128x256 .f32 :=
  k0_pay67 a (k0_pay26 m (k0_pay17 q kt)) (k0_pay29 m (k0_pay17 q kt)) vt

/-! ## The same at an index -/

/-- A score is the inner product of the key's row with the query's. -/
theorem pay17_apply (q : FVec Ideal S256x128 .bf16) (kt : Vec Ideal S256x128 .bf16) (r c : Fin 256) :
    k0_pay17 q kt (ix2 r c) = ∑ d : Fin 128, kt (ix2 r d) * q (ix2 c d) := by
  pointwise [k0_pay17]

/-- The raised maximum. -/
theorem pay25_apply (m : FVec Ideal S1x256 .f32) (s : FVec Ideal S256x256 .f32) (c : Fin 256) :
    k0_pay25 m s (ix2 0 c) = max (m (ix2 0 c)) (Finset.univ.fold max ⊥ fun r : Fin 256 => s (ix2 r c)) := by
  pointwise [k0_pay25]
  rw [ofBits_bot]

/-- The rescaled sum plus the tile's powers. -/
theorem pay28_apply (m l : FVec Ideal S1x256 .f32) (s : FVec Ideal S256x256 .f32) (c : Fin 256) :
    k0_pay28 m l s (ix2 0 c) = Ideal.exp2 (m (ix2 0 c) - k0_pay25 m s (ix2 0 c)) * l (ix2 0 c)
      + ∑ r : Fin 256, Ideal.exp2 (s (ix2 r c) - k0_pay25 m s (ix2 0 c)) := by
  pointwise [k0_pay28, k0_pay26, k0_pay27]
  rfl

/-- The rescaled accumulator plus the tile's weighted values. -/
theorem pay67_apply (a : FVec Ideal S128x256 .f32) (m : FVec Ideal S1x256 .f32) (s : FVec Ideal S256x256 .f32)
    (vt : Vec Ideal S1x128x256 .bf16) (e : Fin 128) (c : Fin 256) :
    k0_pay67 a (k0_pay26 m s) (k0_pay29 m s) vt (ix2 e c)
      = Ideal.exp2 (m (ix2 0 c) - k0_pay25 m s (ix2 0 c)) * a (ix2 e c)
        + ∑ r : Fin 256, vt (ix3 0 e r) * Ideal.exp2 (s (ix2 r c) - k0_pay25 m s (ix2 0 c)) := by
  pointwise [k0_pay67, k0_pay26, k0_pay29, k0_pay27]
  rfl

/-- The named mask denotes the least extended real. -/
theorem mask_eq : Named.named (F := Ideal) κ "mask" (φ := .f32) 0xF1800000#32 = (⊥ : EReal) :=
  IdealRules.named_const.ideal_named_scalar _ _ _ _ rfl

/-- The causal mask inside the query's own tile keeps the keys at rows up to the query's column. -/
theorem diagS_apply (q : FVec Ideal S256x128 .bf16) (kt : Vec Ideal S256x128 .bf16) (r c : Fin 256) :
    diagS q kt (ix2 r c) = if r.val ≤ c.val then k0_pay17 q kt (ix2 r c) else ⊥ := by
  unfold diagS
  generalize k0_pay17 q kt = s
  pointwise [k0_pay165, k0_pay158]
  rw [WordCmp.cmpi_sle_ofNat (by have := r.isLt; omega) (by have := c.isLt; omega), mask_eq, Scalar.select_ofBool]
  simp only [decide_eq_true_eq]

/-- The first maximum: over the tile's masked scores. -/
theorem initM_apply (q : FVec Ideal S256x128 .bf16) (kt : Vec Ideal S256x128 .bf16) (c : Fin 256) :
    initM q kt (ix2 0 c) = Finset.univ.fold max ⊥ fun r : Fin 256 => diagS q kt (ix2 r c) := by
  unfold initM diagS
  generalize k0_pay17 q kt = s
  pointwise [k0_pay173]
  rw [ofBits_bot]

/-- The first denominator: the sum of the tile's exponentials. -/
theorem initL_apply (q : FVec Ideal S256x128 .bf16) (kt : Vec Ideal S256x128 .bf16) (c : Fin 256) :
    initL q kt (ix2 0 c) = ∑ r : Fin 256, Ideal.exp2 (diagS q kt (ix2 r c) - initM q kt (ix2 0 c)) := by
  unfold initL
  generalize initM q kt = μ
  generalize diagS q kt = s
  pointwise [k0_pay190, k0_pay182]
  rfl

/-- The first numerator: the tile's values weighted by the exponentials. -/
theorem initA_apply (q : FVec Ideal S256x128 .bf16) (kt : Vec Ideal S256x128 .bf16) (vt : Vec Ideal S1x128x256 .bf16)
    (e : Fin 128) (c : Fin 256) :
    initA q kt vt (ix2 e c)
      = ∑ r : Fin 256, vt (ix3 0 e r) * Ideal.exp2 (diagS q kt (ix2 r c) - initM q kt (ix2 0 c)) := by
  unfold initA
  generalize initM q kt = μ
  generalize diagS q kt = s
  pointwise [k0_pay191, k0_pay182]
  rfl

/-! ## The invariant, for one chain -/

/-- The scores and values of every chain of a block are the reals `s` and `v`: score of chain `h`, query column `c`, key
    position `k`; value of chain `h`, feature `e`, key position `k`. -/
structure Reals (x0 : Vec Ideal S1x256x512 .f32) (x1 : Vec Ideal S4096x256 .bf16) (x2 : Vec Ideal S16x256x256 .bf16)
    (s : Fin 8 → Fin 256 → ℕ → ℝ) (v : Fin 8 → Fin 128 → ℕ → ℝ) : Prop where
  score : ∀ (h : Fin 8) (c : Fin 256) (j : Fin 16) (r : Fin 256),
    k0_pay17 (qHead x0 h) (kTile x1 j h) (ix2 r c) = ((s h c (256 * j.val + r.val) : ℝ) : EReal)
  value : ∀ (h : Fin 8) (e : Fin 128) (j : Fin 16) (r : Fin 256),
    vTile x2 j h (ix3 0 e r) = ((v h e (256 * j.val + r.val) : ℝ) : EReal)

variable {x0 : Vec Ideal S1x256x512 .f32} {x1 : Vec Ideal S4096x256 .bf16} {x2 : Vec Ideal S16x256x256 .bf16}
  {s : Fin 8 → Fin 256 → ℕ → ℝ} {v : Fin 8 → Fin 128 → ℕ → ℝ}

open Cert.FlashMath in
/-- After its own tile `n`, a chain's state is the running state over no other tile. -/
theorem chain_init (R : Reals x0 x1 x2 s v) (n : Fin 16) (h : Fin 8) (e : Fin 128) (c : Fin 256) :
    Inv (s h c) (v h e) n.val c.val 0 (initM (qHead x0 h) (kTile x1 n h) (ix2 0 c))
      (initL (qHead x0 h) (kTile x1 n h) (ix2 0 c)) (initA (qHead x0 h) (kTile x1 n h) (vTile x2 n h) (ix2 e c)) := by
  rw [initL_apply, initA_apply, initM_apply]
  exact inv_init (s h c) (v h e) n.val c.val (fun r => diagS (qHead x0 h) (kTile x1 n h) (ix2 r c))
    (fun r => vTile x2 n h (ix3 0 e r)) (fun r => (diagS_apply _ _ r c).trans (by rw [R.score])) (fun r => R.value h e n r)

open Cert.FlashMath in
/-- One more tile `j` keeps a chain's state the running state. -/
theorem chain_step (R : Reals x0 x1 x2 s v) (n : ℕ) (j : Fin 16) (h : Fin 8) (e : Fin 128) (c : Fin 256)
    (m l : FVec Ideal S1x256 .f32) (a : FVec Ideal S128x256 .f32)
    (hi : Inv (s h c) (v h e) n c.val j.val (m (ix2 0 c)) (l (ix2 0 c)) (a (ix2 e c))) :
    Inv (s h c) (v h e) n c.val (j.val + 1) (stepM m (qHead x0 h) (kTile x1 j h) (ix2 0 c))
      (stepL m l (qHead x0 h) (kTile x1 j h) (ix2 0 c))
      (stepA m a (qHead x0 h) (kTile x1 j h) (vTile x2 j h) (ix2 e c)) := by
  unfold stepM stepL stepA
  rw [pay28_apply, pay67_apply, pay25_apply]
  exact inv_step (s h c) (v h e) n c.val j.val _ _ _ (fun r => k0_pay17 (qHead x0 h) (kTile x1 j h) (ix2 r c))
    (fun r => vTile x2 j h (ix3 0 e r)) hi (fun r => R.score h c j r) (fun r => R.value h e j r)

end Cert.DiffIdeal.Head

end
-- ==== Proof.DiffTrip.lean ====
/-
  The differential attention kernel's loop over the key tiles before the query's own: the reads, and what one trip makes of
  the eight chains' states.
-/
module

public import proofs.«01_k».proof.Proof.Gen.DiffIdeal.Value
public import proofs.«01_k».proof.Proof.DiffHead

@[expose] public section

set_option maxRecDepth 16384

noncomputable section

namespace Cert.DiffIdeal.Head

open Idealize.ShloMosaic Cert.DiffIdeal Cert.DiffIdeal.Gen Idealize.ShloMosaic.TcCoe Idealize.SL.Sem

/-- The state the loop carries: maximum, sum and accumulator of each of the eight chains. -/
abbrev Carry : Type := FVec Ideal S1x256 .f32 × FVec Ideal S1x256 .f32 × FVec Ideal S128x256 .f32 × FVec Ideal S1x256 .f32 × FVec Ideal S1x256 .f32 × FVec Ideal S128x256 .f32 × FVec Ideal S1x256 .f32 × FVec Ideal S1x256 .f32 × FVec Ideal S128x256 .f32 × FVec Ideal S1x256 .f32 × FVec Ideal S1x256 .f32 × FVec Ideal S128x256 .f32 × FVec Ideal S1x256 .f32 × FVec Ideal S1x256 .f32 × FVec Ideal S128x256 .f32 × FVec Ideal S1x256 .f32 × FVec Ideal S1x256 .f32 × FVec Ideal S128x256 .f32 × FVec Ideal S1x256 .f32 × FVec Ideal S1x256 .f32 × FVec Ideal S128x256 .f32 × FVec Ideal S1x256 .f32 × FVec Ideal S1x256 .f32 × FVec Ideal S128x256 .f32

/-- One chain's part of the carried state. -/
def comp (acc : Carry) (h : Fin 8) : FVec Ideal S1x256 .f32 × FVec Ideal S1x256 .f32 × FVec Ideal S128x256 .f32 :=
  match h with
  | 0 => (acc.1, acc.2.1, acc.2.2.1)
  | 1 => (acc.2.2.2.1, acc.2.2.2.2.1, acc.2.2.2.2.2.1)
  | 2 => (acc.2.2.2.2.2.2.1, acc.2.2.2.2.2.2.2.1, acc.2.2.2.2.2.2.2.2.1)
  | 3 => (acc.2.2.2.2.2.2.2.2.2.1, acc.2.2.2.2.2.2.2.2.2.2.1, acc.2.2.2.2.2.2.2.2.2.2.2.1)
  | 4 => (acc.2.2.2.2.2.2.2.2.2.2.2.2.1, acc.2.2.2.2.2.2.2.2.2.2.2.2.2.1, acc.2.2.2.2.2.2.2.2.2.2.2.2.2.2.1)
  | 5 => (acc.2.2.2.2.2.2.2.2.2.2.2.2.2.2.2.1, acc.2.2.2.2.2.2.2.2.2.2.2.2.2.2.2.2.1, acc.2.2.2.2.2.2.2.2.2.2.2.2.2.2.2.2.2.1)
  | 6 => (acc.2.2.2.2.2.2.2.2.2.2.2.2.2.2.2.2.2.2.1, acc.2.2.2.2.2.2.2.2.2.2.2.2.2.2.2.2.2.2.2.1, acc.2.2.2.2.2.2.2.2.2.2.2.2.2.2.2.2.2.2.2.2.1)
  | 7 => (acc.2.2.2.2.2.2.2.2.2.2.2.2.2.2.2.2.2.2.2.2.2.1, acc.2.2.2.2.2.2.2.2.2.2.2.2.2.2.2.2.2.2.2.2.2.2.1, acc.2.2.2.2.2.2.2.2.2.2.2.2.2.2.2.2.2.2.2.2.2.2.2)

/-! ## The reads -/

/-- The row a tile starts at, as the kernel computes it, is 256 times the tile's number. -/
theorem tile_row (j : Fin 16) : (Scalar.indexCast (Scalar.muli (Scf.iv (0#32) (1#32) j.val) (256#32)) : Index).toNat = 256 * j.val := by
  revert j; decide

/-- The tile's number, as the kernel computes it. -/
theorem tile_num (j : Fin 16) : (Scalar.indexCast (Scf.iv (0#32) (1#32) j.val) : Index).toNat = j.val := by
  revert j; decide

/-- A load of a chain's keys from the whole key buffer. -/
theorem ld_k (x1 : Vec Ideal S4096x256 .bf16) (j : Fin 16) (h : Fin 8) (off : Fin 2 → Nat)
    (inb : ∀ a, off a + S256x128.size a ≤ S4096x256.size a) (e1 : off = ![256 * j.val, 128 * (h.val / 4)]) :
    View.ld x1 (Rect.unit off S256x128.size inb) = kTile x1 j h := by
  subst e1
  funext x
  idx_vars x
  pointwise [kTile]

/-- A load of a chain's values from the whole value buffer. -/
theorem ld_v (x2 : Vec Ideal S16x256x256 .bf16) (j : Fin 16) (h : Fin 8) (off : Fin 3 → Nat)
    (inb : ∀ a, off a + S1x128x256.size a ≤ S16x256x256.size a) (e1 : off = ![j.val, 128 * (h.val / 4), 0]) :
    View.ld x2 (Rect.unit off S1x128x256.size inb) = vTile x2 j h := by
  subst e1
  funext x
  idx_vars x
  pointwise [vTile]

/-- The number of a lane, at each place of a query tile. -/
abbrev lanes : IVec S256x128 32 := iota .tc S256x128 32 [1] iota_S256x128_d1_w32

/-- The scaled queries of a head on the lanes of its first map, as the kernel computes them, -/
def qFst (x : Vec Ideal S1x256x128 .f32) : FVec Ideal S256x128 .bf16 := k0_pay149 (k0_pay147 x) (k0_pay148 lanes)

/-- and on those of its second. -/
def qSnd (x : Vec Ideal S1x256x128 .f32) : FVec Ideal S256x128 .bf16 := k0_pay150 lanes (k0_pay147 x)

/-- The test of the first map at a lane. -/
theorem lane_fst : ∀ d : Fin 128, (IntOp.cmpi .eq (Scalar.select
      (IntOp.andi (IntOp.cmpi .ne (IntOp.subi (BitVec.setWidth 32 (IntOp.cmpi .sgt (BitVec.ofNat 32 d.val) 0#32))
            (BitVec.setWidth 32 (IntOp.cmpi .slt (BitVec.ofNat 32 d.val) 0#32)))
          (Scalar.subi (Scalar.extui (Scalar.cmpi .sgt 64#32 0#32)) (Scalar.extui (Scalar.cmpi .slt 64#32 0#32))))
        (IntOp.cmpi .ne (IntOp.remsi .vector (BitVec.ofNat 32 d.val) 64#32) 0#32))
      (IntOp.subi (IntOp.divsi .vector (BitVec.ofNat 32 d.val) 64#32) 1#32)
      (IntOp.divsi .vector (BitVec.ofNat 32 d.val) 64#32)) 0#32) = BitVec.ofBool (decide (d.val / 64 = 0)) := by
  decide

/-- The test of the second map at a lane. -/
theorem lane_snd : ∀ d : Fin 128, (IntOp.cmpi .eq (Scalar.select
      (IntOp.andi (IntOp.cmpi .ne (IntOp.subi (BitVec.setWidth 32 (IntOp.cmpi .sgt (BitVec.ofNat 32 d.val) 0#32))
            (BitVec.setWidth 32 (IntOp.cmpi .slt (BitVec.ofNat 32 d.val) 0#32)))
          (Scalar.subi (Scalar.extui (Scalar.cmpi .sgt 64#32 0#32)) (Scalar.extui (Scalar.cmpi .slt 64#32 0#32))))
        (IntOp.cmpi .ne (IntOp.remsi .vector (BitVec.ofNat 32 d.val) 64#32) 0#32))
      (IntOp.subi (IntOp.divsi .vector (BitVec.ofNat 32 d.val) 64#32) 1#32)
      (IntOp.divsi .vector (BitVec.ofNat 32 d.val) 64#32)) 1#32) = BitVec.ofBool (decide (d.val / 64 = 1)) := by
  decide

/-- The first map's queries at an index. -/
theorem qFst_apply (x : Vec Ideal S1x256x128 .f32) (r : Fin 256) (d : Fin 128) :
    qFst x (ix2 r d) = if d.val / 64 = 0 then x (ix3 0 r d) * scale else 0 := by
  unfold qFst lanes
  pointwise [k0_pay147, k0_pay148, k0_pay149]
  rw [lane_fst, Scalar.select_ofBool]
  simp only [decide_eq_true_eq]
  rfl

/-- The second map's queries at an index. -/
theorem qSnd_apply (x : Vec Ideal S1x256x128 .f32) (r : Fin 256) (d : Fin 128) :
    qSnd x (ix2 r d) = if d.val / 64 = 1 then x (ix3 0 r d) * scale else 0 := by
  unfold qSnd lanes
  pointwise [k0_pay147, k0_pay150]
  rw [lane_snd, Scalar.select_ofBool]
  simp only [decide_eq_true_eq]
  rfl

/-- A load of a head's queries from the query block, on the lanes of the first map. -/
theorem ld_fst (x0 : Vec Ideal S1x256x512 .f32) (h : Fin 8) (h0 : h.val % 2 = 0) (off : Fin 3 → Nat)
    (inb : ∀ a, off a + S1x256x128.size a ≤ S1x256x512.size a) (e1 : off = ![0, 0, 128 * (h.val / 2)]) :
    qFst (View.ld x0 (Rect.unit off S1x256x128.size inb)) = qHead x0 h := by
  subst e1
  funext x
  idx_vars x
  rw [qFst_apply]
  unfold qHead
  rw [h0]
  pointwise []

/-- A load of a head's queries from the query block, on the lanes of the second map. -/
theorem ld_snd (x0 : Vec Ideal S1x256x512 .f32) (h : Fin 8) (h0 : h.val % 2 = 1) (off : Fin 3 → Nat)
    (inb : ∀ a, off a + S1x256x128.size a ≤ S1x256x512.size a) (e1 : off = ![0, 0, 128 * (h.val / 2)]) :
    qSnd (View.ld x0 (Rect.unit off S1x256x128.size inb)) = qHead x0 h := by
  subst e1
  funext x
  idx_vars x
  rw [qSnd_apply]
  unfold qHead
  rw [h0]
  pointwise []

/-! ## One trip -/

/-- The step over one tile, of every chain. -/
def steps (acc : Carry) (q : Fin 8 → FVec Ideal S256x128 .bf16) (K : Fin 8 → Vec Ideal S256x128 .bf16)
    (V : Fin 8 → Vec Ideal S1x128x256 .bf16) : Carry :=
  (stepM (comp acc 0).1 (q 0) (K 0), stepL (comp acc 0).1 (comp acc 0).2.1 (q 0) (K 0), stepA (comp acc 0).1 (comp acc 0).2.2 (q 0) (K 0) (V 0),
      stepM (comp acc 1).1 (q 1) (K 1), stepL (comp acc 1).1 (comp acc 1).2.1 (q 1) (K 1), stepA (comp acc 1).1 (comp acc 1).2.2 (q 1) (K 1) (V 1),
      stepM (comp acc 2).1 (q 2) (K 2), stepL (comp acc 2).1 (comp acc 2).2.1 (q 2) (K 2), stepA (comp acc 2).1 (comp acc 2).2.2 (q 2) (K 2) (V 2),
      stepM (comp acc 3).1 (q 3) (K 3), stepL (comp acc 3).1 (comp acc 3).2.1 (q 3) (K 3), stepA (comp acc 3).1 (comp acc 3).2.2 (q 3) (K 3) (V 3),
      stepM (comp acc 4).1 (q 4) (K 4), stepL (comp acc 4).1 (comp acc 4).2.1 (q 4) (K 4), stepA (comp acc 4).1 (comp acc 4).2.2 (q 4) (K 4) (V 4),
      stepM (comp acc 5).1 (q 5) (K 5), stepL (comp acc 5).1 (comp acc 5).2.1 (q 5) (K 5), stepA (comp acc 5).1 (comp acc 5).2.2 (q 5) (K 5) (V 5),
      stepM (comp acc 6).1 (q 6) (K 6), stepL (comp acc 6).1 (comp acc 6).2.1 (q 6) (K 6), stepA (comp acc 6).1 (comp acc 6).2.2 (q 6) (K 6) (V 6),
      stepM (comp acc 7).1 (q 7) (K 7), stepL (comp acc 7).1 (comp acc 7).2.1 (q 7) (K 7), stepA (comp acc 7).1 (comp acc 7).2.2 (q 7) (K 7) (V 7))

/-- A component of the step is the step of the component. -/
theorem comp_steps (acc : Carry) (q : Fin 8 → FVec Ideal S256x128 .bf16) (K : Fin 8 → Vec Ideal S256x128 .bf16)
    (V : Fin 8 → Vec Ideal S1x128x256 .bf16) (h : Fin 8) :
    comp (steps acc q K V) h = (stepM (comp acc h).1 (q h) (K h), stepL (comp acc h).1 (comp acc h).2.1 (q h) (K h),
      stepA (comp acc h).1 (comp acc h).2.2 (q h) (K h) (V h)) := by
  fin_cases h <;> rfl

/-- The rows of a tile are inside the key buffer. -/
theorem inb_k (j : Fin 16) (h : Fin 8) (a : Fin 2) :
    (![(Scalar.indexCast (Scalar.muli (Scf.iv (0#32) (1#32) j.val) (256#32)) : Index).toNat, 128 * (h.val / 4)] : Fin 2 → Nat) a
      + S256x128.size a ≤ S4096x256.size a := by
  rw [tile_row]
  have := j.isLt
  have := h.isLt
  fin_cases a <;> (simp [S256x128, S4096x256]; try omega)

/-- A tile is inside the value buffer. -/
theorem inb_v (j : Fin 16) (h : Fin 8) (a : Fin 3) :
    (![(Scalar.indexCast (Scf.iv (0#32) (1#32) j.val) : Index).toNat, 128 * (h.val / 4), 0] : Fin 3 → Nat) a
      + S1x128x256.size a ≤ S16x256x256.size a := by
  rw [tile_num]
  have := j.isLt
  have := h.isLt
  fin_cases a <;> (simp [S1x128x256, S16x256x256]; try omega)

/-- ONE TRIP applies, chain by chain, the step over tile `k`, whatever contents of the two scratch buffers read `x1` and `x2`. -/
theorem trip_eq (𝒱 : Variants) (c : Dev nD) (bd : Option 𝒱.V) (i : grid0.Coords) (arg2 : Memref sig .tc .vmem S1x256x512 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S4x64 .f32) (harg5 : arg5.IsWhole) (arg6 : Memref sig .tc .vmem S128x1 .f32) (harg6 : arg6.IsWhole) (arg7 : Memref sig .tc .vmem S1x512x256 .bf16) (harg7 : arg7.IsWhole) (arg8 : Memref sig .tc .vmem S4096x256 .bf16) (harg8 : arg8.IsWhole) (arg9 : Memref sig .tc .vmem S16x256x256 .bf16) (harg9 : arg9.IsWhole) (v18 : FVec Ideal S1x1 .f32) (v52 : FVec Ideal S256x128 .bf16) (v81 : FVec Ideal S256x128 .bf16) (v114 : FVec Ideal S256x128 .bf16) (v143 : FVec Ideal S256x128 .bf16) (v176 : FVec Ideal S256x128 .bf16) (v205 : FVec Ideal S256x128 .bf16) (v238 : FVec Ideal S256x128 .bf16) (v267 : FVec Ideal S256x128 .bf16) (v328 : FVec Ideal S1x256 .f32) (v330 : FVec Ideal S1x256 .f32) (v332 : FVec Ideal S1x256 .f32) (v334 : FVec Ideal S1x256 .f32) (v336 : FVec Ideal S1x256 .f32) (v338 : FVec Ideal S1x256 .f32) (v340 : FVec Ideal S1x256 .f32) (v342 : FVec Ideal S1x256 .f32) (v368 : FVec Ideal S1x256 .f32) (v373 : FVec Ideal S128x256 .f32) (v375 : FVec Ideal S1x256 .f32) (v380 : FVec Ideal S128x256 .f32) (v382 : FVec Ideal S1x256 .f32) (v387 : FVec Ideal S128x256 .f32) (v389 : FVec Ideal S1x256 .f32) (v394 : FVec Ideal S128x256 .f32) (v396 : FVec Ideal S1x256 .f32) (v401 : FVec Ideal S128x256 .f32) (v403 : FVec Ideal S1x256 .f32) (v408 : FVec Ideal S128x256 .f32) (v410 : FVec Ideal S1x256 .f32) (v415 : FVec Ideal S128x256 .f32) (v417 : FVec Ideal S1x256 .f32) (v422 : FVec Ideal S128x256 .f32) (c0_i32_158 : BitVec 32) (v427 : BitVec 32) (X_arg8 : BufTy.Contents (Elt Ideal) arg8.view.ty) (X_arg9 : BufTy.Contents (Elt Ideal) arg9.view.ty)
    (x1 : Vec Ideal S4096x256 .bf16) (x2 : Vec Ideal S16x256x256 .bf16) (e8 : arg8.view.read (Elt Ideal) X_arg8 = x1)
    (e9 : arg9.view.read (Elt Ideal) X_arg9 = x2) (k : Fin (k0_t1_loop i).trips) (j : Fin 16)
    (hj : k.val = j.val) (acc : Carry) :
    tripR_k0_t1 (F := Ideal) 𝒱 c bd i arg2 harg2 arg3 harg3 arg4 harg4 arg5 harg5 arg6 harg6 arg7 harg7 arg8 harg8 arg9 harg9 v18 v52 v81 v114 v143 v176 v205 v238 v267 v328 v330 v332 v334 v336 v338 v340 v342 v368 v373 v375 v380 v382 v387 v389 v394 v396 v401 v403 v408 v410 v415 v417 v422 c0_i32_158 v427 X_arg8 X_arg9 k acc
    = steps acc ![v52, v81, v114, v143, v176, v205, v238, v267] (kTile x1 j) (vTile x2 j) := by
  obtain ⟨k, hk⟩ := k
  simp only at hj
  subst hj
  have hK : kTile x1 j = fun h => View.ld x1 (Rect.unit _ S256x128.size (inb_k j h)) :=
    funext fun h => (ld_k x1 j h _ _ (by rw [tile_row])).symm
  have hV : vTile x2 j = fun h => View.ld x2 (Rect.unit _ S1x128x256.size (inb_v j h)) :=
    funext fun h => (ld_v x2 j h _ _ (by rw [tile_num])).symm
  rw [hK, hV]
  unfold tripR_k0_t1 trip_k0_t1
  dsimp only
  sl_unfold_words
  simp only [View.readAt_eq_ld, e8, e9]
  rfl

end Cert.DiffIdeal.Head

end
-- ==== Proof.DiffLoop.lean ====
/-
  The differential attention kernel's loop, trip by trip: each chain's state is the running state of the processed keys.
-/
module

public import proofs.«01_k».proof.Proof.DiffTrip

@[expose] public section

set_option maxRecDepth 16384

noncomputable section

namespace Cert.DiffIdeal.Head

open Idealize.ShloMosaic Cert.DiffIdeal Cert.DiffIdeal.Gen Idealize.ShloMosaic.TcCoe Idealize.SL.Sem Cert.FlashMath

/-- The loop makes one trip per tile before the query's own. -/
theorem trips_eq (i : grid0.Coords) : (k0_t1_loop i).trips = (i 1).val := by
  have H : ∀ n : Fin 16, Scf.trips 0#32 (Scalar.addi 0#32 (Scalar.muli (Scalar.divsi (Scalar.subi (BitVec.ofNat 32 n.val) 0#32) 1#32) 1#32)) 1#32 = n.val := by
    decide
  exact H (i 1)

/-- THE LOOP KEEPS EVERY CHAIN'S STATE the running state: before trip `k` the processed tiles are the query's own and those
    before `k`. -/
theorem st_inv (𝒱 : Variants) (c : Dev nD) (bd : Option 𝒱.V) (i : grid0.Coords) (arg2 : Memref sig .tc .vmem S1x256x512 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S4x64 .f32) (harg5 : arg5.IsWhole) (arg6 : Memref sig .tc .vmem S128x1 .f32) (harg6 : arg6.IsWhole) (arg7 : Memref sig .tc .vmem S1x512x256 .bf16) (harg7 : arg7.IsWhole) (arg8 : Memref sig .tc .vmem S4096x256 .bf16) (harg8 : arg8.IsWhole) (arg9 : Memref sig .tc .vmem S16x256x256 .bf16) (harg9 : arg9.IsWhole) (v18 : FVec Ideal S1x1 .f32) (v52 : FVec Ideal S256x128 .bf16) (v81 : FVec Ideal S256x128 .bf16) (v114 : FVec Ideal S256x128 .bf16) (v143 : FVec Ideal S256x128 .bf16) (v176 : FVec Ideal S256x128 .bf16) (v205 : FVec Ideal S256x128 .bf16) (v238 : FVec Ideal S256x128 .bf16) (v267 : FVec Ideal S256x128 .bf16) (v328 : FVec Ideal S1x256 .f32) (v330 : FVec Ideal S1x256 .f32) (v332 : FVec Ideal S1x256 .f32) (v334 : FVec Ideal S1x256 .f32) (v336 : FVec Ideal S1x256 .f32) (v338 : FVec Ideal S1x256 .f32) (v340 : FVec Ideal S1x256 .f32) (v342 : FVec Ideal S1x256 .f32) (v368 : FVec Ideal S1x256 .f32) (v373 : FVec Ideal S128x256 .f32) (v375 : FVec Ideal S1x256 .f32) (v380 : FVec Ideal S128x256 .f32) (v382 : FVec Ideal S1x256 .f32) (v387 : FVec Ideal S128x256 .f32) (v389 : FVec Ideal S1x256 .f32) (v394 : FVec Ideal S128x256 .f32) (v396 : FVec Ideal S1x256 .f32) (v401 : FVec Ideal S128x256 .f32) (v403 : FVec Ideal S1x256 .f32) (v408 : FVec Ideal S128x256 .f32) (v410 : FVec Ideal S1x256 .f32) (v415 : FVec Ideal S128x256 .f32) (v417 : FVec Ideal S1x256 .f32) (v422 : FVec Ideal S128x256 .f32) (c0_i32_158 : BitVec 32) (v427 : BitVec 32) (X_arg8 : BufTy.Contents (Elt Ideal) arg8.view.ty) (X_arg9 : BufTy.Contents (Elt Ideal) arg9.view.ty)
    {x0 : Vec Ideal S1x256x512 .f32} {x1 : Vec Ideal S4096x256 .bf16} {x2 : Vec Ideal S16x256x256 .bf16}
    {s : Fin 8 → Fin 256 → ℕ → ℝ} {v : Fin 8 → Fin 128 → ℕ → ℝ} (R : Reals x0 x1 x2 s v)
    (e8 : arg8.view.read (Elt Ideal) X_arg8 = x1) (e9 : arg9.view.read (Elt Ideal) X_arg9 = x2)
    (hq : ![v52, v81, v114, v143, v176, v205, v238, v267] = qHead x0) (init : Carry)
    (h0 : ∀ (h : Fin 8) (e : Fin 128) (c : Fin 256), Inv (s h c) (v h e) (i 1).val c.val 0 ((comp init h).1 (ix2 0 c))
      ((comp init h).2.1 (ix2 0 c)) ((comp init h).2.2 (ix2 e c))) (k : ℕ) (hk : k ≤ (k0_t1_loop i).trips)
    (h : Fin 8) (e : Fin 128) (c' : Fin 256) (r : Carry)
    (hr : r = st_k0_t1 (F := Ideal) 𝒱 c bd i arg2 harg2 arg3 harg3 arg4 harg4 arg5 harg5 arg6 harg6 arg7 harg7 arg8 harg8 arg9 harg9 v18 v52 v81 v114 v143 v176 v205 v238 v267 v328 v330 v332 v334 v336 v338 v340 v342 v368 v373 v375 v380 v382 v387 v389 v394 v396 v401 v403 v408 v410 v415 v417 v422 c0_i32_158 v427 X_arg8 X_arg9 init k) :
    Inv (s h c') (v h e) (i 1).val c'.val k ((comp r h).1 (ix2 0 c')) ((comp r h).2.1 (ix2 0 c')) ((comp r h).2.2 (ix2 e c')) := by
  induction k generalizing r with
  | zero => subst hr; exact h0 h e c'
  | succ k ih =>
    have hlt : k < 16 := by
      have := trips_eq i
      have h16 : (i 1).val < 16 := (i 1).isLt
      omega
    subst hr
    rw [st_k0_t1_succ (F := Ideal) 𝒱 c bd i arg2 harg2 arg3 harg3 arg4 harg4 arg5 harg5 arg6 harg6 arg7 harg7 arg8 harg8 arg9 harg9 v18 v52 v81 v114 v143 v176 v205 v238 v267 v328 v330 v332 v334 v336 v338 v340 v342 v368 v373 v375 v380 v382 v387 v389 v394 v396 v401 v403 v408 v410 v415 v417 v422 c0_i32_158 v427 X_arg8 X_arg9 init ⟨k, hk⟩,
      trip_eq (x1 := x1) (x2 := x2) (e8 := e8) (e9 := e9) (j := ⟨k, hlt⟩) (hj := rfl), comp_steps, hq]
    exact chain_step R _ ⟨k, hlt⟩ h e c' _ _ _ (ih (Nat.le_of_succ_le hk) _ rfl)

end Cert.DiffIdeal.Head

end
-- ==== Proof.DiffOut.lean ====
/-
  The differential attention kernel's output block at an index: the normalised difference of two weighted means of the
  head's values over the keys the causal mask keeps.
-/
module

public import proofs.«01_k».proof.Proof.DiffLoop
public import proofs.«01_k».proof.Proof.Bands

@[expose] public section

set_option maxRecDepth 16384

noncomputable section

namespace Cert.DiffIdeal.Head

open Idealize.ShloMosaic Cert.DiffIdeal Cert.DiffIdeal.Gen Idealize.ShloMosaic.TcCoe Idealize.SL.Sem Cert.FlashMath Cert.Bands

/-- The second loop, which starts where the first ends, makes no trip. -/
theorem trips2_eq (i : grid0.Coords) : (k0_t2_loop i).trips = 0 := by
  have H : ∀ n : Fin 16, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by
    decide
  exact H (i 1)

/-! ## One head's block of output -/

/-- The root-mean-square normalisation of a head's 128 features, then the gain `g` and the constant factor. -/
def subln (o : Fin 128 → EReal) (g : EReal) (e : Fin 128) : EReal :=
  o e * Ideal.rsqrt (Ideal.div (∑ f : Fin 128, o f * o f) (Ideal.ofBits .f32 0x43000000#32) + Ideal.ofBits .f32 0x358637BD#32)
    * g * Ideal.ofBits .f32 0x3F4CCCCD#32

/-- The factor of the second map, from the four lambda vectors. -/
def lam (x3 : Vec Ideal S4x64 .f32) : EReal :=
  Ideal.exp (∑ d : Fin 64, x3 (ix2 0 d) * x3 (ix2 1 d)) - Ideal.exp (∑ d : Fin 64, x3 (ix2 2 d) * x3 (ix2 3 d))
    + Ideal.ofBits .f32 0x3E4CCCCD#32

/-- The kernel's factor is that one. -/
theorem pay133_apply (x3 : Vec Ideal S4x64 .f32) : k0_pay133 x3 (ix2 0 0) = lam x3 := by
  unfold lam
  pointwise [k0_pay133]

/-- One head's block: the difference of its two maps' means, normalised. -/
theorem pay217_apply (w : FVec Ideal S1x1 .f32) (l : FVec Ideal S1x256 .f32) (a : FVec Ideal S128x256 .f32)
    (l' : FVec Ideal S1x256 .f32) (a' : FVec Ideal S128x256 .f32) (g : Vec Ideal S128x1 .f32) (e : Fin 128) (c : Fin 256) :
    k0_pay217 w l a l' a' g (ix3 0 e c)
      = subln (fun f => Ideal.div (a (ix2 f c)) (l (ix2 0 c)) - w (ix2 0 0) * Ideal.div (a' (ix2 f c)) (l' (ix2 0 c)))
          (g (ix2 e 0)) e := by
  unfold subln
  pointwise [k0_pay217]

/-- The row a tile starts at, as the kernel computes it from its own number. -/
theorem own_row (i : grid0.Coords) : (Scalar.indexCast (Scalar.muli (BitVec.ofNat 32 (i 1).val) (256#32)) : Index).toNat = 256 * (i 1).val := by
  have H : ∀ n : Fin 16, (Scalar.indexCast (Scalar.muli (BitVec.ofNat 32 n.val) (256#32)) : Index).toNat = 256 * n.val := by decide
  exact H (i 1)

/-- The query's own tile number as the kernel computes it. -/
theorem own_num (i : grid0.Coords) : (Scalar.indexCast (BitVec.ofNat 32 (i 1).val) : Index).toNat = (i 1).val := by
  have H : ∀ n : Fin 16, (Scalar.indexCast (BitVec.ofNat 32 n.val) : Index).toNat = n.val := by decide
  exact H (i 1)

/-- The rows of the query's own tile are inside the key buffer. -/
theorem inb_own_k (i : grid0.Coords) (h : Fin 8) (a : Fin 2) :
    (![(Scalar.indexCast (Scalar.muli (BitVec.ofNat 32 (i 1).val) (256#32)) : Index).toNat, 128 * (h.val / 4)] : Fin 2 → Nat) a
      + S256x128.size a ≤ S4096x256.size a := by
  rw [own_row]
  have : (i 1).val < 16 := (i 1).isLt
  have := h.isLt
  fin_cases a <;> (simp [S256x128, S4096x256]; try omega)

/-- The query's own tile is inside the value buffer. -/
theorem inb_own_v (i : grid0.Coords) (h : Fin 8) (a : Fin 3) :
    (![(Scalar.indexCast (BitVec.ofNat 32 (i 1).val) : Index).toNat, 128 * (h.val / 4), 0] : Fin 3 → Nat) a
      + S1x128x256.size a ≤ S16x256x256.size a := by
  rw [own_num]
  have : (i 1).val < 16 := (i 1).isLt
  have := h.isLt
  fin_cases a <;> (simp [S1x128x256, S16x256x256]; try omega)

/-- A head's queries are inside the block of queries. -/
theorem inb_q (h : Fin 8) (a : Fin 3) :
    (![0, 0, 128 * (h.val / 2)] : Fin 3 → Nat) a + S1x256x128.size a ≤ S1x256x512.size a := by
  have := h.isLt
  fin_cases a <;> (simp [S1x256x128, S1x256x512]; try omega)

/-- The eight chains' queries, as the kernel computes them. -/
theorem q_all (x0 : Vec Ideal S1x256x512 .f32) : qHead x0 = ![
    qFst (View.ld x0 (Rect.unit _ S1x256x128.size (inb_q 0))),
    qSnd (View.ld x0 (Rect.unit _ S1x256x128.size (inb_q 1))),
    qFst (View.ld x0 (Rect.unit _ S1x256x128.size (inb_q 2))),
    qSnd (View.ld x0 (Rect.unit _ S1x256x128.size (inb_q 3))),
    qFst (View.ld x0 (Rect.unit _ S1x256x128.size (inb_q 4))),
    qSnd (View.ld x0 (Rect.unit _ S1x256x128.size (inb_q 5))),
    qFst (View.ld x0 (Rect.unit _ S1x256x128.size (inb_q 6))),
    qSnd (View.ld x0 (Rect.unit _ S1x256x128.size (inb_q 7)))] := by
  funext h
  match h with
  | 0 => exact (ld_fst x0 0 rfl _ _ rfl).symm
  | 1 => exact (ld_snd x0 1 rfl _ _ rfl).symm
  | 2 => exact (ld_fst x0 2 rfl _ _ rfl).symm
  | 3 => exact (ld_snd x0 3 rfl _ _ rfl).symm
  | 4 => exact (ld_fst x0 4 rfl _ _ rfl).symm
  | 5 => exact (ld_snd x0 5 rfl _ _ rfl).symm
  | 6 => exact (ld_fst x0 6 rfl _ _ rfl).symm
  | 7 => exact (ld_snd x0 7 rfl _ _ rfl).symm

/-- The state the loop starts from, where every chain's part is that of its own tile. -/
theorem init_inv {x0 : Vec Ideal S1x256x512 .f32} {x1 : Vec Ideal S4096x256 .bf16} {x2 : Vec Ideal S16x256x256 .bf16}
    {s : Fin 8 → Fin 256 → ℕ → ℝ} {v : Fin 8 → Fin 128 → ℕ → ℝ} (R : Reals x0 x1 x2 s v) (n : Fin 16)
    (m0 l0 m1 l1 m2 l2 m3 l3 m4 l4 m5 l5 m6 l6 m7 l7 : FVec Ideal S1x256 .f32) (a0 a1 a2 a3 a4 a5 a6 a7 : FVec Ideal S128x256 .f32)
    (M0 : m0 = initM (qHead x0 0) (kTile x1 n 0)) (L0 : l0 = initL (qHead x0 0) (kTile x1 n 0)) (A0 : a0 = initA (qHead x0 0) (kTile x1 n 0) (vTile x2 n 0)) (M1 : m1 = initM (qHead x0 1) (kTile x1 n 1)) (L1 : l1 = initL (qHead x0 1) (kTile x1 n 1)) (A1 : a1 = initA (qHead x0 1) (kTile x1 n 1) (vTile x2 n 1)) (M2 : m2 = initM (qHead x0 2) (kTile x1 n 2)) (L2 : l2 = initL (qHead x0 2) (kTile x1 n 2)) (A2 : a2 = initA (qHead x0 2) (kTile x1 n 2) (vTile x2 n 2)) (M3 : m3 = initM (qHead x0 3) (kTile x1 n 3)) (L3 : l3 = initL (qHead x0 3) (kTile x1 n 3)) (A3 : a3 = initA (qHead x0 3) (kTile x1 n 3) (vTile x2 n 3)) (M4 : m4 = initM (qHead x0 4) (kTile x1 n 4)) (L4 : l4 = initL (qHead x0 4) (kTile x1 n 4)) (A4 : a4 = initA (qHead x0 4) (kTile x1 n 4) (vTile x2 n 4)) (M5 : m5 = initM (qHead x0 5) (kTile x1 n 5)) (L5 : l5 = initL (qHead x0 5) (kTile x1 n 5)) (A5 : a5 = initA (qHead x0 5) (kTile x1 n 5) (vTile x2 n 5)) (M6 : m6 = initM (qHead x0 6) (kTile x1 n 6)) (L6 : l6 = initL (qHead x0 6) (kTile x1 n 6)) (A6 : a6 = initA (qHead x0 6) (kTile x1 n 6) (vTile x2 n 6)) (M7 : m7 = initM (qHead x0 7) (kTile x1 n 7)) (L7 : l7 = initL (qHead x0 7) (kTile x1 n 7)) (A7 : a7 = initA (qHead x0 7) (kTile x1 n 7) (vTile x2 n 7))
    (h : Fin 8) (e : Fin 128) (c : Fin 256) :
    Inv (s h c) (v h e) n.val c.val 0 ((comp (m0, l0, a0, m1, l1, a1, m2, l2, a2, m3, l3, a3, m4, l4, a4, m5, l5, a5, m6, l6, a6, m7, l7, a7) h).1 (ix2 0 c))
      ((comp (m0, l0, a0, m1, l1, a1, m2, l2, a2, m3, l3, a3, m4, l4, a4, m5, l5, a5, m6, l6, a6, m7, l7, a7) h).2.1 (ix2 0 c)) ((comp (m0, l0, a0, m1, l1, a1, m2, l2, a2, m3, l3, a3, m4, l4, a4, m5, l5, a5, m6, l6, a6, m7, l7, a7) h).2.2 (ix2 e c)) := by
  have H : comp (m0, l0, a0, m1, l1, a1, m2, l2, a2, m3, l3, a3, m4, l4, a4, m5, l5, a5, m6, l6, a6, m7, l7, a7) h = (initM (qHead x0 h) (kTile x1 n h), initL (qHead x0 h) (kTile x1 n h),
      initA (qHead x0 h) (kTile x1 n h) (vTile x2 n h)) :=
    match h with
    | 0 => show (m0, l0, a0) = _ by rw [M0, L0, A0]
    | 1 => show (m1, l1, a1) = _ by rw [M1, L1, A1]
    | 2 => show (m2, l2, a2) = _ by rw [M2, L2, A2]
    | 3 => show (m3, l3, a3) = _ by rw [M3, L3, A3]
    | 4 => show (m4, l4, a4) = _ by rw [M4, L4, A4]
    | 5 => show (m5, l5, a5) = _ by rw [M5, L5, A5]
    | 6 => show (m6, l6, a6) = _ by rw [M6, L6, A6]
    | 7 => show (m7, l7, a7) = _ by rw [M7, L7, A7]
  rw [H]
  dsimp only
  exact chain_init R n h e c

/-- The origin of a buffer of two axes. -/
theorem z2 : (![0, 0] : Fin 2 → Nat) = fun _ => 0 := by decide

/-- What the loop ends with gives the block: the means of its two chains, for every head. -/
theorem block_value {s : Fin 8 → Fin 256 → ℕ → ℝ} {v : Fin 8 → Fin 128 → ℕ → ℝ} (n : ℕ) (r : Carry)
    (key : ∀ (h : Fin 8) (e : Fin 128) (c : Fin 256), Inv (s h c) (v h e) n c.val n
      ((comp r h).1 (ix2 0 c)) ((comp r h).2.1 (ix2 0 c)) ((comp r h).2.2 (ix2 e c)))
    (x3 : Vec Ideal S4x64 .f32) (x4 : Vec Ideal S128x1 .f32) (h h' : Fin 8) (e : Fin 128) (c' : Fin 256) :
    k0_pay217 (k0_pay133 x3) (comp r h).2.1 (comp r h).2.2 (comp r h').2.1 (comp r h').2.2 x4 (ix3 0 e c')
      = subln (fun f => ((mean (s h c') (v h f) (256 * n + c'.val + 1) : ℝ) : EReal)
          - lam x3 * ((mean (s h' c') (v h' f) (256 * n + c'.val + 1) : ℝ) : EReal)) (x4 (ix2 e 0)) e := by
  rw [pay217_apply, pay133_apply]
  refine congrArg (fun o => subln o _ e) (funext fun f => ?_)
  rw [inv_final _ _ _ _ c'.isLt _ _ _ (key h f c'), inv_final _ _ _ _ c'.isLt _ _ _ (key h' f c')]

/-- The number of the chain of a head's map. -/
abbrev chain (h : Fin 4) (m : Fin 2) : Fin 8 := ⟨2 * h.val + m.val, by have := h.isLt; have := m.isLt; omega⟩

/-- The four heads' blocks, each from its two chains. -/
def heads (r : Carry) (x3 : Vec Ideal S4x64 .f32) (x4 : Vec Ideal S128x1 .f32) (h : Fin 4) : FVec Ideal S1x128x256 .bf16 :=
  k0_pay217 (k0_pay133 x3) (comp r (chain h 0)).2.1 (comp r (chain h 0)).2.2 (comp r (chain h 1)).2.1 (comp r (chain h 1)).2.2 x4

/-- THE OUTPUT BLOCK of a grid point that finds the batch's keys and values in the scratch buffers. -/
theorem out_value_B (c : Dev nD) (i : grid0.Coords) (arg2 : Memref sig .tc .vmem S1x256x512 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S4x64 .f32) (harg5 : arg5.IsWhole) (arg6 : Memref sig .tc .vmem S128x1 .f32) (harg6 : arg6.IsWhole) (arg7 : Memref sig .tc .vmem S1x512x256 .bf16) (harg7 : arg7.IsWhole) (arg8 : Memref sig .tc .vmem S4096x256 .bf16) (harg8 : arg8.IsWhole) (arg9 : Memref sig .tc .vmem S16x256x256 .bf16) (harg9 : arg9.IsWhole) (hc0 : ¬cond0_0 i)
    (x0 : Vec Ideal S1x256x512 .f32) (y1 y2 : Vec Ideal S1x4096x256 .f32) (x3 : Vec Ideal S4x64 .f32) (x4 : Vec Ideal S128x1 .f32)
    (x1 : Vec Ideal S4096x256 .bf16) (x2 : Vec Ideal S16x256x256 .bf16)
    (s : Fin 8 → Fin 256 → ℕ → ℝ) (v : Fin 8 → Fin 128 → ℕ → ℝ) (R : Reals x0 x1 x2 s v) (h : Fin 4) (e : Fin 128) (c' : Fin 256) :
    out0_B_5 c i arg2 harg2 arg3 harg3 arg4 harg4 arg5 harg5 arg6 harg6 arg7 harg7 arg8 harg8 arg9 harg9 hc0 x0 y1 y2 x3 x4 x1 x2
        (ix3 0 ⟨128 * h.val + e.val, by have := h.isLt; have := e.isLt; omega⟩ c')
      = subln (fun f => ((mean (s (chain h 0) c') (v (chain h 0) f) (256 * (i 1).val + c'.val + 1) : ℝ) : EReal)
          - lam x3 * ((mean (s (chain h 1) c') (v (chain h 1) f) (256 * (i 1).val + c'.val + 1) : ℝ) : EReal)) (x4 (ix2 e 0)) e := by
  have hK : kTile x1 (i 1) = fun h => View.ld x1 (Rect.unit _ S256x128.size (inb_own_k i h)) :=
    funext fun h => (ld_k x1 (i 1) h _ _ (by rw [own_row])).symm
  have hV : vTile x2 (i 1) = fun h => View.ld x2 (Rect.unit _ S1x128x256.size (inb_own_v i h)) :=
    funext fun h => (ld_v x2 (i 1) h _ _ (by rw [own_num])).symm
  have hQ := q_all x0
  unfold out0_B_5
  rw [View.read_writes_eq_canon _ _ _ (cover0_B_5 c i _ harg2 _ harg3 _ harg4 _ harg5 _ harg6 _ harg7 _ harg8 _ harg9 hc0 x0 y1 y2 x3 x4 x1 x2)]
  unfold kernelRun0_B
  dsimp only
  sl_unfold_words
  generalize hr2 : st_k0_t2 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ = r2
  generalize hr : st_k0_t1 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ = r at hr2
  have hr2' : st_k0_t2 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ (k0_t2_loop i).trips = r2 := hr2
  rw [trips2_eq, st_k0_t2_zero] at hr2'
  have e2 : r = r2 := hr2'
  clear hr2 hr2'
  subst e2
  simp only [View.readAt_eq_ld, harg2.read_unread, harg5.read_unread, harg6.read_unread, harg8.read_unread, harg9.read_unread] at hr ⊢
  rw [View.ld_unit_zero z2, View.ld_unit_zero z2]
  have key : ∀ (h : Fin 8) (e : Fin 128) (c : Fin 256), Inv (s h c) (v h e) (i 1).val c.val (i 1).val
      ((comp r h).1 (ix2 0 c)) ((comp r h).2.1 (ix2 0 c)) ((comp r h).2.2 (ix2 e c)) := by
    intro h e c
    have ht := trips_eq i
    refine st_inv (hr := (by rw [← ht]; exact hr.symm)) (R := R) (e8 := harg8.read_unread _) (e9 := harg9.read_unread _)
      (hk := ht.ge) (hq := ?_) (h0 := ?_) ..
    · rw [hQ]; rfl
    · refine init_inv R (i 1) _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ <;>
        (simp only [hQ, hK, hV]; rfl)
  refine (bands4_of _ _ _ _ (heads r x3 x4) _ _ _ _ ?_ ?_ ?_ ?_ h e c').trans
    (block_value (i 1).val r key x3 x4 (chain h 0) (chain h 1) e c')
  all_goals rfl

end Cert.DiffIdeal.Head

end
-- ==== Proof.DiffOutA.lean ====
/-
  The differential attention kernel's output block at a batch's first grid point, which fills the scratch buffers: the same
  normalised difference.
-/
module

public import proofs.«01_k».proof.Proof.DiffOut
public import proofs.«01_k».proof.Proof.Bands

@[expose] public section

set_option maxRecDepth 16384

noncomputable section

namespace Cert.DiffIdeal.Head

open Idealize.ShloMosaic Cert.DiffIdeal Cert.DiffIdeal.Gen Idealize.ShloMosaic.TcCoe Idealize.SL.Sem Cert.FlashMath Cert.Bands

/-- THE OUTPUT BLOCK of a grid point that fills the scratch buffers itself, with `x1` and `x2`. -/
theorem out_value_A (c : Dev nD) (i : grid0.Coords) (arg2 : Memref sig .tc .vmem S1x256x512 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S4x64 .f32) (harg5 : arg5.IsWhole) (arg6 : Memref sig .tc .vmem S128x1 .f32) (harg6 : arg6.IsWhole) (arg7 : Memref sig .tc .vmem S1x512x256 .bf16) (harg7 : arg7.IsWhole) (arg8 : Memref sig .tc .vmem S4096x256 .bf16) (harg8 : arg8.IsWhole) (arg9 : Memref sig .tc .vmem S16x256x256 .bf16) (harg9 : arg9.IsWhole) (hc0 : cond0_0 i)
    (x0 : Vec Ideal S1x256x512 .f32) (y1 y2 : Vec Ideal S1x4096x256 .f32) (x3 : Vec Ideal S4x64 .f32) (x4 : Vec Ideal S128x1 .f32)
    (x1 : Vec Ideal S4096x256 .bf16) (x2 : Vec Ideal S16x256x256 .bf16)
    (s : Fin 8 → Fin 256 → ℕ → ℝ) (v : Fin 8 → Fin 128 → ℕ → ℝ) (R : Reals x0 x1 x2 s v)
    (e1 : sout0_A_0 c i arg2 harg2 arg3 harg3 arg4 harg4 arg5 harg5 arg6 harg6 arg7 harg7 arg8 harg8 arg9 harg9 hc0 x0 y1 y2 x3 x4 = x1)
    (e2 : sout0_A_1 c i arg2 harg2 arg3 harg3 arg4 harg4 arg5 harg5 arg6 harg6 arg7 harg7 arg8 harg8 arg9 harg9 hc0 x0 y1 y2 x3 x4 = x2) (h : Fin 4) (e : Fin 128) (c' : Fin 256) :
    out0_A_5 c i arg2 harg2 arg3 harg3 arg4 harg4 arg5 harg5 arg6 harg6 arg7 harg7 arg8 harg8 arg9 harg9 hc0 x0 y1 y2 x3 x4
        (ix3 0 ⟨128 * h.val + e.val, by have := h.isLt; have := e.isLt; omega⟩ c')
      = subln (fun f => ((mean (s (chain h 0) c') (v (chain h 0) f) (256 * (i 1).val + c'.val + 1) : ℝ) : EReal)
          - lam x3 * ((mean (s (chain h 1) c') (v (chain h 1) f) (256 * (i 1).val + c'.val + 1) : ℝ) : EReal)) (x4 (ix2 e 0)) e := by
  have hK : kTile x1 (i 1) = fun h => View.ld x1 (Rect.unit _ S256x128.size (inb_own_k i h)) :=
    funext fun h => (ld_k x1 (i 1) h _ _ (by rw [own_row])).symm
  have hV : vTile x2 (i 1) = fun h => View.ld x2 (Rect.unit _ S1x128x256.size (inb_own_v i h)) :=
    funext fun h => (ld_v x2 (i 1) h _ _ (by rw [own_num])).symm
  have hQ := q_all x0
  have k8 : arg8.view.read (Elt Ideal) (arg8.view.writes (Elt Ideal) arg8.view.junk (kernelRun0_A c i arg2 harg2 arg3 harg3 arg4 harg4 arg5 harg5 arg6 harg6 arg7 harg7 arg8 harg8 arg9 harg9 hc0 x0 y1 y2 x3 x4).2.1) = x1 := by
    rw [View.read_writes_eq_canon _ _ _ (scover0_A_0 c i arg2 harg2 arg3 harg3 arg4 harg4 arg5 harg5 arg6 harg6 arg7 harg7 arg8 harg8 arg9 harg9 hc0 x0 y1 y2 x3 x4), ← e1]
    unfold sout0_A_0
    rw [View.read_writes_eq_canon _ _ _ (scover0_A_0 c i arg2 harg2 arg3 harg3 arg4 harg4 arg5 harg5 arg6 harg6 arg7 harg7 arg8 harg8 arg9 harg9 hc0 x0 y1 y2 x3 x4)]
  have k9 : arg9.view.read (Elt Ideal) (arg9.view.writes (Elt Ideal) arg9.view.junk (kernelRun0_A c i arg2 harg2 arg3 harg3 arg4 harg4 arg5 harg5 arg6 harg6 arg7 harg7 arg8 harg8 arg9 harg9 hc0 x0 y1 y2 x3 x4).2.2.1) = x2 := by
    rw [View.read_writes_eq_canon _ _ _ (scover0_A_1 c i arg2 harg2 arg3 harg3 arg4 harg4 arg5 harg5 arg6 harg6 arg7 harg7 arg8 harg8 arg9 harg9 hc0 x0 y1 y2 x3 x4), ← e2]
    unfold sout0_A_1
    rw [View.read_writes_eq_canon _ _ _ (scover0_A_1 c i arg2 harg2 arg3 harg3 arg4 harg4 arg5 harg5 arg6 harg6 arg7 harg7 arg8 harg8 arg9 harg9 hc0 x0 y1 y2 x3 x4)]
  revert k8 k9
  unfold out0_A_5
  rw [View.read_writes_eq_canon _ _ _ (cover0_A_5 c i _ harg2 _ harg3 _ harg4 _ harg5 _ harg6 _ harg7 _ harg8 _ harg9 hc0 x0 y1 y2 x3 x4)]
  unfold kernelRun0_A
  dsimp only
  sl_unfold_words
  intro k8 k9
  generalize hr2 : st_k0_t2 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ = r2
  generalize hr : st_k0_t1 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ = r at hr2
  have hr2' : st_k0_t2 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ (k0_t2_loop i).trips = r2 := hr2
  rw [trips2_eq, st_k0_t2_zero] at hr2'
  have er : r = r2 := hr2'
  clear hr2 hr2'
  subst er
  simp only [View.readAt_eq_ld, harg2.read_unread, harg5.read_unread, harg6.read_unread, harg3.read_unread, harg4.read_unread] at hr k8 k9 ⊢
  simp only [k8, k9] at hr
  rw [View.ld_unit_zero z2, View.ld_unit_zero z2]
  have key : ∀ (h : Fin 8) (e : Fin 128) (c : Fin 256), Inv (s h c) (v h e) (i 1).val c.val (i 1).val
      ((comp r h).1 (ix2 0 c)) ((comp r h).2.1 (ix2 0 c)) ((comp r h).2.2 (ix2 e c)) := by
    intro h e c
    have ht := trips_eq i
    refine st_inv (hr := (by rw [← ht]; exact hr.symm)) (R := R) (e8 := k8) (e9 := k9)
      (hk := ht.ge) (hq := ?_) (h0 := ?_) ..
    · rw [hQ]; rfl
    · refine init_inv R (i 1) _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ <;>
        (simp only [hQ, hK, hV]; rfl)
  refine (bands4_of _ _ _ _ (heads r x3 x4) _ _ _ _ ?_ ?_ ?_ ?_ h e c').trans
    (block_value (i 1).val r key x3 x4 (chain h 0) (chain h 1) e c')
  all_goals rfl

end Cert.DiffIdeal.Head

end
-- ==== Proof.DiffScratch.lean ====
/-
  The differential attention kernel's scratch buffers after a batch's first grid point: the batch's keys as they are, and its
  values turned by tile.
-/
module

public import proofs.«01_k».proof.Proof.DiffOutA
public import proofs.«01_k».proof.Proof.Bands

@[expose] public section

set_option maxRecDepth 16384

noncomputable section

namespace Cert.DiffIdeal.Head

open Idealize.ShloMosaic Cert.DiffIdeal Cert.DiffIdeal.Gen Idealize.ShloMosaic.TcCoe Idealize.SL.Sem Cert.FlashMath Cert.Bands

/-- The turned values' shape. -/
abbrev Tiles : Shape := ⟨3, ![16, 256, 256]⟩

/-- Tile `n` of the turned values. -/
abbrev tile (n : ℕ) (inb : ∀ a, (![n, 0, 0] : Fin 3 → ℕ) a + (![1, 256, 256] : Fin 3 → ℕ) a ≤ Tiles.size a) : Rect Tiles :=
  Rect.unit ![n, 0, 0] ![1, 256, 256] inb

section
variable {Val : EltTy → Type} [∀ e, Nonempty (Val e)] {t : EltTy}

/-- In the last tile written, its payload is read. -/
theorem tile_hit (n : ℕ) (inb) (w : (tile n inb).shape.Idx → Val t) (L : List (View.Piece Val Tiles t)) (e : Fin 256)
    (c : Fin 256) (hr : n < 16) :
    View.canon ((⟨tile n inb, w⟩ : View.Piece Val Tiles t) :: L) (ix3 ⟨n, hr⟩ e c) = w (ix3 (0 : Fin 1) e c) := by
  refine (congrArg (View.canon ((⟨tile n inb, w⟩ : View.Piece Val Tiles t) :: L)) ?_).trans
    (View.canon_cons_emb (tile n inb) w L (ix3 (0 : Fin 1) e c))
  funext a
  apply Fin.ext
  fin_cases a
  · rfl
  · show e.val = 0 + 1 * e.val
    omega
  · show c.val = 0 + 1 * c.val
    omega

/-- Off the last tile written, the earlier ones are read. -/
theorem tile_miss (n : ℕ) (inb) (w : (tile n inb).shape.Idx → Val t) (L : List (View.Piece Val Tiles t)) (j : Fin 16)
    (e c : Fin 256) (h : j.val < n) :
    View.canon ((⟨tile n inb, w⟩ : View.Piece Val Tiles t) :: L) (ix3 j e c) = View.canon L (ix3 j e c) := by
  refine View.canon_cons_of_not_mem _ _ fun hm => ?_
  have h1 := (Rect.mem_set_unit (inb := inb) |>.mp hm) (0 : Fin 3)
  have a1 : n ≤ j.val := h1.1
  omega

/-- The sixteen tiles, the last written first. -/
theorem tiles16 (i0 : ∀ a, (![0, 0, 0] : Fin 3 → ℕ) a + (![1, 256, 256] : Fin 3 → ℕ) a ≤ Tiles.size a) (i1 i2 i3 i4 i5 i6 i7 i8 i9 i10 i11 i12 i13 i14 i15)
    (w : Fin 16 → Shape.Idx ⟨3, ![1, 256, 256]⟩ → Val t) (w0 w1 w2 w3 w4 w5 w6 w7 w8 w9 w10 w11 w12 w13 w14 w15 : Shape.Idx ⟨3, ![1, 256, 256]⟩ → Val t)
    (e0 : w0 = w 0) (e1 : w1 = w 1) (e2 : w2 = w 2) (e3 : w3 = w 3) (e4 : w4 = w 4) (e5 : w5 = w 5) (e6 : w6 = w 6) (e7 : w7 = w 7) (e8 : w8 = w 8) (e9 : w9 = w 9) (e10 : w10 = w 10) (e11 : w11 = w 11) (e12 : w12 = w 12) (e13 : w13 = w 13) (e14 : w14 = w 14) (e15 : w15 = w 15) (j : Fin 16) (e c : Fin 256) :
    View.canon ([⟨tile 15 i15, w15⟩, ⟨tile 14 i14, w14⟩, ⟨tile 13 i13, w13⟩, ⟨tile 12 i12, w12⟩, ⟨tile 11 i11, w11⟩, ⟨tile 10 i10, w10⟩, ⟨tile 9 i9, w9⟩, ⟨tile 8 i8, w8⟩, ⟨tile 7 i7, w7⟩, ⟨tile 6 i6, w6⟩, ⟨tile 5 i5, w5⟩, ⟨tile 4 i4, w4⟩, ⟨tile 3 i3, w3⟩, ⟨tile 2 i2, w2⟩, ⟨tile 1 i1, w1⟩, ⟨tile 0 i0, w0⟩] : List (View.Piece Val Tiles t)) (ix3 j e c) = w j (ix3 (0 : Fin 1) e c) := by
  subst e0 e1 e2 e3 e4 e5 e6 e7 e8 e9 e10 e11 e12 e13 e14 e15
  have hj := j.isLt
  obtain ⟨j, hlt⟩ := j
  interval_cases j
  · iterate 15 rw [tile_miss _ _ _ _ _ _ _ (by simp only; omega)]
    exact tile_hit 0 _ _ _ e c (by omega)
  · iterate 14 rw [tile_miss _ _ _ _ _ _ _ (by simp only; omega)]
    exact tile_hit 1 _ _ _ e c (by omega)
  · iterate 13 rw [tile_miss _ _ _ _ _ _ _ (by simp only; omega)]
    exact tile_hit 2 _ _ _ e c (by omega)
  · iterate 12 rw [tile_miss _ _ _ _ _ _ _ (by simp only; omega)]
    exact tile_hit 3 _ _ _ e c (by omega)
  · iterate 11 rw [tile_miss _ _ _ _ _ _ _ (by simp only; omega)]
    exact tile_hit 4 _ _ _ e c (by omega)
  · iterate 10 rw [tile_miss _ _ _ _ _ _ _ (by simp only; omega)]
    exact tile_hit 5 _ _ _ e c (by omega)
  · iterate 9 rw [tile_miss _ _ _ _ _ _ _ (by simp only; omega)]
    exact tile_hit 6 _ _ _ e c (by omega)
  · iterate 8 rw [tile_miss _ _ _ _ _ _ _ (by simp only; omega)]
    exact tile_hit 7 _ _ _ e c (by omega)
  · iterate 7 rw [tile_miss _ _ _ _ _ _ _ (by simp only; omega)]
    exact tile_hit 8 _ _ _ e c (by omega)
  · iterate 6 rw [tile_miss _ _ _ _ _ _ _ (by simp only; omega)]
    exact tile_hit 9 _ _ _ e c (by omega)
  · iterate 5 rw [tile_miss _ _ _ _ _ _ _ (by simp only; omega)]
    exact tile_hit 10 _ _ _ e c (by omega)
  · iterate 4 rw [tile_miss _ _ _ _ _ _ _ (by simp only; omega)]
    exact tile_hit 11 _ _ _ e c (by omega)
  · iterate 3 rw [tile_miss _ _ _ _ _ _ _ (by simp only; omega)]
    exact tile_hit 12 _ _ _ e c (by omega)
  · iterate 2 rw [tile_miss _ _ _ _ _ _ _ (by simp only; omega)]
    exact tile_hit 13 _ _ _ e c (by omega)
  · iterate 1 rw [tile_miss _ _ _ _ _ _ _ (by simp only; omega)]
    exact tile_hit 14 _ _ _ e c (by omega)
  · exact tile_hit 15 _ _ _ e c (by omega)

end

/-- A batch's keys as a matrix. -/
def keys (y1 : Vec Ideal S1x4096x256 .f32) : Vec Ideal S4096x256 .bf16 := fun x => y1 (ix3 0 (x 0) (x 1))

/-- A batch's values turned by tile: features by keys. -/
def vals (y2 : Vec Ideal S1x4096x256 .f32) : Vec Ideal S16x256x256 .bf16 := fun x =>
  y2 (ix3 0 ⟨256 * (x 0).val + (x 2).val, by have : (x 0).val < 16 := (x 0).isLt; have : (x 2).val < 256 := (x 2).isLt; omega⟩ (x 1))

/-- The keys' scratch buffer. -/
theorem keys_eq (c : Dev nD) (i : grid0.Coords) (arg2 : Memref sig .tc .vmem S1x256x512 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S4x64 .f32) (harg5 : arg5.IsWhole) (arg6 : Memref sig .tc .vmem S128x1 .f32) (harg6 : arg6.IsWhole) (arg7 : Memref sig .tc .vmem S1x512x256 .bf16) (harg7 : arg7.IsWhole) (arg8 : Memref sig .tc .vmem S4096x256 .bf16) (harg8 : arg8.IsWhole) (arg9 : Memref sig .tc .vmem S16x256x256 .bf16) (harg9 : arg9.IsWhole) (hc0 : cond0_0 i)
    (x0 : Vec Ideal S1x256x512 .f32) (y1 y2 : Vec Ideal S1x4096x256 .f32) (x3 : Vec Ideal S4x64 .f32) (x4 : Vec Ideal S128x1 .f32) :
    sout0_A_0 c i arg2 harg2 arg3 harg3 arg4 harg4 arg5 harg5 arg6 harg6 arg7 harg7 arg8 harg8 arg9 harg9 hc0 x0 y1 y2 x3 x4 = keys y1 := by
  unfold sout0_A_0
  rw [View.read_writes_eq_canon _ _ _ (scover0_A_0 c i arg2 harg2 arg3 harg3 arg4 harg4 arg5 harg5 arg6 harg6 arg7 harg7 arg8 harg8 arg9 harg9 hc0 x0 y1 y2 x3 x4)]
  unfold kernelRun0_A
  dsimp only
  sl_unfold_words
  simp only [View.readAt_eq_ld, harg3.read_unread]
  refine (View.canon_unit_zero (Val := Elt Ideal) z2 _ _).trans ?_
  funext x
  have hx : x = ix2 (x 0) (x 1) := by
    funext a; fin_cases a <;> rfl
  rw [hx]
  pointwise [keys]

/-- One tile of the values, turned. -/
def turned (y2 : Vec Ideal S1x4096x256 .f32) (j : Fin 16) : Shape.Idx ⟨3, ![1, 256, 256]⟩ → EReal := fun x =>
  vals y2 (ix3 j (x 1) (x 2))

/-- A tile of the values as the kernel turns it. -/
theorem turned_eq (y2 : Vec Ideal S1x4096x256 .f32) (j : Fin 16) (o : ℕ) (ho : o = 256 * j.val)
    (inb : ∀ a, (![0, o, 0] : Fin 3 → ℕ) a + S1x256x256.size a ≤ S1x4096x256.size a) :
    k0_pay129 (View.ld y2 (Rect.unit ![0, o, 0] S1x256x256.size inb)) = turned y2 j := by
  subst ho
  funext x
  have hx : x = ix3 0 (x 1) (x 2) := by
    funext a
    fin_cases a
    · exact Subsingleton.elim (α := Fin 1) _ _
    all_goals rfl
  rw [hx]
  pointwise [k0_pay129, turned, vals]

/-- The values' scratch buffer. -/
theorem vals_eq (c : Dev nD) (i : grid0.Coords) (arg2 : Memref sig .tc .vmem S1x256x512 .f32) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S4x64 .f32) (harg5 : arg5.IsWhole) (arg6 : Memref sig .tc .vmem S128x1 .f32) (harg6 : arg6.IsWhole) (arg7 : Memref sig .tc .vmem S1x512x256 .bf16) (harg7 : arg7.IsWhole) (arg8 : Memref sig .tc .vmem S4096x256 .bf16) (harg8 : arg8.IsWhole) (arg9 : Memref sig .tc .vmem S16x256x256 .bf16) (harg9 : arg9.IsWhole) (hc0 : cond0_0 i)
    (x0 : Vec Ideal S1x256x512 .f32) (y1 y2 : Vec Ideal S1x4096x256 .f32) (x3 : Vec Ideal S4x64 .f32) (x4 : Vec Ideal S128x1 .f32) :
    sout0_A_1 c i arg2 harg2 arg3 harg3 arg4 harg4 arg5 harg5 arg6 harg6 arg7 harg7 arg8 harg8 arg9 harg9 hc0 x0 y1 y2 x3 x4 = vals y2 := by
  unfold sout0_A_1
  rw [View.read_writes_eq_canon _ _ _ (scover0_A_1 c i arg2 harg2 arg3 harg3 arg4 harg4 arg5 harg5 arg6 harg6 arg7 harg7 arg8 harg8 arg9 harg9 hc0 x0 y1 y2 x3 x4)]
  unfold kernelRun0_A
  dsimp only
  sl_unfold_words
  simp only [View.readAt_eq_ld, harg4.read_unread]
  funext x
  have hx : x = ix3 (x 0) (x 1) (x 2) := by
    funext a; fin_cases a <;> rfl
  rw [hx]
  refine (tiles16 _ _ _ _ _ _ _ _ _ _ _ _ _ _ _ _ (turned y2) _ _ _ _ _ _ _ _ _ _ _ _ _ _ _ _ ?_ ?_ ?_ ?_ ?_ ?_ ?_ ?_ ?_ ?_ ?_ ?_ ?_ ?_ ?_ ?_ (x 0) (x 1) (x 2)).trans rfl
  · exact turned_eq y2 0 0 rfl _
  · exact turned_eq y2 1 256 rfl _
  · exact turned_eq y2 2 512 rfl _
  · exact turned_eq y2 3 768 rfl _
  · exact turned_eq y2 4 1024 rfl _
  · exact turned_eq y2 5 1280 rfl _
  · exact turned_eq y2 6 1536 rfl _
  · exact turned_eq y2 7 1792 rfl _
  · exact turned_eq y2 8 2048 rfl _
  · exact turned_eq y2 9 2304 rfl _
  · exact turned_eq y2 10 2560 rfl _
  · exact turned_eq y2 11 2816 rfl _
  · exact turned_eq y2 12 3072 rfl _
  · exact turned_eq y2 13 3328 rfl _
  · exact turned_eq y2 14 3584 rfl _
  · exact turned_eq y2 15 3840 rfl _

end Cert.DiffIdeal.Head

end
-- ==== Proof.DiffHost.lean ====
/-
  The differential attention in plain terms, the kernel's operands as the host hands them over, and the blocks a point reads.
-/
module

public import proofs.«01_k».proof.Proof.DiffScratch
public import proofs.«01_k».proof.Proof.Gen.DiffIdeal.Value
public import Idealize.ShloMosaic.Lib.Pipeline.ValueKit

@[expose] public section

set_option maxRecDepth 16384

noncomputable section

namespace Cert.DiffIdeal.HostValue

open Idealize.ShloMosaic Cert.DiffIdeal Cert.DiffIdeal.Gen Idealize.ShloMosaic.TcCoe Idealize.SL.Sem Cert.FlashMath Cert.DiffIdeal.Head

/-! ## The result in plain terms -/

/-- Every entry of an array is a real number. -/
def Finite {s : Shape} (x : s.Idx → EReal) : Prop := ∀ i, x i = ((x i).toReal : EReal)

/-- The products of a query with a key, in one map of one head; two heads share their keys. -/
def dots (x0 : FVec Ideal S8x4096x4x2x64 .f32) (x1 : FVec Ideal S8x4096x2x128 .f32) (b : Fin 8) (h : Fin 4) (n : Fin 2)
    (t : Fin 4096) (k : ℕ) : ℝ :=
  if hk : k < 4096 then
    ∑ d : Fin 64, (x1 (ix4 b ⟨k, hk⟩ ⟨h.val / 2, by omega⟩ ⟨64 * n.val + d.val, by omega⟩)).toReal * (x0 (ix5 b t h n d)).toReal
  else 0

/-- The scaled score, as a power of two. -/
def score (x0 : FVec Ideal S8x4096x4x2x64 .f32) (x1 : FVec Ideal S8x4096x2x128 .f32) (b : Fin 8) (h : Fin 4) (n : Fin 2)
    (t : Fin 4096) (k : ℕ) : ℝ :=
  dots x0 x1 b h n t k * (8⁻¹ * (Real.log 2)⁻¹)

/-- A value; two heads share theirs. -/
def value (x2 : FVec Ideal S8x4096x2x128 .f32) (b : Fin 8) (h : Fin 4) (e : Fin 128) (k : ℕ) : ℝ :=
  if hk : k < 4096 then (x2 (ix4 b ⟨k, hk⟩ ⟨h.val / 2, by omega⟩ e)).toReal else 0

/-- One map's output at a query: the weighted mean of the values over the keys up to it. -/
def out (x0 : FVec Ideal S8x4096x4x2x64 .f32) (x1 x2 : FVec Ideal S8x4096x2x128 .f32) (b : Fin 8) (h : Fin 4) (n : Fin 2)
    (t : Fin 4096) (e : Fin 128) : ℝ :=
  mean (score x0 x1 b h n t) (value x2 b h e) (t.val + 1)

/-- The result at a head's feature and a query. -/
def entry (x0 : FVec Ideal S8x4096x4x2x64 .f32) (x1 x2 : FVec Ideal S8x4096x2x128 .f32)
    (x3 : FVec Ideal S4x64 .f32) (x4 : FVec Ideal S128 .f32) (b : Fin 8) (h : Fin 4) (e : Fin 128) (t : Fin 4096) : EReal :=
  subln (fun f => ((out x0 x1 x2 b h 0 t f : ℝ) : EReal) - lam x3 * ((out x0 x1 x2 b h 1 t f : ℝ) : EReal)) (x4 (ix1 e)) e

/-- The result: features by queries. -/
def result (x0 : FVec Ideal S8x4096x4x2x64 .f32) (x1 x2 : FVec Ideal S8x4096x2x128 .f32)
    (x3 : FVec Ideal S4x64 .f32) (x4 : FVec Ideal S128 .f32) : FVec Ideal S8x512x4096 .bf16 := fun i =>
  entry x0 x1 x2 x3 x4 (i 0) ⟨(i 1).val / 128, by have : (i 1).val < 512 := (i 1).isLt; omega⟩ ⟨(i 1).val % 128, by omega⟩ (i 2)

/-! ## The scores' scale -/

/-- The named scale denotes one eighth over the logarithm of 2. -/
theorem scale_eq : scale = ((8⁻¹ * (Real.log 2)⁻¹ : ℝ) : EReal) :=
  IdealRules.named_const.ideal_named_scalar _ _ _ _ rfl

/-- A sum over a head's 128 lanes where the query is zero off its map's: the map's 64. -/
theorem half_sum (K Q : Fin 128 → ℝ) (n : Fin 2) :
    ∑ d : Fin 128, (K d : EReal) * (if d.val / 64 = n.val then (Q d : EReal) * scale else 0)
      = (((∑ d : Fin 64, K ⟨64 * n.val + d.val, by omega⟩ * Q ⟨64 * n.val + d.val, by omega⟩) * (8⁻¹ * (Real.log 2)⁻¹) : ℝ) : EReal) := by
  have e : ∀ d : Fin 128, (K d : EReal) * (if d.val / 64 = n.val then (Q d : EReal) * scale else 0)
      = ((if d.val / 64 = n.val then K d * Q d * (8⁻¹ * (Real.log 2)⁻¹) else 0 : ℝ) : EReal) := by
    intro d
    rw [scale_eq]
    split_ifs
    · simp only [EReal.coe_mul, mul_assoc]
    · simp
  simp only [e]
  rw [← coe_sum, Finset.sum_mul]
  congr 1
  refine (Fin.sum_univ_add (a := 64) (b := 64) _).trans ?_
  obtain ⟨n, hn⟩ := n
  interval_cases n
  · refine (congrArg₂ (· + ·) (Finset.sum_congr rfl fun d _ => ?_) (Finset.sum_eq_zero fun d _ => ?_)).trans (add_zero _)
    · rw [if_pos (show (Fin.castAdd 64 d).val / 64 = 0 by have := d.isLt; show d.val / 64 = 0; omega)]
      have e1 : (Fin.castAdd 64 d : Fin 128) = ⟨64 * 0 + d.val, by omega⟩ := Fin.ext (by show d.val = 64 * 0 + d.val; omega)
      rw [e1]
    · exact if_neg (show ¬(Fin.natAdd 64 d).val / 64 = 0 by show ¬(64 + d.val) / 64 = 0; omega)
  · refine (congrArg₂ (· + ·) (Finset.sum_eq_zero fun d _ => ?_) (Finset.sum_congr rfl fun d _ => ?_)).trans (zero_add _)
    · exact if_neg (show ¬(Fin.castAdd 64 d).val / 64 = 1 by have := d.isLt; show ¬d.val / 64 = 1; omega)
    · rw [if_pos (show (Fin.natAdd 64 d).val / 64 = 1 by have := d.isLt; show (64 + d.val) / 64 = 1; omega)]
      have e1 : (Fin.natAdd 64 d : Fin 128) = ⟨64 * 1 + d.val, by omega⟩ := Fin.ext (by show 64 + d.val = 64 * 1 + d.val; omega)
      rw [e1]

/-! ## The operands as the host hands them over -/

/-- The queries, every head's two maps side by side. -/
theorem flatQ_apply (x : FVec Ideal S8x4096x4x2x64 .f32) (b : Fin 8) (t : Fin 4096) (h : Fin 4) (d : Fin 128) :
    shapeCast S8x4096x512 x shapeCasts_S8x4096x4x2x64_S8x4096x512 (ix3 b t ⟨128 * h.val + d.val, by omega⟩)
      = x (ix5 b t h ⟨d.val / 64, by omega⟩ ⟨d.val % 64, by omega⟩) :=
  shapeCast_apply x shapeCasts_S8x4096x4x2x64_S8x4096x512 _ _ (by
    rewrite [Shape.rowMajor_val_five, Shape.rowMajor_val_three]
    show (((b.val * 4096 + t.val) * 4 + h.val) * 2 + d.val / 64) * 64 + d.val % 64 = (b.val * 4096 + t.val) * 512 + (128 * h.val + d.val)
    omega)

/-- The keys, and the values, of the two groups side by side. -/
theorem flatK_apply (x : FVec Ideal S8x4096x2x128 .f32) (b : Fin 8) (t : Fin 4096) (g : Fin 2) (d : Fin 128) :
    shapeCast S8x4096x256 x shapeCasts_S8x4096x2x128_S8x4096x256 (ix3 b t ⟨128 * g.val + d.val, by omega⟩) = x (ix4 b t g d) :=
  shapeCast_apply x shapeCasts_S8x4096x2x128_S8x4096x256 _ _ (by
    rewrite [Shape.rowMajor_val_four, Shape.rowMajor_val_three]
    show ((b.val * 4096 + t.val) * 2 + g.val) * 128 + d.val = (b.val * 4096 + t.val) * 256 + (128 * g.val + d.val)
    omega)

/-- The gain as one column. -/
theorem gain_apply (x : FVec Ideal S128 .f32) (e : Fin 128) : shapeCast S128x1 x shapeCasts_S128_S128x1 (ix2 e 0) = x (ix1 e) := by
  pointwise []

variable (m : (ℓ : Loc nD τ sig) → Buf (Elt Ideal) ℓ) (c : Dev nD)

/-- The queries at the kernel's start. -/
theorem V_q : V m c main_v0 = shapeCast S8x4096x512 (m ((c : Thread nD τ).loc main_arg0)) shapeCasts_S8x4096x4x2x64_S8x4096x512 := by
  unfold V
  after_results_simp
  rfl

/-- The keys at the kernel's start. -/
theorem V_k : V m c main_v1 = shapeCast S8x4096x256 (m ((c : Thread nD τ).loc main_arg1)) shapeCasts_S8x4096x2x128_S8x4096x256 := by
  unfold V
  after_results_simp
  rfl

/-- The values at the kernel's start. -/
theorem V_v : V m c main_v2 = shapeCast S8x4096x256 (m ((c : Thread nD τ).loc main_arg2)) shapeCasts_S8x4096x2x128_S8x4096x256 := by
  unfold V
  after_results_simp
  rfl

/-- The gain at the kernel's start. -/
theorem V_g : V m c main_v3 = shapeCast S128x1 (m ((c : Thread nD τ).loc main_arg4)) shapeCasts_S128_S128x1 := by
  unfold V
  after_results_simp
  rfl

/-- The lambda vectors are an argument. -/
theorem V_l : V m c main_arg3 = m ((c : Thread nD τ).loc main_arg3) := by
  unfold V
  after_results_simp
  try rfl

/-! ## The blocks a point reads -/

/-- The blocks of the queries: batch, query tile. -/
theorem index_q : ∀ t : Fin cfg0.N, win0_0.index t = ![(grid0.coords t 0).val, (grid0.coords t 1).val, 0] :=
  (by decide +kernel : ∀ t : Fin grid0.N, _)
/-- The blocks of the keys: batch. -/
theorem index_k : ∀ t : Fin cfg0.N, win0_1.index t = ![(grid0.coords t 0).val, 0, 0] :=
  (by decide +kernel : ∀ t : Fin grid0.N, _)
/-- The blocks of the values: batch. -/
theorem index_v : ∀ t : Fin cfg0.N, win0_2.index t = ![(grid0.coords t 0).val, 0, 0] :=
  (by decide +kernel : ∀ t : Fin grid0.N, _)
/-- The lambda vectors are one block. -/
theorem index_l : ∀ t : Fin cfg0.N, win0_3.index t = ![0, 0] :=
  (by decide +kernel : ∀ t : Fin grid0.N, _)
/-- The gain is one block. -/
theorem index_g : ∀ t : Fin cfg0.N, win0_4.index t = ![0, 0] :=
  (by decide +kernel : ∀ t : Fin grid0.N, _)
/-- The blocks of the result: batch, query tile. -/
theorem index_o : ∀ t : Fin cfg0.N, win0_5.index t = ![(grid0.coords t 0).val, 0, (grid0.coords t 1).val] :=
  (by decide +kernel : ∀ t : Fin grid0.N, _)

/-- A point's batch and query tile. -/
theorem coords_lt (t : Fin cfg0.N) : (grid0.coords t 0).val < 8 ∧ (grid0.coords t 1).val < 16 :=
  ⟨(grid0.coords t 0).isLt, (grid0.coords t 1).isLt⟩

/-- A point's batch is its number's sixteenth. -/
theorem batch_eq : ∀ t : Fin cfg0.N, (grid0.coords t 0).val = t.val / 16 :=
  (by decide +kernel : ∀ t : Fin grid0.N, _)

/-- A block of the queries. -/
theorem iblk_q (t : Fin cfg0.N) (b : Fin 8) (n : Fin 16) (hb : (grid0.coords t 0).val = b.val)
    (hn : (grid0.coords t 1).val = n.val) (z : FVec Ideal S8x4096x512 .f32) (hz : V m c main_v0 = z) (q : Fin 256) (l : Fin 512) :
    iblk m c 0 t (ix3 0 q l) = z (ix3 b ⟨256 * n.val + q.val, by omega⟩ l) := by
  unfold iblk
  generalize V m c = W at hz ⊢
  rw [← hz]
  blk_simp [index_q]
  refine congrArg (W main_v0) ?_
  blk_ext [index_q]

/-- A batch of an array of 4096 rows, as one block of a matrix. -/
def batch (z : FVec Ideal S8x4096x256 .f32) (b : Fin 8) : Vec Ideal S1x4096x256 .f32 := fun x => z (ix3 b (x 1) (x 2))

/-- The block of the keys at a point: the batch's. -/
def blkK (t : Fin cfg0.N) : Vec Ideal S1x4096x256 .f32 := iblk m c 1 t

/-- It is the batch. -/
theorem iblk_k (t : Fin cfg0.N) (b : Fin 8) (hb : (grid0.coords t 0).val = b.val)
    (z : FVec Ideal S8x4096x256 .f32) (hz : V m c main_v1 = z) : blkK m c t = batch z b := by
  funext x
  have o0 : ((win0_1.blk t).view.emb x 0).val = b.val := by
    have hx : (x 0).val < 1 := (x 0).isLt
    blk_simp [index_k]
    omega
  have o1 : ((win0_1.blk t).view.emb x 1).val = (x 1).val := by
    blk_simp [index_k]
  have o2 : ((win0_1.blk t).view.emb x 2).val = (x 2).val := by
    blk_simp [index_k]
  have e : (win0_1.blk t).view.emb x = ix3 b (x 1) (x 2) := by
    have o : ∀ a : Fin 3, ((win0_1.blk t).view.emb x a).val = ((ix3 b (x 1) (x 2) : S8x4096x256.Idx) a).val :=
      Fin.forall_fin_succ.2 ⟨o0, Fin.forall_fin_succ.2 ⟨o1, Fin.forall_fin_succ.2 ⟨o2, fun a => a.elim0⟩⟩⟩
    exact funext fun a => Fin.ext (o a)
  unfold blkK iblk batch
  generalize V m c = W at hz ⊢
  rw [View.read_apply, e, hz]
  exact cast_eq _ _

/-- The block of the values at a point: the batch's. -/
def blkV (t : Fin cfg0.N) : Vec Ideal S1x4096x256 .f32 := iblk m c 2 t

/-- It is the batch. -/
theorem iblk_v (t : Fin cfg0.N) (b : Fin 8) (hb : (grid0.coords t 0).val = b.val)
    (z : FVec Ideal S8x4096x256 .f32) (hz : V m c main_v2 = z) : blkV m c t = batch z b := by
  funext x
  have o0 : ((win0_2.blk t).view.emb x 0).val = b.val := by
    have hx : (x 0).val < 1 := (x 0).isLt
    blk_simp [index_v]
    omega
  have o1 : ((win0_2.blk t).view.emb x 1).val = (x 1).val := by
    blk_simp [index_v]
  have o2 : ((win0_2.blk t).view.emb x 2).val = (x 2).val := by
    blk_simp [index_v]
  have e : (win0_2.blk t).view.emb x = ix3 b (x 1) (x 2) := by
    have o : ∀ a : Fin 3, ((win0_2.blk t).view.emb x a).val = ((ix3 b (x 1) (x 2) : S8x4096x256.Idx) a).val :=
      Fin.forall_fin_succ.2 ⟨o0, Fin.forall_fin_succ.2 ⟨o1, Fin.forall_fin_succ.2 ⟨o2, fun a => a.elim0⟩⟩⟩
    exact funext fun a => Fin.ext (o a)
  unfold blkV iblk batch
  generalize V m c = W at hz ⊢
  rw [View.read_apply, e, hz]
  exact cast_eq _ _

/-- The block of the lambda vectors. -/
theorem iblk_l (t : Fin cfg0.N) (z : FVec Ideal S4x64 .f32) (hz : V m c main_arg3 = z) (n : Fin 4) (k : Fin 64) :
    iblk m c 3 t (ix2 n k) = z (ix2 n k) := by
  unfold iblk
  generalize V m c = W at hz ⊢
  rw [← hz]
  blk_simp [index_l]
  refine congrArg (W main_arg3) ?_
  blk_ext [index_l]

/-- The block of the gain. -/
theorem iblk_g (t : Fin cfg0.N) (z : FVec Ideal S128x1 .f32) (hz : V m c main_v3 = z) (k : Fin 128) :
    iblk m c 4 t (ix2 k 0) = z (ix2 k 0) := by
  unfold iblk
  generalize V m c = W at hz ⊢
  rw [← hz]
  blk_simp [index_g]
  refine congrArg (W main_v3) ?_
  blk_ext [index_g]

/-! ## What the scratch buffers hold at every point: the batch's keys and values -/

/-- The keys' buffer after a batch's first point. -/
theorem keys_first (t : Fin cfg0.N) (h0 : cond0_0 (grid0.coords t)) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 (iblk m c 0 t) (iblk m c 1 t) (iblk m c 2 t) (iblk m c 3 t) (iblk m c 4 t) = keys (blkK m c t) :=
  keys_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 (iblk m c 0 t) (iblk m c 1 t) (iblk m c 2 t) (iblk m c 3 t) (iblk m c 4 t)

/-- The values' buffer after a batch's first point. -/
theorem vals_first (t : Fin cfg0.N) (h0 : cond0_0 (grid0.coords t)) :
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 (iblk m c 0 t) (iblk m c 1 t) (iblk m c 2 t) (iblk m c 3 t) (iblk m c 4 t) = vals (blkV m c t) :=
  vals_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 (iblk m c 0 t) (iblk m c 1 t) (iblk m c 2 t) (iblk m c 3 t) (iblk m c 4 t)

end Cert.DiffIdeal.HostValue

end
-- ==== Proof.DiffArr.lean ====
/-
  The differential attention kernel's result array: at every query, the normalised difference of the two maps' weighted means.
-/
module

public import proofs.«01_k».proof.Proof.DiffHost
public import Idealize.ShloMosaic.Lib.Pipeline.ValueKit

@[expose] public section

set_option maxRecDepth 16384

noncomputable section

namespace Cert.DiffIdeal.HostValue

open Idealize.ShloMosaic Cert.DiffIdeal Cert.DiffIdeal.Gen Idealize.ShloMosaic.TcCoe Idealize.SL.Sem Cert.FlashMath Cert.DiffIdeal.Head

variable (m : (ℓ : Loc nD τ sig) → Buf (Elt Ideal) ℓ) (c : Dev nD)

/-- The scratch buffers after a batch's first point. -/
theorem scratch_first (t : Fin cfg0.N) (h0 : t.val % 16 = 0) :
    (outsAt0 m c t.val t.isLt).2.1 = keys (blkK m c t) ∧ (outsAt0 m c t.val t.isLt).2.2 = vals (blkV m c t) := by
  rw [outsAt0_A m c t h0]
  dsimp only
  rw [keys_first m c t ((hcond0_0 t).mpr h0), vals_first m c t ((hcond0_0 t).mpr h0)]
  exact ⟨rfl, rfl⟩

/-- After any other point: as before it. -/
theorem scratch_next (t : Fin cfg0.N) (h0 : ¬t.val % 16 = 0) :
    (outsAt0 m c t.val t.isLt).2.1 = (outsAt0 m c (t.val - 1) (Nat.lt_of_le_of_lt (Nat.sub_le _ _) t.isLt)).2.1
      ∧ (outsAt0 m c t.val t.isLt).2.2 = (outsAt0 m c (t.val - 1) (Nat.lt_of_le_of_lt (Nat.sub_le _ _) t.isLt)).2.2 := by
  rw [outsAt0_B m c t h0]
  dsimp only
  exact ⟨rfl, rfl⟩

/-- The scratch buffers after any point. -/
theorem scratch (z1 z2 : FVec Ideal S8x4096x256 .f32) (h1 : V m c main_v1 = z1) (h2 : V m c main_v2 = z2) :
    ∀ (n : ℕ) (hn : n < cfg0.N) (b : Fin 8), n / 16 = b.val →
      (outsAt0 m c n hn).2.1 = keys (batch z1 b) ∧ (outsAt0 m c n hn).2.2 = vals (batch z2 b) := by
  intro n
  induction n using Nat.strong_induction_on with
  | _ n ih =>
    intro hn b hb
    by_cases h0 : n % 16 = 0
    · obtain ⟨s1, s2⟩ := scratch_first m c ⟨n, hn⟩ h0
      have hc : (grid0.coords (⟨n, hn⟩ : Fin cfg0.N) 0).val = b.val := (batch_eq _).trans hb
      rw [iblk_k m c ⟨n, hn⟩ b hc z1 h1] at s1
      rw [iblk_v m c ⟨n, hn⟩ b hc z2 h2] at s2
      exact ⟨s1, s2⟩
    · obtain ⟨s1, s2⟩ := scratch_next m c ⟨n, hn⟩ h0
      obtain ⟨i1, i2⟩ := ih (n - 1) (by omega) (by omega) b (by omega)
      exact ⟨s1.trans i1, s2.trans i2⟩

/-- At every point the block's scores and values are the reals that the arguments give. -/
theorem reals (t : Fin cfg0.N) (b : Fin 8) (n : Fin 16) (hb : (grid0.coords t 0).val = b.val)
    (hn : (grid0.coords t 1).val = n.val)
    (x0 : FVec Ideal S8x4096x4x2x64 .f32) (x1 x2 : FVec Ideal S8x4096x2x128 .f32)
    (e0 : m ((c : Thread nD τ).loc main_arg0) = x0)
    (f0 : Finite x0) (f1 : Finite x1) (f2 : Finite x2) :
    Reals (iblk m c 0 t) (keys (batch (shapeCast S8x4096x256 x1 shapeCasts_S8x4096x2x128_S8x4096x256) b))
      (vals (batch (shapeCast S8x4096x256 x2 shapeCasts_S8x4096x2x128_S8x4096x256) b))
      (fun h q => score x0 x1 b ⟨h.val / 2, by omega⟩ ⟨h.val % 2, by omega⟩ ⟨256 * n.val + q.val, by omega⟩)
      (fun h e => value x2 b ⟨h.val / 2, by omega⟩ e) where
  score h q j r := by
    rw [pay17_apply]
    have hk : 256 * j.val + r.val < 4096 := by omega
    have ek : ∀ d : Fin 128, kTile (keys (batch (shapeCast S8x4096x256 x1 shapeCasts_S8x4096x2x128_S8x4096x256) b)) j h (ix2 r d)
        = ((x1 (ix4 b ⟨256 * j.val + r.val, hk⟩ ⟨h.val / 2 / 2, by omega⟩ d)).toReal : EReal) := by
      intro d
      rw [← f1]
      refine Eq.trans ?_ (flatK_apply x1 b ⟨256 * j.val + r.val, hk⟩ ⟨h.val / 2 / 2, by omega⟩ d)
      show shapeCast S8x4096x256 x1 _ _ = _
      refine congrArg _ ?_
      blk_ext
    have eq : ∀ d : Fin 128, qHead (iblk m c 0 t) h (ix2 q d)
        = if d.val / 64 = (⟨h.val % 2, by omega⟩ : Fin 2).val then
            ((x0 (ix5 b ⟨256 * n.val + q.val, by omega⟩ ⟨h.val / 2, by omega⟩ ⟨d.val / 64, by omega⟩ ⟨d.val % 64, by omega⟩)).toReal : EReal)
              * scale else 0 := by
      intro d
      rw [← f0]
      refine if_congr Iff.rfl (congrArg (fun z => z * scale) ?_) rfl
      refine Eq.trans ?_ (flatQ_apply x0 b ⟨256 * n.val + q.val, by omega⟩ ⟨h.val / 2, by omega⟩ d)
      exact iblk_q m c t b n hb hn _ ((V_q m c).trans (by rw [e0])) _ _
    simp only [ek, eq]
    refine (half_sum (fun d => _) (fun d => _) ⟨h.val % 2, by omega⟩).trans ?_
    unfold HostValue.score dots
    rw [dif_pos hk]
    refine congrArg (fun z : ℝ => ((z * (8⁻¹ * (Real.log 2)⁻¹) : ℝ) : EReal)) (Finset.sum_congr rfl fun d _ => ?_)
    refine congrArg (fun z : EReal => _ * z.toReal) (congrArg x0 ?_)
    have a1 : (64 * (h.val % 2) + d.val) / 64 = h.val % 2 := by omega
    have a2 : (64 * (h.val % 2) + d.val) % 64 = d.val := by omega
    funext a
    apply Fin.ext
    fin_cases a
    · rfl
    · rfl
    · rfl
    · exact a1
    · exact a2
  value h e j r := by
    have hk : 256 * j.val + r.val < 4096 := by omega
    unfold HostValue.value
    rw [dif_pos hk, ← f2 _]
    refine Eq.trans ?_ (flatK_apply x2 b ⟨256 * j.val + r.val, hk⟩ ⟨h.val / 2 / 2, by omega⟩ e)
    show shapeCast S8x4096x256 x2 _ _ = _
    refine congrArg _ ?_
    blk_ext

/-- The kernel's block after any point. -/
theorem point (t : Fin cfg0.N) (b : Fin 8) (n : Fin 16) (hb : (grid0.coords t 0).val = b.val) (hn : (grid0.coords t 1).val = n.val)
    (x0 : FVec Ideal S8x4096x4x2x64 .f32) (x1 x2 : FVec Ideal S8x4096x2x128 .f32)
    (x3 : FVec Ideal S4x64 .f32) (x4 : FVec Ideal S128 .f32)
    (e0 : m ((c : Thread nD τ).loc main_arg0) = x0) (e1 : m ((c : Thread nD τ).loc main_arg1) = x1)
    (e2 : m ((c : Thread nD τ).loc main_arg2) = x2)
    (e3 : m ((c : Thread nD τ).loc main_arg3) = x3) (e4 : m ((c : Thread nD τ).loc main_arg4) = x4)
    (f0 : Finite x0) (f1 : Finite x1) (f2 : Finite x2) (h : Fin 4) (e : Fin 128) (q : Fin 256) :
    (outsAt0 m c t.val t.isLt).1 (ix3 0 ⟨128 * h.val + e.val, by omega⟩ q)
      = entry x0 x1 x2 x3 x4 b h e ⟨256 * n.val + q.val, by omega⟩ := by
  have R := reals m c t b n hb hn x0 x1 x2 e0 f0 f1 f2
  have h1 : V m c main_v1 = shapeCast S8x4096x256 x1 shapeCasts_S8x4096x2x128_S8x4096x256 := (V_k m c).trans (by rw [e1])
  have h2 : V m c main_v2 = shapeCast S8x4096x256 x2 shapeCasts_S8x4096x2x128_S8x4096x256 := (V_v m c).trans (by rw [e2])
  have hl : lam (iblk m c 3 t) = lam x3 := by
    unfold lam
    simp only [iblk_l m c t x3 ((V_l m c).trans e3)]
  have hg : iblk m c 4 t (ix2 e 0) = x4 (ix1 e) := (iblk_g m c t _ ((V_g m c).trans (by rw [e4])) e).trans (gain_apply x4 e)
  have last : ∀ z : EReal, z = subln (fun f => ((mean
        (score x0 x1 b ⟨(chain h 0).val / 2, by have := (chain h 0).isLt; omega⟩ ⟨(chain h 0).val % 2, by omega⟩ ⟨256 * n.val + q.val, by omega⟩)
        (value x2 b ⟨(chain h 0).val / 2, by have := (chain h 0).isLt; omega⟩ f) (256 * (grid0.coords t 1).val + q.val + 1) : ℝ) : EReal)
      - lam (iblk m c 3 t) * ((mean
        (score x0 x1 b ⟨(chain h 1).val / 2, by have := (chain h 1).isLt; omega⟩ ⟨(chain h 1).val % 2, by omega⟩ ⟨256 * n.val + q.val, by omega⟩)
        (value x2 b ⟨(chain h 1).val / 2, by have := (chain h 1).isLt; omega⟩ f) (256 * (grid0.coords t 1).val + q.val + 1) : ℝ) : EReal))
      (iblk m c 4 t (ix2 e 0)) e → z = entry x0 x1 x2 x3 x4 b h e ⟨256 * n.val + q.val, by omega⟩ := by
    rintro z rfl
    have c0 : (⟨(chain h 0).val / 2, by have := (chain h 0).isLt; omega⟩ : Fin 4) = h := Fin.ext (by show (2 * h.val + 0) / 2 = h.val; omega)
    have c1 : (⟨(chain h 1).val / 2, by have := (chain h 1).isLt; omega⟩ : Fin 4) = h := Fin.ext (by show (2 * h.val + 1) / 2 = h.val; omega)
    have d0 : (⟨(chain h 0).val % 2, by omega⟩ : Fin 2) = 0 := Fin.ext (by show (2 * h.val + 0) % 2 = 0; omega)
    have d1 : (⟨(chain h 1).val % 2, by omega⟩ : Fin 2) = 1 := Fin.ext (by show (2 * h.val + 1) % 2 = 1; omega)
    rw [c0, c1, d0, d1, hl, hg, hn]
    rfl
  refine last _ ?_
  by_cases h0 : t.val % 16 = 0
  · rw [outsAt0_A m c t h0]
    dsimp only
    have k1 := keys_first m c t ((hcond0_0 t).mpr h0)
    rw [iblk_k m c t b hb _ h1] at k1
    have k2 := vals_first m c t ((hcond0_0 t).mpr h0)
    rw [iblk_v m c t b hb _ h2] at k2
    exact out_value_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
      ((hcond0_0 t).mpr h0) (iblk m c 0 t) (iblk m c 1 t) (iblk m c 2 t) (iblk m c 3 t) (iblk m c 4 t) _ _ _ _ R
      k1 k2 h e q
  · obtain ⟨s1, s2⟩ := scratch m c _ _ h1 h2 (t.val - 1) (Nat.lt_of_le_of_lt (Nat.sub_le _ _) t.isLt) b (by have := batch_eq t; omega)
    rw [outsAt0_B m c t h0]
    dsimp only
    rw [s1, s2]
    exact out_value_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
      (fun h => h0 ((hcond0_0 t).mp h)) (iblk m c 0 t) (iblk m c 1 t) (iblk m c 2 t) (iblk m c 3 t) (iblk m c 4 t) _ _ _ _ R h e q

/-- THE RESULT ARRAY of the differential attention kernel. -/
theorem final (x0 : FVec Ideal S8x4096x4x2x64 .f32) (x1 x2 : FVec Ideal S8x4096x2x128 .f32)
    (x3 : FVec Ideal S4x64 .f32) (x4 : FVec Ideal S128 .f32)
    (e0 : m ((c : Thread nD τ).loc main_arg0) = x0) (e1 : m ((c : Thread nD τ).loc main_arg1) = x1)
    (e2 : m ((c : Thread nD τ).loc main_arg2) = x2)
    (e3 : m ((c : Thread nD τ).loc main_arg3) = x3) (e4 : m ((c : Thread nD τ).loc main_arg4) = x4)
    (f0 : Finite x0) (f1 : Finite x1) (f2 : Finite x2) :
    (dats m 0 c).arrAt 5 cfg0.N = result x0 x1 x2 x3 x4 := by
  refine (dats m 0 c).arrAt_eq_of_covers 5 _ (by decide +kernel) fun t hf y => ?_
  blk_simp
  obtain ⟨hb, hn⟩ := coords_lt t
  have hy1 : (y 1).val < 512 := (y 1).isLt
  have hy2 : (y 2).val < 256 := (y 2).isLt
  have key := point m c t ⟨_, hb⟩ ⟨_, hn⟩ rfl rfl x0 x1 x2 x3 x4 e0 e1 e2 e3 e4 f0 f1 f2 ⟨(y 1).val / 128, by omega⟩
    ⟨(y 1).val % 128, by omega⟩ ⟨(y 2).val, hy2⟩
  rw [after0_5]
  refine Eq.trans (congrArg _ ?_) (key.trans ?_)
  · blk_ext
  unfold result
  have o0 : (win0_5.blk t).view.emb y 0 = (⟨(grid0.coords t 0).val, hb⟩ : Fin 8) := by
    apply Fin.ext; blk_simp [index_o]
  have o1 : ((win0_5.blk t).view.emb y 1).val = (y 1).val := by
    blk_simp [index_o]
  have o2 : ((win0_5.blk t).view.emb y 2).val = (grid0.coords t 1).val * 256 + (y 2).val := by
    blk_simp [index_o]
  have H : ∀ (b b' : Fin 8) (h h' : Fin 4) (e e' : Fin 128) (t t' : Fin 4096), b = b' → h = h' → e = e' → t = t' →
      entry x0 x1 x2 x3 x4 b h e t = entry x0 x1 x2 x3 x4 b' h' e' t' := by
    rintro _ _ _ _ _ _ _ _ rfl rfl rfl rfl; rfl
  refine H _ _ _ _ _ _ _ _ o0.symm (Fin.ext ?_) (Fin.ext ?_) (Fin.ext ?_)
  · show (y 1).val / 128 = ((win0_5.blk t).view.emb y 1).val / 128
    rw [o1]
  · show (y 1).val % 128 = ((win0_5.blk t).view.emb y 1).val % 128
    rw [o1]
  · show 256 * (grid0.coords t 1).val + (y 2).val = ((win0_5.blk t).view.emb y 2).val
    rw [o2]; omega

end Cert.DiffIdeal.HostValue

end
-- ==== Proof.DiffRef.lean ====
/-
  The differential attention's reference, read at an index: the two textbook softmaxes, of which the second is taken off
  the first, are the two weighted means that the kernel returns the difference of.
-/
module

public import proofs.«01_k».proof.Proof.DiffArr
public import proofs.«01_k».proof.Proof.MlaRef
public import proofs.«01_k».proof.Proof.Gen.DiffRefIdeal.Read
public import Idealize.ShloMosaic.Lib.WordCmp
public import Idealize.ShloMosaic.Lib.ValueIdxRank6

@[expose] public section

set_option maxRecDepth 16384

noncomputable section

namespace Cert.DiffRefIdeal.Math

open Idealize.ShloMosaic Cert.DiffRefIdeal Cert.DiffRefIdeal.Gen Cert.DiffRefIdeal.Read Cert.FlashMath
open Cert.DiffIdeal.HostValue (Finite dots score value out entry result)
open Cert.DiffIdeal.Head (subln lam)
open Cert.MlaRefIdeal.Math (ext3 ext4 mask_word)

/-- Indices of five axes with the same coordinates are the same. -/
theorem ext5 {n : Fin 5 → ℕ} {i j : (⟨5, n⟩ : Shape).Idx} (h0 : (i 0).val = (j 0).val) (h1 : (i 1).val = (j 1).val)
    (h2 : (i 2).val = (j 2).val) (h3 : (i 3).val = (j 3).val) (h4 : (i 4).val = (j 4).val) : i = j :=
  funext fun a => Fin.ext (by fin_cases a <;> assumption)

/-- Indices of six axes with the same coordinates are the same. -/
theorem ext6 {n : Fin 6 → ℕ} {i j : (⟨6, n⟩ : Shape).Idx} (h0 : (i 0).val = (j 0).val) (h1 : (i 1).val = (j 1).val)
    (h2 : (i 2).val = (j 2).val) (h3 : (i 3).val = (j 3).val) (h4 : (i 4).val = (j 4).val) (h5 : (i 5).val = (j 5).val) : i = j :=
  funext fun a => Fin.ext (by fin_cases a <;> assumption)

/-- A head from its group and its place in the group. -/
def head (g q : Fin 2) : Fin 4 := ⟨2 * g.val + q.val, by omega⟩

variable (x0 : FVec Ideal S8x4096x4x2x64 .f32) (x1 x2 : FVec Ideal S8x4096x2x128 .f32) (x3 : FVec Ideal S4x64 .f32)
  (x4 : FVec Ideal S128 .f32)

/-! ## Lambda -/

/-- A sum over a row of 64. -/
theorem sum_row (y : FVec Ideal S64 .f32) : ∑ j : S64.Idx, y j = ∑ d : Fin 64, y (ix1 d) :=
  Fintype.sum_equiv ⟨fun j => j 0, fun d => ix1 d, fun j => (eq_ix1 j).symm, fun d => rfl⟩ _ _ fun j => congrArg y (eq_ix1 j)

/-- The reference's lambda. -/
theorem lam_eq (i : S_.Idx) : val_main_v15 (F := Ideal) x3 i = lam x3 := by
  have a : ∀ d : Fin 64, val_main_v4 (F := Ideal) x3 (ix1 d) = x3 (ix2 0 d) * x3 (ix2 1 d) := fun d => by
    rw [val_main_v4_apply, val_main_v1_apply, val_main_v0_apply, val_main_v3_apply, val_main_v2_apply]
    refine congrArg₂ (fun a b => a * b) (congrArg x3 (funext fun a => Fin.ext ?_)) (congrArg x3 (funext fun a => Fin.ext ?_)) <;>
      fin_cases a
    · rfl
    · exact Nat.mod_eq_of_lt d.isLt
    · rfl
    · exact Nat.mod_eq_of_lt d.isLt
  have b : ∀ d : Fin 64, val_main_v11 (F := Ideal) x3 (ix1 d) = x3 (ix2 2 d) * x3 (ix2 3 d) := fun d => by
    rw [val_main_v11_apply, val_main_v8_apply, val_main_v7_apply, val_main_v10_apply, val_main_v9_apply]
    refine congrArg₂ (fun a b => a * b) (congrArg x3 (funext fun a => Fin.ext ?_)) (congrArg x3 (funext fun a => Fin.ext ?_)) <;>
      fin_cases a
    · rfl
    · exact Nat.mod_eq_of_lt d.isLt
    · rfl
    · exact Nat.mod_eq_of_lt d.isLt
  rw [val_main_v15_apply, val_main_v14_apply, val_main_v6_apply, val_main_v13_apply, val_main_v5_apply, val_main_v12_apply,
    sum_row, sum_row, val_main_cst_apply, val_main_cst_0_apply, val_main_cst_1_apply]
  simp only [a, b]
  show Ideal.exp (Ideal.ofBits .f32 0x00000000#32 + _) - Ideal.exp (Ideal.ofBits .f32 0x00000000#32 + _) + Ideal.ofBits .f32 0x3E4CCCCD#32 = _
  rw [Ideal.ofBits_zero, zero_add, zero_add]
  rfl

/-- Lambda of real vectors is a real. -/
theorem lam_real (f3 : Finite x3) : ∃ L : ℝ, lam x3 = (L : EReal) := by
  have a : ∀ r s : Fin 4, ∑ d : Fin 64, x3 (ix2 r d) * x3 (ix2 s d)
      = ((∑ d : Fin 64, (x3 (ix2 r d)).toReal * (x3 (ix2 s d)).toReal : ℝ) : EReal) := fun r s => by
    rw [coe_sum]
    refine Finset.sum_congr rfl fun d _ => ?_
    rw [EReal.coe_mul, ← f3, ← f3]
  have c : ∃ r : ℝ, Ideal.ofBits .f32 0x3E4CCCCD#32 = (r : EReal) := by
    simp only [Ideal.ofBits, Ideal.ieee]
    simp
    exact ⟨_, (EReal.coe_mul _ _).symm⟩
  obtain ⟨r, hr⟩ := c
  unfold lam
  rw [a, a, hr, Ideal.exp_coe, Ideal.exp_coe, ← EReal.coe_sub, ← EReal.coe_add]
  exact ⟨_, rfl⟩

/-! ## One map's weights -/

/-- The queries, a head as its group and its place there. -/
theorem queries (b : Fin 8) (t : Fin 4096) (g q n : Fin 2) (d : Fin 64) :
    val_main_v16 (F := Ideal) x0 (ix6 b t g q n d) = x0 (ix5 b t (head g q) n d) := by
  unfold val_main_v16
  exact shapeCast_apply x0 shapeCasts_S8x4096x4x2x64_S8x4096x2x2x2x64 _ _ (by
    rewrite [Shape.rowMajor_val_five, Shape.rowMajor_val_six]
    show (((b.val * 4096 + t.val) * 4 + (2 * g.val + q.val)) * 2 + n.val) * 64 + d.val
      = ((((b.val * 4096 + t.val) * 2 + g.val) * 2 + q.val) * 2 + n.val) * 64 + d.val
    omega)

/-- A query's products with a key. -/
theorem products (f0 : Finite x0) (f1 : Finite x1) (b : Fin 8) (t : Fin 4096) (g q n : Fin 2) (l : Fin 4096) :
    val_main_v19 (F := Ideal) x0 x1 (ix6 b t g q n l) = ((dots x0 x1 b (head g q) n t l.val : ℝ) : EReal) := by
  rw [val_main_v19_apply, val_main_v18_apply]
  unfold dots
  rw [dif_pos l.isLt, coe_sum]
  refine Finset.sum_congr rfl fun d _ => ?_
  rw [show ridx_main_v18 (idx_main_v19 (ix6 b t g q n l)) d = ix6 b t g q n d from ext6 rfl rfl rfl rfl rfl rfl, queries,
    val_main_v17_apply, EReal.coe_mul, ← f1, ← f0]
  refine congrArg (fun a => x1 a * _) (ext4 ?_ ?_ ?_ ?_)
  · show ((((b.val * 4096 + l.val) * 2 + g.val) * 2 + n.val) * 64 + d.val) / 1048576 = b.val
    omega
  · show ((((b.val * 4096 + l.val) * 2 + g.val) * 2 + n.val) * 64 + d.val) / 256 % 4096 = l.val
    omega
  · show ((((b.val * 4096 + l.val) * 2 + g.val) * 2 + n.val) * 64 + d.val) / 128 % 2 = (2 * g.val + q.val) / 2
    omega
  · show ((((b.val * 4096 + l.val) * 2 + g.val) * 2 + n.val) * 64 + d.val) % 128 = 64 * n.val + d.val
    omega

/-- The mask: keys up to the query. -/
theorem mask (b : Fin 8) (t : Fin 4096) (g q n : Fin 2) (l : Fin 4096) :
    val_main_call0_v1 (F := Ideal) (ix6 b t g q n l) = BitVec.ofBool (decide (l.val ≤ t.val)) := by
  rw [val_main_call0_v1_apply, val_main_v29_apply, val_main_v28_apply, val_main_v26_apply, val_main_v27_apply,
    val_main_v24_apply, val_main_v25_apply, val_main_v23_apply, val_main_v22_apply]
  have hl : l.val < 2 ^ (32 - 1) := by have := l.isLt; omega
  have ht : t.val < 2 ^ (32 - 1) := by have := t.isLt; omega
  exact WordCmp.cmpi_sle_ofNat hl ht

/-- A masked score. -/
theorem masked (f0 : Finite x0) (f1 : Finite x1) (b : Fin 8) (t : Fin 4096) (g q n : Fin 2) (l : Fin 4096) :
    val_main_v30 (F := Ideal) x0 x1 (ix6 b t g q n l)
      = if l.val < t.val + 1 then ((score x0 x1 b (head g q) n t l.val * Real.log 2 : ℝ) : EReal) else ⊥ := by
  rw [val_main_v30_apply, val_main_v21_apply, mask, Scalar.select_ofBool, products x0 x1 f0 f1, val_main_v20_apply,
    val_main_call0_v2_apply, val_main_call0_v0_apply, val_main_cst_3_apply, val_main_cst_2_apply]
  have hl : Real.log 2 ≠ 0 := (Real.log_pos (by norm_num)).ne'
  have h8 : Ideal.ofBits .f32 0x3E000000#32 = ((8⁻¹ : ℝ) : EReal) := by
    simp [Ideal.ofBits, Ideal.ieee]
    rw [← EReal.coe_mul]
    congr 1
    norm_num
  have e : score x0 x1 b (head g q) n t l.val * Real.log 2 = dots x0 x1 b (head g q) n t l.val * 8⁻¹ := by
    unfold score
    field_simp
  by_cases hk : l.val ≤ t.val
  · rw [if_pos (by simpa using hk), if_pos (by omega), e, EReal.coe_mul, ← h8]
    rfl
  · rw [if_neg (by simpa using hk), if_neg (by omega)]
    exact mask_word

/-- A maximum along the last axis of six is a real, if no entry is `+∞` and the first one is not `-∞`. -/
theorem max_last (y : FVec Ideal S8x4096x2x2x2x4096 .f32) (z : FVec Ideal S_ .f32) (hz : ∀ i, z i = ⊥) (b : Fin 8) (t : Fin 4096)
    (g q n : Fin 2) (ht : ∀ i, y i ≠ ⊤) (hb : y (ix6 b t g q n 0) ≠ ⊥) :
    ∃ μ : ℝ, Host.reduce (FloatOps.maximumf (F := Ideal) (φ := .f32)) y z
      reducesTo_S8x4096x2x2x2x4096_S8x4096x2x2x2_d5 h_S_ (ix5 b t g q n) = (μ : EReal) := by
  rw [Host.reduce_eq_fold, hz]
  show ∃ μ : ℝ, Finset.fold max ⊥ y _ = (μ : EReal)
  refine exists_real (ne_of_gt ?_) (ne_of_lt ?_)
  · rw [Finset.lt_fold_max]
    refine Or.inr ⟨ix6 b t g q n 0, Finset.mem_filter.mpr ⟨Finset.mem_univ _, ?_⟩, bot_lt_iff_ne_bot.mpr hb⟩
    exact ext5 rfl rfl rfl rfl rfl
  · rw [Finset.fold_max_lt]
    exact ⟨bot_lt_top, fun k _ => lt_top_iff_ne_top.mpr (ht k)⟩

/-- The greatest masked score of a query is a real. -/
theorem greatest (f0 : Finite x0) (f1 : Finite x1) (b : Fin 8) (t : Fin 4096) (g q n : Fin 2) :
    ∃ μ : ℝ, val_main_v33 (F := Ideal) x0 x1 (ix5 b t g q n) = (μ : EReal) := by
  have hm := masked x0 x1 f0 f1
  rw [val_main_v33_apply, val_main_v32_apply, val_main_cst_5_apply]
  unfold val_main_v31
  generalize val_main_v30 (F := Ideal) x0 x1 = y at hm ⊢
  obtain ⟨μ, hμ⟩ := max_last y (val_main_cst_4 (F := Ideal)) (fun _ => mask_word) b t g q n
    (fun i => by
      rw [show y i = _ from (congrArg y (eq_ix6 i)).trans (hm _ _ _ _ _ _)]
      split
      exacts [EReal.coe_ne_top _, bot_ne_top])
    (by rw [hm, if_pos (show (0 : Fin 4096).val < t.val + 1 from Nat.succ_pos _)]; exact EReal.coe_ne_bot _)
  refine ⟨μ, ?_⟩
  rw [hμ]
  show max (Ideal.ofBits .f32 0xFF800000#32) (μ : EReal) = μ
  rw [mask_word]
  exact max_eq_right bot_le

/-- The weights: the textbook softmax. -/
theorem weights (f0 : Finite x0) (f1 : Finite x1) (b : Fin 8) (t : Fin 4096) (g q n : Fin 2) :
    ∃ μ : ℝ, ∀ l, val_main_v41 (F := Ideal) x0 x1 (ix6 b t g q n l)
      = Ideal.div (Ideal.exp (val_main_v30 (F := Ideal) x0 x1 (ix6 b t g q n l) - (μ : EReal)))
        (∑ r : Fin 4096, Ideal.exp (val_main_v30 (F := Ideal) x0 x1 (ix6 b t g q n r) - (μ : EReal))) := by
  obtain ⟨μ, hμ⟩ := greatest x0 x1 f0 f1 b t g q n
  have hw : ∀ l : Fin 4096, val_main_v37 (F := Ideal) x0 x1 (ix6 b t g q n l)
      = Ideal.exp (val_main_v30 (F := Ideal) x0 x1 (ix6 b t g q n l) - (μ : EReal)) := fun l => by
    rw [val_main_v37_apply, val_main_v36_apply, val_main_v35_apply, val_main_v34_apply, ← hμ]
    exact congrArg (fun z => Ideal.exp (val_main_v30 (F := Ideal) x0 x1 (ix6 b t g q n l) - val_main_v33 (F := Ideal) x0 x1 z))
      (ext5 rfl rfl rfl rfl rfl)
  refine ⟨μ, fun l => ?_⟩
  rw [val_main_v41_apply, hw, val_main_v40_apply, val_main_v39_apply, val_main_v38_apply, val_main_cst_6_apply]
  refine congrArg (Ideal.div _) ?_
  show Ideal.ofBits .f32 0x00000000#32 + _ = _
  rw [Ideal.ofBits_zero, zero_add]
  refine Finset.sum_congr rfl fun r _ => ?_
  rw [← hw]
  exact congrArg (val_main_v37 (F := Ideal) x0 x1) (ext6 rfl rfl rfl rfl rfl rfl)

/-- A weight is a real. -/
theorem weight_real (f0 : Finite x0) (f1 : Finite x1) (b : Fin 8) (t : Fin 4096) (g q n : Fin 2) :
    ∃ p : Fin 4096 → ℝ, ∀ l, val_main_v41 (F := Ideal) x0 x1 (ix6 b t g q n l) = (p l : EReal) := by
  obtain ⟨μ, hw⟩ := weights x0 x1 f0 f1 b t g q n
  have e : ∀ r : Fin 4096, Ideal.exp (val_main_v30 (F := Ideal) x0 x1 (ix6 b t g q n r) - (μ : EReal))
      = ((if r.val < t.val + 1 then Real.exp (score x0 x1 b (head g q) n t r.val * Real.log 2 - μ) else 0 : ℝ) : EReal) := fun r => by
    rw [masked x0 x1 f0 f1]
    split
    · rw [exp_sub_coe]
    · rw [exp_bot_sub, EReal.coe_zero]
  have hz : (0 : ℝ) < ∑ r : Fin 4096,
      (if r.val < t.val + 1 then Real.exp (score x0 x1 b (head g q) n t r.val * Real.log 2 - μ) else 0 : ℝ) := by
    refine Finset.sum_pos' (fun r _ => by split; exacts [(Real.exp_pos _).le, le_rfl]) ⟨0, Finset.mem_univ _, ?_⟩
    rw [if_pos (show (0 : Fin 4096).val < t.val + 1 from Nat.succ_pos _)]
    exact Real.exp_pos _
  simp only [e, ← coe_sum, div_real _ _ hz.ne'] at hw
  exact ⟨_, hw⟩

/-- The weighted values of one map. -/
theorem attend (f0 : Finite x0) (f1 : Finite x1) (f2 : Finite x2) (b : Fin 8) (t : Fin 4096) (g q n : Fin 2) (e : Fin 128) :
    ∑ l : Fin 4096, x2 (ix4 b l g e) * val_main_v41 (F := Ideal) x0 x1 (ix6 b t g q n l)
      = ((out x0 x1 x2 b (head g q) n t e : ℝ) : EReal) := by
  obtain ⟨μ, hw⟩ := weights x0 x1 f0 f1 b t g q n
  simp only [hw]
  refine softmax_mean (score x0 x1 b (head g q) n t) (value x2 b (head g q) e) (t.val + 1) 4096 (Nat.succ_pos _) t.isLt _
    (fun l => x2 (ix4 b l g e)) μ (masked x0 x1 f0 f1 b t g q n) fun l => ?_
  unfold value
  rw [dif_pos l.isLt, ← f2]
  exact congrArg x2 (ext4 rfl rfl (by show g.val = (2 * g.val + q.val) / 2; omega) rfl)

/-! ## The difference of the two maps -/

/-- The first map's weights. -/
theorem first (b : Fin 8) (t : Fin 4096) (g q : Fin 2) (l : Fin 4096) :
    val_main_v43 (F := Ideal) x0 x1 (ix5 b t g q l) = val_main_v41 (F := Ideal) x0 x1 (ix6 b t g q 0 l) := by
  have e : val_main_v43 (F := Ideal) x0 x1 (ix5 b t g q l) = val_main_v42 (F := Ideal) x0 x1 (ix6 b t g q 0 l) := by
    unfold val_main_v43
    generalize val_main_v42 (F := Ideal) x0 x1 = y
    exact shapeCast_apply y shapeCasts_S8x4096x2x2x1x4096_S8x4096x2x2x4096 _ _ (by
      rewrite [Shape.rowMajor_val_six, Shape.rowMajor_val_five]
      show ((((b.val * 4096 + t.val) * 2 + g.val) * 2 + q.val) * 1 + 0) * 4096 + l.val
        = (((b.val * 4096 + t.val) * 2 + g.val) * 2 + q.val) * 4096 + l.val
      omega)
  rw [e, val_main_v42_apply]
  exact congrArg (val_main_v41 (F := Ideal) x0 x1) (ext6 rfl rfl rfl rfl rfl rfl)

/-- The second map's weights. -/
theorem second (b : Fin 8) (t : Fin 4096) (g q : Fin 2) (l : Fin 4096) :
    val_main_v45 (F := Ideal) x0 x1 (ix5 b t g q l) = val_main_v41 (F := Ideal) x0 x1 (ix6 b t g q 1 l) := by
  have e : val_main_v45 (F := Ideal) x0 x1 (ix5 b t g q l) = val_main_v44 (F := Ideal) x0 x1 (ix6 b t g q 0 l) := by
    unfold val_main_v45
    generalize val_main_v44 (F := Ideal) x0 x1 = y
    exact shapeCast_apply y shapeCasts_S8x4096x2x2x1x4096_S8x4096x2x2x4096 _ _ (by
      rewrite [Shape.rowMajor_val_six, Shape.rowMajor_val_five]
      show ((((b.val * 4096 + t.val) * 2 + g.val) * 2 + q.val) * 1 + 0) * 4096 + l.val
        = (((b.val * 4096 + t.val) * 2 + g.val) * 2 + q.val) * 4096 + l.val
      omega)
  rw [e, val_main_v44_apply]
  exact congrArg (val_main_v41 (F := Ideal) x0 x1) (ext6 rfl rfl rfl rfl rfl rfl)

/-- The values by the difference of the weights: the difference of the two means. -/
theorem difference (f0 : Finite x0) (f1 : Finite x1) (f2 : Finite x2) (f3 : Finite x3) (b : Fin 8) (t : Fin 4096) (h : Fin 4)
    (e : Fin 128) :
    val_main_v51 (F := Ideal) x0 x1 x2 x3 (ix4 b t h e)
      = ((out x0 x1 x2 b h 0 t e : ℝ) : EReal) - lam x3 * ((out x0 x1 x2 b h 1 t e : ℝ) : EReal) := by
  obtain ⟨g, hg⟩ : ∃ g : Fin 2, g.val = h.val / 2 := ⟨⟨h.val / 2, by omega⟩, rfl⟩
  obtain ⟨q, hq⟩ : ∃ q : Fin 2, q.val = h.val % 2 := ⟨⟨h.val % 2, by omega⟩, rfl⟩
  obtain rfl : h = head g q := Fin.ext (by show h.val = 2 * g.val + q.val; omega)
  obtain ⟨L, hL⟩ := lam_real x3 f3
  obtain ⟨p0, h0⟩ := weight_real x0 x1 f0 f1 b t g q 0
  obtain ⟨p1, h1⟩ := weight_real x0 x1 f0 f1 b t g q 1
  have a0 := attend x0 x1 x2 f0 f1 f2 b t g q 0 e
  have a1 := attend x0 x1 x2 f0 f1 f2 b t g q 1 e
  have hv : ∀ l, x2 (ix4 b l g e) = ((x2 (ix4 b l g e)).toReal : EReal) := fun l => f2 _
  obtain ⟨v, hx⟩ : ∃ v : Fin 4096 → ℝ, ∀ l, x2 (ix4 b l g e) = (v l : EReal) := ⟨_, hv⟩
  simp only [hx, h0, ← EReal.coe_mul, ← coe_sum] at a0
  simp only [hx, h1, ← EReal.coe_mul, ← coe_sum] at a1
  have r0 := EReal.coe_injective a0
  have r1 := EReal.coe_injective a1
  rw [val_main_v51_apply, val_main_v50_apply, val_main_v49_apply]
  have hw : ∀ l : Fin 4096, x2 (lidx_main_v49 (idx_main_v50 (idx_main_v51 (ix4 b t (head g q) e))) l)
      * val_main_v48 (F := Ideal) x0 x1 x3 (ridx_main_v49 (idx_main_v50 (idx_main_v51 (ix4 b t (head g q) e))) l)
      = ((v l * p0 l - L * (v l * p1 l) : ℝ) : EReal) := fun l => by
    have j : idx_main_v51 (ix4 b t (head g q) e) = ix5 b t g q e := by
      refine ext5 ?_ ?_ ?_ ?_ ?_
      · show (((b.val * 4096 + t.val) * 4 + (2 * g.val + q.val)) * 128 + e.val) / 2097152 = b.val
        omega
      · show (((b.val * 4096 + t.val) * 4 + (2 * g.val + q.val)) * 128 + e.val) / 512 % 4096 = t.val
        omega
      · show (((b.val * 4096 + t.val) * 4 + (2 * g.val + q.val)) * 128 + e.val) / 256 % 2 = g.val
        omega
      · show (((b.val * 4096 + t.val) * 4 + (2 * g.val + q.val)) * 128 + e.val) / 128 % 2 = q.val
        omega
      · show (((b.val * 4096 + t.val) * 4 + (2 * g.val + q.val)) * 128 + e.val) % 128 = e.val
        omega
    rw [j, show lidx_main_v49 (idx_main_v50 (ix5 b t g q e)) l = ix4 b l g e from ext4 rfl rfl rfl rfl,
      show ridx_main_v49 (idx_main_v50 (ix5 b t g q e)) l = ix5 b t g q l from ext5 rfl rfl rfl rfl rfl,
      val_main_v48_apply, val_main_v47_apply, val_main_v46_apply, first, second, lam_eq, hx, h0, h1, hL]
    show (v l : EReal) * ((p0 l : EReal) - (L : EReal) * (p1 l : EReal)) = _
    rw [← EReal.coe_mul, ← EReal.coe_sub, ← EReal.coe_mul]
    congr 1
    ring
  simp only [hw]
  rw [← coe_sum, Finset.sum_sub_distrib, ← Finset.mul_sum, r0, r1, hL, EReal.coe_sub, EReal.coe_mul]

/-! ## The result -/

/-- The reference's norm, gain and last scale. -/
theorem normed (o : Fin 128 → EReal) (b : Fin 8) (t : Fin 4096) (h : Fin 4)
    (ho : ∀ e, val_main_v51 (F := Ideal) x0 x1 x2 x3 (ix4 b t h e) = o e) (e : Fin 128) :
    val_main_v66 (F := Ideal) x0 x1 x2 x3 x4 (ix4 b t h e) = subln o (x4 (ix1 e)) e := by
  have hs : val_main_v53 (F := Ideal) x0 x1 x2 x3 (ix3 b t h) = ∑ f, o f * o f := by
    rw [val_main_v53_apply, val_main_cst_7_apply]
    show Ideal.ofBits .f32 0x00000000#32 + _ = _
    rw [Ideal.ofBits_zero, zero_add]
    refine Finset.sum_congr rfl fun f _ => ?_
    rw [show idx_main_v53 (ix3 b t h) f = ix4 b t h f from ext4 rfl rfl rfl rfl, val_main_v52_apply, ho]
    rfl
  rw [val_main_v66_apply, val_main_v64_apply, val_main_v61_apply, val_main_v60_apply, val_main_v59_apply, val_main_v58_apply,
    val_main_v56_apply, val_main_v54_apply, val_main_v55_apply, val_main_v57_apply, val_main_v63_apply, val_main_v62_apply,
    val_main_v65_apply, val_main_cst_8_apply, val_main_cst_9_apply, val_main_cst_10_apply, ho,
    show idx_main_v54 (idx_main_v60 (ix4 b t h e)) = ix3 b t h from ext3 rfl rfl rfl, hs,
    show idx_main_v62 (idx_main_v63 (ix4 b t h e)) = ix1 e from funext fun a => Fin.ext (by fin_cases a; rfl)]
  rfl

/-- THE REFERENCE'S RESULT. -/
theorem textbook (f0 : Finite x0) (f1 : Finite x1) (f2 : Finite x2) (f3 : Finite x3) :
    val_main_v69 (F := Ideal) x0 x1 x2 x3 x4 = result x0 x1 x2 x3 x4 := by
  funext i
  have h0 : (i 0).val < 8 := (i 0).isLt
  have h1 : (i 1).val < 512 := (i 1).isLt
  have h2 : (i 2).val < 4096 := (i 2).isLt
  obtain ⟨b, hb⟩ : ∃ b : Fin 8, b.val = (i 0).val := ⟨⟨_, h0⟩, rfl⟩
  obtain ⟨t, ht⟩ : ∃ t : Fin 4096, t.val = (i 2).val := ⟨⟨_, h2⟩, rfl⟩
  obtain ⟨h, hh⟩ : ∃ h : Fin 4, h.val = (i 1).val / 128 := ⟨⟨(i 1).val / 128, by omega⟩, rfl⟩
  obtain ⟨e, he⟩ : ∃ e : Fin 128, e.val = (i 1).val % 128 := ⟨⟨(i 1).val % 128, by omega⟩, rfl⟩
  have hr : result x0 x1 x2 x3 x4 i = entry x0 x1 x2 x3 x4 b h e t := by
    unfold result
    rw [show (⟨(i 1).val / 128, by omega⟩ : Fin 4) = h from Fin.ext hh.symm,
      show (⟨(i 1).val % 128, by omega⟩ : Fin 128) = e from Fin.ext he.symm, show (i 0 : Fin 8) = b from Fin.ext hb.symm,
      show (i 2 : Fin 4096) = t from Fin.ext ht.symm]
  rw [hr, val_main_v69_apply, val_main_v68_apply, val_main_v67_apply]
  have j : idx_main_v67 (idx_main_v68 i) = ix4 b t h e := by
    refine ext4 ?_ ?_ ?_ ?_
    · show (((i 0).val * 4096 + (i 2).val) * 512 + (i 1).val) / 2097152 = b.val
      omega
    · show (((i 0).val * 4096 + (i 2).val) * 512 + (i 1).val) / 512 % 4096 = t.val
      omega
    · show (((i 0).val * 4096 + (i 2).val) * 512 + (i 1).val) / 128 % 4 = h.val
      omega
    · show (((i 0).val * 4096 + (i 2).val) * 512 + (i 1).val) % 128 = e.val
      omega
  rw [j]
  exact normed x0 x1 x2 x3 x4 _ b t h (difference x0 x1 x2 x3 f0 f1 f2 f3 b t h) e

end Cert.DiffRefIdeal.Math

end
-- ==== Proof.DiffClaims.lean ====
/-
  The differential attention's claims: the runs, the reading of its constants, and the equality with the textbook one.
-/
module

public import proofs.«01_k».proof.Defs
public import proofs.«01_k».proof.Proof.DiffRef
public import proofs.«01_k».proof.Proof.MlaClaims
public import proofs.«01_k».proof.Proof.Gen.Pre_finite_diff
public import proofs.«01_k».proof.Proof.Gen.Diff.Frame
public import proofs.«01_k».proof.Proof.Gen.DiffIdeal.Frame
public import proofs.«01_k».proof.Proof.Gen.DiffRefIdeal.Run
public import proofs.«01_k».proof.Proof.Gen.DiffRefIdeal.Read
public import proofs.«01_k».proof.Proof.Gen.DiffIdeal.Value
public import Idealize.ShloMosaic.Lib.ReduceAll
public import Idealize.ShloMosaic.Adequacy

@[expose] public section

set_option maxRecDepth 16384

noncomputable section

namespace Cert.Proof

open Idealize.ShloMosaic Idealize.SL.Sem Cert.DiffIdeal.HostValue

/-- The precondition says that every query, key, value and lambda entry is a real. -/
theorem finite_of_pre_diff (x0 : FVec Ideal ⟨5, ![8, 4096, 4, 2, 64]⟩ .f32) (x1 x2 : FVec Ideal ⟨4, ![8, 4096, 2, 128]⟩ .f32)
    (x3 : FVec Ideal ⟨2, ![4, 64]⟩ .f32) (x4 : FVec Ideal ⟨1, ![128]⟩ .f32)
    (h : Cert.Pre_finite_diff.fn (F := Ideal) x0 x1 x2 x3 x4 = fun _ => 1#1) :
    Finite x0 ∧ Finite x1 ∧ Finite x2 ∧ Finite x3 := by
  haveI : Subsingleton Cert.Pre_finite_diff.S_.Idx := ⟨fun a b => funext fun i => i.elim0⟩
  have h' := congrFun h (Shape.Idx.first Cert.Pre_finite_diff.Gen.h_S_)
  unfold Cert.Pre_finite_diff.fn Cert.Pre_finite_diff.fn_part1 at h'
  obtain ⟨h', h3⟩ := IntOp.andi_eq_one.1 h'
  obtain ⟨h', h2⟩ := IntOp.andi_eq_one.1 h'
  obtain ⟨h0, h1⟩ := IntOp.andi_eq_one.1 h'
  exact ⟨fun i => real_of_abs_lt _ (Host.reduce_andi_all _ _ _ _ _ h0 i), fun i => real_of_abs_lt _ (Host.reduce_andi_all _ _ _ _ _ h1 i),
    fun i => real_of_abs_lt _ (Host.reduce_andi_all _ _ _ _ _ h2 i), fun i => real_of_abs_lt _ (Host.reduce_andi_all _ _ _ _ _ h3 i)⟩

/-- The differential attention kernel runs and leaves its arguments. -/
theorem frame_diff : Cert.quiescent_Diff := fun m ρ _ => Cert.Diff.Gen.frame m ρ

/-- Its idealization runs and leaves its arguments. -/
theorem frame_diffIdeal : Cert.quiescent_DiffIdeal := fun m ρ _ => Cert.DiffIdeal.Gen.frame m ρ

/-- The same under the precondition. -/
theorem frame_diffIdeal_pre : Cert.quiescent_DiffIdeal_pre_finite_diff := fun m ρ _ => Cert.DiffIdeal.Gen.frame m ρ

/-- Its reference runs and leaves its arguments. -/
theorem frame_diffRef : Cert.quiescent_DiffRefIdeal := fun m ρ _ =>
  (θ_run Cert.DiffRefIdeal.defs _ _).mono
    (fun r h => ⟨fun c => (h c).2, sem_eq_zero_of_no_sems (by decide) r.2⟩) (Cert.DiffRefIdeal.Value.run (F := Ideal) m ρ)

/-- The same under the precondition. -/
theorem frame_diffRef_pre : Cert.quiescent_DiffRefIdeal_pre_finite_diff := fun m ρ _ => frame_diffRef m ρ trivial

/-- The scale's word may be read as one over eight times the logarithm of two, the mask's as `-∞`. -/
theorem preserves_diff : Cert.preserves_Diff_DiffIdeal :=
  ⟨IdealRules.named_const.statement Cert.DiffIdeal.κ "scale" .f32 0x3E38AA3B#32 _ rfl,
    IdealRules.named_const.statement Cert.DiffIdeal.κ "mask" .f32 0xF1800000#32 ⊥ rfl⟩

/-- THE DIFFERENTIAL ATTENTION KERNEL IS THE TEXTBOOK ONE, on finite queries, keys, values and lambda vectors. -/
theorem algebraic_diff : Cert.algebraic_DiffIdeal_DiffRefIdeal_pre_finite_diff := by
  intro m ρ m' ρ' hpre hagree
  refine ⟨_, Cert.DiffIdeal.Value.run_blocks (F := Ideal) m ρ, ?_⟩
  refine (θ_run Cert.DiffRefIdeal.defs _ _).mono (fun _ h c => ⟨(h c).1.trans ?_, (h c).2⟩)
    (Cert.DiffRefIdeal.Value.run (F := Ideal) m' ρ')
  obtain ⟨a0, a1, a2, a3, a4⟩ := hagree c
  obtain ⟨f0, f1, f2, f3⟩ := finite_of_pre_diff _ _ _ _ _ (hpre c)
  rw [Cert.DiffRefIdeal.Read.val_main_v69_eq, a0, a1, a2, a3, a4]
  exact (Cert.DiffRefIdeal.Math.textbook _ _ _ _ _ f0 f1 f2 f3).trans
    (final m c _ _ _ _ _ rfl rfl rfl rfl rfl f0 f1 f2).symm

end Cert.Proof

end
-- ==== Proof.OutMath.lean ====
/-
  The mixer's projection: a row's entry with the gated product of the two mixers' features and the weights added.
-/
module

public import Idealize.ShloMosaic.Lib.Pipeline.FrameBody
public import Idealize.ShloMosaic.Lib.Pointwise

@[expose] public section

noncomputable section

namespace Cert.OutMath

open Idealize.ShloMosaic

/-- An entry of the row after the projection: `x + gate · (p · u + q · v)`, the two products summed over 512 features. -/
def entry (x gt : EReal) (p q u v : Fin 512 → EReal) : EReal := x + gt * (∑ k, p k * u k + ∑ k, q k * v k)

/-- A sum over 1024 features is the sum over the first half and the one over the second. -/
theorem halves (f : Fin 1024 → EReal) :
    ∑ k, f k = ∑ k : Fin 512, f ⟨k.val, by omega⟩ + ∑ k : Fin 512, f ⟨512 + k.val, by omega⟩ :=
  Fin.sum_univ_add (a := 512) (b := 512) f

end Cert.OutMath

end
-- ==== Proof.OutRef.lean ====
/-
  The projection's reference, read at an index.
-/
module

public import proofs.«01_k».proof.Proof.OutMath
public import proofs.«01_k».proof.Proof.Gen.OutRefIdeal.Read

@[expose] public section

set_option maxRecDepth 16384

noncomputable section

namespace Cert.OutRefIdeal.Math

open Idealize.ShloMosaic Cert.OutRefIdeal Cert.OutRefIdeal.Gen Cert.OutRefIdeal.Read Cert.OutMath

/-- The result: every row with its gated projection added. -/
def result (x0 : FVec Ideal S8x4096x1024 .f32) (x1 : FVec Ideal S8x9216 .f32) (x2 x3 : FVec Ideal S8x4096x512 .f32)
    (x4 : FVec Ideal S1024x1024 .f32) (b : Fin 8) (t : Fin 4096) (d : Fin 1024) : EReal :=
  entry (x0 (ix3 b t d)) (x1 (ix2 b ⟨5120 + d.val, by omega⟩)) (fun k => x2 (ix3 b t k)) (fun k => x3 (ix3 b t k))
    (fun k => x4 (ix2 ⟨k.val, by omega⟩ d)) (fun k => x4 (ix2 ⟨512 + k.val, by omega⟩ d))

/-- Indices of three axes with the same coordinates are the same. -/
theorem same3 {n : Fin 3 → ℕ} {i j : (⟨3, n⟩ : Shape).Idx} (h0 : (i 0).val = (j 0).val) (h1 : (i 1).val = (j 1).val)
    (h2 : (i 2).val = (j 2).val) : i = j :=
  funext fun a => Fin.ext (by fin_cases a <;> assumption)

/-- Indices of two axes with the same coordinates are the same. -/
theorem same2 {n : Fin 2 → ℕ} {i j : (⟨2, n⟩ : Shape).Idx} (h0 : (i 0).val = (j 0).val) (h1 : (i 1).val = (j 1).val) : i = j :=
  funext fun a => Fin.ext (by fin_cases a <;> assumption)

variable (x0 : FVec Ideal S8x4096x1024 .f32) (x1 : FVec Ideal S8x9216 .f32) (x2 x3 : FVec Ideal S8x4096x512 .f32)
  (x4 : FVec Ideal S1024x1024 .f32)

/-- The gate of a batch. -/
theorem gate (b : Fin 8) (t : Fin 4096) (d : Fin 1024) :
    val_main_v12 (F := Ideal) x1 (ix3 b t d) = x1 (ix2 b ⟨5120 + d.val, by omega⟩) := by
  rw [val_main_v12_apply, val_main_v6_apply, val_main_v0_apply]
  exact congrArg x1 (same2 rfl rfl)

/-- The joined features: the first mixer's, then the second's. -/
theorem joined (b : Fin 8) (t : Fin 4096) (k : Fin 1024) :
    val_main_v10 (F := Ideal) x2 x3 (ix3 b t k)
      = if h : k.val < 512 then x2 (ix3 b t ⟨k.val, h⟩) else x3 (ix3 b t ⟨k.val - 512, by omega⟩) := by
  pointwise [val_main_v10]

/-- The product with the weights. -/
theorem product (b : Fin 8) (t : Fin 4096) (d : Fin 1024) :
    val_main_v11 (F := Ideal) x2 x3 x4 (ix3 b t d)
      = ∑ k : Fin 512, x2 (ix3 b t k) * x4 (ix2 ⟨k.val, by omega⟩ d) + ∑ k : Fin 512, x3 (ix3 b t k) * x4 (ix2 ⟨512 + k.val, by omega⟩ d) := by
  rw [val_main_v11_apply, halves]
  refine congrArg₂ (fun a b : EReal => a + b) (Finset.sum_congr rfl fun k _ => ?_) (Finset.sum_congr rfl fun k _ => ?_)
  · have e : lidx_main_v11 (ix3 b t d) ⟨k.val, by omega⟩ = ix3 b t ⟨k.val, by omega⟩ := same3 rfl rfl rfl
    have e' : ridx_main_v11 (ix3 b t d) ⟨k.val, by omega⟩ = ix2 ⟨k.val, by omega⟩ d := same2 rfl rfl
    rw [e, e', joined, dif_pos (show k.val < 512 from k.isLt)]
  · have e : lidx_main_v11 (ix3 b t d) ⟨512 + k.val, by omega⟩ = ix3 b t ⟨512 + k.val, by omega⟩ := same3 rfl rfl rfl
    have e' : ridx_main_v11 (ix3 b t d) ⟨512 + k.val, by omega⟩ = ix2 ⟨512 + k.val, by omega⟩ d := same2 rfl rfl
    rw [e, e', joined, dif_neg (show ¬512 + k.val < 512 by omega)]
    exact congrArg (fun a : EReal => a * _) (congrArg x3 (same3 rfl rfl (show 512 + k.val - 512 = k.val by omega)))

/-- THE REFERENCE'S RESULT. -/
theorem reference (b : Fin 8) (t : Fin 4096) (d : Fin 1024) :
    val_main_v14 (F := Ideal) x0 x1 x2 x3 x4 (ix3 b t d) = result x0 x1 x2 x3 x4 b t d := by
  rw [val_main_v14_apply, val_main_v13_apply, gate, product]
  rfl

end Cert.OutRefIdeal.Math

end
-- ==== Proof.OutArr.lean ====
/-
  The projection kernel's result array: every row with its gated projection added.
-/
module

public import proofs.«01_k».proof.Proof.Gen.OutIdeal.Value
public import proofs.«01_k».proof.Proof.OutRef
public import Idealize.ShloMosaic.Lib.Pipeline.ValueKit

@[expose] public section

set_option maxRecDepth 16384

noncomputable section

namespace Cert.OutIdeal.HostValue

open Idealize.ShloMosaic Cert.OutIdeal Cert.OutIdeal.Gen Idealize.ShloMosaic.TcCoe Idealize.SL.Sem Cert.OutMath
open Cert.OutRefIdeal.Math (result)

/-! ## The body at an index -/

/-- The block of output. -/
theorem pay_apply (gt : Vec Ideal S1x1x1024 .f32) (p : Vec Ideal S1x512x512 .bf16) (u : Vec Ideal S512x1024 .bf16)
    (q : Vec Ideal S1x512x512 .bf16) (v : Vec Ideal S512x1024 .bf16) (x : Vec Ideal S1x512x1024 .f32) (r : Fin 512) (d : Fin 1024) :
    k0_pay1 gt p u q v x (ix3 0 r d)
      = entry (x (ix3 0 r d)) (gt (ix3 0 0 d)) (fun k => p (ix3 0 k r)) (fun k => q (ix3 0 k r)) (fun k => u (ix2 k d))
          (fun k => v (ix2 k d)) := by
  pointwise [k0_pay1, entry]

/-- The gate's row of the modulation. -/
theorem ld_gate (x : Vec Ideal S1x9x1024 .f32) (d : Fin 1024) : View.ld x r0_0 (ix3 0 0 d) = x (ix3 0 5 d) := by
  pointwise [r0_0]

/-- The first half of the weights' rows. -/
theorem ld_first (x : Vec Ideal S1024x1024 .bf16) (k : Fin 512) (d : Fin 1024) :
    View.ld x r0_2 (ix2 k d) = x (ix2 ⟨k.val, by omega⟩ d) := by
  pointwise [r0_2]

/-- The second half of the weights' rows. -/
theorem ld_second (x : Vec Ideal S1024x1024 .bf16) (k : Fin 512) (d : Fin 1024) :
    View.ld x r0_3 (ix2 k d) = x (ix2 ⟨512 + k.val, by omega⟩ d) := by
  pointwise [r0_3]

/-- The body's result at an index. -/
theorem out_value (x0 : Vec Ideal S1x512x1024 .f32) (x1 : Vec Ideal S1x9x1024 .f32) (x2 x3 : Vec Ideal S1x512x512 .bf16)
    (x4 : Vec Ideal S1024x1024 .bf16) (r : Fin 512) (d : Fin 1024) :
    out0_5 x0 x1 x2 x3 x4 (ix3 0 r d)
      = entry (x0 (ix3 0 r d)) (x1 (ix3 0 5 d)) (fun k => x2 (ix3 0 k r)) (fun k => x3 (ix3 0 k r))
          (fun k => x4 (ix2 ⟨k.val, by omega⟩ d)) (fun k => x4 (ix2 ⟨512 + k.val, by omega⟩ d)) := by
  have z3 : (![0, 0, 0] : Fin 3 → Nat) = fun _ => 0 := by decide
  unfold out0_5
  refine (congrFun (View.canon_unit_zero z3 _ _) (ix3 0 r d)).trans ((pay_apply _ _ _ _ _ _ r d).trans ?_)
  have w0 := View.ld_unit_zero z3 inb_S1x512x1024_S1x512x1024_0_0_0 x0
  have w2 := View.ld_unit_zero z3 inb_S1x512x512_S1x512x512_0_0_0 x2
  have w3 := View.ld_unit_zero z3 inb_S1x512x512_S1x512x512_0_0_0 x3
  rw [w0, w2, w3, ld_gate]
  exact congrArg₂ (entry _ _ _ _) (funext fun k => ld_first x4 k d) (funext fun k => ld_second x4 k d)

/-! ## The operands as the host hands them over -/

/-- The modulation laid out in nine rows a batch. -/
theorem rows_apply (x : FVec Ideal S8x9216 .f32) (b : Fin 8) (n : Fin 9) (k : Fin 1024) :
    shapeCast S8x9x1024 x shapeCasts_S8x9216_S8x9x1024 (ix3 b n k) = x (ix2 b ⟨1024 * n.val + k.val, by omega⟩) :=
  shapeCast_apply x shapeCasts_S8x9216_S8x9x1024 _ _ (by
    rewrite [Shape.rowMajor_val_two, Shape.rowMajor_val_three]
    show b.val * 9216 + (1024 * n.val + k.val) = (b.val * 9 + n.val) * 1024 + k.val
    omega)

/-- A mixer's features, a position's in a column. -/
theorem turned_apply (x : FVec Ideal S8x4096x512 .f32) (b : Fin 8) (k : Fin 512) (t : Fin 4096) :
    truncf (F := Ideal) .bf16 (transpose S8x512x4096 [0, 2, 1] x transposes_S8x4096x512_S8x512x4096_0_2_1) bitsLt_bf16_f32 (ix3 b k t)
      = x (ix3 b t k) := by
  pointwise []

variable (m : (ℓ : Loc nD τ sig) → Buf (Elt Ideal) ℓ) (c : Dev nD)

/-- The rows are an argument. -/
theorem V_x : V m c main_arg0 = m ((c : Thread nD τ).loc main_arg0) := by
  unfold V
  after_results_simp
  try rfl

/-- The modulation at the kernel's start. -/
theorem V_mod : V m c main_v4 = shapeCast S8x9x1024 (m ((c : Thread nD τ).loc main_arg1)) shapeCasts_S8x9216_S8x9x1024 := by
  unfold V
  after_results_simp
  try rfl

/-- The first mixer's features at the kernel's start. -/
theorem V_first : V m c main_v1 = truncf (F := Ideal) .bf16 (transpose S8x512x4096 [0, 2, 1] (m ((c : Thread nD τ).loc main_arg2) : FVec Ideal S8x4096x512 .f32) transposes_S8x4096x512_S8x512x4096_0_2_1) bitsLt_bf16_f32 := by
  unfold V
  after_results_simp
  try rfl

/-- The second mixer's features at the kernel's start. -/
theorem V_second : V m c main_v3 = truncf (F := Ideal) .bf16 (transpose S8x512x4096 [0, 2, 1] (m ((c : Thread nD τ).loc main_arg3) : FVec Ideal S8x4096x512 .f32) transposes_S8x4096x512_S8x512x4096_0_2_1) bitsLt_bf16_f32 := by
  unfold V
  after_results_simp
  try rfl

/-- The weights at the kernel's start. -/
theorem V_w : V m c main_v5 = m ((c : Thread nD τ).loc main_arg4) := by
  unfold V
  after_results_simp
  try rfl

/-! ## The blocks a point reads -/

/-- The blocks of the rows: batch, tile of rows. -/
theorem index_x : ∀ t : Fin cfg0.N, win0_0.index t = ![(grid0.coords t 0).val, (grid0.coords t 1).val, 0] :=
  (by decide +kernel : ∀ t : Fin grid0.N, _)
/-- The blocks of the modulation: batch. -/
theorem index_mod : ∀ t : Fin cfg0.N, win0_1.index t = ![(grid0.coords t 0).val, 0, 0] :=
  (by decide +kernel : ∀ t : Fin grid0.N, _)
/-- The blocks of the first mixer's features: batch, tile of rows. -/
theorem index_first : ∀ t : Fin cfg0.N, win0_2.index t = ![(grid0.coords t 0).val, 0, (grid0.coords t 1).val] :=
  (by decide +kernel : ∀ t : Fin grid0.N, _)
/-- The blocks of the second mixer's features: batch, tile of rows. -/
theorem index_second : ∀ t : Fin cfg0.N, win0_3.index t = ![(grid0.coords t 0).val, 0, (grid0.coords t 1).val] :=
  (by decide +kernel : ∀ t : Fin grid0.N, _)
/-- The weights are one block. -/
theorem index_w : ∀ t : Fin cfg0.N, win0_4.index t = ![0, 0] :=
  (by decide +kernel : ∀ t : Fin grid0.N, _)
/-- The blocks of the result: batch, tile of rows. -/
theorem index_o : ∀ t : Fin cfg0.N, win0_5.index t = ![(grid0.coords t 0).val, (grid0.coords t 1).val, 0] :=
  (by decide +kernel : ∀ t : Fin grid0.N, _)

/-- A point's batch and tile. -/
theorem coords_lt (t : Fin cfg0.N) : (grid0.coords t 0).val < 8 ∧ (grid0.coords t 1).val < 8 :=
  ⟨(grid0.coords t 0).isLt, (grid0.coords t 1).isLt⟩

/-- A block of rows. -/
theorem iblk_x (t : Fin cfg0.N) (b : Fin 8) (n : Fin 8) (hb : (grid0.coords t 0).val = b.val)
    (hn : (grid0.coords t 1).val = n.val) (z : FVec Ideal S8x4096x1024 .f32) (hz : V m c main_arg0 = z) (r : Fin 512) (k : Fin 1024) :
    iblk m c 0 t (ix3 0 r k) = z (ix3 b ⟨512 * n.val + r.val, by omega⟩ k) := by
  unfold iblk
  generalize V m c = W at hz ⊢
  rw [← hz]
  blk_simp [index_x]
  refine congrArg (W main_arg0) ?_
  blk_ext [index_x]

/-- A block of the modulation. -/
theorem iblk_mod (t : Fin cfg0.N) (b : Fin 8) (hb : (grid0.coords t 0).val = b.val) (z : FVec Ideal S8x9x1024 .f32)
    (hz : V m c main_v4 = z) (n : Fin 9) (k : Fin 1024) :
    iblk m c 1 t (ix3 0 n k) = z (ix3 b n k) := by
  unfold iblk
  generalize V m c = W at hz ⊢
  rw [← hz]
  blk_simp [index_mod]
  refine congrArg (W main_v4) ?_
  blk_ext [index_mod]

/-- A block of the first mixer's features. -/
theorem iblk_first (t : Fin cfg0.N) (b : Fin 8) (n : Fin 8) (hb : (grid0.coords t 0).val = b.val)
    (hn : (grid0.coords t 1).val = n.val) (z : FVec Ideal S8x512x4096 .bf16) (hz : V m c main_v1 = z) (k r : Fin 512) :
    iblk m c 2 t (ix3 0 k r) = z (ix3 b k ⟨512 * n.val + r.val, by omega⟩) := by
  unfold iblk
  generalize V m c = W at hz ⊢
  rw [← hz]
  blk_simp [index_first]
  refine congrArg (W main_v1) ?_
  blk_ext [index_first]

/-- A block of the second mixer's features. -/
theorem iblk_second (t : Fin cfg0.N) (b : Fin 8) (n : Fin 8) (hb : (grid0.coords t 0).val = b.val)
    (hn : (grid0.coords t 1).val = n.val) (z : FVec Ideal S8x512x4096 .bf16) (hz : V m c main_v3 = z) (k r : Fin 512) :
    iblk m c 3 t (ix3 0 k r) = z (ix3 b k ⟨512 * n.val + r.val, by omega⟩) := by
  unfold iblk
  generalize V m c = W at hz ⊢
  rw [← hz]
  blk_simp [index_second]
  refine congrArg (W main_v3) ?_
  blk_ext [index_second]

/-- The block of the weights. -/
def blkW (t : Fin cfg0.N) : Vec Ideal S1024x1024 .bf16 := iblk m c 4 t

/-- It is the whole of them. -/
theorem blkW_apply (t : Fin cfg0.N) (z : FVec Ideal S1024x1024 .bf16) (hz : V m c main_v5 = z) (x : S1024x1024.Idx) :
    blkW m c t x = z x := by
  have o0 : ((win0_4.blk t).view.emb x 0).val = (x 0).val := by
    blk_simp [index_w]
  have o1 : ((win0_4.blk t).view.emb x 1).val = (x 1).val := by
    blk_simp [index_w]
  have e : (win0_4.blk t).view.emb x = x := by
    have o : ∀ a : Fin 2, ((win0_4.blk t).view.emb x a).val = (x a).val :=
      Fin.forall_fin_succ.2 ⟨o0, Fin.forall_fin_succ.2 ⟨o1, fun a => a.elim0⟩⟩
    exact funext fun a => Fin.ext (o a)
  unfold blkW iblk
  generalize V m c = W at hz ⊢
  rw [View.read_apply, e, hz]
  exact cast_eq _ _

/-! ## The result -/

/-- What a point leaves in its block of the result. -/
theorem point (x0 : FVec Ideal S8x4096x1024 .f32) (x1 : FVec Ideal S8x9216 .f32) (x2 x3 : FVec Ideal S8x4096x512 .f32)
    (x4 : FVec Ideal S1024x1024 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3)
    (e4 : m ((c : Thread nD τ).loc main_arg4) = x4)
    (t : Fin cfg0.N) (b n : Fin 8) (hb : (grid0.coords t 0).val = b.val) (hn : (grid0.coords t 1).val = n.val) (r : Fin 512)
    (d : Fin 1024) :
    entry (iblk m c 0 t (ix3 0 r d)) (iblk m c 1 t (ix3 0 5 d)) (fun k => iblk m c 2 t (ix3 0 k r)) (fun k => iblk m c 3 t (ix3 0 k r))
        (fun k => blkW m c t (ix2 ⟨k.val, by omega⟩ d)) (fun k => blkW m c t (ix2 ⟨512 + k.val, by omega⟩ d))
      = result x0 x1 x2 x3 x4 b ⟨512 * n.val + r.val, by omega⟩ d := by
  subst e0 e1 e2 e3 e4
  unfold result entry
  refine congrArg₂ (fun a b : EReal => a + b) (iblk_x m c t b n hb hn _ (V_x m c) r d)
    (congrArg₂ (fun a b : EReal => a * b) ((iblk_mod m c t b hb _ (V_mod m c) 5 d).trans (rows_apply _ b 5 d))
      (congrArg₂ (fun a b : EReal => a + b) (Finset.sum_congr rfl fun k _ => ?_) (Finset.sum_congr rfl fun k _ => ?_)))
  · exact congrArg₂ (fun a b : EReal => a * b) ((iblk_first m c t b n hb hn _ (V_first m c) k r).trans (turned_apply _ b k _))
      (blkW_apply m c t _ (V_w m c) _)
  · exact congrArg₂ (fun a b : EReal => a * b) ((iblk_second m c t b n hb hn _ (V_second m c) k r).trans (turned_apply _ b k _))
      (blkW_apply m c t _ (V_w m c) _)

/-- THE RESULT ARRAY of the projection kernel. -/
theorem final (x0 : FVec Ideal S8x4096x1024 .f32) (x1 : FVec Ideal S8x9216 .f32) (x2 x3 : FVec Ideal S8x4096x512 .f32)
    (x4 : FVec Ideal S1024x1024 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3)
    (e4 : m ((c : Thread nD τ).loc main_arg4) = x4) :
    (dats m 0 c).arrAt 5 cfg0.N = fun i => result x0 x1 x2 x3 x4 (i 0) (i 1) (i 2) := by
  refine (dats m 0 c).arrAt_eq_of_covers 5 _ (by decide +kernel) fun t hf y => ?_
  blk_simp
  obtain ⟨hb, hn⟩ := coords_lt t
  have hy1 : (y 1).val < 512 := (y 1).isLt
  have hy2 : (y 2).val < 1024 := (y 2).isLt
  have key := (out_value (iblk m c 0 t) (iblk m c 1 t) (iblk m c 2 t) (iblk m c 3 t) (blkW m c t)
    ⟨(y 1).val, hy1⟩ ⟨(y 2).val, hy2⟩).trans
      (point m c x0 x1 x2 x3 x4 e0 e1 e2 e3 e4 t ⟨_, hb⟩ ⟨_, hn⟩ rfl rfl ⟨(y 1).val, hy1⟩ ⟨(y 2).val, hy2⟩)
  rw [after0_5]
  refine Eq.trans (congrArg _ ?_) (key.trans ?_)
  · blk_ext
  have o0 : (win0_5.blk t).view.emb y 0 = (⟨(grid0.coords t 0).val, hb⟩ : Fin 8) := by
    apply Fin.ext; blk_simp [index_o]
  have v1 : ((win0_5.blk t).view.emb y 1).val = (grid0.coords t 1).val * 512 + (y 1).val := by
    blk_simp [index_o]
  have o1 : (win0_5.blk t).view.emb y 1 = (⟨512 * (grid0.coords t 1).val + (y 1).val, by omega⟩ : Fin 4096) :=
    Fin.ext (v1.trans (congrArg (fun a => a + (y 1).val) (Nat.mul_comm _ 512)))
  have o2 : (win0_5.blk t).view.emb y 2 = (⟨(y 2).val, hy2⟩ : Fin 1024) := by
    apply Fin.ext; blk_simp [index_o]
  rw [o0, o1, o2]

end Cert.OutIdeal.HostValue

end
-- ==== Proof.OutClaims.lean ====
/-
  The projection's claims: the runs, and that the kernel's result is the reference's.
-/
module

public import proofs.«01_k».proof.Defs
public import proofs.«01_k».proof.Proof.Gen.Out.Frame
public import proofs.«01_k».proof.Proof.Gen.OutIdeal.Frame
public import proofs.«01_k».proof.Proof.Gen.OutRefIdeal.Run
public import proofs.«01_k».proof.Proof.OutArr
public import Idealize.ShloMosaic.Adequacy

@[expose] public section

noncomputable section

namespace Cert.Proof

open Idealize.ShloMosaic Idealize.SL.Sem

/-- The projection kernel runs and leaves its arguments. -/
theorem frame_out : Cert.quiescent_Out := fun m ρ _ => Cert.Out.Gen.frame m ρ

/-- Its idealization runs and leaves its arguments. -/
theorem frame_outIdeal : Cert.quiescent_OutIdeal := fun m ρ _ => Cert.OutIdeal.Gen.frame m ρ

/-- Its reference runs and leaves its arguments. -/
theorem frame_outRef : Cert.quiescent_OutRefIdeal := fun m ρ _ =>
  (θ_run Cert.OutRefIdeal.defs _ _).mono
    (fun r h => ⟨fun c => (h c).2, sem_eq_zero_of_no_sems (by decide) r.2⟩) (Cert.OutRefIdeal.Value.run (F := Ideal) m ρ)

/-- No constant of the projection is read as another. -/
theorem preserves_out : Cert.preserves_Out_OutIdeal := trivial

/-- THE PROJECTION KERNEL IS ITS REFERENCE, on any arguments. -/
theorem algebraic_out : Cert.algebraic_OutIdeal_OutRefIdeal := by
  intro m ρ m' ρ' _ hagree
  refine ⟨_, Cert.OutIdeal.Value.run_blocks (F := Ideal) m ρ, ?_⟩
  refine (θ_run Cert.OutRefIdeal.defs _ _).mono (fun _ h c => ⟨(h c).1.trans ?_, (h c).2⟩)
    (Cert.OutRefIdeal.Value.run (F := Ideal) m' ρ')
  obtain ⟨a0, a1, a2, a3, a4⟩ := hagree c
  rw [Cert.OutRefIdeal.Read.val_main_v14_eq, a0, a1, a2, a3, a4]
  refine Eq.trans (funext fun i => ?_) (Cert.OutIdeal.HostValue.final m c _ _ _ _ _ rfl rfl rfl rfl rfl).symm
  have e : i = ix3 (i 0) (i 1) (i 2) := Cert.OutRefIdeal.Math.same3 rfl rfl rfl
  exact (congrArg _ e).trans (Cert.OutRefIdeal.Math.reference _ _ _ _ _ (i 0) (i 1) (i 2))

end Cert.Proof

end
-- ==== Proof.EvenRef.lean ====
/-
  The projection's reference, read at an index: a normed and modulated row's products with the columns of the values.
-/
module

public import proofs.«01_k».proof.Proof.FfnMath
public import proofs.«01_k».proof.Proof.Gen.EvenRefIdeal.Read

@[expose] public section

set_option maxRecDepth 16384

noncomputable section

namespace Cert.EvenRefIdeal.Math

open Idealize.ShloMosaic Cert.EvenRefIdeal Cert.EvenRefIdeal.Gen Cert.EvenRefIdeal.Read Cert.FfnMath

/-- A normed and modulated row's product with a column of the weights. -/
def product (x0 : FVec Ideal S8x4096x1024 .f32) (x1 : FVec Ideal S8x9216 .f32) (x2 : FVec Ideal S1024 .f32)
    (x3 : FVec Ideal S1024x1792 .f32) (b : Fin 8) (t : Fin 4096) (f : Fin 1792) : EReal :=
  ∑ k : Fin 1024, hid (fun k => x0 (ix3 b t k)) (fun k => x1 (ix2 b ⟨3072 + k.val, by omega⟩))
    (fun k => x1 (ix2 b ⟨4096 + k.val, by omega⟩)) (fun k => x2 (ix1 k)) k * x3 (ix2 k f)

/-- The first result: the products with the columns from 640. -/
def first (x0 : FVec Ideal S8x4096x1024 .f32) (x1 : FVec Ideal S8x9216 .f32) (x2 : FVec Ideal S1024 .f32)
    (x3 : FVec Ideal S1024x1792 .f32) (b : Fin 8) (t : Fin 4096) (d : Fin 128) : EReal :=
  product x0 x1 x2 x3 b t ⟨640 + d.val, by omega⟩

/-- The second result: the products with the columns from 1536. -/
def second (x0 : FVec Ideal S8x4096x1024 .f32) (x1 : FVec Ideal S8x9216 .f32) (x2 : FVec Ideal S1024 .f32)
    (x3 : FVec Ideal S1024x1792 .f32) (b : Fin 8) (t : Fin 4096) (d : Fin 256) : EReal :=
  product x0 x1 x2 x3 b t ⟨1536 + d.val, by omega⟩

/-- Indices of three axes with the same coordinates are the same. -/
theorem same3 {n : Fin 3 → ℕ} {i j : (⟨3, n⟩ : Shape).Idx} (h0 : (i 0).val = (j 0).val) (h1 : (i 1).val = (j 1).val)
    (h2 : (i 2).val = (j 2).val) : i = j :=
  funext fun a => Fin.ext (by fin_cases a <;> assumption)

/-- Indices of two axes with the same coordinates are the same. -/
theorem same2 {n : Fin 2 → ℕ} {i j : (⟨2, n⟩ : Shape).Idx} (h0 : (i 0).val = (j 0).val) (h1 : (i 1).val = (j 1).val) : i = j :=
  funext fun a => Fin.ext (by fin_cases a <;> assumption)

variable (x0 : FVec Ideal S8x4096x1024 .f32) (x1 : FVec Ideal S8x9216 .f32) (x2 : FVec Ideal S1024 .f32)
  (x3 : FVec Ideal S1024x1792 .f32)

/-- The shift of a batch. -/
theorem shift (b : Fin 8) (t : Fin 4096) (d : Fin 1024) :
    val_main_v27 (F := Ideal) x1 (ix3 b t d) = x1 (ix2 b ⟨3072 + d.val, by omega⟩) := by
  rw [val_main_v27_apply, val_main_v4_apply, val_main_v0_apply]
  exact congrArg x1 (same2 rfl rfl)

/-- The scale of a batch, which starts at one. -/
theorem scale (b : Fin 8) (t : Fin 4096) (d : Fin 1024) :
    val_main_v25 (F := Ideal) x1 (ix3 b t d) = Ideal.ofBits .f32 0x3F800000#32 + x1 (ix2 b ⟨4096 + d.val, by omega⟩) := by
  rw [val_main_v25_apply, val_main_v24_apply, val_main_v23_apply, val_main_v5_apply, val_main_v0_apply]
  exact congrArg (fun a : EReal => Ideal.ofBits .f32 0x3F800000#32 + a) (congrArg x1 (same2 rfl rfl))

/-- The gain. -/
theorem gain (b : Fin 8) (t : Fin 4096) (d : Fin 1024) : val_main_v21 (F := Ideal) x2 (ix3 b t d) = x2 (ix1 d) := by
  rw [val_main_v21_apply, val_main_v20_apply]
  exact congrArg x2 (funext fun a => Fin.ext (by fin_cases a; rfl))

/-- The sum of a row's squares. -/
theorem squares (b : Fin 8) (t : Fin 4096) :
    val_main_v11 (F := Ideal) x0 (ix2 b t) = ∑ k : Fin 1024, x0 (ix3 b t k) * x0 (ix3 b t k) := by
  rw [val_main_v11_apply, val_main_cst_apply]
  refine (congrArg₂ (fun a b : EReal => a + b) (Ideal.ofBits_zero .f32) (Finset.sum_congr rfl fun k _ => ?_)).trans (zero_add _)
  have e : idx_main_v11 (ix2 b t) k = ix3 b t k := same3 rfl rfl rfl
  rw [e]
  rfl

/-- The inverse root of a row's mean square. -/
theorem root (b : Fin 8) (t : Fin 4096) (d : Fin 1024) :
    val_main_v18 (F := Ideal) x0 (ix3 b t d)
      = Ideal.rsqrt (Ideal.div (∑ k : Fin 1024, x0 (ix3 b t k) * x0 (ix3 b t k)) (Ideal.ofBits .f32 0x44800000#32)
          + Ideal.ofBits .f32 0x358637BD#32) := by
  rw [val_main_v18_apply, val_main_v17_apply, val_main_v16_apply, val_main_v14_apply, val_main_v12_apply, val_main_v13_apply,
    val_main_v15_apply]
  have e : idx_main_v12 (idx_main_v18 (ix3 b t d)) = ix2 b t := same2 rfl rfl
  rw [e, squares]
  rfl

/-- The normed row. -/
theorem normed (b : Fin 8) (t : Fin 4096) (d : Fin 1024) :
    val_main_v28 (F := Ideal) x0 x1 x2 (ix3 b t d)
      = hid (fun k => x0 (ix3 b t k)) (fun k => x1 (ix2 b ⟨3072 + k.val, by omega⟩)) (fun k => x1 (ix2 b ⟨4096 + k.val, by omega⟩))
          (fun k => x2 (ix1 k)) d := by
  rw [val_main_v28_apply, val_main_v26_apply, val_main_v22_apply, val_main_v19_apply, root, gain, scale, shift]
  rfl

/-- The normed row's product with a column. -/
theorem column (b : Fin 8) (t : Fin 4096) (f : Fin 1792) (i : S8x4096x1792.Idx) (hi : i = ix3 b t f) :
    val_main_v29 (F := Ideal) x0 x1 x2 x3 i
      = ∑ k : Fin 1024, hid (fun k => x0 (ix3 b t k)) (fun k => x1 (ix2 b ⟨3072 + k.val, by omega⟩))
          (fun k => x1 (ix2 b ⟨4096 + k.val, by omega⟩)) (fun k => x2 (ix1 k)) k * x3 (ix2 k f) := by
  subst hi
  rw [val_main_v29_apply]
  refine Finset.sum_congr rfl fun k _ => ?_
  have e : lidx_main_v29 (ix3 b t f) k = ix3 b t k := same3 rfl rfl rfl
  have e' : ridx_main_v29 (ix3 b t f) k = ix2 k f := same2 rfl rfl
  rw [e, e', normed]

/-- THE REFERENCE'S FIRST RESULT: the products with the columns from 640. -/
theorem reference_first (b : Fin 8) (t : Fin 4096) (d : Fin 128) :
    val_main_v32 (F := Ideal) x0 x1 x2 x3 (ix3 b t d) = first x0 x1 x2 x3 b t d := by
  rw [val_main_v32_apply]
  exact column x0 x1 x2 x3 b t ⟨640 + d.val, by omega⟩ _ (same3 rfl rfl rfl)

/-- THE REFERENCE'S SECOND RESULT: the products with the columns from 1536. -/
theorem reference_second (b : Fin 8) (t : Fin 4096) (d : Fin 256) :
    val_main_v35 (F := Ideal) x0 x1 x2 x3 (ix3 b t d) = second x0 x1 x2 x3 b t d := by
  rw [val_main_v35_apply]
  exact column x0 x1 x2 x3 b t ⟨1536 + d.val, by omega⟩ _ (same3 rfl rfl rfl)

end Cert.EvenRefIdeal.Math

end
-- ==== Proof.EvenArr.lean ====
/-
  The projection kernel's two results: every row's products with the columns of the values.
-/
module

public import proofs.«01_k».proof.Proof.Gen.EvenIdeal.Value
public import proofs.«01_k».proof.Proof.EvenRef
public import Idealize.ShloMosaic.Lib.Pipeline.ValueKit

@[expose] public section

set_option maxRecDepth 16384

noncomputable section

namespace Cert.EvenIdeal.HostValue

open Idealize.ShloMosaic Cert.EvenIdeal Cert.EvenIdeal.Gen Idealize.ShloMosaic.TcCoe Idealize.SL.Sem Cert.FfnMath
open Cert.EvenRefIdeal.Math (product first second)

/-! ## The body at an index -/

/-- The products of the block's rows. -/
theorem pay_apply (x : Vec Ideal S1x512x1024 .f32) (sh sc : Vec Ideal S1x1x1024 .f32) (g : Vec Ideal S1x1024 .f32)
    (w : Vec Ideal S1024x1792 .bf16) (r : Fin 512) (f : Fin 1792) :
    k0_pay1 x sh sc g w (ix2 r f)
      = ∑ k : Fin 1024, hid (fun k => x (ix3 0 r k)) (fun k => sh (ix3 0 0 k)) (fun k => sc (ix3 0 0 k)) (fun k => g (ix2 0 k)) k
          * w (ix2 k f) := by
  pointwise [k0_pay1, hid]

/-- The shift's row of the modulation. -/
theorem ld_shift (x : Vec Ideal S1x9x1024 .f32) (d : Fin 1024) : View.ld x r0_1 (ix3 0 0 d) = x (ix3 0 3 d) := by
  pointwise [r0_1]

/-- The scale's row of the modulation. -/
theorem ld_scale (x : Vec Ideal S1x9x1024 .f32) (d : Fin 1024) : View.ld x r0_2 (ix3 0 0 d) = x (ix3 0 4 d) := by
  pointwise [r0_2]

/-- The products of the block's rows, from the blocks. -/
theorem products (x0 : Vec Ideal S1x512x1024 .f32) (x1 : Vec Ideal S1x9x1024 .f32) (x2 : Vec Ideal S1x1024 .f32)
    (x3 : Vec Ideal S1024x1792 .bf16) (r : Fin 512) (f : Fin 1792) :
    k0_pay1 (View.ld x0 r0_0) (View.ld x1 r0_1) (View.ld x1 r0_2) (View.ld x2 r0_3) (View.ld x3 r0_4) (ix2 r f)
      = ∑ k : Fin 1024, hid (fun k => x0 (ix3 0 r k)) (fun k => x1 (ix3 0 3 k)) (fun k => x1 (ix3 0 4 k)) (fun k => x2 (ix2 0 k)) k
          * x3 (ix2 k f) := by
  have z3 : (![0, 0, 0] : Fin 3 → Nat) = fun _ => 0 := by decide
  have z2 : (![0, 0] : Fin 2 → Nat) = fun _ => 0 := by decide
  refine (pay_apply _ _ _ _ _ r f).trans ?_
  have w0 := View.ld_unit_zero z3 inb_S1x512x1024_S1x512x1024_0_0_0 x0
  have w2 := View.ld_unit_zero z2 inb_S1x1024_S1x1024_0_0 x2
  have w3 := View.ld_unit_zero z2 inb_S1024x1792_S1024x1792_0_0 x3
  rw [w0, w2, w3]
  have s : (fun k : Fin 1024 => View.ld x1 r0_1 (ix3 0 0 k)) = fun k => x1 (ix3 0 3 k) := funext fun k => ld_shift x1 k
  have s' : (fun k : Fin 1024 => View.ld x1 r0_2 (ix3 0 0 k)) = fun k => x1 (ix3 0 4 k) := funext fun k => ld_scale x1 k
  rw [s, s']

/-! ## The operands as the host hands them over -/

/-- The modulation laid out in nine rows a batch. -/
theorem rows_apply (x : FVec Ideal S8x9216 .f32) (b : Fin 8) (n : Fin 9) (k : Fin 1024) :
    shapeCast S8x9x1024 x shapeCasts_S8x9216_S8x9x1024 (ix3 b n k) = x (ix2 b ⟨1024 * n.val + k.val, by omega⟩) :=
  shapeCast_apply x shapeCasts_S8x9216_S8x9x1024 _ _ (by
    rewrite [Shape.rowMajor_val_two, Shape.rowMajor_val_three]
    show b.val * 9216 + (1024 * n.val + k.val) = (b.val * 9 + n.val) * 1024 + k.val
    omega)

/-- The gain laid out in a row. -/
theorem gain_apply (x : FVec Ideal S1024 .f32) (k : Fin 1024) :
    shapeCast S1x1024 x shapeCasts_S1024_S1x1024 (ix2 0 k) = x (ix1 k) :=
  shapeCast_apply x shapeCasts_S1024_S1x1024 _ _ (by
    rewrite [Shape.rowMajor_val_one, Shape.rowMajor_val_two]
    show k.val = 0 * 1024 + k.val
    omega)

variable (m : (ℓ : Loc nD τ sig) → Buf (Elt Ideal) ℓ) (c : Dev nD)

/-- The rows are an argument. -/
theorem V_x : V m c main_arg0 = m ((c : Thread nD τ).loc main_arg0) := by
  unfold V
  after_results_simp
  try rfl

/-- The modulation at the kernel's start. -/
theorem V_mod : V m c main_v0 = shapeCast S8x9x1024 (m ((c : Thread nD τ).loc main_arg1)) shapeCasts_S8x9216_S8x9x1024 := by
  unfold V
  after_results_simp
  try rfl

/-- The gain at the kernel's start. -/
theorem V_gain : V m c main_v1 = shapeCast S1x1024 (m ((c : Thread nD τ).loc main_arg2)) shapeCasts_S1024_S1x1024 := by
  unfold V
  after_results_simp
  try rfl

/-- The weights at the kernel's start. -/
theorem V_w : V m c main_v2 = m ((c : Thread nD τ).loc main_arg3) := by
  unfold V
  after_results_simp
  try rfl

/-! ## The blocks a point reads -/

/-- The blocks of the rows: batch, tile of rows. -/
theorem index_x : ∀ t : Fin cfg0.N, win0_0.index t = ![(grid0.coords t 0).val, (grid0.coords t 1).val, 0] :=
  (by decide +kernel : ∀ t : Fin grid0.N, _)
/-- The blocks of the modulation: batch. -/
theorem index_mod : ∀ t : Fin cfg0.N, win0_1.index t = ![(grid0.coords t 0).val, 0, 0] :=
  (by decide +kernel : ∀ t : Fin grid0.N, _)
/-- The gain is one block. -/
theorem index_gain : ∀ t : Fin cfg0.N, win0_2.index t = ![0, 0] :=
  (by decide +kernel : ∀ t : Fin grid0.N, _)
/-- The weights are one block. -/
theorem index_w : ∀ t : Fin cfg0.N, win0_3.index t = ![0, 0] :=
  (by decide +kernel : ∀ t : Fin grid0.N, _)
/-- The blocks of the first result: batch, tile of rows. -/
theorem index_first : ∀ t : Fin cfg0.N, win0_11.index t = ![(grid0.coords t 0).val, (grid0.coords t 1).val, 0] :=
  (by decide +kernel : ∀ t : Fin grid0.N, _)
/-- The blocks of the second result: batch, tile of rows. -/
theorem index_second : ∀ t : Fin cfg0.N, win0_14.index t = ![(grid0.coords t 0).val, (grid0.coords t 1).val, 0] :=
  (by decide +kernel : ∀ t : Fin grid0.N, _)

/-- A point's batch and tile. -/
theorem coords_lt (t : Fin cfg0.N) : (grid0.coords t 0).val < 8 ∧ (grid0.coords t 1).val < 8 :=
  ⟨(grid0.coords t 0).isLt, (grid0.coords t 1).isLt⟩

/-- A block of rows. -/
theorem iblk_x (t : Fin cfg0.N) (b : Fin 8) (n : Fin 8) (hb : (grid0.coords t 0).val = b.val)
    (hn : (grid0.coords t 1).val = n.val) (z : FVec Ideal S8x4096x1024 .f32) (hz : V m c main_arg0 = z) (r : Fin 512) (k : Fin 1024) :
    iblk m c 0 t (ix3 0 r k) = z (ix3 b ⟨512 * n.val + r.val, by omega⟩ k) := by
  unfold iblk
  generalize V m c = W at hz ⊢
  rw [← hz]
  blk_simp [index_x]
  refine congrArg (W main_arg0) ?_
  blk_ext [index_x]

/-- A block of the modulation. -/
theorem iblk_mod (t : Fin cfg0.N) (b : Fin 8) (hb : (grid0.coords t 0).val = b.val) (z : FVec Ideal S8x9x1024 .f32)
    (hz : V m c main_v0 = z) (n : Fin 9) (k : Fin 1024) :
    iblk m c 1 t (ix3 0 n k) = z (ix3 b n k) := by
  unfold iblk
  generalize V m c = W at hz ⊢
  rw [← hz]
  blk_simp [index_mod]
  refine congrArg (W main_v0) ?_
  blk_ext [index_mod]

/-- The block of the gain. -/
theorem iblk_gain (t : Fin cfg0.N) (z : FVec Ideal S1x1024 .f32) (hz : V m c main_v1 = z) (k : Fin 1024) :
    iblk m c 2 t (ix2 0 k) = z (ix2 0 k) := by
  unfold iblk
  generalize V m c = W at hz ⊢
  rw [← hz]
  blk_simp [index_gain]
  refine congrArg (W main_v1) ?_
  blk_ext [index_gain]

/-- The block of the weights. -/
def blkW (t : Fin cfg0.N) : Vec Ideal S1024x1792 .bf16 := iblk m c 3 t

/-- It is the whole of them. -/
theorem blkW_apply (t : Fin cfg0.N) (z : FVec Ideal S1024x1792 .bf16) (hz : V m c main_v2 = z) (x : S1024x1792.Idx) :
    blkW m c t x = z x := by
  have o0 : ((win0_3.blk t).view.emb x 0).val = (x 0).val := by
    blk_simp [index_w]
  have o1 : ((win0_3.blk t).view.emb x 1).val = (x 1).val := by
    blk_simp [index_w]
  have e : (win0_3.blk t).view.emb x = x := by
    have o : ∀ a : Fin 2, ((win0_3.blk t).view.emb x a).val = (x a).val :=
      Fin.forall_fin_succ.2 ⟨o0, Fin.forall_fin_succ.2 ⟨o1, fun a => a.elim0⟩⟩
    exact funext fun a => Fin.ext (o a)
  unfold blkW iblk
  generalize V m c = W at hz ⊢
  rw [View.read_apply, e, hz]
  exact cast_eq _ _

/-! ## The results -/

/-- A row of the block, normed and modulated. -/
theorem row (x0 : FVec Ideal S8x4096x1024 .f32) (x1 : FVec Ideal S8x9216 .f32) (x2 : FVec Ideal S1024 .f32)
    (e0 : m ((c : Thread nD τ).loc main_arg0) = x0) (e1 : m ((c : Thread nD τ).loc main_arg1) = x1)
    (e2 : m ((c : Thread nD τ).loc main_arg2) = x2)
    (t : Fin cfg0.N) (b n : Fin 8) (hb : (grid0.coords t 0).val = b.val) (hn : (grid0.coords t 1).val = n.val) (r : Fin 512) :
    hid (fun k => iblk m c 0 t (ix3 0 r k)) (fun k => iblk m c 1 t (ix3 0 3 k)) (fun k => iblk m c 1 t (ix3 0 4 k))
        (fun k => iblk m c 2 t (ix2 0 k))
      = hid (fun k => x0 (ix3 b ⟨512 * n.val + r.val, by omega⟩ k)) (fun k => x1 (ix2 b ⟨3072 + k.val, by omega⟩))
          (fun k => x1 (ix2 b ⟨4096 + k.val, by omega⟩)) (fun k => x2 (ix1 k)) := by
  subst e0 e1 e2
  have w0 : (fun k : Fin 1024 => iblk m c 0 t (ix3 0 r k))
      = fun k => (m ((c : Thread nD τ).loc main_arg0) : FVec Ideal S8x4096x1024 .f32) (ix3 b ⟨512 * n.val + r.val, by omega⟩ k) :=
    funext fun k => iblk_x m c t b n hb hn _ (V_x m c) r k
  have w1 : (fun k : Fin 1024 => iblk m c 1 t (ix3 0 3 k))
      = fun k => (m ((c : Thread nD τ).loc main_arg1) : FVec Ideal S8x9216 .f32) (ix2 b ⟨3072 + k.val, by omega⟩) :=
    funext fun k => (iblk_mod m c t b hb _ (V_mod m c) 3 k).trans (rows_apply _ b 3 k)
  have w2 : (fun k : Fin 1024 => iblk m c 1 t (ix3 0 4 k))
      = fun k => (m ((c : Thread nD τ).loc main_arg1) : FVec Ideal S8x9216 .f32) (ix2 b ⟨4096 + k.val, by omega⟩) :=
    funext fun k => (iblk_mod m c t b hb _ (V_mod m c) 4 k).trans (rows_apply _ b 4 k)
  have w3 : (fun k : Fin 1024 => iblk m c 2 t (ix2 0 k))
      = fun k => (m ((c : Thread nD τ).loc main_arg2) : FVec Ideal S1024 .f32) (ix1 k) :=
    funext fun k => (iblk_gain m c t _ (V_gain m c) k).trans (gain_apply _ k)
  exact congr (congr (congr (congrArg hid w0) w1) w2) w3

/-- What a point has of a row's product with a column. -/
theorem point (x0 : FVec Ideal S8x4096x1024 .f32) (x1 : FVec Ideal S8x9216 .f32) (x2 : FVec Ideal S1024 .f32)
    (x3 : FVec Ideal S1024x1792 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3)
    (t : Fin cfg0.N) (b n : Fin 8) (hb : (grid0.coords t 0).val = b.val) (hn : (grid0.coords t 1).val = n.val) (r : Fin 512)
    (f : Fin 1792) :
    ∑ k : Fin 1024, hid (fun k => iblk m c 0 t (ix3 0 r k)) (fun k => iblk m c 1 t (ix3 0 3 k)) (fun k => iblk m c 1 t (ix3 0 4 k))
        (fun k => iblk m c 2 t (ix2 0 k)) k * blkW m c t (ix2 k f)
      = product x0 x1 x2 x3 b ⟨512 * n.val + r.val, by omega⟩ f := by
  unfold product
  rw [row m c x0 x1 x2 e0 e1 e2 t b n hb hn r]
  subst e3
  exact Finset.sum_congr rfl fun k _ => congrArg (fun a : EReal => hid _ _ _ _ k * a) (blkW_apply m c t _ (V_w m c) _)

/-- The body's first result at an index. -/
theorem first_value (x0 : Vec Ideal S1x512x1024 .f32) (x1 : Vec Ideal S1x9x1024 .f32) (x2 : Vec Ideal S1x1024 .f32)
    (x3 : Vec Ideal S1024x1792 .bf16) (x4 : Vec Ideal S1x1792 .f32) (x5 x6 x7 : Vec Ideal S512x128 .f32) (x8 : Vec Ideal S256x256 .bf16)
    (r : Fin 512) (d : Fin 128) :
    out0_11 x0 x1 x2 x3 x4 x5 x6 x7 x8 (ix3 0 r d)
      = ∑ k : Fin 1024, hid (fun k => x0 (ix3 0 r k)) (fun k => x1 (ix3 0 3 k)) (fun k => x1 (ix3 0 4 k)) (fun k => x2 (ix2 0 k)) k
          * x3 (ix2 k ⟨640 + d.val, by omega⟩) := by
  have z3 : (![0, 0, 0] : Fin 3 → Nat) = fun _ => 0 := by decide
  unfold out0_11 k0_pay23
  refine (congrFun (View.canon_unit_zero z3 _ _) (ix3 0 r d)).trans ?_
  refine Eq.trans ?_ (products x0 x1 x2 x3 r ⟨640 + d.val, by omega⟩)
  generalize k0_pay1 (F := Ideal) _ _ _ _ _ = z
  pointwise [k0_pay13]

/-- THE FIRST RESULT'S ARRAY. -/
theorem final_first (x0 : FVec Ideal S8x4096x1024 .f32) (x1 : FVec Ideal S8x9216 .f32) (x2 : FVec Ideal S1024 .f32)
    (x3 : FVec Ideal S1024x1792 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3) :
    (dats m 0 c).arrAt 11 cfg0.N = fun i => first x0 x1 x2 x3 (i 0) (i 1) (i 2) := by
  refine (dats m 0 c).arrAt_eq_of_covers 11 _ (by decide +kernel) fun t hf y => ?_
  blk_simp
  obtain ⟨hb, hn⟩ := coords_lt t
  have hy1 : (y 1).val < 512 := (y 1).isLt
  have hy2 : (y 2).val < 128 := (y 2).isLt
  have key := (first_value (iblk m c 0 t) (iblk m c 1 t) (iblk m c 2 t) (blkW m c t) (iblk m c 4 t) (iblk m c 5 t) (iblk m c 6 t)
    (iblk m c 7 t) (iblk m c 8 t) ⟨(y 1).val, hy1⟩ ⟨(y 2).val, hy2⟩).trans
      (point m c x0 x1 x2 x3 e0 e1 e2 e3 t ⟨_, hb⟩ ⟨_, hn⟩ rfl rfl ⟨(y 1).val, hy1⟩ _)
  rw [after0_11]
  refine Eq.trans (congrArg _ ?_) (key.trans ?_)
  · blk_ext
  have o0 : (win0_11.blk t).view.emb y 0 = (⟨(grid0.coords t 0).val, hb⟩ : Fin 8) := by
    apply Fin.ext; blk_simp [index_first]
  have v1 : ((win0_11.blk t).view.emb y 1).val = (grid0.coords t 1).val * 512 + (y 1).val := by
    blk_simp [index_first]
  have o1 : (win0_11.blk t).view.emb y 1 = (⟨512 * (grid0.coords t 1).val + (y 1).val, by omega⟩ : Fin 4096) :=
    Fin.ext (v1.trans (congrArg (fun a => a + (y 1).val) (Nat.mul_comm _ 512)))
  have o2 : (win0_11.blk t).view.emb y 2 = (⟨(y 2).val, hy2⟩ : Fin 128) := by
    apply Fin.ext; blk_simp [index_first]
  rw [o0, o1, o2]
  rfl

/-- The body's second result at an index. -/
theorem second_value (x0 : Vec Ideal S1x512x1024 .f32) (x1 : Vec Ideal S1x9x1024 .f32) (x2 : Vec Ideal S1x1024 .f32)
    (x3 : Vec Ideal S1024x1792 .bf16) (x4 : Vec Ideal S1x1792 .f32) (x5 x6 x7 : Vec Ideal S512x128 .f32) (x8 : Vec Ideal S256x256 .bf16)
    (r : Fin 512) (d : Fin 256) :
    out0_14 x0 x1 x2 x3 x4 x5 x6 x7 x8 (ix3 0 r d)
      = ∑ k : Fin 1024, hid (fun k => x0 (ix3 0 r k)) (fun k => x1 (ix3 0 3 k)) (fun k => x1 (ix3 0 4 k)) (fun k => x2 (ix2 0 k)) k
          * x3 (ix2 k ⟨1536 + d.val, by omega⟩) := by
  have z3 : (![0, 0, 0] : Fin 3 → Nat) = fun _ => 0 := by decide
  unfold out0_14 k0_pay23
  refine (congrFun (View.canon_unit_zero z3 _ _) (ix3 0 r d)).trans ?_
  refine Eq.trans ?_ (products x0 x1 x2 x3 r ⟨1536 + d.val, by omega⟩)
  generalize k0_pay1 (F := Ideal) _ _ _ _ _ = z
  pointwise [k0_pay22]

/-- THE SECOND RESULT'S ARRAY. -/
theorem final_second (x0 : FVec Ideal S8x4096x1024 .f32) (x1 : FVec Ideal S8x9216 .f32) (x2 : FVec Ideal S1024 .f32)
    (x3 : FVec Ideal S1024x1792 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3) :
    (dats m 0 c).arrAt 14 cfg0.N = fun i => second x0 x1 x2 x3 (i 0) (i 1) (i 2) := by
  refine (dats m 0 c).arrAt_eq_of_covers 14 _ (by decide +kernel) fun t hf y => ?_
  blk_simp
  obtain ⟨hb, hn⟩ := coords_lt t
  have hy1 : (y 1).val < 512 := (y 1).isLt
  have hy2 : (y 2).val < 256 := (y 2).isLt
  have key := (second_value (iblk m c 0 t) (iblk m c 1 t) (iblk m c 2 t) (blkW m c t) (iblk m c 4 t) (iblk m c 5 t) (iblk m c 6 t)
    (iblk m c 7 t) (iblk m c 8 t) ⟨(y 1).val, hy1⟩ ⟨(y 2).val, hy2⟩).trans
      (point m c x0 x1 x2 x3 e0 e1 e2 e3 t ⟨_, hb⟩ ⟨_, hn⟩ rfl rfl ⟨(y 1).val, hy1⟩ _)
  rw [after0_14]
  refine Eq.trans (congrArg _ ?_) (key.trans ?_)
  · blk_ext
  have o0 : (win0_14.blk t).view.emb y 0 = (⟨(grid0.coords t 0).val, hb⟩ : Fin 8) := by
    apply Fin.ext; blk_simp [index_second]
  have v1 : ((win0_14.blk t).view.emb y 1).val = (grid0.coords t 1).val * 512 + (y 1).val := by
    blk_simp [index_second]
  have o1 : (win0_14.blk t).view.emb y 1 = (⟨512 * (grid0.coords t 1).val + (y 1).val, by omega⟩ : Fin 4096) :=
    Fin.ext (v1.trans (congrArg (fun a => a + (y 1).val) (Nat.mul_comm _ 512)))
  have o2 : (win0_14.blk t).view.emb y 2 = (⟨(y 2).val, hy2⟩ : Fin 256) := by
    apply Fin.ext; blk_simp [index_second]
  rw [o0, o1, o2]
  rfl

end Cert.EvenIdeal.HostValue

end
-- ==== Proof.EvenClaims.lean ====
/-
  The even layer's projection's claims: the runs, and that the kernel's values are the reference's.
-/
module

public import proofs.«01_k».proof.Defs
public import proofs.«01_k».proof.Proof.Gen.Even.Frame
public import proofs.«01_k».proof.Proof.Gen.EvenIdeal.Frame
public import proofs.«01_k».proof.Proof.Gen.EvenRefIdeal.Run
public import proofs.«01_k».proof.Proof.EvenArr
public import Idealize.ShloMosaic.Adequacy

@[expose] public section

noncomputable section

namespace Cert.Proof

open Idealize.ShloMosaic Idealize.SL.Sem

/-- The even layer's projection kernel runs and leaves its arguments. -/
theorem frame_even : Cert.quiescent_Even := fun m ρ _ => Cert.Even.Gen.frame m ρ

/-- Its idealization runs and leaves its arguments. -/
theorem frame_evenIdeal : Cert.quiescent_EvenIdeal := fun m ρ _ => Cert.EvenIdeal.Gen.frame m ρ

/-- Its reference runs and leaves its arguments. -/
theorem frame_evenRef : Cert.quiescent_EvenRefIdeal := fun m ρ _ =>
  (θ_run Cert.EvenRefIdeal.defs _ _).mono
    (fun r h => ⟨fun c => (h c).2.2, sem_eq_zero_of_no_sems (by decide) r.2⟩) (Cert.EvenRefIdeal.Value.run (F := Ideal) m ρ)

/-- No constant of the projection is read as another. -/
theorem preserves_even : Cert.preserves_Even_EvenIdeal := trivial

/-- THE EVEN LAYER'S PROJECTION KERNEL IS ITS REFERENCE in the values, on any arguments. -/
theorem algebraic_even : Cert.algebraic_EvenIdeal_EvenRefIdeal := by
  intro m ρ m' ρ' _ hagree
  refine ⟨_, _, (θ_run Cert.EvenIdeal.defs _ _).mono (fun _ h c => ⟨(h c).2.2.1, (h c).2.2.2.2.2.1, (h c).2.2.2.2.2.2⟩)
    (Cert.EvenIdeal.Value.run_blocks (F := Ideal) m ρ), ?_⟩
  refine (θ_run Cert.EvenRefIdeal.defs _ _).mono (fun _ h c => ⟨(h c).1.trans ?_, (h c).2.1.trans ?_, (h c).2.2⟩)
    (Cert.EvenRefIdeal.Value.run (F := Ideal) m' ρ')
  · obtain ⟨a0, a1, a2, a3, -⟩ := hagree c
    rw [Cert.EvenRefIdeal.Read.val_main_v32_eq, a0, a1, a2, a3]
    refine Eq.trans (funext fun i => ?_) (Cert.EvenIdeal.HostValue.final_first m c _ _ _ _ rfl rfl rfl rfl).symm
    have e : i = ix3 (i 0) (i 1) (i 2) := Cert.EvenRefIdeal.Math.same3 rfl rfl rfl
    exact (congrArg _ e).trans (Cert.EvenRefIdeal.Math.reference_first _ _ _ _ (i 0) (i 1) (i 2))
  · obtain ⟨a0, a1, a2, a3, -⟩ := hagree c
    rw [Cert.EvenRefIdeal.Read.val_main_v35_eq, a0, a1, a2, a3]
    refine Eq.trans (funext fun i => ?_) (Cert.EvenIdeal.HostValue.final_second m c _ _ _ _ rfl rfl rfl rfl).symm
    have e : i = ix3 (i 0) (i 1) (i 2) := Cert.EvenRefIdeal.Math.same3 rfl rfl rfl
    exact (congrArg _ e).trans (Cert.EvenRefIdeal.Math.reference_second _ _ _ _ (i 0) (i 1) (i 2))

end Cert.Proof

end
-- ==== Proof.OddMath.lean ====
/-
  The latent's norm and the key's rotation, as plain mathematics.
-/
module

public import proofs.«01_k».proof.Proof.FfnMath
public import Mathlib.Data.EReal.Inv

@[expose] public section

noncomputable section

namespace Cert.OddMath

open Idealize.ShloMosaic

/-- A row normed by the root of its mean square and gained; `n` is the number of its entries. -/
def normed {N : ℕ} (n : EReal) (y g : Fin N → EReal) (d : Fin N) : EReal :=
  y d * Ideal.rsqrt (Ideal.div (∑ k, y k * y k) n + Ideal.ofBits .f32 0x358637BD#32) * g d

/-- The thirty-second part, as a product and as a quotient. -/
theorem part32 (x : EReal) : x * Ideal.ofBits .f32 0x3D000000#32 = Ideal.div x (Ideal.ofBits .f32 0x42000000#32) := by
  have a : Ideal.ofBits .f32 0x42000000#32 = ((32 : ℝ) : EReal) := by
    simp [Ideal.ofBits, Ideal.ieee, -EReal.coe_mul]; norm_num
  have b : Ideal.ofBits .f32 0x3D000000#32 = (((32 : ℝ)⁻¹ : ℝ) : EReal) := by
    simp [Ideal.ofBits, Ideal.ieee, -EReal.coe_mul]; norm_num
  have z : ((32 : ℝ) : EReal) ≠ 0 := by norm_num
  rw [a, b]
  unfold Ideal.div
  simp only [z, if_false]
  rw [EReal.coe_inv]

/-- A row of which all but the first thirty-two entries are naught has the sum of the squares of those. -/
theorem squares32 (u : Fin 128 → EReal) (v : Fin 32 → EReal) (h : ∀ j : Fin 32, u ⟨j.val, by omega⟩ = v j)
    (h' : ∀ j : Fin 96, u ⟨32 + j.val, by omega⟩ = 0) : ∑ k, u k * u k = ∑ k, v k * v k := by
  refine (Fin.sum_univ_add (a := 32) (b := 96) (fun k : Fin 128 => u k * u k)).trans ?_
  have s : ∑ k : Fin 96, u (Fin.natAdd 32 k) * u (Fin.natAdd 32 k) = 0 :=
    Finset.sum_eq_zero fun k _ => by
      have e : u (Fin.natAdd 32 k) = 0 := h' k
      rw [e, zero_mul]
  rw [s, add_zero]
  refine Finset.sum_congr rfl fun k _ => ?_
  have e : u (Fin.castAdd 96 k) = v k := h k
  rw [e]

/-- A row of a hundred and twenty-eight entries, normed by the root of the thirty-second part of its squares' sum, and gained. -/
def padded (y g : Fin 128 → EReal) (j : Fin 128) : EReal :=
  y j * Ideal.rsqrt ((∑ k, y k * y k) * Ideal.ofBits .f32 0x3D000000#32 + Ideal.ofBits .f32 0x358637BD#32) * g j

/-- Where all but the first thirty-two entries are naught, these are normed among themselves. -/
theorem padded_eq (y g : Fin 128 → EReal) (y' g' : Fin 32 → EReal) (h : ∀ j : Fin 32, y ⟨j.val, by omega⟩ = y' j)
    (h' : ∀ j : Fin 96, y ⟨32 + j.val, by omega⟩ = 0) (hg : ∀ j : Fin 32, g ⟨j.val, by omega⟩ = g' j) (j : Fin 32) :
    padded y g ⟨j.val, by omega⟩ = normed (Ideal.ofBits .f32 0x42000000#32) y' g' j := by
  unfold padded normed
  rw [part32, squares32 y y' h h', h, hg]

end Cert.OddMath

end
-- ==== Proof.OddRef.lean ====
/-
  The odd layer's projection's reference, read at an index: the normed latent, and the key's part normed and turned.
-/
module

public import proofs.«01_k».proof.Proof.OddMath
public import proofs.«01_k».proof.Proof.Gen.OddRefIdeal.Read

@[expose] public section

set_option maxRecDepth 16384

noncomputable section

namespace Cert.OddRefIdeal.Math

open Idealize.ShloMosaic Cert.OddRefIdeal Cert.OddRefIdeal.Gen Cert.OddRefIdeal.Read Cert.FfnMath Cert.OddMath

/-- A normed and modulated row's product with a column of the weights. -/
def product (x0 : FVec Ideal S8x4096x1024 .f32) (x1 : FVec Ideal S8x9216 .f32) (x2 : FVec Ideal S1024 .f32)
    (x3 : FVec Ideal S1024x544 .f32) (b : Fin 8) (t : Fin 4096) (f : Fin 544) : EReal :=
  ∑ k : Fin 1024, hid (fun k => x0 (ix3 b t k)) (fun k => x1 (ix2 b ⟨3072 + k.val, by omega⟩))
    (fun k => x1 (ix2 b ⟨4096 + k.val, by omega⟩)) (fun k => x2 (ix1 k)) k * x3 (ix2 k f)

/-- The first result: the latent, normed. -/
def latent (x0 : FVec Ideal S8x4096x1024 .f32) (x1 : FVec Ideal S8x9216 .f32) (x2 : FVec Ideal S1024 .f32)
    (x3 : FVec Ideal S1024x544 .f32) (x4 : FVec Ideal S256 .f32) (b : Fin 8) (t : Fin 4096) (d : Fin 256) : EReal :=
  normed (Ideal.ofBits .f32 0x43800000#32) (fun d => product x0 x1 x2 x3 b t ⟨256 + d.val, by omega⟩) (fun d => x4 (ix1 d)) d

/-- The key's part that turns with the position, normed and not yet turned. -/
def key (x0 : FVec Ideal S8x4096x1024 .f32) (x1 : FVec Ideal S8x9216 .f32) (x2 : FVec Ideal S1024 .f32)
    (x3 : FVec Ideal S1024x544 .f32) (x5 : FVec Ideal S32 .f32) (b : Fin 8) (t : Fin 4096) (d : Fin 32) : EReal :=
  normed (Ideal.ofBits .f32 0x42000000#32) (fun d => product x0 x1 x2 x3 b t ⟨512 + d.val, by omega⟩) (fun d => x5 (ix1 d)) d

/-- The second result: the key's part turned, a pair of entries by the position's angle. -/
def turned (x0 : FVec Ideal S8x4096x1024 .f32) (x1 : FVec Ideal S8x9216 .f32) (x2 : FVec Ideal S1024 .f32)
    (x3 : FVec Ideal S1024x544 .f32) (x5 : FVec Ideal S32 .f32) (b : Fin 8) (t : Fin 4096) (d : Fin 32) : EReal :=
  if h : d.val < 16 then
    key x0 x1 x2 x3 x5 b t d * val_main_v73 (F := Ideal) (ix2 t ⟨d.val, h⟩)
      - key x0 x1 x2 x3 x5 b t ⟨16 + d.val, by omega⟩ * val_main_v75 (F := Ideal) (ix2 t ⟨d.val, h⟩)
  else
    key x0 x1 x2 x3 x5 b t d * val_main_v73 (F := Ideal) (ix2 t ⟨d.val - 16, by omega⟩)
      + key x0 x1 x2 x3 x5 b t ⟨d.val - 16, by omega⟩ * val_main_v75 (F := Ideal) (ix2 t ⟨d.val - 16, by omega⟩)

/-- Indices of three axes with the same coordinates are the same. -/
theorem same3 {n : Fin 3 → ℕ} {i j : (⟨3, n⟩ : Shape).Idx} (h0 : (i 0).val = (j 0).val) (h1 : (i 1).val = (j 1).val)
    (h2 : (i 2).val = (j 2).val) : i = j :=
  funext fun a => Fin.ext (by fin_cases a <;> assumption)

/-- Indices of two axes with the same coordinates are the same. -/
theorem same2 {n : Fin 2 → ℕ} {i j : (⟨2, n⟩ : Shape).Idx} (h0 : (i 0).val = (j 0).val) (h1 : (i 1).val = (j 1).val) : i = j :=
  funext fun a => Fin.ext (by fin_cases a <;> assumption)

variable (x0 : FVec Ideal S8x4096x1024 .f32) (x1 : FVec Ideal S8x9216 .f32) (x2 : FVec Ideal S1024 .f32)
  (x3 : FVec Ideal S1024x544 .f32) (x4 : FVec Ideal S256 .f32) (x5 : FVec Ideal S32 .f32)

/-- The shift of a batch. -/
theorem shift (b : Fin 8) (t : Fin 4096) (d : Fin 1024) :
    val_main_v27 (F := Ideal) x1 (ix3 b t d) = x1 (ix2 b ⟨3072 + d.val, by omega⟩) := by
  rw [val_main_v27_apply, val_main_v4_apply, val_main_v0_apply]
  exact congrArg x1 (same2 rfl rfl)

/-- The scale of a batch, which starts at one. -/
theorem scale (b : Fin 8) (t : Fin 4096) (d : Fin 1024) :
    val_main_v25 (F := Ideal) x1 (ix3 b t d) = Ideal.ofBits .f32 0x3F800000#32 + x1 (ix2 b ⟨4096 + d.val, by omega⟩) := by
  rw [val_main_v25_apply, val_main_v24_apply, val_main_v23_apply, val_main_v5_apply, val_main_v0_apply]
  exact congrArg (fun a : EReal => Ideal.ofBits .f32 0x3F800000#32 + a) (congrArg x1 (same2 rfl rfl))

/-- The gain. -/
theorem gain (b : Fin 8) (t : Fin 4096) (d : Fin 1024) : val_main_v21 (F := Ideal) x2 (ix3 b t d) = x2 (ix1 d) := by
  rw [val_main_v21_apply, val_main_v20_apply]
  exact congrArg x2 (funext fun a => Fin.ext (by fin_cases a; rfl))

/-- The sum of a row's squares. -/
theorem squares (b : Fin 8) (t : Fin 4096) :
    val_main_v11 (F := Ideal) x0 (ix2 b t) = ∑ k : Fin 1024, x0 (ix3 b t k) * x0 (ix3 b t k) := by
  rw [val_main_v11_apply, val_main_cst_apply]
  refine (congrArg₂ (fun a b : EReal => a + b) (Ideal.ofBits_zero .f32) (Finset.sum_congr rfl fun k _ => ?_)).trans (zero_add _)
  have e : idx_main_v11 (ix2 b t) k = ix3 b t k := same3 rfl rfl rfl
  rw [e]
  rfl

/-- The inverse root of a row's mean square. -/
theorem root (b : Fin 8) (t : Fin 4096) (d : Fin 1024) :
    val_main_v18 (F := Ideal) x0 (ix3 b t d)
      = Ideal.rsqrt (Ideal.div (∑ k : Fin 1024, x0 (ix3 b t k) * x0 (ix3 b t k)) (Ideal.ofBits .f32 0x44800000#32)
          + Ideal.ofBits .f32 0x358637BD#32) := by
  rw [val_main_v18_apply, val_main_v17_apply, val_main_v16_apply, val_main_v14_apply, val_main_v12_apply, val_main_v13_apply,
    val_main_v15_apply]
  have e : idx_main_v12 (idx_main_v18 (ix3 b t d)) = ix2 b t := same2 rfl rfl
  rw [e, squares]
  rfl

/-- The normed row. -/
theorem modulated (b : Fin 8) (t : Fin 4096) (d : Fin 1024) :
    val_main_v28 (F := Ideal) x0 x1 x2 (ix3 b t d)
      = hid (fun k => x0 (ix3 b t k)) (fun k => x1 (ix2 b ⟨3072 + k.val, by omega⟩)) (fun k => x1 (ix2 b ⟨4096 + k.val, by omega⟩))
          (fun k => x2 (ix1 k)) d := by
  rw [val_main_v28_apply, val_main_v26_apply, val_main_v22_apply, val_main_v19_apply, root, gain, scale, shift]
  rfl

/-- The normed row's product with a column. -/
theorem column (b : Fin 8) (t : Fin 4096) (f : Fin 544) (i : S8x4096x544.Idx) (hi : i = ix3 b t f) :
    val_main_v29 (F := Ideal) x0 x1 x2 x3 i
      = ∑ k : Fin 1024, hid (fun k => x0 (ix3 b t k)) (fun k => x1 (ix2 b ⟨3072 + k.val, by omega⟩))
          (fun k => x1 (ix2 b ⟨4096 + k.val, by omega⟩)) (fun k => x2 (ix1 k)) k * x3 (ix2 k f) := by
  subst hi
  rw [val_main_v29_apply]
  refine Finset.sum_congr rfl fun k _ => ?_
  have e : lidx_main_v29 (ix3 b t f) k = ix3 b t k := same3 rfl rfl rfl
  have e' : ridx_main_v29 (ix3 b t f) k = ix2 k f := same2 rfl rfl
  rw [e, e', modulated]

/-- A latent entry before its norm. -/
theorem raw (b : Fin 8) (t : Fin 4096) (d : Fin 256) :
    val_main_v31 (F := Ideal) x0 x1 x2 x3 (ix3 b t d) = product x0 x1 x2 x3 b t ⟨256 + d.val, by omega⟩ := by
  rw [val_main_v31_apply]
  exact column x0 x1 x2 x3 b t ⟨256 + d.val, by omega⟩ _ (same3 rfl rfl rfl)

/-- A key's entry before its norm. -/
theorem raw_key (b : Fin 8) (t : Fin 4096) (d : Fin 32) :
    val_main_v32 (F := Ideal) x0 x1 x2 x3 (ix3 b t d) = product x0 x1 x2 x3 b t ⟨512 + d.val, by omega⟩ := by
  rw [val_main_v32_apply]
  exact column x0 x1 x2 x3 b t ⟨512 + d.val, by omega⟩ _ (same3 rfl rfl rfl)

/-- The sum of a latent's squares. -/
theorem latent_squares (b : Fin 8) (t : Fin 4096) :
    val_main_v34 (F := Ideal) x0 x1 x2 x3 (ix2 b t)
      = ∑ k : Fin 256, product x0 x1 x2 x3 b t ⟨256 + k.val, by omega⟩ * product x0 x1 x2 x3 b t ⟨256 + k.val, by omega⟩ := by
  rw [val_main_v34_apply, val_main_cst_3_apply]
  refine (congrArg₂ (fun a b : EReal => a + b) (Ideal.ofBits_zero .f32) (Finset.sum_congr rfl fun k _ => ?_)).trans (zero_add _)
  have e : idx_main_v34 (ix2 b t) k = ix3 b t k := same3 rfl rfl rfl
  rw [e, val_main_v33_apply, raw]
  rfl

/-- The sum of a key's squares. -/
theorem key_squares (b : Fin 8) (t : Fin 4096) :
    val_main_v47 (F := Ideal) x0 x1 x2 x3 (ix2 b t)
      = ∑ k : Fin 32, product x0 x1 x2 x3 b t ⟨512 + k.val, by omega⟩ * product x0 x1 x2 x3 b t ⟨512 + k.val, by omega⟩ := by
  rw [val_main_v47_apply, val_main_cst_6_apply]
  refine (congrArg₂ (fun a b : EReal => a + b) (Ideal.ofBits_zero .f32) (Finset.sum_congr rfl fun k _ => ?_)).trans (zero_add _)
  have e : idx_main_v47 (ix2 b t) k = ix3 b t k := same3 rfl rfl rfl
  rw [e, val_main_v46_apply, raw_key]
  rfl

/-- THE REFERENCE'S FIRST RESULT: the latent. -/
theorem reference_first (b : Fin 8) (t : Fin 4096) (d : Fin 256) :
    val_main_v45 (F := Ideal) x0 x1 x2 x3 x4 (ix3 b t d) = latent x0 x1 x2 x3 x4 b t d := by
  rw [val_main_v45_apply, val_main_v42_apply, val_main_v41_apply, val_main_v40_apply, val_main_v39_apply, val_main_v37_apply,
    val_main_v35_apply, val_main_v36_apply, val_main_v38_apply, val_main_v44_apply, val_main_v43_apply, raw]
  have e : idx_main_v35 (idx_main_v41 (ix3 b t d)) = ix2 b t := same2 rfl rfl
  have e' : idx_main_v43 (idx_main_v44 (ix3 b t d)) = ix1 d := funext fun a => Fin.ext (by fin_cases a; rfl)
  rw [e, e', latent_squares]
  rfl

/-- A key's entry, normed. -/
theorem key_normed (b : Fin 8) (t : Fin 4096) (d : Fin 32) :
    val_main_v58 (F := Ideal) x0 x1 x2 x3 x5 (ix3 b t d) = key x0 x1 x2 x3 x5 b t d := by
  rw [val_main_v58_apply, val_main_v55_apply, val_main_v54_apply, val_main_v53_apply, val_main_v52_apply, val_main_v50_apply,
    val_main_v48_apply, val_main_v49_apply, val_main_v51_apply, val_main_v57_apply, val_main_v56_apply, raw_key]
  have e : idx_main_v48 (idx_main_v54 (ix3 b t d)) = ix2 b t := same2 rfl rfl
  have e' : idx_main_v56 (idx_main_v57 (ix3 b t d)) = ix1 d := funext fun a => Fin.ext (by fin_cases a; rfl)
  rw [e, e', key_squares]
  rfl

/-- Indices of four axes with the same coordinates are the same. -/
theorem same4 {n : Fin 4 → ℕ} {i j : (⟨4, n⟩ : Shape).Idx} (h0 : (i 0).val = (j 0).val) (h1 : (i 1).val = (j 1).val)
    (h2 : (i 2).val = (j 2).val) (h3 : (i 3).val = (j 3).val) : i = j :=
  funext fun a => Fin.ext (by fin_cases a <;> assumption)

/-- The first half of the key's entries. -/
theorem key_low (b : Fin 8) (t : Fin 4096) (j : Fin 16) :
    val_main_v77 (F := Ideal) x0 x1 x2 x3 x5 (ix4 b t 0 j) = key x0 x1 x2 x3 x5 b t ⟨j.val, by omega⟩ := by
  rw [val_main_v77_apply, val_main_v59_apply]
  have e : idx_main_v59 (idx_main_v77 (ix4 b t 0 j)) = ix3 b t ⟨j.val, by omega⟩ := same3 rfl rfl rfl
  rw [e, key_normed]

/-- The second half of the key's entries. -/
theorem key_high (b : Fin 8) (t : Fin 4096) (j : Fin 16) :
    val_main_v78 (F := Ideal) x0 x1 x2 x3 x5 (ix4 b t 0 j) = key x0 x1 x2 x3 x5 b t ⟨16 + j.val, by omega⟩ := by
  rw [val_main_v78_apply, val_main_v59_apply]
  have e : idx_main_v59 (idx_main_v78 (ix4 b t 0 j)) = ix3 b t ⟨16 + j.val, by omega⟩ := same3 rfl rfl rfl
  rw [e, key_normed]

/-- A position's row of a table laid out with an axis of one between. -/
theorem spread (t : Fin 4096) (j : Fin 16) (i : S4096x1x16.Idx) (h0 : (i 0).val = t.val) (h1 : (i 2).val = j.val) :
    idx_main_v74 i = ix2 t j := by
  have hz : (i 1).val = 0 := by
    have h : (i 1).val < 1 := (i 1).isLt
    omega
  refine same2 ?_ ?_
  · show (((i 0).val * 1 + (i 1).val) * 16 + (i 2).val) / 16 = t.val
    omega
  · show (((i 0).val * 1 + (i 1).val) * 16 + (i 2).val) % 16 = j.val
    omega

/-- The cosines beside the first half. -/
theorem cos_low (b : Fin 8) (t : Fin 4096) (j : Fin 16) :
    val_main_v81 (F := Ideal) (ix4 b t 0 j) = val_main_v73 (F := Ideal) (ix2 t j) := by
  rw [val_main_v81_apply, val_main_v80_apply, val_main_v74_apply]
  exact congrArg _ (spread t j _ rfl rfl)

/-- The sines beside the second half. -/
theorem sin_high (b : Fin 8) (t : Fin 4096) (j : Fin 16) :
    val_main_v84 (F := Ideal) (ix4 b t 0 j) = val_main_v75 (F := Ideal) (ix2 t j) := by
  rw [val_main_v84_apply, val_main_v83_apply, val_main_v76_apply]
  exact congrArg _ (spread t j _ rfl rfl)

/-- The cosines beside the second half. -/
theorem cos_high (b : Fin 8) (t : Fin 4096) (j : Fin 16) :
    val_main_v88 (F := Ideal) (ix4 b t 0 j) = val_main_v73 (F := Ideal) (ix2 t j) := by
  rw [val_main_v88_apply, val_main_v87_apply, val_main_v74_apply]
  exact congrArg _ (spread t j _ rfl rfl)

/-- The sines beside the first half. -/
theorem sin_low (b : Fin 8) (t : Fin 4096) (j : Fin 16) :
    val_main_v91 (F := Ideal) (ix4 b t 0 j) = val_main_v75 (F := Ideal) (ix2 t j) := by
  rw [val_main_v91_apply, val_main_v90_apply, val_main_v76_apply]
  exact congrArg _ (spread t j _ rfl rfl)

/-- The first of three pieces side by side. -/
theorem pieces_low (u v : FVec Ideal S8x4096x1x16 .f32) (w : FVec Ideal S8x4096x1x0 .f32) (b : Fin 8) (t : Fin 4096) (j : Fin 16) :
    concatenate S8x4096x1x32 3 [⟨S8x4096x1x16, u⟩, ⟨S8x4096x1x16, v⟩, ⟨S8x4096x1x0, w⟩]
        concatenates_S8x4096x1x16_S8x4096x1x16_S8x4096x1x0_S8x4096x1x32_d3 (ix4 b t 0 ⟨j.val, by omega⟩) = u (ix4 b t 0 j) := by
  pointwise []

/-- The second of three pieces side by side. -/
theorem pieces_high (u v : FVec Ideal S8x4096x1x16 .f32) (w : FVec Ideal S8x4096x1x0 .f32) (b : Fin 8) (t : Fin 4096) (j : Fin 16) :
    concatenate S8x4096x1x32 3 [⟨S8x4096x1x16, u⟩, ⟨S8x4096x1x16, v⟩, ⟨S8x4096x1x0, w⟩]
        concatenates_S8x4096x1x16_S8x4096x1x16_S8x4096x1x0_S8x4096x1x32_d3 (ix4 b t 0 ⟨16 + j.val, by omega⟩) = v (ix4 b t 0 j) := by
  pointwise []

/-- Where an entry of the second result lies among the turned entries. -/
theorem unspread (b : Fin 8) (t : Fin 4096) (d : Fin 32) : idx_main_v95 (ix3 b t d) = ix4 b t 0 d := by
  refine same4 ?_ ?_ rfl ?_
  · show ((b.val * 4096 + t.val) * 32 + d.val) / 131072 = b.val
    omega
  · show ((b.val * 4096 + t.val) * 32 + d.val) / 32 % 4096 = t.val
    omega
  · show ((b.val * 4096 + t.val) * 32 + d.val) % 32 = d.val
    omega

/-- THE REFERENCE'S SECOND RESULT: the key's part, turned. -/
theorem reference_second (b : Fin 8) (t : Fin 4096) (d : Fin 32) :
    val_main_v95 (F := Ideal) x0 x1 x2 x3 x5 (ix3 b t d) = turned x0 x1 x2 x3 x5 b t d := by
  rw [val_main_v95_apply, unspread]
  unfold turned val_main_v94
  by_cases h : d.val < 16
  · rw [dif_pos h]
    refine (pieces_low _ _ _ b t ⟨d.val, h⟩).trans ?_
    rw [val_main_v86_apply, val_main_v82_apply, val_main_v85_apply, key_low, key_high, cos_low, sin_high]
    rfl
  · rw [dif_neg h]
    have e : (ix4 b t 0 d : S8x4096x1x32.Idx) = ix4 b t 0 ⟨16 + (d.val - 16), by omega⟩ :=
      same4 rfl rfl rfl (by show d.val = 16 + (d.val - 16); omega)
    rw [e]
    refine (pieces_high _ _ _ b t ⟨d.val - 16, by omega⟩).trans ?_
    rw [val_main_v93_apply, val_main_v89_apply, val_main_v92_apply, key_low, key_high, cos_high, sin_low]
    have e' : (⟨16 + (d.val - 16), by omega⟩ : Fin 32) = d := Fin.ext (by show 16 + (d.val - 16) = d.val; omega)
    rw [e']
    rfl

end Cert.OddRefIdeal.Math

end
-- ==== Proof.OddBody.lean ====
/-
  The odd layer's projection kernel's body at an index.
-/
module

public import proofs.«01_k».proof.Proof.Gen.OddIdeal.Value
public import proofs.«01_k».proof.Proof.OddRef
public import Idealize.ShloMosaic.Lib.Pipeline.ValueKit

@[expose] public section

set_option maxRecDepth 16384

noncomputable section

namespace Cert.OddIdeal.HostValue

open Idealize.ShloMosaic Cert.OddIdeal Cert.OddIdeal.Gen Idealize.ShloMosaic.TcCoe Idealize.SL.Sem Cert.FfnMath Cert.OddMath
open Cert.OddRefIdeal.Math (product latent key turned)

/-! ## The body at an index -/

/-- The products of the block's rows. -/
theorem pay_apply (x : Vec Ideal S1x512x1024 .f32) (sh sc : Vec Ideal S1x1x1024 .f32) (g : Vec Ideal S1x1024 .f32)
    (w : Vec Ideal S1024x640 .bf16) (r : Fin 512) (f : Fin 640) :
    k0_pay3 x sh sc g w (ix2 r f)
      = ∑ k : Fin 1024, hid (fun k => x (ix3 0 r k)) (fun k => sh (ix3 0 0 k)) (fun k => sc (ix3 0 0 k)) (fun k => g (ix2 0 k)) k
          * w (ix2 k f) := by
  pointwise [k0_pay3, hid]

/-- The shift's row of the modulation. -/
theorem ld_shift (x : Vec Ideal S1x9x1024 .f32) (d : Fin 1024) : View.ld x r0_1 (ix3 0 0 d) = x (ix3 0 3 d) := by
  pointwise [r0_1]

/-- The scale's row of the modulation. -/
theorem ld_scale (x : Vec Ideal S1x9x1024 .f32) (d : Fin 1024) : View.ld x r0_2 (ix3 0 0 d) = x (ix3 0 4 d) := by
  pointwise [r0_2]

/-- The products of the block's rows, from the blocks. -/
theorem products (x0 : Vec Ideal S1x512x1024 .f32) (x1 : Vec Ideal S1x9x1024 .f32) (x2 : Vec Ideal S1x1024 .f32)
    (x3 : Vec Ideal S1024x640 .bf16) (r : Fin 512) (f : Fin 640) :
    k0_pay3 (View.ld x0 r0_0) (View.ld x1 r0_1) (View.ld x1 r0_2) (View.ld x2 r0_3) (View.ld x3 r0_4) (ix2 r f)
      = ∑ k : Fin 1024, hid (fun k => x0 (ix3 0 r k)) (fun k => x1 (ix3 0 3 k)) (fun k => x1 (ix3 0 4 k)) (fun k => x2 (ix2 0 k)) k
          * x3 (ix2 k f) := by
  have z3 : (![0, 0, 0] : Fin 3 → Nat) = fun _ => 0 := by decide
  have z2 : (![0, 0] : Fin 2 → Nat) = fun _ => 0 := by decide
  refine (pay_apply _ _ _ _ _ r f).trans ?_
  have w0 := View.ld_unit_zero z3 inb_S1x512x1024_S1x512x1024_0_0_0 x0
  have w2 := View.ld_unit_zero z2 inb_S1x1024_S1x1024_0_0 x2
  have w3 := View.ld_unit_zero z2 inb_S1024x640_S1024x640_0_0 x3
  rw [w0, w2, w3]
  have s : (fun k : Fin 1024 => View.ld x1 r0_1 (ix3 0 0 k)) = fun k => x1 (ix3 0 3 k) := funext fun k => ld_shift x1 k
  have s' : (fun k : Fin 1024 => View.ld x1 r0_2 (ix3 0 0 k)) = fun k => x1 (ix3 0 4 k) := funext fun k => ld_scale x1 k
  rw [s, s']

/-- The latent's block. -/
theorem latent_apply (y : FVec Ideal S512x640 .f32) (g : Vec Ideal S1x256 .f32) (r : Fin 512) (d : Fin 256) :
    k0_pay41 (k0_pay8 y g) (ix3 0 r d)
      = normed (Ideal.ofBits .f32 0x43800000#32) (fun k => y (ix2 r ⟨256 + k.val, by omega⟩)) (fun k => g (ix2 0 k)) d := by
  pointwise [k0_pay41, k0_pay8, normed]

/-- The key's block before it is turned. -/
theorem key_apply (y : FVec Ideal S512x640 .f32) (g : Vec Ideal S1x128 .f32) (r : Fin 512) (j : Fin 128) :
    k0_pay9 y g (ix2 r j) = padded (fun k => y (ix2 r ⟨512 + k.val, by omega⟩)) (fun k => g (ix2 0 k)) j := by
  pointwise [k0_pay9, padded]

/-- The first half of the key's block, turned. -/
theorem turn_low (v c s : FVec Ideal S512x128 .f32) (s' : Vec Ideal S512x128 .f32) (r : Fin 512) (j : Fin 16) :
    k0_pay42 (k0_pay12 v (k0_pay10 c) (k0_pay11 s) s') (ix3 0 r ⟨j.val, by omega⟩)
      = v (ix2 r ⟨j.val, by omega⟩) * c (ix2 r ⟨j.val, by omega⟩) + v (ix2 r ⟨16 + j.val, by omega⟩) * s (ix2 r ⟨j.val, by omega⟩)
        + v (ix2 r ⟨112 + j.val, by omega⟩) * s' (ix2 r ⟨j.val, by omega⟩) := by
  pointwise [k0_pay42, k0_pay12, k0_pay10, k0_pay11]
  have a : (j.val + 128 - 112) % 128 = 16 + j.val := by omega
  have b : (j.val + 128 - 16) % 128 = 112 + j.val := by omega
  simp only [a, b]

/-- The second half of the key's block, turned. -/
theorem turn_high (v c s : FVec Ideal S512x128 .f32) (s' : Vec Ideal S512x128 .f32) (r : Fin 512) (j : Fin 16) :
    k0_pay42 (k0_pay12 v (k0_pay10 c) (k0_pay11 s) s') (ix3 0 r ⟨16 + j.val, by omega⟩)
      = v (ix2 r ⟨16 + j.val, by omega⟩) * c (ix2 r ⟨16 + j.val, by omega⟩)
        + v (ix2 r ⟨32 + j.val, by omega⟩) * s (ix2 r ⟨16 + j.val, by omega⟩)
        + v (ix2 r ⟨j.val, by omega⟩) * s' (ix2 r ⟨16 + j.val, by omega⟩) := by
  pointwise [k0_pay42, k0_pay12, k0_pay10, k0_pay11]
  have a : (16 + j.val + 128 - 112) % 128 = 32 + j.val := by omega
  have b : (16 + j.val + 128 - 16) % 128 = j.val := by omega
  simp only [a, b]

/-- A block's row's product with a column. -/
def entry (x0 : Vec Ideal S1x512x1024 .f32) (x1 : Vec Ideal S1x9x1024 .f32) (x2 : Vec Ideal S1x1024 .f32)
    (x3 : Vec Ideal S1024x640 .bf16) (r : Fin 512) (f : Fin 640) : EReal :=
  ∑ k : Fin 1024, hid (fun k => x0 (ix3 0 r k)) (fun k => x1 (ix3 0 3 k)) (fun k => x1 (ix3 0 4 k)) (fun k => x2 (ix2 0 k)) k
    * x3 (ix2 k f)

/-- The body's first result at an index. -/
theorem first_value (x0 : Vec Ideal S1x512x1024 .f32) (x1 : Vec Ideal S1x9x1024 .f32) (x2 : Vec Ideal S1x1024 .f32)
    (x3 : Vec Ideal S1024x640 .bf16) (x4 : Vec Ideal S1x256 .f32) (x5 : Vec Ideal S256x2048 .bf16) (x6 x7 : Vec Ideal S1x256 .f32)
    (x8 : Vec Ideal S1x128 .f32) (x9 x10 x11 x12 x13 x14 : Vec Ideal S512x128 .f32) (x15 : Vec Ideal S256x256 .bf16)
    (x16 : Vec Ideal S384x2048 .bf16) (x17 : Vec Ideal S1024x256 .bf16) (r : Fin 512) (d : Fin 256) :
    out0_19 x0 x1 x2 x3 x4 x5 x6 x7 x8 x9 x10 x11 x12 x13 x14 x15 x16 x17 (ix3 0 r d)
      = normed (Ideal.ofBits .f32 0x43800000#32) (fun d => entry x0 x1 x2 x3 r ⟨256 + d.val, by omega⟩) (fun d => x7 (ix2 0 d)) d := by
  have z3 : (![0, 0, 0] : Fin 3 → Nat) = fun _ => 0 := by decide
  have z2 : (![0, 0] : Fin 2 → Nat) = fun _ => 0 := by decide
  unfold out0_19 k0_pay49 k0_pay47
  refine (congrFun (View.canon_unit_zero z3 _ _) (ix3 0 r d)).trans ((latent_apply _ _ r d).trans ?_)
  have w7 := View.ld_unit_zero z2 inb_S1x256_S1x256_0_0 x7
  rw [w7]
  exact congrArg (fun y => normed _ y _ d) (funext fun k => products x0 x1 x2 x3 r ⟨256 + k.val, by omega⟩)

/-- The body's key, before it is turned. -/
theorem key_value (x0 : Vec Ideal S1x512x1024 .f32) (x1 : Vec Ideal S1x9x1024 .f32) (x2 : Vec Ideal S1x1024 .f32)
    (x3 : Vec Ideal S1024x640 .bf16) (x8 : Vec Ideal S1x128 .f32) (r : Fin 512) (j : Fin 128) :
    k0_pay9 (k0_pay3 (View.ld x0 r0_0) (View.ld x1 r0_1) (View.ld x1 r0_2) (View.ld x2 r0_3) (View.ld x3 r0_4)) x8 (ix2 r j)
      = padded (fun k => entry x0 x1 x2 x3 r ⟨512 + k.val, by omega⟩) (fun k => x8 (ix2 0 k)) j :=
  (key_apply _ _ r j).trans
    (congrArg (fun y => padded y _ j) (funext fun k => products x0 x1 x2 x3 r ⟨512 + k.val, by omega⟩))

/-- The first half of the body's second result at an index. -/
theorem low_value (x0 : Vec Ideal S1x512x1024 .f32) (x1 : Vec Ideal S1x9x1024 .f32) (x2 : Vec Ideal S1x1024 .f32)
    (x3 : Vec Ideal S1024x640 .bf16) (x4 : Vec Ideal S1x256 .f32) (x5 : Vec Ideal S256x2048 .bf16) (x6 x7 : Vec Ideal S1x256 .f32)
    (x8 : Vec Ideal S1x128 .f32) (x9 x10 x11 x12 x13 x14 : Vec Ideal S512x128 .f32) (x15 : Vec Ideal S256x256 .bf16)
    (x16 : Vec Ideal S384x2048 .bf16) (x17 : Vec Ideal S1024x256 .bf16) (r : Fin 512) (j : Fin 16) :
    out0_20 x0 x1 x2 x3 x4 x5 x6 x7 x8 x9 x10 x11 x12 x13 x14 x15 x16 x17 (ix3 0 r ⟨j.val, by omega⟩)
      = padded (fun k => entry x0 x1 x2 x3 r ⟨512 + k.val, by omega⟩) (fun k => x8 (ix2 0 k)) ⟨j.val, by omega⟩ * x12 (ix2 r ⟨j.val, by omega⟩)
        + padded (fun k => entry x0 x1 x2 x3 r ⟨512 + k.val, by omega⟩) (fun k => x8 (ix2 0 k)) ⟨16 + j.val, by omega⟩ * x13 (ix2 r ⟨j.val, by omega⟩)
        + padded (fun k => entry x0 x1 x2 x3 r ⟨512 + k.val, by omega⟩) (fun k => x8 (ix2 0 k)) ⟨112 + j.val, by omega⟩ * x14 (ix2 r ⟨j.val, by omega⟩) := by
  have z3 : (![0, 0, 0] : Fin 3 → Nat) = fun _ => 0 := by decide
  have z2 : (![0, 0] : Fin 2 → Nat) = fun _ => 0 := by decide
  unfold out0_20 k0_pay50 k0_pay47
  refine (congrFun (View.canon_unit_zero z3 _ _) (ix3 0 r ⟨j.val, by omega⟩)).trans ((turn_low _ _ _ _ r j).trans ?_)
  have w8 := View.ld_unit_zero z2 inb_S1x128_S1x128_0_0 x8
  have w12 := View.ld_unit_zero z2 inb_S512x128_S512x128_0_0 x12
  have w13 := View.ld_unit_zero z2 inb_S512x128_S512x128_0_0 x13
  have w14 := View.ld_unit_zero z2 inb_S512x128_S512x128_0_0 x14
  rw [w8, w12, w13, w14, key_value, key_value, key_value]

/-- The second half of the body's second result at an index. -/
theorem high_value (x0 : Vec Ideal S1x512x1024 .f32) (x1 : Vec Ideal S1x9x1024 .f32) (x2 : Vec Ideal S1x1024 .f32)
    (x3 : Vec Ideal S1024x640 .bf16) (x4 : Vec Ideal S1x256 .f32) (x5 : Vec Ideal S256x2048 .bf16) (x6 x7 : Vec Ideal S1x256 .f32)
    (x8 : Vec Ideal S1x128 .f32) (x9 x10 x11 x12 x13 x14 : Vec Ideal S512x128 .f32) (x15 : Vec Ideal S256x256 .bf16)
    (x16 : Vec Ideal S384x2048 .bf16) (x17 : Vec Ideal S1024x256 .bf16) (r : Fin 512) (j : Fin 16) :
    out0_20 x0 x1 x2 x3 x4 x5 x6 x7 x8 x9 x10 x11 x12 x13 x14 x15 x16 x17 (ix3 0 r ⟨16 + j.val, by omega⟩)
      = padded (fun k => entry x0 x1 x2 x3 r ⟨512 + k.val, by omega⟩) (fun k => x8 (ix2 0 k)) ⟨16 + j.val, by omega⟩ * x12 (ix2 r ⟨16 + j.val, by omega⟩)
        + padded (fun k => entry x0 x1 x2 x3 r ⟨512 + k.val, by omega⟩) (fun k => x8 (ix2 0 k)) ⟨32 + j.val, by omega⟩ * x13 (ix2 r ⟨16 + j.val, by omega⟩)
        + padded (fun k => entry x0 x1 x2 x3 r ⟨512 + k.val, by omega⟩) (fun k => x8 (ix2 0 k)) ⟨j.val, by omega⟩ * x14 (ix2 r ⟨16 + j.val, by omega⟩) := by
  have z3 : (![0, 0, 0] : Fin 3 → Nat) = fun _ => 0 := by decide
  have z2 : (![0, 0] : Fin 2 → Nat) = fun _ => 0 := by decide
  unfold out0_20 k0_pay50 k0_pay47
  refine (congrFun (View.canon_unit_zero z3 _ _) (ix3 0 r ⟨16 + j.val, by omega⟩)).trans ((turn_high _ _ _ _ r j).trans ?_)
  have w8 := View.ld_unit_zero z2 inb_S1x128_S1x128_0_0 x8
  have w12 := View.ld_unit_zero z2 inb_S512x128_S512x128_0_0 x12
  have w13 := View.ld_unit_zero z2 inb_S512x128_S512x128_0_0 x13
  have w14 := View.ld_unit_zero z2 inb_S512x128_S512x128_0_0 x14
  rw [w8, w12, w13, w14, key_value, key_value, key_value]

end Cert.OddIdeal.HostValue

end
-- ==== Proof.OddArr.lean ====
/-
  The odd layer's projection kernel's two results: the normed latent, and the key's part normed and turned.
-/
module

public import proofs.«01_k».proof.Proof.Gen.OddIdeal.Value
public import proofs.«01_k».proof.Proof.OddRef
public import proofs.«01_k».proof.Proof.OddBody
public import Idealize.ShloMosaic.Lib.Pipeline.ValueKit

@[expose] public section

set_option maxRecDepth 16384

noncomputable section

namespace Cert.OddIdeal.HostValue

open Idealize.ShloMosaic Cert.OddIdeal Cert.OddIdeal.Gen Idealize.ShloMosaic.TcCoe Idealize.SL.Sem Cert.FfnMath Cert.OddMath
open Cert.OddRefIdeal.Math (product latent key turned)

/-! ## The operands as the host hands them over -/

/-- The modulation laid out in nine rows a batch. -/
theorem rows_apply (x : FVec Ideal S8x9216 .f32) (b : Fin 8) (n : Fin 9) (k : Fin 1024) :
    shapeCast S8x9x1024 x shapeCasts_S8x9216_S8x9x1024 (ix3 b n k) = x (ix2 b ⟨1024 * n.val + k.val, by omega⟩) :=
  shapeCast_apply x shapeCasts_S8x9216_S8x9x1024 _ _ (by
    rewrite [Shape.rowMajor_val_two, Shape.rowMajor_val_three]
    show b.val * 9216 + (1024 * n.val + k.val) = (b.val * 9 + n.val) * 1024 + k.val
    omega)

/-- The gain laid out in a row. -/
theorem gain_apply (x : FVec Ideal S1024 .f32) (k : Fin 1024) :
    shapeCast S1x1024 x shapeCasts_S1024_S1x1024 (ix2 0 k) = x (ix1 k) :=
  shapeCast_apply x shapeCasts_S1024_S1x1024 _ _ (by
    rewrite [Shape.rowMajor_val_one, Shape.rowMajor_val_two]
    show k.val = 0 * 1024 + k.val
    omega)

/-- The gain of a latent laid out in a row. -/
theorem latent_gain_apply (x : FVec Ideal S256 .f32) (k : Fin 256) :
    shapeCast S1x256 x shapeCasts_S256_S1x256 (ix2 0 k) = x (ix1 k) :=
  shapeCast_apply x shapeCasts_S256_S1x256 _ _ (by
    rewrite [Shape.rowMajor_val_one, Shape.rowMajor_val_two]
    show k.val = 0 * 256 + k.val
    omega)

/-- The gain of a key, lengthened and laid out in a row. -/
theorem key_gain_apply (x : FVec Ideal S32 .f32) (v : FVec Ideal S_ .f32) (k : Fin 32) :
    shapeCast S1x128 (pad S128 ![0] ![96] ![0] x v pads_S32_S128_0960 h_S_) shapeCasts_S128_S1x128 (ix2 0 ⟨k.val, by omega⟩)
      = x (ix1 k) := by
  refine (shapeCast_apply _ shapeCasts_S128_S1x128 _ (ix1 ⟨k.val, by omega⟩) (by
    rewrite [Shape.rowMajor_val_one, Shape.rowMajor_val_two]
    show k.val = 0 * 128 + k.val
    omega)).trans ?_
  pointwise []

/-- The weights' own columns among the lengthened ones. -/
theorem weights_apply (x : FVec Ideal S1024x544 .f32) (v : FVec Ideal S_ .f32) (k : Fin 1024) (f : Fin 544) :
    truncf (F := Ideal) .bf16 (pad S1024x640 ![0, 0] ![0, 96] ![0, 0] x v pads_S1024x544_S1024x640_000_0960 h_S_) bitsLt_bf16_f32
        (ix2 k ⟨f.val, by omega⟩) = x (ix2 k f) := by
  pointwise []

/-- The columns the weights are lengthened by. -/
theorem weights_pad (x : FVec Ideal S1024x544 .f32) (v : FVec Ideal S_ .f32) (k : Fin 1024) (f : Fin 96) :
    truncf (F := Ideal) .bf16 (pad S1024x640 ![0, 0] ![0, 96] ![0, 0] x v pads_S1024x544_S1024x640_000_0960 h_S_) bitsLt_bf16_f32
        (ix2 k ⟨544 + f.val, by omega⟩) = v (Shape.Idx.first h_S_) := by
  pointwise []

/-- The number naught as a float. -/
theorem naught (i : S_.Idx) : (sitofp (F := Ideal) .f32 (constantI S_ 32 0#32) : FVec Ideal S_ .f32) i = 0 := by
  show (((0#32 : BitVec 32).toInt : ℝ) : EReal) = 0
  simp

/-- The cosines of the angles. -/
abbrev cosines : FVec Ideal S4096x16 .f32 := Cert.OddRefIdeal.Read.val_main_v73 (F := Ideal)
/-- The sines of the angles. -/
abbrev sines : FVec Ideal S4096x16 .f32 := Cert.OddRefIdeal.Read.val_main_v75 (F := Ideal)

/-- The cosines twice, and ones. -/
def table (u : FVec Ideal S4096x16 .f32) : FVec Ideal S4096x128 .f32 :=
  concatenate S4096x128 1 [⟨S4096x16, u⟩, ⟨S4096x16, u⟩,
    ⟨S4096x96, broadcastInDim S4096x96 ![] bcast_S_S4096x96 (constant (F := Ideal) S_ .f32 0x3F800000#32)⟩]
    concatenates_S4096x16_S4096x16_S4096x96_S4096x128_d1

/-- The sines with their sign turned, and naughts. -/
def table' (u : FVec Ideal S4096x16 .f32) : FVec Ideal S4096x128 .f32 :=
  concatenate S4096x128 1 [⟨S4096x16, Host.negf u⟩,
    ⟨S4096x112, broadcastInDim S4096x112 ![] bcast_S_S4096x112 (constant (F := Ideal) S_ .f32 0x00000000#32)⟩]
    concatenates_S4096x16_S4096x112_S4096x128_d1

/-- Naughts, the sines, and naughts. -/
def table'' (u : FVec Ideal S4096x16 .f32) : FVec Ideal S4096x128 .f32 :=
  concatenate S4096x128 1 [⟨S4096x16, broadcastInDim S4096x16 ![] bcast_S_S4096x16 (constant (F := Ideal) S_ .f32 0x00000000#32)⟩,
    ⟨S4096x16, u⟩, ⟨S4096x96, broadcastInDim S4096x96 ![] bcast_S_S4096x96 (constant (F := Ideal) S_ .f32 0x00000000#32)⟩]
    concatenates_S4096x16_S4096x16_S4096x96_S4096x128_d1

/-- The first table's first half. -/
theorem table_low (u : FVec Ideal S4096x16 .f32) (t : Fin 4096) (j : Fin 16) : table u (ix2 t ⟨j.val, by omega⟩) = u (ix2 t j) := by
  pointwise [table]

/-- The first table's second half. -/
theorem table_high (u : FVec Ideal S4096x16 .f32) (t : Fin 4096) (j : Fin 16) :
    table u (ix2 t ⟨16 + j.val, by omega⟩) = u (ix2 t j) := by
  pointwise [table]

/-- The second table's first half. -/
theorem table'_low (u : FVec Ideal S4096x16 .f32) (t : Fin 4096) (j : Fin 16) :
    table' u (ix2 t ⟨j.val, by omega⟩) = -u (ix2 t j) := by
  pointwise [table']

/-- The second table's second half. -/
theorem table'_high (u : FVec Ideal S4096x16 .f32) (t : Fin 4096) (j : Fin 16) :
    table' u (ix2 t ⟨16 + j.val, by omega⟩) = Ideal.ofBits .f32 0x00000000#32 := by
  pointwise [table']

/-- The third table's first half. -/
theorem table''_low (u : FVec Ideal S4096x16 .f32) (t : Fin 4096) (j : Fin 16) :
    table'' u (ix2 t ⟨j.val, by omega⟩) = Ideal.ofBits .f32 0x00000000#32 := by
  pointwise [table'']

/-- The third table's second half. -/
theorem table''_high (u : FVec Ideal S4096x16 .f32) (t : Fin 4096) (j : Fin 16) :
    table'' u (ix2 t ⟨16 + j.val, by omega⟩) = u (ix2 t j) := by
  pointwise [table'']

variable (m : (ℓ : Loc nD τ sig) → Buf (Elt Ideal) ℓ) (c : Dev nD)

/-- The rows are an argument. -/
theorem V_x : V m c main_arg0 = m ((c : Thread nD τ).loc main_arg0) := V_main_arg0 m c

/-- The modulation at the kernel's start. -/
theorem V_mod : V m c main_v27 = shapeCast S8x9x1024 (m ((c : Thread nD τ).loc main_arg1)) shapeCasts_S8x9216_S8x9x1024 := by
  simp only [V, hostOps0, hostOps0_1, hostOps0_2, hostOps0_3, hostOps0_4, List.flatten_cons, List.flatten_nil, List.append_nil,
    List.cons_append, List.nil_append]
  after_results_simp
  try rfl

/-- The gain at the kernel's start. -/
theorem V_gain : V m c main_v28 = shapeCast S1x1024 (m ((c : Thread nD τ).loc main_arg2)) shapeCasts_S1024_S1x1024 := by
  simp only [V, hostOps0, hostOps0_1, hostOps0_2, hostOps0_3, hostOps0_4, List.flatten_cons, List.flatten_nil, List.append_nil,
    List.cons_append, List.nil_append]
  after_results_simp
  try rfl

/-- The weights at the kernel's start. -/
theorem V_w : V m c main_v24 = truncf (F := Ideal) .bf16 (pad S1024x640 ![0, 0] ![0, 96] ![0, 0] (m ((c : Thread nD τ).loc main_arg3) : FVec Ideal S1024x544 .f32)
    (sitofp (F := Ideal) .f32 (constantI S_ 32 0#32)) pads_S1024x544_S1024x640_000_0960 h_S_) bitsLt_bf16_f32 := by
  simp only [V, hostOps0, hostOps0_1, hostOps0_2, hostOps0_3, hostOps0_4, List.flatten_cons, List.flatten_nil, List.append_nil,
    List.cons_append, List.nil_append]
  after_results_simp
  try rfl

/-- The latent's gain at the kernel's start. -/
theorem V_latent_gain : V m c main_v32 = shapeCast S1x256 (m ((c : Thread nD τ).loc main_arg4)) shapeCasts_S256_S1x256 := by
  simp only [V, hostOps0, hostOps0_1, hostOps0_2, hostOps0_3, hostOps0_4, List.flatten_cons, List.flatten_nil, List.append_nil,
    List.cons_append, List.nil_append]
  after_results_simp
  try rfl

/-- The key's gain at the kernel's start. -/
theorem V_key_gain : V m c main_v26 = shapeCast S1x128 (pad S128 ![0] ![96] ![0] (m ((c : Thread nD τ).loc main_arg5) : FVec Ideal S32 .f32)
    (sitofp (F := Ideal) .f32 (constantI S_ 32 0#32)) pads_S32_S128_0960 h_S_) shapeCasts_S128_S1x128 := by
  simp only [V, hostOps0, hostOps0_1, hostOps0_2, hostOps0_3, hostOps0_4, List.flatten_cons, List.flatten_nil, List.append_nil,
    List.cons_append, List.nil_append]
  after_results_simp
  try rfl

/-- The first table at the kernel's start. -/
theorem V_table : V m c main_v16 = table cosines := by
  simp only [V, hostOps0, hostOps0_1, hostOps0_2, hostOps0_3, hostOps0_4, List.flatten_cons, List.flatten_nil, List.append_nil,
    List.cons_append, List.nil_append]
  after_results_simp
  try rfl

/-- The second table at the kernel's start. -/
theorem V_table' : V m c main_v19 = table' sines := by
  simp only [V, hostOps0, hostOps0_1, hostOps0_2, hostOps0_3, hostOps0_4, List.flatten_cons, List.flatten_nil, List.append_nil,
    List.cons_append, List.nil_append]
  after_results_simp
  try rfl

/-- The third table at the kernel's start. -/
theorem V_table'' : V m c main_v22 = table'' sines := by
  simp only [V, hostOps0, hostOps0_1, hostOps0_2, hostOps0_3, hostOps0_4, List.flatten_cons, List.flatten_nil, List.append_nil,
    List.cons_append, List.nil_append]
  after_results_simp
  try rfl

/-! ## The blocks a point reads -/

/-- The blocks of the rows: batch, tile of rows. -/
theorem index_x : ∀ t : Fin cfg0.N, win0_0.index t = ![(grid0.coords t 0).val, (grid0.coords t 1).val, 0] :=
  (by decide +kernel : ∀ t : Fin grid0.N, _)
/-- The blocks of the modulation: batch. -/
theorem index_mod : ∀ t : Fin cfg0.N, win0_1.index t = ![(grid0.coords t 0).val, 0, 0] :=
  (by decide +kernel : ∀ t : Fin grid0.N, _)
/-- The gain is one block. -/
theorem index_gain : ∀ t : Fin cfg0.N, win0_2.index t = ![0, 0] :=
  (by decide +kernel : ∀ t : Fin grid0.N, _)
/-- The weights are one block. -/
theorem index_w : ∀ t : Fin cfg0.N, win0_3.index t = ![0, 0] :=
  (by decide +kernel : ∀ t : Fin grid0.N, _)
/-- The blocks of the first result: batch, tile of rows. -/
theorem index_first : ∀ t : Fin cfg0.N, win0_19.index t = ![(grid0.coords t 0).val, (grid0.coords t 1).val, 0] :=
  (by decide +kernel : ∀ t : Fin grid0.N, _)
/-- The blocks of the second result: batch, tile of rows. -/
theorem index_second : ∀ t : Fin cfg0.N, win0_20.index t = ![(grid0.coords t 0).val, (grid0.coords t 1).val, 0] :=
  (by decide +kernel : ∀ t : Fin grid0.N, _)

/-- The latent's gain is one block. -/
theorem index_latent_gain : ∀ t : Fin cfg0.N, win0_7.index t = ![0, 0] :=
  (by decide +kernel : ∀ t : Fin grid0.N, _)
/-- The key's gain is one block. -/
theorem index_key_gain : ∀ t : Fin cfg0.N, win0_8.index t = ![0, 0] :=
  (by decide +kernel : ∀ t : Fin grid0.N, _)
/-- The blocks of the first table: tile of rows. -/
theorem index_table : ∀ t : Fin cfg0.N, win0_12.index t = ![(grid0.coords t 1).val, 0] :=
  (by decide +kernel : ∀ t : Fin grid0.N, _)
/-- The blocks of the second table: tile of rows. -/
theorem index_table' : ∀ t : Fin cfg0.N, win0_13.index t = ![(grid0.coords t 1).val, 0] :=
  (by decide +kernel : ∀ t : Fin grid0.N, _)
/-- The blocks of the third table: tile of rows. -/
theorem index_table'' : ∀ t : Fin cfg0.N, win0_14.index t = ![(grid0.coords t 1).val, 0] :=
  (by decide +kernel : ∀ t : Fin grid0.N, _)

/-- A point's batch and tile. -/
theorem coords_lt (t : Fin cfg0.N) : (grid0.coords t 0).val < 8 ∧ (grid0.coords t 1).val < 8 :=
  ⟨(grid0.coords t 0).isLt, (grid0.coords t 1).isLt⟩

/-- A block of rows. -/
theorem iblk_x (t : Fin cfg0.N) (b : Fin 8) (n : Fin 8) (hb : (grid0.coords t 0).val = b.val)
    (hn : (grid0.coords t 1).val = n.val) (z : FVec Ideal S8x4096x1024 .f32) (hz : V m c main_arg0 = z) (r : Fin 512) (k : Fin 1024) :
    iblk m c 0 t (ix3 0 r k) = z (ix3 b ⟨512 * n.val + r.val, by omega⟩ k) := by
  unfold iblk
  generalize V m c = W at hz ⊢
  rw [← hz]
  blk_simp [index_x]
  refine congrArg (W main_arg0) ?_
  blk_ext [index_x]

/-- A block of the modulation. -/
theorem iblk_mod (t : Fin cfg0.N) (b : Fin 8) (hb : (grid0.coords t 0).val = b.val) (z : FVec Ideal S8x9x1024 .f32)
    (hz : V m c main_v27 = z) (n : Fin 9) (k : Fin 1024) :
    iblk m c 1 t (ix3 0 n k) = z (ix3 b n k) := by
  unfold iblk
  generalize V m c = W at hz ⊢
  rw [← hz]
  blk_simp [index_mod]
  refine congrArg (W main_v27) ?_
  blk_ext [index_mod]

/-- The block of the gain. -/
theorem iblk_gain (t : Fin cfg0.N) (z : FVec Ideal S1x1024 .f32) (hz : V m c main_v28 = z) (k : Fin 1024) :
    iblk m c 2 t (ix2 0 k) = z (ix2 0 k) := by
  unfold iblk
  generalize V m c = W at hz ⊢
  rw [← hz]
  blk_simp [index_gain]
  refine congrArg (W main_v28) ?_
  blk_ext [index_gain]

/-- The block of the weights. -/
def blkW (t : Fin cfg0.N) : Vec Ideal S1024x640 .bf16 := iblk m c 3 t

/-- It is the whole of them. -/
theorem blkW_apply (t : Fin cfg0.N) (z : FVec Ideal S1024x640 .bf16) (hz : V m c main_v24 = z) (x : S1024x640.Idx) :
    blkW m c t x = z x := by
  have o0 : ((win0_3.blk t).view.emb x 0).val = (x 0).val := by
    blk_simp [index_w]
  have o1 : ((win0_3.blk t).view.emb x 1).val = (x 1).val := by
    blk_simp [index_w]
  have e : (win0_3.blk t).view.emb x = x := by
    have o : ∀ a : Fin 2, ((win0_3.blk t).view.emb x a).val = (x a).val :=
      Fin.forall_fin_succ.2 ⟨o0, Fin.forall_fin_succ.2 ⟨o1, fun a => a.elim0⟩⟩
    exact funext fun a => Fin.ext (o a)
  unfold blkW iblk
  generalize V m c = W at hz ⊢
  rw [View.read_apply, e, hz]
  exact cast_eq _ _

/-- The block of the latent's gain. -/
theorem iblk_latent_gain (t : Fin cfg0.N) (z : FVec Ideal S1x256 .f32) (hz : V m c main_v32 = z) (k : Fin 256) :
    iblk m c 7 t (ix2 0 k) = z (ix2 0 k) := by
  unfold iblk
  generalize V m c = W at hz ⊢
  rw [← hz]
  blk_simp [index_latent_gain]
  refine congrArg (W main_v32) ?_
  blk_ext [index_latent_gain]

/-- The block of the key's gain. -/
theorem iblk_key_gain (t : Fin cfg0.N) (z : FVec Ideal S1x128 .f32) (hz : V m c main_v26 = z) (k : Fin 128) :
    iblk m c 8 t (ix2 0 k) = z (ix2 0 k) := by
  unfold iblk
  generalize V m c = W at hz ⊢
  rw [← hz]
  blk_simp [index_key_gain]
  refine congrArg (W main_v26) ?_
  blk_ext [index_key_gain]

/-- A block of the first table. -/
theorem iblk_table (t : Fin cfg0.N) (n : Fin 8) (hn : (grid0.coords t 1).val = n.val) (z : FVec Ideal S4096x128 .f32)
    (hz : V m c main_v16 = z) (r : Fin 512) (d : Fin 128) :
    iblk m c 12 t (ix2 r d) = z (ix2 ⟨512 * n.val + r.val, by omega⟩ d) := by
  unfold iblk
  generalize V m c = W at hz ⊢
  rw [← hz]
  blk_simp [index_table]
  refine congrArg (W main_v16) ?_
  blk_ext [index_table]

/-- A block of the second table. -/
theorem iblk_table' (t : Fin cfg0.N) (n : Fin 8) (hn : (grid0.coords t 1).val = n.val) (z : FVec Ideal S4096x128 .f32)
    (hz : V m c main_v19 = z) (r : Fin 512) (d : Fin 128) :
    iblk m c 13 t (ix2 r d) = z (ix2 ⟨512 * n.val + r.val, by omega⟩ d) := by
  unfold iblk
  generalize V m c = W at hz ⊢
  rw [← hz]
  blk_simp [index_table']
  refine congrArg (W main_v19) ?_
  blk_ext [index_table']

/-- A block of the third table. -/
theorem iblk_table'' (t : Fin cfg0.N) (n : Fin 8) (hn : (grid0.coords t 1).val = n.val) (z : FVec Ideal S4096x128 .f32)
    (hz : V m c main_v22 = z) (r : Fin 512) (d : Fin 128) :
    iblk m c 14 t (ix2 r d) = z (ix2 ⟨512 * n.val + r.val, by omega⟩ d) := by
  unfold iblk
  generalize V m c = W at hz ⊢
  rw [← hz]
  blk_simp [index_table'']
  refine congrArg (W main_v22) ?_
  blk_ext [index_table'']

/-! ## The results -/

/-- A row of the block, normed and modulated. -/
theorem row (x0 : FVec Ideal S8x4096x1024 .f32) (x1 : FVec Ideal S8x9216 .f32) (x2 : FVec Ideal S1024 .f32)
    (e0 : m ((c : Thread nD τ).loc main_arg0) = x0) (e1 : m ((c : Thread nD τ).loc main_arg1) = x1)
    (e2 : m ((c : Thread nD τ).loc main_arg2) = x2)
    (t : Fin cfg0.N) (b n : Fin 8) (hb : (grid0.coords t 0).val = b.val) (hn : (grid0.coords t 1).val = n.val) (r : Fin 512) :
    hid (fun k => iblk m c 0 t (ix3 0 r k)) (fun k => iblk m c 1 t (ix3 0 3 k)) (fun k => iblk m c 1 t (ix3 0 4 k))
        (fun k => iblk m c 2 t (ix2 0 k))
      = hid (fun k => x0 (ix3 b ⟨512 * n.val + r.val, by omega⟩ k)) (fun k => x1 (ix2 b ⟨3072 + k.val, by omega⟩))
          (fun k => x1 (ix2 b ⟨4096 + k.val, by omega⟩)) (fun k => x2 (ix1 k)) := by
  subst e0 e1 e2
  have w0 : (fun k : Fin 1024 => iblk m c 0 t (ix3 0 r k))
      = fun k => (m ((c : Thread nD τ).loc main_arg0) : FVec Ideal S8x4096x1024 .f32) (ix3 b ⟨512 * n.val + r.val, by omega⟩ k) :=
    funext fun k => iblk_x m c t b n hb hn _ (V_x m c) r k
  have w1 : (fun k : Fin 1024 => iblk m c 1 t (ix3 0 3 k))
      = fun k => (m ((c : Thread nD τ).loc main_arg1) : FVec Ideal S8x9216 .f32) (ix2 b ⟨3072 + k.val, by omega⟩) :=
    funext fun k => (iblk_mod m c t b hb _ (V_mod m c) 3 k).trans (rows_apply _ b 3 k)
  have w2 : (fun k : Fin 1024 => iblk m c 1 t (ix3 0 4 k))
      = fun k => (m ((c : Thread nD τ).loc main_arg1) : FVec Ideal S8x9216 .f32) (ix2 b ⟨4096 + k.val, by omega⟩) :=
    funext fun k => (iblk_mod m c t b hb _ (V_mod m c) 4 k).trans (rows_apply _ b 4 k)
  have w3 : (fun k : Fin 1024 => iblk m c 2 t (ix2 0 k))
      = fun k => (m ((c : Thread nD τ).loc main_arg2) : FVec Ideal S1024 .f32) (ix1 k) :=
    funext fun k => (iblk_gain m c t _ (V_gain m c) k).trans (gain_apply _ k)
  exact congr (congr (congr (congrArg hid w0) w1) w2) w3

/-- What a point has of a row's product with one of the weights' own columns. -/
theorem point (x0 : FVec Ideal S8x4096x1024 .f32) (x1 : FVec Ideal S8x9216 .f32) (x2 : FVec Ideal S1024 .f32)
    (x3 : FVec Ideal S1024x544 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3)
    (t : Fin cfg0.N) (b n : Fin 8) (hb : (grid0.coords t 0).val = b.val) (hn : (grid0.coords t 1).val = n.val) (r : Fin 512) (f : Fin 544) :
    entry (iblk m c 0 t) (iblk m c 1 t) (iblk m c 2 t) (blkW m c t) r ⟨f.val, by omega⟩ = product x0 x1 x2 x3 b ⟨512 * n.val + r.val, by omega⟩ f := by
  unfold product entry
  rw [row m c x0 x1 x2 e0 e1 e2 t b n hb hn r]
  subst e3
  exact Finset.sum_congr rfl fun k _ => congrArg (fun a : EReal => hid _ _ _ _ k * a)
    ((blkW_apply m c t _ (V_w m c) _).trans (weights_apply _ _ k f))

/-- The product with a column the weights are lengthened by is naught. -/
theorem point_pad (t : Fin cfg0.N) (r : Fin 512) (f : Fin 96) :
    entry (iblk m c 0 t) (iblk m c 1 t) (iblk m c 2 t) (blkW m c t) r ⟨544 + f.val, by omega⟩ = 0 := by
  unfold entry
  refine Finset.sum_eq_zero fun k _ => ?_
  have e : blkW m c t (ix2 k ⟨544 + f.val, by omega⟩) = 0 :=
    ((blkW_apply m c t _ (V_w m c) _).trans (weights_pad _ _ k f)).trans (naught _)
  rw [e, mul_zero]

/-- What a point leaves in its block of the first result. -/
theorem point_latent (x0 : FVec Ideal S8x4096x1024 .f32) (x1 : FVec Ideal S8x9216 .f32) (x2 : FVec Ideal S1024 .f32)
    (x3 : FVec Ideal S1024x544 .f32) (x4 : FVec Ideal S256 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3)
    (e4 : m ((c : Thread nD τ).loc main_arg4) = x4) (t : Fin cfg0.N) (b n : Fin 8) (hb : (grid0.coords t 0).val = b.val) (hn : (grid0.coords t 1).val = n.val) (r : Fin 512)
    (d : Fin 256) :
    normed (Ideal.ofBits .f32 0x43800000#32) (fun d => entry (iblk m c 0 t) (iblk m c 1 t) (iblk m c 2 t) (blkW m c t) r ⟨256 + d.val, by omega⟩) (fun d => iblk m c 7 t (ix2 0 d)) d
      = latent x0 x1 x2 x3 x4 b ⟨512 * n.val + r.val, by omega⟩ d := by
  unfold latent
  refine congrArg₂ (fun y g => normed _ y g d) (funext fun k => ?_) (funext fun k => ?_)
  · exact point m c x0 x1 x2 x3 e0 e1 e2 e3 t b n hb hn r ⟨256 + k.val, by omega⟩
  · subst e4
    exact (iblk_latent_gain m c t _ (V_latent_gain m c) k).trans (latent_gain_apply _ k)

/-- What a point has of the key before it is turned. -/
theorem point_key (x0 : FVec Ideal S8x4096x1024 .f32) (x1 : FVec Ideal S8x9216 .f32) (x2 : FVec Ideal S1024 .f32)
    (x3 : FVec Ideal S1024x544 .f32) (x5 : FVec Ideal S32 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3)
    (e5 : m ((c : Thread nD τ).loc main_arg5) = x5) (t : Fin cfg0.N) (b n : Fin 8) (hb : (grid0.coords t 0).val = b.val) (hn : (grid0.coords t 1).val = n.val) (r : Fin 512)
    (j : Fin 32) :
    padded (fun k => entry (iblk m c 0 t) (iblk m c 1 t) (iblk m c 2 t) (blkW m c t) r ⟨512 + k.val, by omega⟩) (fun k => iblk m c 8 t (ix2 0 k)) ⟨j.val, by omega⟩
      = key x0 x1 x2 x3 x5 b ⟨512 * n.val + r.val, by omega⟩ j := by
  unfold key
  refine padded_eq _ _ _ _ (fun k => ?_) (fun k => ?_) (fun k => ?_) j
  · exact point m c x0 x1 x2 x3 e0 e1 e2 e3 t b n hb hn r ⟨512 + k.val, by omega⟩
  · have e : (⟨512 + (32 + k.val), by omega⟩ : Fin 640) = ⟨544 + k.val, by omega⟩ := Fin.ext (by show 512 + (32 + k.val) = 544 + k.val; omega)
    exact (congrArg _ e).trans (point_pad m c t r k)
  · subst e5
    exact (iblk_key_gain m c t _ (V_key_gain m c) ⟨k.val, by omega⟩).trans (key_gain_apply _ _ k)

/-- What a point leaves in its block of the second result. -/
theorem point_turned (x0 : FVec Ideal S8x4096x1024 .f32) (x1 : FVec Ideal S8x9216 .f32) (x2 : FVec Ideal S1024 .f32)
    (x3 : FVec Ideal S1024x544 .f32) (x5 : FVec Ideal S32 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3)
    (e5 : m ((c : Thread nD τ).loc main_arg5) = x5) (t : Fin cfg0.N) (b n : Fin 8) (hb : (grid0.coords t 0).val = b.val) (hn : (grid0.coords t 1).val = n.val) (r : Fin 512)
    (d : Fin 32) :
    out0_20 (iblk m c 0 t) (iblk m c 1 t) (iblk m c 2 t) (blkW m c t) (iblk m c 4 t) (iblk m c 5 t) (iblk m c 6 t) (iblk m c 7 t)
        (iblk m c 8 t) (iblk m c 9 t) (iblk m c 10 t) (iblk m c 11 t) (iblk m c 12 t) (iblk m c 13 t) (iblk m c 14 t)
        (iblk m c 15 t) (iblk m c 16 t) (iblk m c 17 t) (ix3 0 r d)
      = turned x0 x1 x2 x3 x5 b ⟨512 * n.val + r.val, by omega⟩ d := by
  have K := point_key m c x0 x1 x2 x3 x5 e0 e1 e2 e3 e5 t b n hb hn r
  have z : Ideal.ofBits .f32 0x00000000#32 = 0 := Ideal.ofBits_zero .f32
  unfold turned
  by_cases h : d.val < 16
  · rw [dif_pos h]
    refine (low_value _ _ _ _ _ _ _ _ _ _ _ _ _ _ _ _ _ _ r ⟨d.val, h⟩).trans ?_
    have k1 := K d
    have k2 := K ⟨16 + d.val, by omega⟩
    have t1 := (iblk_table m c t n hn _ (V_table m c) r ⟨d.val, by omega⟩).trans (table_low _ _ ⟨d.val, h⟩)
    have t2 := (iblk_table' m c t n hn _ (V_table' m c) r ⟨d.val, by omega⟩).trans (table'_low _ _ ⟨d.val, h⟩)
    have t3 := ((iblk_table'' m c t n hn _ (V_table'' m c) r ⟨d.val, by omega⟩).trans (table''_low _ _ ⟨d.val, h⟩)).trans z
    refine (congrArg₂ (fun a b : EReal => a + b) (congrArg₂ (fun a b : EReal => a + b)
      (congrArg₂ (fun a b : EReal => a * b) k1 t1) (congrArg₂ (fun a b : EReal => a * b) k2 t2))
      (congrArg (fun a : EReal => _ * a) t3)).trans ?_
    show _ * _ + _ * -_ + _ * (0 : EReal) = _
    rw [mul_zero, add_zero, mul_neg, ← sub_eq_add_neg]
  · obtain ⟨q, rfl⟩ : ∃ q : Fin 16, d = (⟨16 + q.val, Nat.add_lt_add_left q.isLt 16⟩ : Fin 32) :=
      ⟨⟨d.val - 16, by omega⟩, Fin.ext (by show d.val = 16 + (d.val - 16); omega)⟩
    rw [dif_neg h]
    refine (high_value _ _ _ _ _ _ _ _ _ _ _ _ _ _ _ _ _ _ r q).trans ?_
    have k1 := K ⟨16 + q.val, by omega⟩
    have k3 := K ⟨q.val, by omega⟩
    have t1 := (iblk_table m c t n hn _ (V_table m c) r ⟨16 + q.val, by omega⟩).trans (table_high _ _ q)
    have t2 := ((iblk_table' m c t n hn _ (V_table' m c) r ⟨16 + q.val, by omega⟩).trans (table'_high _ _ q)).trans z
    have t3 := (iblk_table'' m c t n hn _ (V_table'' m c) r ⟨16 + q.val, by omega⟩).trans (table''_high _ _ q)
    refine (congrArg₂ (fun a b : EReal => a + b) (congrArg₂ (fun a b : EReal => a + b)
      (congrArg₂ (fun a b : EReal => a * b) k1 t1) (congrArg (fun a : EReal => _ * a) t2))
      (congrArg₂ (fun a b : EReal => a * b) k3 t3)).trans ?_
    show _ * _ + _ * (0 : EReal) + _ * _ = _
    rw [mul_zero, add_zero]
    simp only [Nat.add_sub_cancel_left]

/-- THE FIRST RESULT'S ARRAY. -/
theorem final_first (x0 : FVec Ideal S8x4096x1024 .f32) (x1 : FVec Ideal S8x9216 .f32) (x2 : FVec Ideal S1024 .f32)
    (x3 : FVec Ideal S1024x544 .f32) (x4 : FVec Ideal S256 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3)
    (e4 : m ((c : Thread nD τ).loc main_arg4) = x4) :
    (dats m 0 c).arrAt 19 cfg0.N = fun i => latent x0 x1 x2 x3 x4 (i 0) (i 1) (i 2) := by
  refine (dats m 0 c).arrAt_eq_of_covers 19 _ (by decide +kernel) fun t hf y => ?_
  blk_simp
  obtain ⟨hb, hn⟩ := coords_lt t
  have hy1 : (y 1).val < 512 := (y 1).isLt
  have hy2 : (y 2).val < 256 := (y 2).isLt
  have key := (first_value (iblk m c 0 t) (iblk m c 1 t) (iblk m c 2 t) (blkW m c t) (iblk m c 4 t) (iblk m c 5 t) (iblk m c 6 t)
    (iblk m c 7 t) (iblk m c 8 t) (iblk m c 9 t) (iblk m c 10 t) (iblk m c 11 t) (iblk m c 12 t)
    (iblk m c 13 t) (iblk m c 14 t) (iblk m c 15 t) (iblk m c 16 t) (iblk m c 17 t) ⟨(y 1).val, hy1⟩ ⟨(y 2).val, hy2⟩).trans
      (point_latent m c x0 x1 x2 x3 x4 e0 e1 e2 e3 e4 t ⟨_, hb⟩ ⟨_, hn⟩ rfl rfl ⟨(y 1).val, hy1⟩ ⟨(y 2).val, hy2⟩)
  rw [after0_19]
  refine Eq.trans (congrArg _ ?_) (key.trans ?_)
  · blk_ext
  have o0 : (win0_19.blk t).view.emb y 0 = (⟨(grid0.coords t 0).val, hb⟩ : Fin 8) := by
    apply Fin.ext; blk_simp [index_first]
  have v1 : ((win0_19.blk t).view.emb y 1).val = (grid0.coords t 1).val * 512 + (y 1).val := by
    blk_simp [index_first]
  have o1 : (win0_19.blk t).view.emb y 1 = (⟨512 * (grid0.coords t 1).val + (y 1).val, by omega⟩ : Fin 4096) :=
    Fin.ext (v1.trans (congrArg (fun a => a + (y 1).val) (Nat.mul_comm _ 512)))
  have o2 : (win0_19.blk t).view.emb y 2 = (⟨(y 2).val, hy2⟩ : Fin 256) := by
    apply Fin.ext; blk_simp [index_first]
  rw [o0, o1, o2]

/-- THE SECOND RESULT'S ARRAY. -/
theorem final_second (x0 : FVec Ideal S8x4096x1024 .f32) (x1 : FVec Ideal S8x9216 .f32) (x2 : FVec Ideal S1024 .f32)
    (x3 : FVec Ideal S1024x544 .f32) (x5 : FVec Ideal S32 .f32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3)
    (e5 : m ((c : Thread nD τ).loc main_arg5) = x5) :
    (dats m 0 c).arrAt 20 cfg0.N = fun i => turned x0 x1 x2 x3 x5 (i 0) (i 1) (i 2) := by
  refine (dats m 0 c).arrAt_eq_of_covers 20 _ (by decide +kernel) fun t hf y => ?_
  blk_simp
  obtain ⟨hb, hn⟩ := coords_lt t
  have hy1 : (y 1).val < 512 := (y 1).isLt
  have hy2 : (y 2).val < 32 := (y 2).isLt
  have key := point_turned m c x0 x1 x2 x3 x5 e0 e1 e2 e3 e5 t ⟨_, hb⟩ ⟨_, hn⟩ rfl rfl ⟨(y 1).val, hy1⟩ ⟨(y 2).val, hy2⟩
  rw [after0_20]
  refine Eq.trans (congrArg _ ?_) (key.trans ?_)
  · blk_ext
  have o0 : (win0_20.blk t).view.emb y 0 = (⟨(grid0.coords t 0).val, hb⟩ : Fin 8) := by
    apply Fin.ext; blk_simp [index_second]
  have v1 : ((win0_20.blk t).view.emb y 1).val = (grid0.coords t 1).val * 512 + (y 1).val := by
    blk_simp [index_second]
  have o1 : (win0_20.blk t).view.emb y 1 = (⟨512 * (grid0.coords t 1).val + (y 1).val, by omega⟩ : Fin 4096) :=
    Fin.ext (v1.trans (congrArg (fun a => a + (y 1).val) (Nat.mul_comm _ 512)))
  have o2 : (win0_20.blk t).view.emb y 2 = (⟨(y 2).val, hy2⟩ : Fin 32) := by
    apply Fin.ext; blk_simp [index_second]
  rw [o0, o1, o2]

end Cert.OddIdeal.HostValue

end
-- ==== Proof.OddClaims.lean ====
/-
  The odd layer's projection's claims: the runs, and that the kernel's latent and key are the reference's.
-/
module

public import proofs.«01_k».proof.Defs
public import proofs.«01_k».proof.Proof.Gen.Odd.Frame
public import proofs.«01_k».proof.Proof.Gen.OddIdeal.Frame
public import proofs.«01_k».proof.Proof.Gen.OddRefIdeal.Run
public import proofs.«01_k».proof.Proof.OddArr
public import Idealize.ShloMosaic.Adequacy

@[expose] public section

noncomputable section

namespace Cert.Proof

open Idealize.ShloMosaic Idealize.SL.Sem

/-- The odd layer's projection kernel runs and leaves its arguments. -/
theorem frame_odd : Cert.quiescent_Odd := fun m ρ _ => Cert.Odd.Gen.frame m ρ

/-- Its idealization runs and leaves its arguments. -/
theorem frame_oddIdeal : Cert.quiescent_OddIdeal := fun m ρ _ => Cert.OddIdeal.Gen.frame m ρ

/-- Its reference runs and leaves its arguments. -/
theorem frame_oddRef : Cert.quiescent_OddRefIdeal := fun m ρ _ =>
  (θ_run Cert.OddRefIdeal.defs _ _).mono
    (fun r h => ⟨fun c => (h c).2.2, sem_eq_zero_of_no_sems (by decide) r.2⟩) (Cert.OddRefIdeal.Value.run (F := Ideal) m ρ)

/-- No constant of the projection is read as another. -/
theorem preserves_odd : Cert.preserves_Odd_OddIdeal := trivial

/-- THE ODD LAYER'S PROJECTION KERNEL IS ITS REFERENCE in the latent and the key, on any arguments. -/
theorem algebraic_odd : Cert.algebraic_OddIdeal_OddRefIdeal := by
  intro m ρ m' ρ' _ hagree
  refine ⟨_, _, (θ_run Cert.OddIdeal.defs _ _).mono (fun _ h c => ⟨(h c).2.1, (h c).2.2.1, (h c).2.2.2.2.2⟩)
    (Cert.OddIdeal.Value.run_blocks (F := Ideal) m ρ), ?_⟩
  refine (θ_run Cert.OddRefIdeal.defs _ _).mono (fun _ h c => ⟨(h c).1.trans ?_, (h c).2.1.trans ?_, (h c).2.2⟩)
    (Cert.OddRefIdeal.Value.run (F := Ideal) m' ρ')
  · obtain ⟨a0, a1, a2, a3, a4, -⟩ := hagree c
    rw [Cert.OddRefIdeal.Read.val_main_v45_eq, a0, a1, a2, a3, a4]
    refine Eq.trans (funext fun i => ?_) (Cert.OddIdeal.HostValue.final_first m c _ _ _ _ _ rfl rfl rfl rfl rfl).symm
    have e : i = ix3 (i 0) (i 1) (i 2) := Cert.OddRefIdeal.Math.same3 rfl rfl rfl
    exact (congrArg _ e).trans (Cert.OddRefIdeal.Math.reference_first _ _ _ _ _ (i 0) (i 1) (i 2))
  · obtain ⟨a0, a1, a2, a3, -, a5, -⟩ := hagree c
    rw [Cert.OddRefIdeal.Read.val_main_v95_eq, a0, a1, a2, a3, a5]
    refine Eq.trans (funext fun i => ?_) (Cert.OddIdeal.HostValue.final_second m c _ _ _ _ _ rfl rfl rfl rfl rfl).symm
    have e : i = ix3 (i 0) (i 1) (i 2) := Cert.OddRefIdeal.Math.same3 rfl rfl rfl
    exact (congrArg _ e).trans (Cert.OddRefIdeal.Math.reference_second _ _ _ _ _ (i 0) (i 1) (i 2))

end Cert.Proof

end
-- ==== Proof.lean ====
/- The claims, put together: the causal latent attention, the macaron half-step, the differential attention,
  the mixer's projections before and after. -/
module

public import proofs.«01_k».proof.Defs
public import proofs.«01_k».proof.Proof.MlaClaims
public import proofs.«01_k».proof.Proof.FfnClaims
public import proofs.«01_k».proof.Proof.DiffClaims
public import proofs.«01_k».proof.Proof.OutClaims
public import proofs.«01_k».proof.Proof.EvenClaims
public import proofs.«01_k».proof.Proof.OddClaims

@[expose] public section

noncomputable section

namespace Cert.Proof

/-- Every claim. -/
theorem claim : Cert.Claim :=
  ⟨Cert.Mla.Gen.facts, Cert.MlaIdeal.Gen.facts, Cert.MlaRefIdeal.Gen.facts, Cert.Ffn.Gen.facts, Cert.FfnIdeal.Gen.facts,
    Cert.FfnRefIdeal.Gen.facts, Cert.Diff.Gen.facts, Cert.DiffIdeal.Gen.facts, Cert.DiffRefIdeal.Gen.facts,
    Cert.Out.Gen.facts, Cert.OutIdeal.Gen.facts, Cert.OutRefIdeal.Gen.facts,
    Cert.Even.Gen.facts, Cert.EvenIdeal.Gen.facts, Cert.EvenRefIdeal.Gen.facts, Cert.Odd.Gen.facts, Cert.OddIdeal.Gen.facts,
    Cert.OddRefIdeal.Gen.facts, Cert.Pre_finite_mla.Gen.facts, Cert.Pre_finite_diff.Gen.facts,
    frame_mla, frame_mlaIdeal, frame_mlaIdeal_pre, frame_mlaRef, frame_mlaRef_pre, frame_ffn, frame_ffnIdeal, frame_ffnRef,
    frame_diff, frame_diffIdeal, frame_diffIdeal_pre, frame_diffRef, frame_diffRef_pre, frame_out, frame_outIdeal, frame_outRef,
    frame_even, frame_evenIdeal, frame_evenRef, frame_odd, frame_oddIdeal, frame_oddRef,
    preserves_mla, algebraic_mla, preserves_ffn, algebraic_ffn,
    preserves_diff, algebraic_diff, preserves_out, algebraic_out,
    preserves_even, algebraic_even, preserves_odd, algebraic_odd⟩

end Cert.Proof

end
